-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v32_0)) (v1 : (c : Dev Cert.KernelIdeal.nD) → Buf (Elt Ideal) ((c.tc : Thread Cert.KernelIdeal.nD Cert.KernelIdeal.τ).loc Cert.KernelIdeal.main_v32_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32_0) = v0 c
          ∧ r.2.mem ((c.tc : Thread Cert.KernelIdeal.nD Cert.KernelIdeal.τ).loc Cert.KernelIdeal.main_v32_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x32768x3 : Shape := ⟨3, ![8, 32768, 3]⟩
abbrev S3x64 : Shape := ⟨2, ![3, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S_ : Shape := ⟨0, ![]⟩
abbrev S1 : Shape := ⟨1, ![1]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S8 : Shape := ⟨1, ![8]⟩
abbrev S8x1 : Shape := ⟨2, ![8, 1]⟩
abbrev S8x2 : Shape := ⟨2, ![8, 2]⟩
abbrev S8x3 : Shape := ⟨2, ![8, 3]⟩
abbrev S8x32768x1 : Shape := ⟨3, ![8, 32768, 1]⟩
abbrev S8x32768 : Shape := ⟨2, ![8, 32768]⟩
abbrev S1x64 : Shape := ⟨2, ![1, 64]⟩
abbrev S1x128 : Shape := ⟨2, ![1, 128]⟩
abbrev S1x256 : Shape := ⟨2, ![1, 256]⟩
abbrev S8x1024x3 : Shape := ⟨3, ![8, 1024, 3]⟩
abbrev S8x1024x256 : Shape := ⟨3, ![8, 1024, 256]⟩
abbrev S8192x3 : Shape := ⟨2, ![8192, 3]⟩
abbrev S8x256 : Shape := ⟨2, ![8, 256]⟩
abbrev S1024x8x3 : Shape := ⟨3, ![1024, 8, 3]⟩
abbrev S1024x1x3 : Shape := ⟨3, ![1024, 1, 3]⟩
abbrev S1024x3 : Shape := ⟨2, ![1024, 3]⟩
abbrev S1x1024x3 : Shape := ⟨3, ![1, 1024, 3]⟩
abbrev S1024x64 : Shape := ⟨2, ![1024, 64]⟩
abbrev S1024x128 : Shape := ⟨2, ![1024, 128]⟩
abbrev S1024x256 : Shape := ⟨2, ![1024, 256]⟩
abbrev S1x1024x256 : Shape := ⟨3, ![1, 1024, 256]⟩

abbrev nBuf : Space → Nat
  | .hbm => 811
  | .vmem => 14
  | .smem => 0
  | _ => 0

abbrev hbmTy0_0 (i : Nat) : BufTy := match i % 128 with
  | 0 => ⟨S8x32768x3, .f32⟩
  | 1 => ⟨S3x64, .f32⟩
  | 2 => ⟨S64, .f32⟩
  | 3 => ⟨S64x128, .f32⟩
  | 4 => ⟨S128, .f32⟩
  | 5 => ⟨S128x256, .f32⟩
  | 6 => ⟨S256, .f32⟩
  | 7 => ⟨S_, .i32⟩
  | 8 => ⟨S_, .i32⟩
  | 9 => ⟨S_, .i32⟩
  | 10 => ⟨S_, .i32⟩
  | 11 => ⟨S1, .i32⟩
  | 12 => ⟨S_, .i32⟩
  | 13 => ⟨S_, .i32⟩
  | 14 => ⟨S_, .i32⟩
  | 15 => ⟨S1, .i32⟩
  | 16 => ⟨S2, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S1, .i32⟩
  | 36 => ⟨S1, .i32⟩
  | 37 => ⟨S1, .i32⟩
  | 38 => ⟨S_, .i32⟩
  | 39 => ⟨S1, .i32⟩
  | 40 => ⟨S_, .i32⟩
  | 41 => ⟨S2, .i64⟩
  | 42 => ⟨S_, .i64⟩
  | 43 => ⟨S2, .i64⟩
  | 44 => ⟨S2, .i64⟩
  | 45 => ⟨S_, .i64⟩
  | 46 => ⟨S2, .i64⟩
  | 47 => ⟨S2, .i64⟩
  | 48 => ⟨S2, .i32⟩
  | 49 => ⟨S2, .i32⟩
  | 50 => ⟨S_, .i32⟩
  | 51 => ⟨S_, .i32⟩
  | 52 => ⟨S_, .i32⟩
  | 53 => ⟨S2, .i32⟩
  | 54 => ⟨S2, .i32⟩
  | 55 => ⟨S2, .i32⟩
  | 56 => ⟨S2, .i32⟩
  | 57 => ⟨S2, .i32⟩
  | 58 => ⟨S_, .i32⟩
  | 59 => ⟨S2, .i32⟩
  | 60 => ⟨S2, .i32⟩
  | 61 => ⟨S_, .i32⟩
  | 62 => ⟨S2, .i32⟩
  | 63 => ⟨S2, .i32⟩
  | 64 => ⟨S2, .i32⟩
  | 65 => ⟨S2, .i32⟩
  | 66 => ⟨S2, .i32⟩
  | 67 => ⟨S_, .i32⟩
  | 68 => ⟨S2, .i32⟩
  | 69 => ⟨S2, .i32⟩
  | 70 => ⟨S_, .i32⟩
  | 71 => ⟨S2, .i32⟩
  | 72 => ⟨S2, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S_, .i32⟩
  | 89 => ⟨S2, .i32⟩
  | 90 => ⟨S2, .i32⟩
  | 91 => ⟨S2, .i32⟩
  | 92 => ⟨S2, .i32⟩
  | 93 => ⟨S2, .i32⟩
  | 94 => ⟨S2, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S_, .i32⟩
  | 102 => ⟨S2, .i32⟩
  | 103 => ⟨S2, .i32⟩
  | 104 => ⟨S_, .i32⟩
  | 105 => ⟨S2, .i32⟩
  | 106 => ⟨S2, .i32⟩
  | 107 => ⟨S2, .i32⟩
  | 108 => ⟨S2, .i32⟩
  | 109 => ⟨S2, .i32⟩
  | 110 => ⟨S_, .i32⟩
  | 111 => ⟨S2, .i32⟩
  | 112 => ⟨S2, .i32⟩
  | 113 => ⟨S_, .i32⟩
  | 114 => ⟨S2, .i32⟩
  | 115 => ⟨S2, .i32⟩
  | 116 => ⟨S2, .i32⟩
  | 117 => ⟨S2, .i32⟩
  | 118 => ⟨S2, .i32⟩
  | 119 => ⟨S_, .i32⟩
  | 120 => ⟨S2, .i32⟩
  | 121 => ⟨S2, .i32⟩
  | 122 => ⟨S_, .i32⟩
  | 123 => ⟨S2, .i32⟩
  | 124 => ⟨S2, .i32⟩
  | 125 => ⟨S2, .i32⟩
  | 126 => ⟨S2, .i32⟩
  | 127 => ⟨S2, .i32⟩
  | _ => ⟨S8x32768x3, .f32⟩

abbrev hbmTy0_1 (i : Nat) : BufTy := match i % 128 with
  | 0 => ⟨S_, .i32⟩
  | 1 => ⟨S2, .i32⟩
  | 2 => ⟨S2, .i32⟩
  | 3 => ⟨S_, .i32⟩
  | 4 => ⟨S2, .i32⟩
  | 5 => ⟨S2, .i32⟩
  | 6 => ⟨S2, .i32⟩
  | 7 => ⟨S2, .i32⟩
  | 8 => ⟨S2, .i32⟩
  | 9 => ⟨S2, .i32⟩
  | 10 => ⟨S2, .i32⟩
  | 11 => ⟨S2, .i32⟩
  | 12 => ⟨S_, .i32⟩
  | 13 => ⟨S2, .i32⟩
  | 14 => ⟨S2, .i32⟩
  | 15 => ⟨S2, .i32⟩
  | 16 => ⟨S_, .i32⟩
  | 17 => ⟨S2, .i32⟩
  | 18 => ⟨S2, .i32⟩
  | 19 => ⟨S_, .i32⟩
  | 20 => ⟨S2, .i32⟩
  | 21 => ⟨S2, .i32⟩
  | 22 => ⟨S2, .i32⟩
  | 23 => ⟨S2, .i32⟩
  | 24 => ⟨S2, .i32⟩
  | 25 => ⟨S_, .i32⟩
  | 26 => ⟨S2, .i32⟩
  | 27 => ⟨S2, .i32⟩
  | 28 => ⟨S_, .i32⟩
  | 29 => ⟨S2, .i32⟩
  | 30 => ⟨S2, .i32⟩
  | 31 => ⟨S2, .i32⟩
  | 32 => ⟨S2, .i32⟩
  | 33 => ⟨S2, .i32⟩
  | 34 => ⟨S_, .i32⟩
  | 35 => ⟨S2, .i32⟩
  | 36 => ⟨S2, .i32⟩
  | 37 => ⟨S_, .i32⟩
  | 38 => ⟨S2, .i32⟩
  | 39 => ⟨S2, .i32⟩
  | 40 => ⟨S2, .i32⟩
  | 41 => ⟨S2, .i32⟩
  | 42 => ⟨S2, .i32⟩
  | 43 => ⟨S_, .i32⟩
  | 44 => ⟨S2, .i32⟩
  | 45 => ⟨S2, .i32⟩
  | 46 => ⟨S_, .i32⟩
  | 47 => ⟨S2, .i32⟩
  | 48 => ⟨S2, .i32⟩
  | 49 => ⟨S2, .i32⟩
  | 50 => ⟨S2, .i32⟩
  | 51 => ⟨S2, .i32⟩
  | 52 => ⟨S2, .i32⟩
  | 53 => ⟨S2, .i32⟩
  | 54 => ⟨S2, .i32⟩
  | 55 => ⟨S_, .i32⟩
  | 56 => ⟨S2, .i32⟩
  | 57 => ⟨S2, .i32⟩
  | 58 => ⟨S2, .i32⟩
  | 59 => ⟨S_, .i32⟩
  | 60 => ⟨S2, .i32⟩
  | 61 => ⟨S2, .i32⟩
  | 62 => ⟨S_, .i32⟩
  | 63 => ⟨S2, .i32⟩
  | 64 => ⟨S2, .i32⟩
  | 65 => ⟨S2, .i32⟩
  | 66 => ⟨S2, .i32⟩
  | 67 => ⟨S2, .i32⟩
  | 68 => ⟨S_, .i32⟩
  | 69 => ⟨S2, .i32⟩
  | 70 => ⟨S2, .i32⟩
  | 71 => ⟨S_, .i32⟩
  | 72 => ⟨S2, .i32⟩
  | 73 => ⟨S2, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S_, .i32⟩
  | 81 => ⟨S2, .i32⟩
  | 82 => ⟨S2, .i32⟩
  | 83 => ⟨S2, .i32⟩
  | 84 => ⟨S2, .i32⟩
  | 85 => ⟨S2, .i32⟩
  | 86 => ⟨S_, .i32⟩
  | 87 => ⟨S2, .i32⟩
  | 88 => ⟨S2, .i32⟩
  | 89 => ⟨S_, .i32⟩
  | 90 => ⟨S2, .i32⟩
  | 91 => ⟨S2, .i32⟩
  | 92 => ⟨S2, .i32⟩
  | 93 => ⟨S2, .i32⟩
  | 94 => ⟨S2, .i32⟩
  | 95 => ⟨S2, .i32⟩
  | 96 => ⟨S2, .i32⟩
  | 97 => ⟨S2, .i32⟩
  | 98 => ⟨S_, .i32⟩
  | 99 => ⟨S2, .i32⟩
  | 100 => ⟨S2, .i32⟩
  | 101 => ⟨S2, .i32⟩
  | 102 => ⟨S_, .i32⟩
  | 103 => ⟨S2, .i32⟩
  | 104 => ⟨S2, .i32⟩
  | 105 => ⟨S_, .i32⟩
  | 106 => ⟨S2, .i32⟩
  | 107 => ⟨S2, .i32⟩
  | 108 => ⟨S2, .i32⟩
  | 109 => ⟨S2, .i32⟩
  | 110 => ⟨S2, .i32⟩
  | 111 => ⟨S_, .i32⟩
  | 112 => ⟨S2, .i32⟩
  | 113 => ⟨S2, .i32⟩
  | 114 => ⟨S_, .i32⟩
  | 115 => ⟨S2, .i32⟩
  | 116 => ⟨S2, .i32⟩
  | 117 => ⟨S2, .i32⟩
  | 118 => ⟨S2, .i32⟩
  | 119 => ⟨S2, .i32⟩
  | 120 => ⟨S_, .i32⟩
  | 121 => ⟨S2, .i32⟩
  | 122 => ⟨S2, .i32⟩
  | 123 => ⟨S_, .i32⟩
  | 124 => ⟨S2, .i32⟩
  | 125 => ⟨S2, .i32⟩
  | 126 => ⟨S2, .i32⟩
  | 127 => ⟨S2, .i32⟩
  | _ => ⟨S8x32768x3, .f32⟩

abbrev hbmTy0_2 (i : Nat) : BufTy := match i % 128 with
  | 0 => ⟨S2, .i32⟩
  | 1 => ⟨S_, .i32⟩
  | 2 => ⟨S2, .i32⟩
  | 3 => ⟨S2, .i32⟩
  | 4 => ⟨S_, .i32⟩
  | 5 => ⟨S2, .i32⟩
  | 6 => ⟨S2, .i32⟩
  | 7 => ⟨S2, .i32⟩
  | 8 => ⟨S2, .i32⟩
  | 9 => ⟨S2, .i32⟩
  | 10 => ⟨S2, .i32⟩
  | 11 => ⟨S2, .i32⟩
  | 12 => ⟨S2, .i32⟩
  | 13 => ⟨S_, .i32⟩
  | 14 => ⟨S2, .i32⟩
  | 15 => ⟨S2, .i32⟩
  | 16 => ⟨S2x1, .i32⟩
  | 17 => ⟨S2x1, .i32⟩
  | 18 => ⟨S2x2, .i32⟩
  | 19 => ⟨S1x2, .i32⟩
  | 20 => ⟨S2, .i32⟩
  | 21 => ⟨S1x2, .i32⟩
  | 22 => ⟨S2, .i32⟩
  | 23 => ⟨S1, .i32⟩
  | 24 => ⟨S_, .i32⟩
  | 25 => ⟨S1, .i32⟩
  | 26 => ⟨S_, .i32⟩
  | 27 => ⟨S8, .i64⟩
  | 28 => ⟨S_, .i64⟩
  | 29 => ⟨S8, .i64⟩
  | 30 => ⟨S8, .i64⟩
  | 31 => ⟨S_, .i64⟩
  | 32 => ⟨S8, .i64⟩
  | 33 => ⟨S8, .i64⟩
  | 34 => ⟨S8, .i32⟩
  | 35 => ⟨S8, .i32⟩
  | 36 => ⟨S_, .i32⟩
  | 37 => ⟨S_, .i32⟩
  | 38 => ⟨S_, .i32⟩
  | 39 => ⟨S8, .i32⟩
  | 40 => ⟨S8, .i32⟩
  | 41 => ⟨S8, .i32⟩
  | 42 => ⟨S8, .i32⟩
  | 43 => ⟨S8, .i32⟩
  | 44 => ⟨S_, .i32⟩
  | 45 => ⟨S8, .i32⟩
  | 46 => ⟨S8, .i32⟩
  | 47 => ⟨S_, .i32⟩
  | 48 => ⟨S8, .i32⟩
  | 49 => ⟨S8, .i32⟩
  | 50 => ⟨S8, .i32⟩
  | 51 => ⟨S8, .i32⟩
  | 52 => ⟨S8, .i32⟩
  | 53 => ⟨S_, .i32⟩
  | 54 => ⟨S8, .i32⟩
  | 55 => ⟨S8, .i32⟩
  | 56 => ⟨S_, .i32⟩
  | 57 => ⟨S8, .i32⟩
  | 58 => ⟨S8, .i32⟩
  | 59 => ⟨S8, .i32⟩
  | 60 => ⟨S8, .i32⟩
  | 61 => ⟨S8, .i32⟩
  | 62 => ⟨S_, .i32⟩
  | 63 => ⟨S8, .i32⟩
  | 64 => ⟨S8, .i32⟩
  | 65 => ⟨S_, .i32⟩
  | 66 => ⟨S8, .i32⟩
  | 67 => ⟨S8, .i32⟩
  | 68 => ⟨S8, .i32⟩
  | 69 => ⟨S8, .i32⟩
  | 70 => ⟨S8, .i32⟩
  | 71 => ⟨S_, .i32⟩
  | 72 => ⟨S8, .i32⟩
  | 73 => ⟨S8, .i32⟩
  | 74 => ⟨S_, .i32⟩
  | 75 => ⟨S8, .i32⟩
  | 76 => ⟨S8, .i32⟩
  | 77 => ⟨S8, .i32⟩
  | 78 => ⟨S8, .i32⟩
  | 79 => ⟨S8, .i32⟩
  | 80 => ⟨S8, .i32⟩
  | 81 => ⟨S8, .i32⟩
  | 82 => ⟨S8, .i32⟩
  | 83 => ⟨S_, .i32⟩
  | 84 => ⟨S8, .i32⟩
  | 85 => ⟨S8, .i32⟩
  | 86 => ⟨S8, .i32⟩
  | 87 => ⟨S_, .i32⟩
  | 88 => ⟨S8, .i32⟩
  | 89 => ⟨S8, .i32⟩
  | 90 => ⟨S_, .i32⟩
  | 91 => ⟨S8, .i32⟩
  | 92 => ⟨S8, .i32⟩
  | 93 => ⟨S8, .i32⟩
  | 94 => ⟨S8, .i32⟩
  | 95 => ⟨S8, .i32⟩
  | 96 => ⟨S_, .i32⟩
  | 97 => ⟨S8, .i32⟩
  | 98 => ⟨S8, .i32⟩
  | 99 => ⟨S_, .i32⟩
  | 100 => ⟨S8, .i32⟩
  | 101 => ⟨S8, .i32⟩
  | 102 => ⟨S8, .i32⟩
  | 103 => ⟨S8, .i32⟩
  | 104 => ⟨S8, .i32⟩
  | 105 => ⟨S_, .i32⟩
  | 106 => ⟨S8, .i32⟩
  | 107 => ⟨S8, .i32⟩
  | 108 => ⟨S_, .i32⟩
  | 109 => ⟨S8, .i32⟩
  | 110 => ⟨S8, .i32⟩
  | 111 => ⟨S8, .i32⟩
  | 112 => ⟨S8, .i32⟩
  | 113 => ⟨S8, .i32⟩
  | 114 => ⟨S_, .i32⟩
  | 115 => ⟨S8, .i32⟩
  | 116 => ⟨S8, .i32⟩
  | 117 => ⟨S_, .i32⟩
  | 118 => ⟨S8, .i32⟩
  | 119 => ⟨S8, .i32⟩
  | 120 => ⟨S8, .i32⟩
  | 121 => ⟨S8, .i32⟩
  | 122 => ⟨S8, .i32⟩
  | 123 => ⟨S8, .i32⟩
  | 124 => ⟨S8, .i32⟩
  | 125 => ⟨S8, .i32⟩
  | 126 => ⟨S_, .i32⟩
  | 127 => ⟨S8, .i32⟩
  | _ => ⟨S8x32768x3, .f32⟩

abbrev hbmTy0_3 (i : Nat) : BufTy := match i % 128 with
  | 0 => ⟨S8, .i32⟩
  | 1 => ⟨S8, .i32⟩
  | 2 => ⟨S_, .i32⟩
  | 3 => ⟨S8, .i32⟩
  | 4 => ⟨S8, .i32⟩
  | 5 => ⟨S_, .i32⟩
  | 6 => ⟨S8, .i32⟩
  | 7 => ⟨S8, .i32⟩
  | 8 => ⟨S8, .i32⟩
  | 9 => ⟨S8, .i32⟩
  | 10 => ⟨S8, .i32⟩
  | 11 => ⟨S_, .i32⟩
  | 12 => ⟨S8, .i32⟩
  | 13 => ⟨S8, .i32⟩
  | 14 => ⟨S_, .i32⟩
  | 15 => ⟨S8, .i32⟩
  | 16 => ⟨S8, .i32⟩
  | 17 => ⟨S8, .i32⟩
  | 18 => ⟨S8, .i32⟩
  | 19 => ⟨S8, .i32⟩
  | 20 => ⟨S_, .i32⟩
  | 21 => ⟨S8, .i32⟩
  | 22 => ⟨S8, .i32⟩
  | 23 => ⟨S_, .i32⟩
  | 24 => ⟨S8, .i32⟩
  | 25 => ⟨S8, .i32⟩
  | 26 => ⟨S8, .i32⟩
  | 27 => ⟨S8, .i32⟩
  | 28 => ⟨S8, .i32⟩
  | 29 => ⟨S_, .i32⟩
  | 30 => ⟨S8, .i32⟩
  | 31 => ⟨S8, .i32⟩
  | 32 => ⟨S_, .i32⟩
  | 33 => ⟨S8, .i32⟩
  | 34 => ⟨S8, .i32⟩
  | 35 => ⟨S8, .i32⟩
  | 36 => ⟨S8, .i32⟩
  | 37 => ⟨S8, .i32⟩
  | 38 => ⟨S8, .i32⟩
  | 39 => ⟨S8, .i32⟩
  | 40 => ⟨S8, .i32⟩
  | 41 => ⟨S_, .i32⟩
  | 42 => ⟨S8, .i32⟩
  | 43 => ⟨S8, .i32⟩
  | 44 => ⟨S8, .i32⟩
  | 45 => ⟨S_, .i32⟩
  | 46 => ⟨S8, .i32⟩
  | 47 => ⟨S8, .i32⟩
  | 48 => ⟨S_, .i32⟩
  | 49 => ⟨S8, .i32⟩
  | 50 => ⟨S8, .i32⟩
  | 51 => ⟨S8, .i32⟩
  | 52 => ⟨S8, .i32⟩
  | 53 => ⟨S8, .i32⟩
  | 54 => ⟨S_, .i32⟩
  | 55 => ⟨S8, .i32⟩
  | 56 => ⟨S8, .i32⟩
  | 57 => ⟨S_, .i32⟩
  | 58 => ⟨S8, .i32⟩
  | 59 => ⟨S8, .i32⟩
  | 60 => ⟨S8, .i32⟩
  | 61 => ⟨S8, .i32⟩
  | 62 => ⟨S8, .i32⟩
  | 63 => ⟨S_, .i32⟩
  | 64 => ⟨S8, .i32⟩
  | 65 => ⟨S8, .i32⟩
  | 66 => ⟨S_, .i32⟩
  | 67 => ⟨S8, .i32⟩
  | 68 => ⟨S8, .i32⟩
  | 69 => ⟨S8, .i32⟩
  | 70 => ⟨S8, .i32⟩
  | 71 => ⟨S8, .i32⟩
  | 72 => ⟨S_, .i32⟩
  | 73 => ⟨S8, .i32⟩
  | 74 => ⟨S8, .i32⟩
  | 75 => ⟨S_, .i32⟩
  | 76 => ⟨S8, .i32⟩
  | 77 => ⟨S8, .i32⟩
  | 78 => ⟨S8, .i32⟩
  | 79 => ⟨S8, .i32⟩
  | 80 => ⟨S8, .i32⟩
  | 81 => ⟨S8, .i32⟩
  | 82 => ⟨S8, .i32⟩
  | 83 => ⟨S8, .i32⟩
  | 84 => ⟨S_, .i32⟩
  | 85 => ⟨S8, .i32⟩
  | 86 => ⟨S8, .i32⟩
  | 87 => ⟨S8, .i32⟩
  | 88 => ⟨S_, .i32⟩
  | 89 => ⟨S8, .i32⟩
  | 90 => ⟨S8, .i32⟩
  | 91 => ⟨S_, .i32⟩
  | 92 => ⟨S8, .i32⟩
  | 93 => ⟨S8, .i32⟩
  | 94 => ⟨S8, .i32⟩
  | 95 => ⟨S8, .i32⟩
  | 96 => ⟨S8, .i32⟩
  | 97 => ⟨S_, .i32⟩
  | 98 => ⟨S8, .i32⟩
  | 99 => ⟨S8, .i32⟩
  | 100 => ⟨S_, .i32⟩
  | 101 => ⟨S8, .i32⟩
  | 102 => ⟨S8, .i32⟩
  | 103 => ⟨S8, .i32⟩
  | 104 => ⟨S8, .i32⟩
  | 105 => ⟨S8, .i32⟩
  | 106 => ⟨S_, .i32⟩
  | 107 => ⟨S8, .i32⟩
  | 108 => ⟨S8, .i32⟩
  | 109 => ⟨S_, .i32⟩
  | 110 => ⟨S8, .i32⟩
  | 111 => ⟨S8, .i32⟩
  | 112 => ⟨S8, .i32⟩
  | 113 => ⟨S8, .i32⟩
  | 114 => ⟨S8, .i32⟩
  | 115 => ⟨S_, .i32⟩
  | 116 => ⟨S8, .i32⟩
  | 117 => ⟨S8, .i32⟩
  | 118 => ⟨S_, .i32⟩
  | 119 => ⟨S8, .i32⟩
  | 120 => ⟨S8, .i32⟩
  | 121 => ⟨S8, .i32⟩
  | 122 => ⟨S8, .i32⟩
  | 123 => ⟨S8, .i32⟩
  | 124 => ⟨S8, .i32⟩
  | 125 => ⟨S8, .i32⟩
  | 126 => ⟨S8, .i32⟩
  | 127 => ⟨S_, .i32⟩
  | _ => ⟨S8x32768x3, .f32⟩

abbrev hbmTy0_4 (i : Nat) : BufTy := match i % 128 with
  | 0 => ⟨S8, .i32⟩
  | 1 => ⟨S8, .i32⟩
  | 2 => ⟨S8, .i32⟩
  | 3 => ⟨S1, .i32⟩
  | 4 => ⟨S_, .i32⟩
  | 5 => ⟨S1, .i32⟩
  | 6 => ⟨S_, .i32⟩
  | 7 => ⟨S8, .i64⟩
  | 8 => ⟨S_, .i64⟩
  | 9 => ⟨S8, .i64⟩
  | 10 => ⟨S8, .i64⟩
  | 11 => ⟨S_, .i64⟩
  | 12 => ⟨S8, .i64⟩
  | 13 => ⟨S8, .i64⟩
  | 14 => ⟨S8, .i32⟩
  | 15 => ⟨S8, .i32⟩
  | 16 => ⟨S_, .i32⟩
  | 17 => ⟨S_, .i32⟩
  | 18 => ⟨S_, .i32⟩
  | 19 => ⟨S8, .i32⟩
  | 20 => ⟨S8, .i32⟩
  | 21 => ⟨S8, .i32⟩
  | 22 => ⟨S8, .i32⟩
  | 23 => ⟨S8, .i32⟩
  | 24 => ⟨S_, .i32⟩
  | 25 => ⟨S8, .i32⟩
  | 26 => ⟨S8, .i32⟩
  | 27 => ⟨S_, .i32⟩
  | 28 => ⟨S8, .i32⟩
  | 29 => ⟨S8, .i32⟩
  | 30 => ⟨S8, .i32⟩
  | 31 => ⟨S8, .i32⟩
  | 32 => ⟨S8, .i32⟩
  | 33 => ⟨S_, .i32⟩
  | 34 => ⟨S8, .i32⟩
  | 35 => ⟨S8, .i32⟩
  | 36 => ⟨S_, .i32⟩
  | 37 => ⟨S8, .i32⟩
  | 38 => ⟨S8, .i32⟩
  | 39 => ⟨S8, .i32⟩
  | 40 => ⟨S8, .i32⟩
  | 41 => ⟨S8, .i32⟩
  | 42 => ⟨S_, .i32⟩
  | 43 => ⟨S8, .i32⟩
  | 44 => ⟨S8, .i32⟩
  | 45 => ⟨S_, .i32⟩
  | 46 => ⟨S8, .i32⟩
  | 47 => ⟨S8, .i32⟩
  | 48 => ⟨S8, .i32⟩
  | 49 => ⟨S8, .i32⟩
  | 50 => ⟨S8, .i32⟩
  | 51 => ⟨S_, .i32⟩
  | 52 => ⟨S8, .i32⟩
  | 53 => ⟨S8, .i32⟩
  | 54 => ⟨S_, .i32⟩
  | 55 => ⟨S8, .i32⟩
  | 56 => ⟨S8, .i32⟩
  | 57 => ⟨S8, .i32⟩
  | 58 => ⟨S8, .i32⟩
  | 59 => ⟨S8, .i32⟩
  | 60 => ⟨S8, .i32⟩
  | 61 => ⟨S8, .i32⟩
  | 62 => ⟨S8, .i32⟩
  | 63 => ⟨S_, .i32⟩
  | 64 => ⟨S8, .i32⟩
  | 65 => ⟨S8, .i32⟩
  | 66 => ⟨S8, .i32⟩
  | 67 => ⟨S_, .i32⟩
  | 68 => ⟨S8, .i32⟩
  | 69 => ⟨S8, .i32⟩
  | 70 => ⟨S_, .i32⟩
  | 71 => ⟨S8, .i32⟩
  | 72 => ⟨S8, .i32⟩
  | 73 => ⟨S8, .i32⟩
  | 74 => ⟨S8, .i32⟩
  | 75 => ⟨S8, .i32⟩
  | 76 => ⟨S_, .i32⟩
  | 77 => ⟨S8, .i32⟩
  | 78 => ⟨S8, .i32⟩
  | 79 => ⟨S_, .i32⟩
  | 80 => ⟨S8, .i32⟩
  | 81 => ⟨S8, .i32⟩
  | 82 => ⟨S8, .i32⟩
  | 83 => ⟨S8, .i32⟩
  | 84 => ⟨S8, .i32⟩
  | 85 => ⟨S_, .i32⟩
  | 86 => ⟨S8, .i32⟩
  | 87 => ⟨S8, .i32⟩
  | 88 => ⟨S_, .i32⟩
  | 89 => ⟨S8, .i32⟩
  | 90 => ⟨S8, .i32⟩
  | 91 => ⟨S8, .i32⟩
  | 92 => ⟨S8, .i32⟩
  | 93 => ⟨S8, .i32⟩
  | 94 => ⟨S_, .i32⟩
  | 95 => ⟨S8, .i32⟩
  | 96 => ⟨S8, .i32⟩
  | 97 => ⟨S_, .i32⟩
  | 98 => ⟨S8, .i32⟩
  | 99 => ⟨S8, .i32⟩
  | 100 => ⟨S8, .i32⟩
  | 101 => ⟨S8, .i32⟩
  | 102 => ⟨S8, .i32⟩
  | 103 => ⟨S8, .i32⟩
  | 104 => ⟨S8, .i32⟩
  | 105 => ⟨S8, .i32⟩
  | 106 => ⟨S_, .i32⟩
  | 107 => ⟨S8, .i32⟩
  | 108 => ⟨S8, .i32⟩
  | 109 => ⟨S8, .i32⟩
  | 110 => ⟨S_, .i32⟩
  | 111 => ⟨S8, .i32⟩
  | 112 => ⟨S8, .i32⟩
  | 113 => ⟨S_, .i32⟩
  | 114 => ⟨S8, .i32⟩
  | 115 => ⟨S8, .i32⟩
  | 116 => ⟨S8, .i32⟩
  | 117 => ⟨S8, .i32⟩
  | 118 => ⟨S8, .i32⟩
  | 119 => ⟨S_, .i32⟩
  | 120 => ⟨S8, .i32⟩
  | 121 => ⟨S8, .i32⟩
  | 122 => ⟨S_, .i32⟩
  | 123 => ⟨S8, .i32⟩
  | 124 => ⟨S8, .i32⟩
  | 125 => ⟨S8, .i32⟩
  | 126 => ⟨S8, .i32⟩
  | 127 => ⟨S8, .i32⟩
  | _ => ⟨S8x32768x3, .f32⟩

abbrev hbmTy0_5 (i : Nat) : BufTy := match i % 128 with
  | 0 => ⟨S_, .i32⟩
  | 1 => ⟨S8, .i32⟩
  | 2 => ⟨S8, .i32⟩
  | 3 => ⟨S_, .i32⟩
  | 4 => ⟨S8, .i32⟩
  | 5 => ⟨S8, .i32⟩
  | 6 => ⟨S8, .i32⟩
  | 7 => ⟨S8, .i32⟩
  | 8 => ⟨S8, .i32⟩
  | 9 => ⟨S_, .i32⟩
  | 10 => ⟨S8, .i32⟩
  | 11 => ⟨S8, .i32⟩
  | 12 => ⟨S_, .i32⟩
  | 13 => ⟨S8, .i32⟩
  | 14 => ⟨S8, .i32⟩
  | 15 => ⟨S8, .i32⟩
  | 16 => ⟨S8, .i32⟩
  | 17 => ⟨S8, .i32⟩
  | 18 => ⟨S8, .i32⟩
  | 19 => ⟨S8, .i32⟩
  | 20 => ⟨S8, .i32⟩
  | 21 => ⟨S_, .i32⟩
  | 22 => ⟨S8, .i32⟩
  | 23 => ⟨S8, .i32⟩
  | 24 => ⟨S8, .i32⟩
  | 25 => ⟨S_, .i32⟩
  | 26 => ⟨S8, .i32⟩
  | 27 => ⟨S8, .i32⟩
  | 28 => ⟨S_, .i32⟩
  | 29 => ⟨S8, .i32⟩
  | 30 => ⟨S8, .i32⟩
  | 31 => ⟨S8, .i32⟩
  | 32 => ⟨S8, .i32⟩
  | 33 => ⟨S8, .i32⟩
  | 34 => ⟨S_, .i32⟩
  | 35 => ⟨S8, .i32⟩
  | 36 => ⟨S8, .i32⟩
  | 37 => ⟨S_, .i32⟩
  | 38 => ⟨S8, .i32⟩
  | 39 => ⟨S8, .i32⟩
  | 40 => ⟨S8, .i32⟩
  | 41 => ⟨S8, .i32⟩
  | 42 => ⟨S8, .i32⟩
  | 43 => ⟨S_, .i32⟩
  | 44 => ⟨S8, .i32⟩
  | 45 => ⟨S8, .i32⟩
  | 46 => ⟨S_, .i32⟩
  | 47 => ⟨S8, .i32⟩
  | 48 => ⟨S8, .i32⟩
  | 49 => ⟨S8, .i32⟩
  | 50 => ⟨S8, .i32⟩
  | 51 => ⟨S8, .i32⟩
  | 52 => ⟨S_, .i32⟩
  | 53 => ⟨S8, .i32⟩
  | 54 => ⟨S8, .i32⟩
  | 55 => ⟨S_, .i32⟩
  | 56 => ⟨S8, .i32⟩
  | 57 => ⟨S8, .i32⟩
  | 58 => ⟨S8, .i32⟩
  | 59 => ⟨S8, .i32⟩
  | 60 => ⟨S8, .i32⟩
  | 61 => ⟨S8, .i32⟩
  | 62 => ⟨S8, .i32⟩
  | 63 => ⟨S8, .i32⟩
  | 64 => ⟨S_, .i32⟩
  | 65 => ⟨S8, .i32⟩
  | 66 => ⟨S8, .i32⟩
  | 67 => ⟨S8, .i32⟩
  | 68 => ⟨S_, .i32⟩
  | 69 => ⟨S8, .i32⟩
  | 70 => ⟨S8, .i32⟩
  | 71 => ⟨S_, .i32⟩
  | 72 => ⟨S8, .i32⟩
  | 73 => ⟨S8, .i32⟩
  | 74 => ⟨S8, .i32⟩
  | 75 => ⟨S8, .i32⟩
  | 76 => ⟨S8, .i32⟩
  | 77 => ⟨S_, .i32⟩
  | 78 => ⟨S8, .i32⟩
  | 79 => ⟨S8, .i32⟩
  | 80 => ⟨S_, .i32⟩
  | 81 => ⟨S8, .i32⟩
  | 82 => ⟨S8, .i32⟩
  | 83 => ⟨S8, .i32⟩
  | 84 => ⟨S8, .i32⟩
  | 85 => ⟨S8, .i32⟩
  | 86 => ⟨S_, .i32⟩
  | 87 => ⟨S8, .i32⟩
  | 88 => ⟨S8, .i32⟩
  | 89 => ⟨S_, .i32⟩
  | 90 => ⟨S8, .i32⟩
  | 91 => ⟨S8, .i32⟩
  | 92 => ⟨S8, .i32⟩
  | 93 => ⟨S8, .i32⟩
  | 94 => ⟨S8, .i32⟩
  | 95 => ⟨S_, .i32⟩
  | 96 => ⟨S8, .i32⟩
  | 97 => ⟨S8, .i32⟩
  | 98 => ⟨S_, .i32⟩
  | 99 => ⟨S8, .i32⟩
  | 100 => ⟨S8, .i32⟩
  | 101 => ⟨S8, .i32⟩
  | 102 => ⟨S8, .i32⟩
  | 103 => ⟨S8, .i32⟩
  | 104 => ⟨S8, .i32⟩
  | 105 => ⟨S8, .i32⟩
  | 106 => ⟨S8, .i32⟩
  | 107 => ⟨S_, .i32⟩
  | 108 => ⟨S8, .i32⟩
  | 109 => ⟨S8, .i32⟩
  | 110 => ⟨S8, .i32⟩
  | 111 => ⟨S1, .i32⟩
  | 112 => ⟨S1, .i32⟩
  | 113 => ⟨S1, .i1⟩
  | 114 => ⟨S_, .i32⟩
  | 115 => ⟨S1, .i32⟩
  | 116 => ⟨S1, .i32⟩
  | 117 => ⟨S1, .i1⟩
  | 118 => ⟨S1, .i1⟩
  | 119 => ⟨S1, .i1⟩
  | 120 => ⟨S_, .i32⟩
  | 121 => ⟨S1, .i32⟩
  | 122 => ⟨S1, .i32⟩
  | 123 => ⟨S1, .i32⟩
  | 124 => ⟨S_, .i32⟩
  | 125 => ⟨S1, .i32⟩
  | 126 => ⟨S1, .i32⟩
  | 127 => ⟨S1, .i32⟩
  | _ => ⟨S8x32768x3, .f32⟩

abbrev hbmTy0_6 (i : Nat) : BufTy := match i % 128 with
  | 0 => ⟨S1, .i32⟩
  | 1 => ⟨S8, .i32⟩
  | 2 => ⟨S8, .i32⟩
  | 3 => ⟨S8, .i32⟩
  | 4 => ⟨S8, .i32⟩
  | 5 => ⟨S8, .i32⟩
  | 6 => ⟨S8, .i32⟩
  | 7 => ⟨S8, .i32⟩
  | 8 => ⟨S8, .i32⟩
  | 9 => ⟨S8, .i32⟩
  | 10 => ⟨S8, .i32⟩
  | 11 => ⟨S8, .i32⟩
  | 12 => ⟨S8, .i32⟩
  | 13 => ⟨S8, .i32⟩
  | 14 => ⟨S_, .i32⟩
  | 15 => ⟨S8, .i32⟩
  | 16 => ⟨S8, .i1⟩
  | 17 => ⟨S_, .i32⟩
  | 18 => ⟨S8, .i32⟩
  | 19 => ⟨S8, .i32⟩
  | 20 => ⟨S8, .i32⟩
  | 21 => ⟨S_, .i32⟩
  | 22 => ⟨S8, .i32⟩
  | 23 => ⟨S8, .i1⟩
  | 24 => ⟨S_, .i32⟩
  | 25 => ⟨S8, .i32⟩
  | 26 => ⟨S8, .i32⟩
  | 27 => ⟨S8, .i32⟩
  | 28 => ⟨S8x1, .i32⟩
  | 29 => ⟨S8x1, .i32⟩
  | 30 => ⟨S8x2, .i32⟩
  | 31 => ⟨S8x3, .f32⟩
  | 32 => ⟨S8x32768x1, .f32⟩
  | 33 => ⟨S8x32768, .f32⟩
  | 34 => ⟨S8x32768x1, .f32⟩
  | 35 => ⟨S8x32768, .f32⟩
  | 36 => ⟨S8x32768x1, .f32⟩
  | 37 => ⟨S8x32768, .f32⟩
  | 38 => ⟨S1x64, .f32⟩
  | 39 => ⟨S1x128, .f32⟩
  | 40 => ⟨S1x256, .f32⟩
  | 41 => ⟨S8x1024x3, .f32⟩
  | 42 => ⟨S8x1024x256, .f32⟩
  | _ => ⟨S8x32768x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S8x32768x3, .f32⟩

abbrev bufTy : (tb : Table) → Fin (tcTables nBuf tb) → BufTy
  | .hbm, ⟨i, _⟩ => hbmTy i
  | .local _ .vmem, ⟨0, _⟩ => ⟨S8x32768, .f32⟩
  | .local _ .vmem, ⟨1, _⟩ => ⟨S8x32768, .f32⟩
  | .local _ .vmem, ⟨2, _⟩ => ⟨S8x32768, .f32⟩
  | .local _ .vmem, ⟨3, _⟩ => ⟨S8x3, .f32⟩
  | .local _ .vmem, ⟨4, _⟩ => ⟨S3x64, .f32⟩
  | .local _ .vmem, ⟨5, _⟩ => ⟨S1x64, .f32⟩
  | .local _ .vmem, ⟨6, _⟩ => ⟨S64x128, .f32⟩
  | .local _ .vmem, ⟨7, _⟩ => ⟨S1x128, .f32⟩
  | .local _ .vmem, ⟨8, _⟩ => ⟨S128x256, .f32⟩
  | .local _ .vmem, ⟨9, _⟩ => ⟨S1x256, .f32⟩
  | .local _ .vmem, ⟨10, _⟩ => ⟨S8x1024x3, .f32⟩
  | .local _ .vmem, ⟨11, _⟩ => ⟨S8x1024x256, .f32⟩
  | .local _ .vmem, ⟨12, _⟩ => ⟨S8x32768, .f32⟩
  | .local _ .vmem, ⟨13, _⟩ => ⟨S8192x3, .f32⟩
  | _, _ => ⟨S8x32768x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_c_3 : Ref sig .tc := ⟨.hbm, 18, rfl⟩
abbrev main_call0_c : Ref sig .tc := ⟨.hbm, 19, rfl⟩
abbrev main_call0_c_0 : Ref sig .tc := ⟨.hbm, 20, rfl⟩
abbrev main_call0_c_1 : Ref sig .tc := ⟨.hbm, 21, rfl⟩
abbrev main_call0_call0_v0 : Ref sig .tc := ⟨.hbm, 22, rfl⟩
abbrev main_call0_v0 : Ref sig .tc := ⟨.hbm, 23, rfl⟩
abbrev main_call0_v1 : Ref sig .tc := ⟨.hbm, 24, rfl⟩
abbrev main_call0_c_2 : Ref sig .tc := ⟨.hbm, 25, rfl⟩
abbrev main_call0_c_3 : Ref sig .tc := ⟨.hbm, 26, rfl⟩
abbrev main_call0_call1_v0 : Ref sig .tc := ⟨.hbm, 27, rfl⟩
abbrev main_call0_v2 : Ref sig .tc := ⟨.hbm, 28, rfl⟩
abbrev main_call0_v3 : Ref sig .tc := ⟨.hbm, 29, rfl⟩
abbrev main_call0_c_4 : Ref sig .tc := ⟨.hbm, 30, rfl⟩
abbrev main_call0_c_5 : Ref sig .tc := ⟨.hbm, 31, rfl⟩
abbrev main_call0_call2_v0 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_call3_v0 : Ref sig .tc := ⟨.hbm, 37, rfl⟩
abbrev main_call0_call3_v1 : Ref sig .tc := ⟨.hbm, 38, rfl⟩
abbrev main_call0_call3_v2 : Ref sig .tc := ⟨.hbm, 39, rfl⟩
abbrev main_call0_call3_v3 : Ref sig .tc := ⟨.hbm, 40, rfl⟩
abbrev main_call0_call3_v4 : Ref sig .tc := ⟨.hbm, 41, rfl⟩
abbrev main_call0_call3_c : Ref sig .tc := ⟨.hbm, 42, rfl⟩
abbrev main_call0_call3_v5 : Ref sig .tc := ⟨.hbm, 43, rfl⟩
abbrev main_call0_call3_v6 : Ref sig .tc := ⟨.hbm, 44, rfl⟩
abbrev main_call0_call3_c_0 : Ref sig .tc := ⟨.hbm, 45, rfl⟩
abbrev main_call0_call3_v7 : Ref sig .tc := ⟨.hbm, 46, rfl⟩
abbrev main_call0_call3_v8 : Ref sig .tc := ⟨.hbm, 47, rfl⟩
abbrev main_call0_call3_v9 : Ref sig .tc := ⟨.hbm, 48, rfl⟩
abbrev main_call0_call3_v10 : Ref sig .tc := ⟨.hbm, 49, rfl⟩
abbrev main_call0_call3_call0_v0 : Ref sig .tc := ⟨.hbm, 50, rfl⟩
abbrev main_call0_call3_call0_c : Ref sig .tc := ⟨.hbm, 51, rfl⟩
abbrev main_call0_call3_call0_v1 : Ref sig .tc := ⟨.hbm, 52, rfl⟩
abbrev main_call0_call3_call0_v2 : Ref sig .tc := ⟨.hbm, 53, rfl⟩
abbrev main_call0_call3_call0_v3 : Ref sig .tc := ⟨.hbm, 54, rfl⟩
abbrev main_call0_call3_call0_v4 : Ref sig .tc := ⟨.hbm, 55, rfl⟩
abbrev main_call0_call3_call0_v5 : Ref sig .tc := ⟨.hbm, 56, rfl⟩
abbrev main_call0_call3_call0_v6 : Ref sig .tc := ⟨.hbm, 57, rfl⟩
abbrev main_call0_call3_call0_c_0 : Ref sig .tc := ⟨.hbm, 58, rfl⟩
abbrev main_call0_call3_call0_v7 : Ref sig .tc := ⟨.hbm, 59, rfl⟩
abbrev main_call0_call3_call0_v8 : Ref sig .tc := ⟨.hbm, 60, rfl⟩
abbrev main_call0_call3_call0_c_1 : Ref sig .tc := ⟨.hbm, 61, rfl⟩
abbrev main_call0_call3_call0_v9 : Ref sig .tc := ⟨.hbm, 62, rfl⟩
abbrev main_call0_call3_call0_v10 : Ref sig .tc := ⟨.hbm, 63, rfl⟩
abbrev main_call0_call3_call0_v11 : Ref sig .tc := ⟨.hbm, 64, rfl⟩
abbrev main_call0_call3_call0_v12 : Ref sig .tc := ⟨.hbm, 65, rfl⟩
abbrev main_call0_call3_call0_v13 : Ref sig .tc := ⟨.hbm, 66, rfl⟩
abbrev main_call0_call3_call0_c_2 : Ref sig .tc := ⟨.hbm, 67, rfl⟩
abbrev main_call0_call3_call0_v14 : Ref sig .tc := ⟨.hbm, 68, rfl⟩
abbrev main_call0_call3_call0_v15 : Ref sig .tc := ⟨.hbm, 69, rfl⟩
abbrev main_call0_call3_call0_c_3 : Ref sig .tc := ⟨.hbm, 70, rfl⟩
abbrev main_call0_call3_call0_v16 : Ref sig .tc := ⟨.hbm, 71, rfl⟩
abbrev main_call0_call3_call0_v17 : Ref sig .tc := ⟨.hbm, 72, rfl⟩
abbrev main_call0_call3_call0_v18 : Ref sig .tc := ⟨.hbm, 73, rfl⟩
abbrev main_call0_call3_call0_v19 : Ref sig .tc := ⟨.hbm, 74, rfl⟩
abbrev main_call0_call3_call0_v20 : Ref sig .tc := ⟨.hbm, 75, rfl⟩
abbrev main_call0_call3_call0_c_4 : Ref sig .tc := ⟨.hbm, 76, rfl⟩
abbrev main_call0_call3_call0_v21 : Ref sig .tc := ⟨.hbm, 77, rfl⟩
abbrev main_call0_call3_call0_v22 : Ref sig .tc := ⟨.hbm, 78, rfl⟩
abbrev main_call0_call3_call0_c_5 : Ref sig .tc := ⟨.hbm, 79, rfl⟩
abbrev main_call0_call3_call0_v23 : Ref sig .tc := ⟨.hbm, 80, rfl⟩
abbrev main_call0_call3_call0_v24 : Ref sig .tc := ⟨.hbm, 81, rfl⟩
abbrev main_call0_call3_call0_v25 : Ref sig .tc := ⟨.hbm, 82, rfl⟩
abbrev main_call0_call3_call0_v26 : Ref sig .tc := ⟨.hbm, 83, rfl⟩
abbrev main_call0_call3_call0_v27 : Ref sig .tc := ⟨.hbm, 84, rfl⟩
abbrev main_call0_call3_call0_c_6 : Ref sig .tc := ⟨.hbm, 85, rfl⟩
abbrev main_call0_call3_call0_v28 : Ref sig .tc := ⟨.hbm, 86, rfl⟩
abbrev main_call0_call3_call0_v29 : Ref sig .tc := ⟨.hbm, 87, rfl⟩
abbrev main_call0_call3_call0_c_7 : Ref sig .tc := ⟨.hbm, 88, rfl⟩
abbrev main_call0_call3_call0_v30 : Ref sig .tc := ⟨.hbm, 89, rfl⟩
abbrev main_call0_call3_call0_v31 : Ref sig .tc := ⟨.hbm, 90, rfl⟩
abbrev main_call0_call3_call0_v32 : Ref sig .tc := ⟨.hbm, 91, rfl⟩
abbrev main_call0_call3_call0_v33 : Ref sig .tc := ⟨.hbm, 92, rfl⟩
abbrev main_call0_call3_call0_v34 : Ref sig .tc := ⟨.hbm, 93, rfl⟩
abbrev main_call0_call3_call0_v35 : Ref sig .tc := ⟨.hbm, 94, rfl⟩
abbrev main_call0_call3_call0_v36 : Ref sig .tc := ⟨.hbm, 95, rfl⟩
abbrev main_call0_call3_call0_v37 : Ref sig .tc := ⟨.hbm, 96, rfl⟩
abbrev main_call0_call3_call0_c_8 : Ref sig .tc := ⟨.hbm, 97, rfl⟩
abbrev main_call0_call3_call0_v38 : Ref sig .tc := ⟨.hbm, 98, rfl⟩
abbrev main_call0_call3_call0_v39 : Ref sig .tc := ⟨.hbm, 99, rfl⟩
abbrev main_call0_call3_call0_v40 : Ref sig .tc := ⟨.hbm, 100, rfl⟩
abbrev main_call0_call3_call0_c_9 : Ref sig .tc := ⟨.hbm, 101, rfl⟩
abbrev main_call0_call3_call0_v41 : Ref sig .tc := ⟨.hbm, 102, rfl⟩
abbrev main_call0_call3_call0_v42 : Ref sig .tc := ⟨.hbm, 103, rfl⟩
abbrev main_call0_call3_call0_c_10 : Ref sig .tc := ⟨.hbm, 104, rfl⟩
abbrev main_call0_call3_call0_v43 : Ref sig .tc := ⟨.hbm, 105, rfl⟩
abbrev main_call0_call3_call0_v44 : Ref sig .tc := ⟨.hbm, 106, rfl⟩
abbrev main_call0_call3_call0_v45 : Ref sig .tc := ⟨.hbm, 107, rfl⟩
abbrev main_call0_call3_call0_v46 : Ref sig .tc := ⟨.hbm, 108, rfl⟩
abbrev main_call0_call3_call0_v47 : Ref sig .tc := ⟨.hbm, 109, rfl⟩
abbrev main_call0_call3_call0_c_11 : Ref sig .tc := ⟨.hbm, 110, rfl⟩
abbrev main_call0_call3_call0_v48 : Ref sig .tc := ⟨.hbm, 111, rfl⟩
abbrev main_call0_call3_call0_v49 : Ref sig .tc := ⟨.hbm, 112, rfl⟩
abbrev main_call0_call3_call0_c_12 : Ref sig .tc := ⟨.hbm, 113, rfl⟩
abbrev main_call0_call3_call0_v50 : Ref sig .tc := ⟨.hbm, 114, rfl⟩
abbrev main_call0_call3_call0_v51 : Ref sig .tc := ⟨.hbm, 115, rfl⟩
abbrev main_call0_call3_call0_v52 : Ref sig .tc := ⟨.hbm, 116, rfl⟩
abbrev main_call0_call3_call0_v53 : Ref sig .tc := ⟨.hbm, 117, rfl⟩
abbrev main_call0_call3_call0_v54 : Ref sig .tc := ⟨.hbm, 118, rfl⟩
abbrev main_call0_call3_call0_c_13 : Ref sig .tc := ⟨.hbm, 119, rfl⟩
abbrev main_call0_call3_call0_v55 : Ref sig .tc := ⟨.hbm, 120, rfl⟩
abbrev main_call0_call3_call0_v56 : Ref sig .tc := ⟨.hbm, 121, rfl⟩
abbrev main_call0_call3_call0_c_14 : Ref sig .tc := ⟨.hbm, 122, rfl⟩
abbrev main_call0_call3_call0_v57 : Ref sig .tc := ⟨.hbm, 123, rfl⟩
abbrev main_call0_call3_call0_v58 : Ref sig .tc := ⟨.hbm, 124, rfl⟩
abbrev main_call0_call3_call0_v59 : Ref sig .tc := ⟨.hbm, 125, rfl⟩
abbrev main_call0_call3_call0_v60 : Ref sig .tc := ⟨.hbm, 126, rfl⟩
abbrev main_call0_call3_call0_v61 : Ref sig .tc := ⟨.hbm, 127, rfl⟩
abbrev main_call0_call3_call0_c_15 : Ref sig .tc := ⟨.hbm, 128, rfl⟩
abbrev main_call0_call3_call0_v62 : Ref sig .tc := ⟨.hbm, 129, rfl⟩
abbrev main_call0_call3_call0_v63 : Ref sig .tc := ⟨.hbm, 130, rfl⟩
abbrev main_call0_call3_call0_c_16 : Ref sig .tc := ⟨.hbm, 131, rfl⟩
abbrev main_call0_call3_call0_v64 : Ref sig .tc := ⟨.hbm, 132, rfl⟩
abbrev main_call0_call3_call0_v65 : Ref sig .tc := ⟨.hbm, 133, rfl⟩
abbrev main_call0_call3_call0_v66 : Ref sig .tc := ⟨.hbm, 134, rfl⟩
abbrev main_call0_call3_call0_v67 : Ref sig .tc := ⟨.hbm, 135, rfl⟩
abbrev main_call0_call3_call0_v68 : Ref sig .tc := ⟨.hbm, 136, rfl⟩
abbrev main_call0_call3_call0_v69 : Ref sig .tc := ⟨.hbm, 137, rfl⟩
abbrev main_call0_call3_call0_v70 : Ref sig .tc := ⟨.hbm, 138, rfl⟩
abbrev main_call0_call3_call0_v71 : Ref sig .tc := ⟨.hbm, 139, rfl⟩
abbrev main_call0_call3_call0_c_17 : Ref sig .tc := ⟨.hbm, 140, rfl⟩
abbrev main_call0_call3_call0_v72 : Ref sig .tc := ⟨.hbm, 141, rfl⟩
abbrev main_call0_call3_call0_v73 : Ref sig .tc := ⟨.hbm, 142, rfl⟩
abbrev main_call0_call3_call0_v74 : Ref sig .tc := ⟨.hbm, 143, rfl⟩
abbrev main_call0_call3_call0_c_18 : Ref sig .tc := ⟨.hbm, 144, rfl⟩
abbrev main_call0_call3_call0_v75 : Ref sig .tc := ⟨.hbm, 145, rfl⟩
abbrev main_call0_call3_call0_v76 : Ref sig .tc := ⟨.hbm, 146, rfl⟩
abbrev main_call0_call3_call0_c_19 : Ref sig .tc := ⟨.hbm, 147, rfl⟩
abbrev main_call0_call3_call0_v77 : Ref sig .tc := ⟨.hbm, 148, rfl⟩
abbrev main_call0_call3_call0_v78 : Ref sig .tc := ⟨.hbm, 149, rfl⟩
abbrev main_call0_call3_call0_v79 : Ref sig .tc := ⟨.hbm, 150, rfl⟩
abbrev main_call0_call3_call0_v80 : Ref sig .tc := ⟨.hbm, 151, rfl⟩
abbrev main_call0_call3_call0_v81 : Ref sig .tc := ⟨.hbm, 152, rfl⟩
abbrev main_call0_call3_call0_c_20 : Ref sig .tc := ⟨.hbm, 153, rfl⟩
abbrev main_call0_call3_call0_v82 : Ref sig .tc := ⟨.hbm, 154, rfl⟩
abbrev main_call0_call3_call0_v83 : Ref sig .tc := ⟨.hbm, 155, rfl⟩
abbrev main_call0_call3_call0_c_21 : Ref sig .tc := ⟨.hbm, 156, rfl⟩
abbrev main_call0_call3_call0_v84 : Ref sig .tc := ⟨.hbm, 157, rfl⟩
abbrev main_call0_call3_call0_v85 : Ref sig .tc := ⟨.hbm, 158, rfl⟩
abbrev main_call0_call3_call0_v86 : Ref sig .tc := ⟨.hbm, 159, rfl⟩
abbrev main_call0_call3_call0_v87 : Ref sig .tc := ⟨.hbm, 160, rfl⟩
abbrev main_call0_call3_call0_v88 : Ref sig .tc := ⟨.hbm, 161, rfl⟩
abbrev main_call0_call3_call0_c_22 : Ref sig .tc := ⟨.hbm, 162, rfl⟩
abbrev main_call0_call3_call0_v89 : Ref sig .tc := ⟨.hbm, 163, rfl⟩
abbrev main_call0_call3_call0_v90 : Ref sig .tc := ⟨.hbm, 164, rfl⟩
abbrev main_call0_call3_call0_c_23 : Ref sig .tc := ⟨.hbm, 165, rfl⟩
abbrev main_call0_call3_call0_v91 : Ref sig .tc := ⟨.hbm, 166, rfl⟩
abbrev main_call0_call3_call0_v92 : Ref sig .tc := ⟨.hbm, 167, rfl⟩
abbrev main_call0_call3_call0_v93 : Ref sig .tc := ⟨.hbm, 168, rfl⟩
abbrev main_call0_call3_call0_v94 : Ref sig .tc := ⟨.hbm, 169, rfl⟩
abbrev main_call0_call3_call0_v95 : Ref sig .tc := ⟨.hbm, 170, rfl⟩
abbrev main_call0_call3_call0_c_24 : Ref sig .tc := ⟨.hbm, 171, rfl⟩
abbrev main_call0_call3_call0_v96 : Ref sig .tc := ⟨.hbm, 172, rfl⟩
abbrev main_call0_call3_call0_v97 : Ref sig .tc := ⟨.hbm, 173, rfl⟩
abbrev main_call0_call3_call0_c_25 : Ref sig .tc := ⟨.hbm, 174, rfl⟩
abbrev main_call0_call3_call0_v98 : Ref sig .tc := ⟨.hbm, 175, rfl⟩
abbrev main_call0_call3_call0_v99 : Ref sig .tc := ⟨.hbm, 176, rfl⟩
abbrev main_call0_call3_call0_v100 : Ref sig .tc := ⟨.hbm, 177, rfl⟩
abbrev main_call0_call3_call0_v101 : Ref sig .tc := ⟨.hbm, 178, rfl⟩
abbrev main_call0_call3_call0_v102 : Ref sig .tc := ⟨.hbm, 179, rfl⟩
abbrev main_call0_call3_call0_v103 : Ref sig .tc := ⟨.hbm, 180, rfl⟩
abbrev main_call0_call3_call0_v104 : Ref sig .tc := ⟨.hbm, 181, rfl⟩
abbrev main_call0_call3_call0_v105 : Ref sig .tc := ⟨.hbm, 182, rfl⟩
abbrev main_call0_call3_call0_c_26 : Ref sig .tc := ⟨.hbm, 183, rfl⟩
abbrev main_call0_call3_call0_v106 : Ref sig .tc := ⟨.hbm, 184, rfl⟩
abbrev main_call0_call3_call0_v107 : Ref sig .tc := ⟨.hbm, 185, rfl⟩
abbrev main_call0_call3_call0_v108 : Ref sig .tc := ⟨.hbm, 186, rfl⟩
abbrev main_call0_call3_call0_c_27 : Ref sig .tc := ⟨.hbm, 187, rfl⟩
abbrev main_call0_call3_call0_v109 : Ref sig .tc := ⟨.hbm, 188, rfl⟩
abbrev main_call0_call3_call0_v110 : Ref sig .tc := ⟨.hbm, 189, rfl⟩
abbrev main_call0_call3_call0_c_28 : Ref sig .tc := ⟨.hbm, 190, rfl⟩
abbrev main_call0_call3_call0_v111 : Ref sig .tc := ⟨.hbm, 191, rfl⟩
abbrev main_call0_call3_call0_v112 : Ref sig .tc := ⟨.hbm, 192, rfl⟩
abbrev main_call0_call3_call0_v113 : Ref sig .tc := ⟨.hbm, 193, rfl⟩
abbrev main_call0_call3_call0_v114 : Ref sig .tc := ⟨.hbm, 194, rfl⟩
abbrev main_call0_call3_call0_v115 : Ref sig .tc := ⟨.hbm, 195, rfl⟩
abbrev main_call0_call3_call0_c_29 : Ref sig .tc := ⟨.hbm, 196, rfl⟩
abbrev main_call0_call3_call0_v116 : Ref sig .tc := ⟨.hbm, 197, rfl⟩
abbrev main_call0_call3_call0_v117 : Ref sig .tc := ⟨.hbm, 198, rfl⟩
abbrev main_call0_call3_call0_c_30 : Ref sig .tc := ⟨.hbm, 199, rfl⟩
abbrev main_call0_call3_call0_v118 : Ref sig .tc := ⟨.hbm, 200, rfl⟩
abbrev main_call0_call3_call0_v119 : Ref sig .tc := ⟨.hbm, 201, rfl⟩
abbrev main_call0_call3_call0_v120 : Ref sig .tc := ⟨.hbm, 202, rfl⟩
abbrev main_call0_call3_call0_v121 : Ref sig .tc := ⟨.hbm, 203, rfl⟩
abbrev main_call0_call3_call0_v122 : Ref sig .tc := ⟨.hbm, 204, rfl⟩
abbrev main_call0_call3_call0_c_31 : Ref sig .tc := ⟨.hbm, 205, rfl⟩
abbrev main_call0_call3_call0_v123 : Ref sig .tc := ⟨.hbm, 206, rfl⟩
abbrev main_call0_call3_call0_v124 : Ref sig .tc := ⟨.hbm, 207, rfl⟩
abbrev main_call0_call3_call0_c_32 : Ref sig .tc := ⟨.hbm, 208, rfl⟩
abbrev main_call0_call3_call0_v125 : Ref sig .tc := ⟨.hbm, 209, rfl⟩
abbrev main_call0_call3_call0_v126 : Ref sig .tc := ⟨.hbm, 210, rfl⟩
abbrev main_call0_call3_call0_v127 : Ref sig .tc := ⟨.hbm, 211, rfl⟩
abbrev main_call0_call3_call0_v128 : Ref sig .tc := ⟨.hbm, 212, rfl⟩
abbrev main_call0_call3_call0_v129 : Ref sig .tc := ⟨.hbm, 213, rfl⟩
abbrev main_call0_call3_call0_c_33 : Ref sig .tc := ⟨.hbm, 214, rfl⟩
abbrev main_call0_call3_call0_v130 : Ref sig .tc := ⟨.hbm, 215, rfl⟩
abbrev main_call0_call3_call0_v131 : Ref sig .tc := ⟨.hbm, 216, rfl⟩
abbrev main_call0_call3_call0_c_34 : Ref sig .tc := ⟨.hbm, 217, rfl⟩
abbrev main_call0_call3_call0_v132 : Ref sig .tc := ⟨.hbm, 218, rfl⟩
abbrev main_call0_call3_call0_v133 : Ref sig .tc := ⟨.hbm, 219, rfl⟩
abbrev main_call0_call3_call0_v134 : Ref sig .tc := ⟨.hbm, 220, rfl⟩
abbrev main_call0_call3_call0_v135 : Ref sig .tc := ⟨.hbm, 221, rfl⟩
abbrev main_call0_call3_call0_v136 : Ref sig .tc := ⟨.hbm, 222, rfl⟩
abbrev main_call0_call3_call0_v137 : Ref sig .tc := ⟨.hbm, 223, rfl⟩
abbrev main_call0_call3_call0_v138 : Ref sig .tc := ⟨.hbm, 224, rfl⟩
abbrev main_call0_call3_call0_v139 : Ref sig .tc := ⟨.hbm, 225, rfl⟩
abbrev main_call0_call3_call0_c_35 : Ref sig .tc := ⟨.hbm, 226, rfl⟩
abbrev main_call0_call3_call0_v140 : Ref sig .tc := ⟨.hbm, 227, rfl⟩
abbrev main_call0_call3_call0_v141 : Ref sig .tc := ⟨.hbm, 228, rfl⟩
abbrev main_call0_call3_call0_v142 : Ref sig .tc := ⟨.hbm, 229, rfl⟩
abbrev main_call0_call3_call0_c_36 : Ref sig .tc := ⟨.hbm, 230, rfl⟩
abbrev main_call0_call3_call0_v143 : Ref sig .tc := ⟨.hbm, 231, rfl⟩
abbrev main_call0_call3_call0_v144 : Ref sig .tc := ⟨.hbm, 232, rfl⟩
abbrev main_call0_call3_call0_c_37 : Ref sig .tc := ⟨.hbm, 233, rfl⟩
abbrev main_call0_call3_call0_v145 : Ref sig .tc := ⟨.hbm, 234, rfl⟩
abbrev main_call0_call3_call0_v146 : Ref sig .tc := ⟨.hbm, 235, rfl⟩
abbrev main_call0_call3_call0_v147 : Ref sig .tc := ⟨.hbm, 236, rfl⟩
abbrev main_call0_call3_call0_v148 : Ref sig .tc := ⟨.hbm, 237, rfl⟩
abbrev main_call0_call3_call0_v149 : Ref sig .tc := ⟨.hbm, 238, rfl⟩
abbrev main_call0_call3_call0_c_38 : Ref sig .tc := ⟨.hbm, 239, rfl⟩
abbrev main_call0_call3_call0_v150 : Ref sig .tc := ⟨.hbm, 240, rfl⟩
abbrev main_call0_call3_call0_v151 : Ref sig .tc := ⟨.hbm, 241, rfl⟩
abbrev main_call0_call3_call0_c_39 : Ref sig .tc := ⟨.hbm, 242, rfl⟩
abbrev main_call0_call3_call0_v152 : Ref sig .tc := ⟨.hbm, 243, rfl⟩
abbrev main_call0_call3_call0_v153 : Ref sig .tc := ⟨.hbm, 244, rfl⟩
abbrev main_call0_call3_call0_v154 : Ref sig .tc := ⟨.hbm, 245, rfl⟩
abbrev main_call0_call3_call0_v155 : Ref sig .tc := ⟨.hbm, 246, rfl⟩
abbrev main_call0_call3_call0_v156 : Ref sig .tc := ⟨.hbm, 247, rfl⟩
abbrev main_call0_call3_call0_c_40 : Ref sig .tc := ⟨.hbm, 248, rfl⟩
abbrev main_call0_call3_call0_v157 : Ref sig .tc := ⟨.hbm, 249, rfl⟩
abbrev main_call0_call3_call0_v158 : Ref sig .tc := ⟨.hbm, 250, rfl⟩
abbrev main_call0_call3_call0_c_41 : Ref sig .tc := ⟨.hbm, 251, rfl⟩
abbrev main_call0_call3_call0_v159 : Ref sig .tc := ⟨.hbm, 252, rfl⟩
abbrev main_call0_call3_call0_v160 : Ref sig .tc := ⟨.hbm, 253, rfl⟩
abbrev main_call0_call3_call0_v161 : Ref sig .tc := ⟨.hbm, 254, rfl⟩
abbrev main_call0_call3_call0_v162 : Ref sig .tc := ⟨.hbm, 255, rfl⟩
abbrev main_call0_call3_call0_v163 : Ref sig .tc := ⟨.hbm, 256, rfl⟩
abbrev main_call0_call3_call0_c_42 : Ref sig .tc := ⟨.hbm, 257, rfl⟩
abbrev main_call0_call3_call0_v164 : Ref sig .tc := ⟨.hbm, 258, rfl⟩
abbrev main_call0_call3_call0_v165 : Ref sig .tc := ⟨.hbm, 259, rfl⟩
abbrev main_call0_call3_call0_c_43 : Ref sig .tc := ⟨.hbm, 260, rfl⟩
abbrev main_call0_call3_call0_v166 : Ref sig .tc := ⟨.hbm, 261, rfl⟩
abbrev main_call0_call3_call0_v167 : Ref sig .tc := ⟨.hbm, 262, rfl⟩
abbrev main_call0_call3_call0_v168 : Ref sig .tc := ⟨.hbm, 263, rfl⟩
abbrev main_call0_call3_call0_v169 : Ref sig .tc := ⟨.hbm, 264, rfl⟩
abbrev main_call0_call3_call0_v170 : Ref sig .tc := ⟨.hbm, 265, rfl⟩
abbrev main_call0_call3_v11_0 : Ref sig .tc := ⟨.hbm, 266, rfl⟩
abbrev main_call0_call3_call0_v172 : Ref sig .tc := ⟨.hbm, 267, rfl⟩
abbrev main_call0_call3_call0_v173 : Ref sig .tc := ⟨.hbm, 268, rfl⟩
abbrev main_call0_call3_call0_c_44 : Ref sig .tc := ⟨.hbm, 269, rfl⟩
abbrev main_call0_call3_call0_v174 : Ref sig .tc := ⟨.hbm, 270, rfl⟩
abbrev main_call0_call3_v11_1 : Ref sig .tc := ⟨.hbm, 271, rfl⟩
abbrev main_call0_call3_v12 : Ref sig .tc := ⟨.hbm, 272, rfl⟩
abbrev main_call0_call3_v13 : Ref sig .tc := ⟨.hbm, 273, rfl⟩
abbrev main_call0_v8 : Ref sig .tc := ⟨.hbm, 274, rfl⟩
abbrev main_call0_v9 : Ref sig .tc := ⟨.hbm, 275, rfl⟩
abbrev main_call0_v10 : Ref sig .tc := ⟨.hbm, 276, rfl⟩
abbrev main_call0_v11 : Ref sig .tc := ⟨.hbm, 277, rfl⟩
abbrev main_call0_v12 : Ref sig .tc := ⟨.hbm, 278, rfl⟩
abbrev main_call0_v13 : Ref sig .tc := ⟨.hbm, 279, rfl⟩
abbrev main_call0_v14 : Ref sig .tc := ⟨.hbm, 280, rfl⟩
abbrev main_call0_v15 : Ref sig .tc := ⟨.hbm, 281, rfl⟩
abbrev main_call0_v16 : Ref sig .tc := ⟨.hbm, 282, rfl⟩
abbrev main_call0_v17 : Ref sig .tc := ⟨.hbm, 283, rfl⟩
abbrev main_call0_c_6 : Ref sig .tc := ⟨.hbm, 284, rfl⟩
abbrev main_call0_v18 : Ref sig .tc := ⟨.hbm, 285, rfl⟩
abbrev main_call0_v19 : Ref sig .tc := ⟨.hbm, 286, rfl⟩
abbrev main_call0_c_7 : Ref sig .tc := ⟨.hbm, 287, rfl⟩
abbrev main_call0_v20 : Ref sig .tc := ⟨.hbm, 288, rfl⟩
abbrev main_call0_v21 : Ref sig .tc := ⟨.hbm, 289, rfl⟩
abbrev main_call0_v22 : Ref sig .tc := ⟨.hbm, 290, rfl⟩
abbrev main_call0_v23 : Ref sig .tc := ⟨.hbm, 291, rfl⟩
abbrev main_call0_call4_v0 : Ref sig .tc := ⟨.hbm, 292, rfl⟩
abbrev main_call0_call4_c : Ref sig .tc := ⟨.hbm, 293, rfl⟩
abbrev main_call0_call4_v1 : Ref sig .tc := ⟨.hbm, 294, rfl⟩
abbrev main_call0_call4_v2 : Ref sig .tc := ⟨.hbm, 295, rfl⟩
abbrev main_call0_call4_v3 : Ref sig .tc := ⟨.hbm, 296, rfl⟩
abbrev main_call0_call4_v4 : Ref sig .tc := ⟨.hbm, 297, rfl⟩
abbrev main_call0_call4_v5 : Ref sig .tc := ⟨.hbm, 298, rfl⟩
abbrev main_call0_call4_v6 : Ref sig .tc := ⟨.hbm, 299, rfl⟩
abbrev main_call0_call4_c_0 : Ref sig .tc := ⟨.hbm, 300, rfl⟩
abbrev main_call0_call4_v7 : Ref sig .tc := ⟨.hbm, 301, rfl⟩
abbrev main_call0_call4_v8 : Ref sig .tc := ⟨.hbm, 302, rfl⟩
abbrev main_call0_call4_c_1 : Ref sig .tc := ⟨.hbm, 303, rfl⟩
abbrev main_call0_call4_v9 : Ref sig .tc := ⟨.hbm, 304, rfl⟩
abbrev main_call0_call4_v10 : Ref sig .tc := ⟨.hbm, 305, rfl⟩
abbrev main_call0_call4_v11 : Ref sig .tc := ⟨.hbm, 306, rfl⟩
abbrev main_call0_call4_v12 : Ref sig .tc := ⟨.hbm, 307, rfl⟩
abbrev main_call0_call4_v13 : Ref sig .tc := ⟨.hbm, 308, rfl⟩
abbrev main_call0_call4_c_2 : Ref sig .tc := ⟨.hbm, 309, rfl⟩
abbrev main_call0_call4_v14 : Ref sig .tc := ⟨.hbm, 310, rfl⟩
abbrev main_call0_call4_v15 : Ref sig .tc := ⟨.hbm, 311, rfl⟩
abbrev main_call0_call4_c_3 : Ref sig .tc := ⟨.hbm, 312, rfl⟩
abbrev main_call0_call4_v16 : Ref sig .tc := ⟨.hbm, 313, rfl⟩
abbrev main_call0_call4_v17 : Ref sig .tc := ⟨.hbm, 314, rfl⟩
abbrev main_call0_call4_v18 : Ref sig .tc := ⟨.hbm, 315, rfl⟩
abbrev main_call0_call4_v19 : Ref sig .tc := ⟨.hbm, 316, rfl⟩
abbrev main_call0_call4_v20 : Ref sig .tc := ⟨.hbm, 317, rfl⟩
abbrev main_call0_call4_c_4 : Ref sig .tc := ⟨.hbm, 318, rfl⟩
abbrev main_call0_call4_v21 : Ref sig .tc := ⟨.hbm, 319, rfl⟩
abbrev main_call0_call4_v22 : Ref sig .tc := ⟨.hbm, 320, rfl⟩
abbrev main_call0_call4_c_5 : Ref sig .tc := ⟨.hbm, 321, rfl⟩
abbrev main_call0_call4_v23 : Ref sig .tc := ⟨.hbm, 322, rfl⟩
abbrev main_call0_call4_v24 : Ref sig .tc := ⟨.hbm, 323, rfl⟩
abbrev main_call0_call4_v25 : Ref sig .tc := ⟨.hbm, 324, rfl⟩
abbrev main_call0_call4_v26 : Ref sig .tc := ⟨.hbm, 325, rfl⟩
abbrev main_call0_call4_v27 : Ref sig .tc := ⟨.hbm, 326, rfl⟩
abbrev main_call0_call4_c_6 : Ref sig .tc := ⟨.hbm, 327, rfl⟩
abbrev main_call0_call4_v28 : Ref sig .tc := ⟨.hbm, 328, rfl⟩
abbrev main_call0_call4_v29 : Ref sig .tc := ⟨.hbm, 329, rfl⟩
abbrev main_call0_call4_c_7 : Ref sig .tc := ⟨.hbm, 330, rfl⟩
abbrev main_call0_call4_v30 : Ref sig .tc := ⟨.hbm, 331, rfl⟩
abbrev main_call0_call4_v31 : Ref sig .tc := ⟨.hbm, 332, rfl⟩
abbrev main_call0_call4_v32 : Ref sig .tc := ⟨.hbm, 333, rfl⟩
abbrev main_call0_call4_v33 : Ref sig .tc := ⟨.hbm, 334, rfl⟩
abbrev main_call0_call4_v34 : Ref sig .tc := ⟨.hbm, 335, rfl⟩
abbrev main_call0_call4_v35 : Ref sig .tc := ⟨.hbm, 336, rfl⟩
abbrev main_call0_call4_v36 : Ref sig .tc := ⟨.hbm, 337, rfl⟩
abbrev main_call0_call4_v37 : Ref sig .tc := ⟨.hbm, 338, rfl⟩
abbrev main_call0_call4_c_8 : Ref sig .tc := ⟨.hbm, 339, rfl⟩
abbrev main_call0_call4_v38 : Ref sig .tc := ⟨.hbm, 340, rfl⟩
abbrev main_call0_call4_v39 : Ref sig .tc := ⟨.hbm, 341, rfl⟩
abbrev main_call0_call4_v40 : Ref sig .tc := ⟨.hbm, 342, rfl⟩
abbrev main_call0_call4_c_9 : Ref sig .tc := ⟨.hbm, 343, rfl⟩
abbrev main_call0_call4_v41 : Ref sig .tc := ⟨.hbm, 344, rfl⟩
abbrev main_call0_call4_v42 : Ref sig .tc := ⟨.hbm, 345, rfl⟩
abbrev main_call0_call4_c_10 : Ref sig .tc := ⟨.hbm, 346, rfl⟩
abbrev main_call0_call4_v43 : Ref sig .tc := ⟨.hbm, 347, rfl⟩
abbrev main_call0_call4_v44 : Ref sig .tc := ⟨.hbm, 348, rfl⟩
abbrev main_call0_call4_v45 : Ref sig .tc := ⟨.hbm, 349, rfl⟩
abbrev main_call0_call4_v46 : Ref sig .tc := ⟨.hbm, 350, rfl⟩
abbrev main_call0_call4_v47 : Ref sig .tc := ⟨.hbm, 351, rfl⟩
abbrev main_call0_call4_c_11 : Ref sig .tc := ⟨.hbm, 352, rfl⟩
abbrev main_call0_call4_v48 : Ref sig .tc := ⟨.hbm, 353, rfl⟩
abbrev main_call0_call4_v49 : Ref sig .tc := ⟨.hbm, 354, rfl⟩
abbrev main_call0_call4_c_12 : Ref sig .tc := ⟨.hbm, 355, rfl⟩
abbrev main_call0_call4_v50 : Ref sig .tc := ⟨.hbm, 356, rfl⟩
abbrev main_call0_call4_v51 : Ref sig .tc := ⟨.hbm, 357, rfl⟩
abbrev main_call0_call4_v52 : Ref sig .tc := ⟨.hbm, 358, rfl⟩
abbrev main_call0_call4_v53 : Ref sig .tc := ⟨.hbm, 359, rfl⟩
abbrev main_call0_call4_v54 : Ref sig .tc := ⟨.hbm, 360, rfl⟩
abbrev main_call0_call4_c_13 : Ref sig .tc := ⟨.hbm, 361, rfl⟩
abbrev main_call0_call4_v55 : Ref sig .tc := ⟨.hbm, 362, rfl⟩
abbrev main_call0_call4_v56 : Ref sig .tc := ⟨.hbm, 363, rfl⟩
abbrev main_call0_call4_c_14 : Ref sig .tc := ⟨.hbm, 364, rfl⟩
abbrev main_call0_call4_v57 : Ref sig .tc := ⟨.hbm, 365, rfl⟩
abbrev main_call0_call4_v58 : Ref sig .tc := ⟨.hbm, 366, rfl⟩
abbrev main_call0_call4_v59 : Ref sig .tc := ⟨.hbm, 367, rfl⟩
abbrev main_call0_call4_v60 : Ref sig .tc := ⟨.hbm, 368, rfl⟩
abbrev main_call0_call4_v61 : Ref sig .tc := ⟨.hbm, 369, rfl⟩
abbrev main_call0_call4_c_15 : Ref sig .tc := ⟨.hbm, 370, rfl⟩
abbrev main_call0_call4_v62 : Ref sig .tc := ⟨.hbm, 371, rfl⟩
abbrev main_call0_call4_v63 : Ref sig .tc := ⟨.hbm, 372, rfl⟩
abbrev main_call0_call4_c_16 : Ref sig .tc := ⟨.hbm, 373, rfl⟩
abbrev main_call0_call4_v64 : Ref sig .tc := ⟨.hbm, 374, rfl⟩
abbrev main_call0_call4_v65 : Ref sig .tc := ⟨.hbm, 375, rfl⟩
abbrev main_call0_call4_v66 : Ref sig .tc := ⟨.hbm, 376, rfl⟩
abbrev main_call0_call4_v67 : Ref sig .tc := ⟨.hbm, 377, rfl⟩
abbrev main_call0_call4_v68 : Ref sig .tc := ⟨.hbm, 378, rfl⟩
abbrev main_call0_call4_v69 : Ref sig .tc := ⟨.hbm, 379, rfl⟩
abbrev main_call0_call4_v70 : Ref sig .tc := ⟨.hbm, 380, rfl⟩
abbrev main_call0_call4_v71 : Ref sig .tc := ⟨.hbm, 381, rfl⟩
abbrev main_call0_call4_c_17 : Ref sig .tc := ⟨.hbm, 382, rfl⟩
abbrev main_call0_call4_v72 : Ref sig .tc := ⟨.hbm, 383, rfl⟩
abbrev main_call0_call4_v73 : Ref sig .tc := ⟨.hbm, 384, rfl⟩
abbrev main_call0_call4_v74 : Ref sig .tc := ⟨.hbm, 385, rfl⟩
abbrev main_call0_call4_c_18 : Ref sig .tc := ⟨.hbm, 386, rfl⟩
abbrev main_call0_call4_v75 : Ref sig .tc := ⟨.hbm, 387, rfl⟩
abbrev main_call0_call4_v76 : Ref sig .tc := ⟨.hbm, 388, rfl⟩
abbrev main_call0_call4_c_19 : Ref sig .tc := ⟨.hbm, 389, rfl⟩
abbrev main_call0_call4_v77 : Ref sig .tc := ⟨.hbm, 390, rfl⟩
abbrev main_call0_call4_v78 : Ref sig .tc := ⟨.hbm, 391, rfl⟩
abbrev main_call0_call4_v79 : Ref sig .tc := ⟨.hbm, 392, rfl⟩
abbrev main_call0_call4_v80 : Ref sig .tc := ⟨.hbm, 393, rfl⟩
abbrev main_call0_call4_v81 : Ref sig .tc := ⟨.hbm, 394, rfl⟩
abbrev main_call0_call4_c_20 : Ref sig .tc := ⟨.hbm, 395, rfl⟩
abbrev main_call0_call4_v82 : Ref sig .tc := ⟨.hbm, 396, rfl⟩
abbrev main_call0_call4_v83 : Ref sig .tc := ⟨.hbm, 397, rfl⟩
abbrev main_call0_call4_c_21 : Ref sig .tc := ⟨.hbm, 398, rfl⟩
abbrev main_call0_call4_v84 : Ref sig .tc := ⟨.hbm, 399, rfl⟩
abbrev main_call0_call4_v85 : Ref sig .tc := ⟨.hbm, 400, rfl⟩
abbrev main_call0_call4_v86 : Ref sig .tc := ⟨.hbm, 401, rfl⟩
abbrev main_call0_call4_v87 : Ref sig .tc := ⟨.hbm, 402, rfl⟩
abbrev main_call0_call4_v88 : Ref sig .tc := ⟨.hbm, 403, rfl⟩
abbrev main_call0_call4_c_22 : Ref sig .tc := ⟨.hbm, 404, rfl⟩
abbrev main_call0_call4_v89 : Ref sig .tc := ⟨.hbm, 405, rfl⟩
abbrev main_call0_call4_v90 : Ref sig .tc := ⟨.hbm, 406, rfl⟩
abbrev main_call0_call4_c_23 : Ref sig .tc := ⟨.hbm, 407, rfl⟩
abbrev main_call0_call4_v91 : Ref sig .tc := ⟨.hbm, 408, rfl⟩
abbrev main_call0_call4_v92 : Ref sig .tc := ⟨.hbm, 409, rfl⟩
abbrev main_call0_call4_v93 : Ref sig .tc := ⟨.hbm, 410, rfl⟩
abbrev main_call0_call4_v94 : Ref sig .tc := ⟨.hbm, 411, rfl⟩
abbrev main_call0_call4_v95 : Ref sig .tc := ⟨.hbm, 412, rfl⟩
abbrev main_call0_call4_c_24 : Ref sig .tc := ⟨.hbm, 413, rfl⟩
abbrev main_call0_call4_v96 : Ref sig .tc := ⟨.hbm, 414, rfl⟩
abbrev main_call0_call4_v97 : Ref sig .tc := ⟨.hbm, 415, rfl⟩
abbrev main_call0_call4_c_25 : Ref sig .tc := ⟨.hbm, 416, rfl⟩
abbrev main_call0_call4_v98 : Ref sig .tc := ⟨.hbm, 417, rfl⟩
abbrev main_call0_call4_v99 : Ref sig .tc := ⟨.hbm, 418, rfl⟩
abbrev main_call0_call4_v100 : Ref sig .tc := ⟨.hbm, 419, rfl⟩
abbrev main_call0_call4_v101 : Ref sig .tc := ⟨.hbm, 420, rfl⟩
abbrev main_call0_call4_v102 : Ref sig .tc := ⟨.hbm, 421, rfl⟩
abbrev main_call0_call4_v103 : Ref sig .tc := ⟨.hbm, 422, rfl⟩
abbrev main_call0_call4_v104 : Ref sig .tc := ⟨.hbm, 423, rfl⟩
abbrev main_call0_call4_v105 : Ref sig .tc := ⟨.hbm, 424, rfl⟩
abbrev main_call0_call4_c_26 : Ref sig .tc := ⟨.hbm, 425, rfl⟩
abbrev main_call0_call4_v106 : Ref sig .tc := ⟨.hbm, 426, rfl⟩
abbrev main_call0_call4_v107 : Ref sig .tc := ⟨.hbm, 427, rfl⟩
abbrev main_call0_call4_v108 : Ref sig .tc := ⟨.hbm, 428, rfl⟩
abbrev main_call0_call4_c_27 : Ref sig .tc := ⟨.hbm, 429, rfl⟩
abbrev main_call0_call4_v109 : Ref sig .tc := ⟨.hbm, 430, rfl⟩
abbrev main_call0_call4_v110 : Ref sig .tc := ⟨.hbm, 431, rfl⟩
abbrev main_call0_call4_c_28 : Ref sig .tc := ⟨.hbm, 432, rfl⟩
abbrev main_call0_call4_v111 : Ref sig .tc := ⟨.hbm, 433, rfl⟩
abbrev main_call0_call4_v112 : Ref sig .tc := ⟨.hbm, 434, rfl⟩
abbrev main_call0_call4_v113 : Ref sig .tc := ⟨.hbm, 435, rfl⟩
abbrev main_call0_call4_v114 : Ref sig .tc := ⟨.hbm, 436, rfl⟩
abbrev main_call0_call4_v115 : Ref sig .tc := ⟨.hbm, 437, rfl⟩
abbrev main_call0_call4_c_29 : Ref sig .tc := ⟨.hbm, 438, rfl⟩
abbrev main_call0_call4_v116 : Ref sig .tc := ⟨.hbm, 439, rfl⟩
abbrev main_call0_call4_v117 : Ref sig .tc := ⟨.hbm, 440, rfl⟩
abbrev main_call0_call4_c_30 : Ref sig .tc := ⟨.hbm, 441, rfl⟩
abbrev main_call0_call4_v118 : Ref sig .tc := ⟨.hbm, 442, rfl⟩
abbrev main_call0_call4_v119 : Ref sig .tc := ⟨.hbm, 443, rfl⟩
abbrev main_call0_call4_v120 : Ref sig .tc := ⟨.hbm, 444, rfl⟩
abbrev main_call0_call4_v121 : Ref sig .tc := ⟨.hbm, 445, rfl⟩
abbrev main_call0_call4_v122 : Ref sig .tc := ⟨.hbm, 446, rfl⟩
abbrev main_call0_call4_c_31 : Ref sig .tc := ⟨.hbm, 447, rfl⟩
abbrev main_call0_call4_v123 : Ref sig .tc := ⟨.hbm, 448, rfl⟩
abbrev main_call0_call4_v124 : Ref sig .tc := ⟨.hbm, 449, rfl⟩
abbrev main_call0_call4_c_32 : Ref sig .tc := ⟨.hbm, 450, rfl⟩
abbrev main_call0_call4_v125 : Ref sig .tc := ⟨.hbm, 451, rfl⟩
abbrev main_call0_call4_v126 : Ref sig .tc := ⟨.hbm, 452, rfl⟩
abbrev main_call0_call4_v127 : Ref sig .tc := ⟨.hbm, 453, rfl⟩
abbrev main_call0_call4_v128 : Ref sig .tc := ⟨.hbm, 454, rfl⟩
abbrev main_call0_call4_v129 : Ref sig .tc := ⟨.hbm, 455, rfl⟩
abbrev main_call0_call4_c_33 : Ref sig .tc := ⟨.hbm, 456, rfl⟩
abbrev main_call0_call4_v130 : Ref sig .tc := ⟨.hbm, 457, rfl⟩
abbrev main_call0_call4_v131 : Ref sig .tc := ⟨.hbm, 458, rfl⟩
abbrev main_call0_call4_c_34 : Ref sig .tc := ⟨.hbm, 459, rfl⟩
abbrev main_call0_call4_v132 : Ref sig .tc := ⟨.hbm, 460, rfl⟩
abbrev main_call0_call4_v133 : Ref sig .tc := ⟨.hbm, 461, rfl⟩
abbrev main_call0_call4_v134 : Ref sig .tc := ⟨.hbm, 462, rfl⟩
abbrev main_call0_call4_v135 : Ref sig .tc := ⟨.hbm, 463, rfl⟩
abbrev main_call0_call4_v136 : Ref sig .tc := ⟨.hbm, 464, rfl⟩
abbrev main_call0_call4_v137 : Ref sig .tc := ⟨.hbm, 465, rfl⟩
abbrev main_call0_call4_v138 : Ref sig .tc := ⟨.hbm, 466, rfl⟩
abbrev main_call0_call4_v139 : Ref sig .tc := ⟨.hbm, 467, rfl⟩
abbrev main_call0_call4_c_35 : Ref sig .tc := ⟨.hbm, 468, rfl⟩
abbrev main_call0_call4_v140 : Ref sig .tc := ⟨.hbm, 469, rfl⟩
abbrev main_call0_call4_v141 : Ref sig .tc := ⟨.hbm, 470, rfl⟩
abbrev main_call0_call4_v142 : Ref sig .tc := ⟨.hbm, 471, rfl⟩
abbrev main_call0_call4_c_36 : Ref sig .tc := ⟨.hbm, 472, rfl⟩
abbrev main_call0_call4_v143 : Ref sig .tc := ⟨.hbm, 473, rfl⟩
abbrev main_call0_call4_v144 : Ref sig .tc := ⟨.hbm, 474, rfl⟩
abbrev main_call0_call4_c_37 : Ref sig .tc := ⟨.hbm, 475, rfl⟩
abbrev main_call0_call4_v145 : Ref sig .tc := ⟨.hbm, 476, rfl⟩
abbrev main_call0_call4_v146 : Ref sig .tc := ⟨.hbm, 477, rfl⟩
abbrev main_call0_call4_v147 : Ref sig .tc := ⟨.hbm, 478, rfl⟩
abbrev main_call0_call4_v148 : Ref sig .tc := ⟨.hbm, 479, rfl⟩
abbrev main_call0_call4_v149 : Ref sig .tc := ⟨.hbm, 480, rfl⟩
abbrev main_call0_call4_c_38 : Ref sig .tc := ⟨.hbm, 481, rfl⟩
abbrev main_call0_call4_v150 : Ref sig .tc := ⟨.hbm, 482, rfl⟩
abbrev main_call0_call4_v151 : Ref sig .tc := ⟨.hbm, 483, rfl⟩
abbrev main_call0_call4_c_39 : Ref sig .tc := ⟨.hbm, 484, rfl⟩
abbrev main_call0_call4_v152 : Ref sig .tc := ⟨.hbm, 485, rfl⟩
abbrev main_call0_call4_v153 : Ref sig .tc := ⟨.hbm, 486, rfl⟩
abbrev main_call0_call4_v154 : Ref sig .tc := ⟨.hbm, 487, rfl⟩
abbrev main_call0_call4_v155 : Ref sig .tc := ⟨.hbm, 488, rfl⟩
abbrev main_call0_call4_v156 : Ref sig .tc := ⟨.hbm, 489, rfl⟩
abbrev main_call0_call4_c_40 : Ref sig .tc := ⟨.hbm, 490, rfl⟩
abbrev main_call0_call4_v157 : Ref sig .tc := ⟨.hbm, 491, rfl⟩
abbrev main_call0_call4_v158 : Ref sig .tc := ⟨.hbm, 492, rfl⟩
abbrev main_call0_call4_c_41 : Ref sig .tc := ⟨.hbm, 493, rfl⟩
abbrev main_call0_call4_v159 : Ref sig .tc := ⟨.hbm, 494, rfl⟩
abbrev main_call0_call4_v160 : Ref sig .tc := ⟨.hbm, 495, rfl⟩
abbrev main_call0_call4_v161 : Ref sig .tc := ⟨.hbm, 496, rfl⟩
abbrev main_call0_call4_v162 : Ref sig .tc := ⟨.hbm, 497, rfl⟩
abbrev main_call0_call4_v163 : Ref sig .tc := ⟨.hbm, 498, rfl⟩
abbrev main_call0_call4_c_42 : Ref sig .tc := ⟨.hbm, 499, rfl⟩
abbrev main_call0_call4_v164 : Ref sig .tc := ⟨.hbm, 500, rfl⟩
abbrev main_call0_call4_v165 : Ref sig .tc := ⟨.hbm, 501, rfl⟩
abbrev main_call0_call4_c_43 : Ref sig .tc := ⟨.hbm, 502, rfl⟩
abbrev main_call0_call4_v166 : Ref sig .tc := ⟨.hbm, 503, rfl⟩
abbrev main_call0_call4_v167 : Ref sig .tc := ⟨.hbm, 504, rfl⟩
abbrev main_call0_call4_v168 : Ref sig .tc := ⟨.hbm, 505, rfl⟩
abbrev main_call0_call4_v169 : Ref sig .tc := ⟨.hbm, 506, rfl⟩
abbrev main_call0_call4_v170 : Ref sig .tc := ⟨.hbm, 507, rfl⟩
abbrev main_call0_v24_0 : Ref sig .tc := ⟨.hbm, 508, rfl⟩
abbrev main_call0_call4_v172 : Ref sig .tc := ⟨.hbm, 509, rfl⟩
abbrev main_call0_call4_v173 : Ref sig .tc := ⟨.hbm, 510, rfl⟩
abbrev main_call0_call4_c_44 : Ref sig .tc := ⟨.hbm, 511, rfl⟩
abbrev main_call0_call4_v174 : Ref sig .tc := ⟨.hbm, 512, rfl⟩
abbrev main_call0_v24_1 : Ref sig .tc := ⟨.hbm, 513, rfl⟩
abbrev main_call0_v25 : Ref sig .tc := ⟨.hbm, 514, rfl⟩
abbrev main_call0_v26 : Ref sig .tc := ⟨.hbm, 515, rfl⟩
abbrev main_call0_v27 : Ref sig .tc := ⟨.hbm, 516, rfl⟩
abbrev main_call0_v28 : Ref sig .tc := ⟨.hbm, 517, rfl⟩
abbrev main_call0_v29 : Ref sig .tc := ⟨.hbm, 518, rfl⟩
abbrev main_call0_v30 : Ref sig .tc := ⟨.hbm, 519, rfl⟩
abbrev main_call0_c_8 : Ref sig .tc := ⟨.hbm, 520, rfl⟩
abbrev main_call0_v31 : Ref sig .tc := ⟨.hbm, 521, rfl⟩
abbrev main_call0_v32 : Ref sig .tc := ⟨.hbm, 522, rfl⟩
abbrev main_call0_c_9 : Ref sig .tc := ⟨.hbm, 523, rfl⟩
abbrev main_call0_v33 : Ref sig .tc := ⟨.hbm, 524, rfl⟩
abbrev main_call0_v34 : Ref sig .tc := ⟨.hbm, 525, rfl⟩
abbrev main_call0_v35 : Ref sig .tc := ⟨.hbm, 526, rfl⟩
abbrev main_call0_v36 : Ref sig .tc := ⟨.hbm, 527, rfl⟩
abbrev main_call0_call5_v0 : Ref sig .tc := ⟨.hbm, 528, rfl⟩
abbrev main_call0_call5_c : Ref sig .tc := ⟨.hbm, 529, rfl⟩
abbrev main_call0_call5_v1 : Ref sig .tc := ⟨.hbm, 530, rfl⟩
abbrev main_call0_call5_v2 : Ref sig .tc := ⟨.hbm, 531, rfl⟩
abbrev main_call0_call5_v3 : Ref sig .tc := ⟨.hbm, 532, rfl⟩
abbrev main_call0_call5_v4 : Ref sig .tc := ⟨.hbm, 533, rfl⟩
abbrev main_call0_call5_v5 : Ref sig .tc := ⟨.hbm, 534, rfl⟩
abbrev main_call0_call5_v6 : Ref sig .tc := ⟨.hbm, 535, rfl⟩
abbrev main_call0_call5_c_0 : Ref sig .tc := ⟨.hbm, 536, rfl⟩
abbrev main_call0_call5_v7 : Ref sig .tc := ⟨.hbm, 537, rfl⟩
abbrev main_call0_call5_v8 : Ref sig .tc := ⟨.hbm, 538, rfl⟩
abbrev main_call0_call5_c_1 : Ref sig .tc := ⟨.hbm, 539, rfl⟩
abbrev main_call0_call5_v9 : Ref sig .tc := ⟨.hbm, 540, rfl⟩
abbrev main_call0_call5_v10 : Ref sig .tc := ⟨.hbm, 541, rfl⟩
abbrev main_call0_call5_v11 : Ref sig .tc := ⟨.hbm, 542, rfl⟩
abbrev main_call0_call5_v12 : Ref sig .tc := ⟨.hbm, 543, rfl⟩
abbrev main_call0_call5_v13 : Ref sig .tc := ⟨.hbm, 544, rfl⟩
abbrev main_call0_call5_c_2 : Ref sig .tc := ⟨.hbm, 545, rfl⟩
abbrev main_call0_call5_v14 : Ref sig .tc := ⟨.hbm, 546, rfl⟩
abbrev main_call0_call5_v15 : Ref sig .tc := ⟨.hbm, 547, rfl⟩
abbrev main_call0_call5_c_3 : Ref sig .tc := ⟨.hbm, 548, rfl⟩
abbrev main_call0_call5_v16 : Ref sig .tc := ⟨.hbm, 549, rfl⟩
abbrev main_call0_call5_v17 : Ref sig .tc := ⟨.hbm, 550, rfl⟩
abbrev main_call0_call5_v18 : Ref sig .tc := ⟨.hbm, 551, rfl⟩
abbrev main_call0_call5_v19 : Ref sig .tc := ⟨.hbm, 552, rfl⟩
abbrev main_call0_call5_v20 : Ref sig .tc := ⟨.hbm, 553, rfl⟩
abbrev main_call0_call5_c_4 : Ref sig .tc := ⟨.hbm, 554, rfl⟩
abbrev main_call0_call5_v21 : Ref sig .tc := ⟨.hbm, 555, rfl⟩
abbrev main_call0_call5_v22 : Ref sig .tc := ⟨.hbm, 556, rfl⟩
abbrev main_call0_call5_c_5 : Ref sig .tc := ⟨.hbm, 557, rfl⟩
abbrev main_call0_call5_v23 : Ref sig .tc := ⟨.hbm, 558, rfl⟩
abbrev main_call0_call5_v24 : Ref sig .tc := ⟨.hbm, 559, rfl⟩
abbrev main_call0_call5_v25 : Ref sig .tc := ⟨.hbm, 560, rfl⟩
abbrev main_call0_call5_v26 : Ref sig .tc := ⟨.hbm, 561, rfl⟩
abbrev main_call0_call5_v27 : Ref sig .tc := ⟨.hbm, 562, rfl⟩
abbrev main_call0_call5_c_6 : Ref sig .tc := ⟨.hbm, 563, rfl⟩
abbrev main_call0_call5_v28 : Ref sig .tc := ⟨.hbm, 564, rfl⟩
abbrev main_call0_call5_v29 : Ref sig .tc := ⟨.hbm, 565, rfl⟩
abbrev main_call0_call5_c_7 : Ref sig .tc := ⟨.hbm, 566, rfl⟩
abbrev main_call0_call5_v30 : Ref sig .tc := ⟨.hbm, 567, rfl⟩
abbrev main_call0_call5_v31 : Ref sig .tc := ⟨.hbm, 568, rfl⟩
abbrev main_call0_call5_v32 : Ref sig .tc := ⟨.hbm, 569, rfl⟩
abbrev main_call0_call5_v33 : Ref sig .tc := ⟨.hbm, 570, rfl⟩
abbrev main_call0_call5_v34 : Ref sig .tc := ⟨.hbm, 571, rfl⟩
abbrev main_call0_call5_v35 : Ref sig .tc := ⟨.hbm, 572, rfl⟩
abbrev main_call0_call5_v36 : Ref sig .tc := ⟨.hbm, 573, rfl⟩
abbrev main_call0_call5_v37 : Ref sig .tc := ⟨.hbm, 574, rfl⟩
abbrev main_call0_call5_c_8 : Ref sig .tc := ⟨.hbm, 575, rfl⟩
abbrev main_call0_call5_v38 : Ref sig .tc := ⟨.hbm, 576, rfl⟩
abbrev main_call0_call5_v39 : Ref sig .tc := ⟨.hbm, 577, rfl⟩
abbrev main_call0_call5_v40 : Ref sig .tc := ⟨.hbm, 578, rfl⟩
abbrev main_call0_call5_c_9 : Ref sig .tc := ⟨.hbm, 579, rfl⟩
abbrev main_call0_call5_v41 : Ref sig .tc := ⟨.hbm, 580, rfl⟩
abbrev main_call0_call5_v42 : Ref sig .tc := ⟨.hbm, 581, rfl⟩
abbrev main_call0_call5_c_10 : Ref sig .tc := ⟨.hbm, 582, rfl⟩
abbrev main_call0_call5_v43 : Ref sig .tc := ⟨.hbm, 583, rfl⟩
abbrev main_call0_call5_v44 : Ref sig .tc := ⟨.hbm, 584, rfl⟩
abbrev main_call0_call5_v45 : Ref sig .tc := ⟨.hbm, 585, rfl⟩
abbrev main_call0_call5_v46 : Ref sig .tc := ⟨.hbm, 586, rfl⟩
abbrev main_call0_call5_v47 : Ref sig .tc := ⟨.hbm, 587, rfl⟩
abbrev main_call0_call5_c_11 : Ref sig .tc := ⟨.hbm, 588, rfl⟩
abbrev main_call0_call5_v48 : Ref sig .tc := ⟨.hbm, 589, rfl⟩
abbrev main_call0_call5_v49 : Ref sig .tc := ⟨.hbm, 590, rfl⟩
abbrev main_call0_call5_c_12 : Ref sig .tc := ⟨.hbm, 591, rfl⟩
abbrev main_call0_call5_v50 : Ref sig .tc := ⟨.hbm, 592, rfl⟩
abbrev main_call0_call5_v51 : Ref sig .tc := ⟨.hbm, 593, rfl⟩
abbrev main_call0_call5_v52 : Ref sig .tc := ⟨.hbm, 594, rfl⟩
abbrev main_call0_call5_v53 : Ref sig .tc := ⟨.hbm, 595, rfl⟩
abbrev main_call0_call5_v54 : Ref sig .tc := ⟨.hbm, 596, rfl⟩
abbrev main_call0_call5_c_13 : Ref sig .tc := ⟨.hbm, 597, rfl⟩
abbrev main_call0_call5_v55 : Ref sig .tc := ⟨.hbm, 598, rfl⟩
abbrev main_call0_call5_v56 : Ref sig .tc := ⟨.hbm, 599, rfl⟩
abbrev main_call0_call5_c_14 : Ref sig .tc := ⟨.hbm, 600, rfl⟩
abbrev main_call0_call5_v57 : Ref sig .tc := ⟨.hbm, 601, rfl⟩
abbrev main_call0_call5_v58 : Ref sig .tc := ⟨.hbm, 602, rfl⟩
abbrev main_call0_call5_v59 : Ref sig .tc := ⟨.hbm, 603, rfl⟩
abbrev main_call0_call5_v60 : Ref sig .tc := ⟨.hbm, 604, rfl⟩
abbrev main_call0_call5_v61 : Ref sig .tc := ⟨.hbm, 605, rfl⟩
abbrev main_call0_call5_c_15 : Ref sig .tc := ⟨.hbm, 606, rfl⟩
abbrev main_call0_call5_v62 : Ref sig .tc := ⟨.hbm, 607, rfl⟩
abbrev main_call0_call5_v63 : Ref sig .tc := ⟨.hbm, 608, rfl⟩
abbrev main_call0_call5_c_16 : Ref sig .tc := ⟨.hbm, 609, rfl⟩
abbrev main_call0_call5_v64 : Ref sig .tc := ⟨.hbm, 610, rfl⟩
abbrev main_call0_call5_v65 : Ref sig .tc := ⟨.hbm, 611, rfl⟩
abbrev main_call0_call5_v66 : Ref sig .tc := ⟨.hbm, 612, rfl⟩
abbrev main_call0_call5_v67 : Ref sig .tc := ⟨.hbm, 613, rfl⟩
abbrev main_call0_call5_v68 : Ref sig .tc := ⟨.hbm, 614, rfl⟩
abbrev main_call0_call5_v69 : Ref sig .tc := ⟨.hbm, 615, rfl⟩
abbrev main_call0_call5_v70 : Ref sig .tc := ⟨.hbm, 616, rfl⟩
abbrev main_call0_call5_v71 : Ref sig .tc := ⟨.hbm, 617, rfl⟩
abbrev main_call0_call5_c_17 : Ref sig .tc := ⟨.hbm, 618, rfl⟩
abbrev main_call0_call5_v72 : Ref sig .tc := ⟨.hbm, 619, rfl⟩
abbrev main_call0_call5_v73 : Ref sig .tc := ⟨.hbm, 620, rfl⟩
abbrev main_call0_call5_v74 : Ref sig .tc := ⟨.hbm, 621, rfl⟩
abbrev main_call0_call5_c_18 : Ref sig .tc := ⟨.hbm, 622, rfl⟩
abbrev main_call0_call5_v75 : Ref sig .tc := ⟨.hbm, 623, rfl⟩
abbrev main_call0_call5_v76 : Ref sig .tc := ⟨.hbm, 624, rfl⟩
abbrev main_call0_call5_c_19 : Ref sig .tc := ⟨.hbm, 625, rfl⟩
abbrev main_call0_call5_v77 : Ref sig .tc := ⟨.hbm, 626, rfl⟩
abbrev main_call0_call5_v78 : Ref sig .tc := ⟨.hbm, 627, rfl⟩
abbrev main_call0_call5_v79 : Ref sig .tc := ⟨.hbm, 628, rfl⟩
abbrev main_call0_call5_v80 : Ref sig .tc := ⟨.hbm, 629, rfl⟩
abbrev main_call0_call5_v81 : Ref sig .tc := ⟨.hbm, 630, rfl⟩
abbrev main_call0_call5_c_20 : Ref sig .tc := ⟨.hbm, 631, rfl⟩
abbrev main_call0_call5_v82 : Ref sig .tc := ⟨.hbm, 632, rfl⟩
abbrev main_call0_call5_v83 : Ref sig .tc := ⟨.hbm, 633, rfl⟩
abbrev main_call0_call5_c_21 : Ref sig .tc := ⟨.hbm, 634, rfl⟩
abbrev main_call0_call5_v84 : Ref sig .tc := ⟨.hbm, 635, rfl⟩
abbrev main_call0_call5_v85 : Ref sig .tc := ⟨.hbm, 636, rfl⟩
abbrev main_call0_call5_v86 : Ref sig .tc := ⟨.hbm, 637, rfl⟩
abbrev main_call0_call5_v87 : Ref sig .tc := ⟨.hbm, 638, rfl⟩
abbrev main_call0_call5_v88 : Ref sig .tc := ⟨.hbm, 639, rfl⟩
abbrev main_call0_call5_c_22 : Ref sig .tc := ⟨.hbm, 640, rfl⟩
abbrev main_call0_call5_v89 : Ref sig .tc := ⟨.hbm, 641, rfl⟩
abbrev main_call0_call5_v90 : Ref sig .tc := ⟨.hbm, 642, rfl⟩
abbrev main_call0_call5_c_23 : Ref sig .tc := ⟨.hbm, 643, rfl⟩
abbrev main_call0_call5_v91 : Ref sig .tc := ⟨.hbm, 644, rfl⟩
abbrev main_call0_call5_v92 : Ref sig .tc := ⟨.hbm, 645, rfl⟩
abbrev main_call0_call5_v93 : Ref sig .tc := ⟨.hbm, 646, rfl⟩
abbrev main_call0_call5_v94 : Ref sig .tc := ⟨.hbm, 647, rfl⟩
abbrev main_call0_call5_v95 : Ref sig .tc := ⟨.hbm, 648, rfl⟩
abbrev main_call0_call5_c_24 : Ref sig .tc := ⟨.hbm, 649, rfl⟩
abbrev main_call0_call5_v96 : Ref sig .tc := ⟨.hbm, 650, rfl⟩
abbrev main_call0_call5_v97 : Ref sig .tc := ⟨.hbm, 651, rfl⟩
abbrev main_call0_call5_c_25 : Ref sig .tc := ⟨.hbm, 652, rfl⟩
abbrev main_call0_call5_v98 : Ref sig .tc := ⟨.hbm, 653, rfl⟩
abbrev main_call0_call5_v99 : Ref sig .tc := ⟨.hbm, 654, rfl⟩
abbrev main_call0_call5_v100 : Ref sig .tc := ⟨.hbm, 655, rfl⟩
abbrev main_call0_call5_v101 : Ref sig .tc := ⟨.hbm, 656, rfl⟩
abbrev main_call0_call5_v102 : Ref sig .tc := ⟨.hbm, 657, rfl⟩
abbrev main_call0_call5_v103 : Ref sig .tc := ⟨.hbm, 658, rfl⟩
abbrev main_call0_call5_v104 : Ref sig .tc := ⟨.hbm, 659, rfl⟩
abbrev main_call0_call5_v105 : Ref sig .tc := ⟨.hbm, 660, rfl⟩
abbrev main_call0_call5_c_26 : Ref sig .tc := ⟨.hbm, 661, rfl⟩
abbrev main_call0_call5_v106 : Ref sig .tc := ⟨.hbm, 662, rfl⟩
abbrev main_call0_call5_v107 : Ref sig .tc := ⟨.hbm, 663, rfl⟩
abbrev main_call0_call5_v108 : Ref sig .tc := ⟨.hbm, 664, rfl⟩
abbrev main_call0_call5_c_27 : Ref sig .tc := ⟨.hbm, 665, rfl⟩
abbrev main_call0_call5_v109 : Ref sig .tc := ⟨.hbm, 666, rfl⟩
abbrev main_call0_call5_v110 : Ref sig .tc := ⟨.hbm, 667, rfl⟩
abbrev main_call0_call5_c_28 : Ref sig .tc := ⟨.hbm, 668, rfl⟩
abbrev main_call0_call5_v111 : Ref sig .tc := ⟨.hbm, 669, rfl⟩
abbrev main_call0_call5_v112 : Ref sig .tc := ⟨.hbm, 670, rfl⟩
abbrev main_call0_call5_v113 : Ref sig .tc := ⟨.hbm, 671, rfl⟩
abbrev main_call0_call5_v114 : Ref sig .tc := ⟨.hbm, 672, rfl⟩
abbrev main_call0_call5_v115 : Ref sig .tc := ⟨.hbm, 673, rfl⟩
abbrev main_call0_call5_c_29 : Ref sig .tc := ⟨.hbm, 674, rfl⟩
abbrev main_call0_call5_v116 : Ref sig .tc := ⟨.hbm, 675, rfl⟩
abbrev main_call0_call5_v117 : Ref sig .tc := ⟨.hbm, 676, rfl⟩
abbrev main_call0_call5_c_30 : Ref sig .tc := ⟨.hbm, 677, rfl⟩
abbrev main_call0_call5_v118 : Ref sig .tc := ⟨.hbm, 678, rfl⟩
abbrev main_call0_call5_v119 : Ref sig .tc := ⟨.hbm, 679, rfl⟩
abbrev main_call0_call5_v120 : Ref sig .tc := ⟨.hbm, 680, rfl⟩
abbrev main_call0_call5_v121 : Ref sig .tc := ⟨.hbm, 681, rfl⟩
abbrev main_call0_call5_v122 : Ref sig .tc := ⟨.hbm, 682, rfl⟩
abbrev main_call0_call5_c_31 : Ref sig .tc := ⟨.hbm, 683, rfl⟩
abbrev main_call0_call5_v123 : Ref sig .tc := ⟨.hbm, 684, rfl⟩
abbrev main_call0_call5_v124 : Ref sig .tc := ⟨.hbm, 685, rfl⟩
abbrev main_call0_call5_c_32 : Ref sig .tc := ⟨.hbm, 686, rfl⟩
abbrev main_call0_call5_v125 : Ref sig .tc := ⟨.hbm, 687, rfl⟩
abbrev main_call0_call5_v126 : Ref sig .tc := ⟨.hbm, 688, rfl⟩
abbrev main_call0_call5_v127 : Ref sig .tc := ⟨.hbm, 689, rfl⟩
abbrev main_call0_call5_v128 : Ref sig .tc := ⟨.hbm, 690, rfl⟩
abbrev main_call0_call5_v129 : Ref sig .tc := ⟨.hbm, 691, rfl⟩
abbrev main_call0_call5_c_33 : Ref sig .tc := ⟨.hbm, 692, rfl⟩
abbrev main_call0_call5_v130 : Ref sig .tc := ⟨.hbm, 693, rfl⟩
abbrev main_call0_call5_v131 : Ref sig .tc := ⟨.hbm, 694, rfl⟩
abbrev main_call0_call5_c_34 : Ref sig .tc := ⟨.hbm, 695, rfl⟩
abbrev main_call0_call5_v132 : Ref sig .tc := ⟨.hbm, 696, rfl⟩
abbrev main_call0_call5_v133 : Ref sig .tc := ⟨.hbm, 697, rfl⟩
abbrev main_call0_call5_v134 : Ref sig .tc := ⟨.hbm, 698, rfl⟩
abbrev main_call0_call5_v135 : Ref sig .tc := ⟨.hbm, 699, rfl⟩
abbrev main_call0_call5_v136 : Ref sig .tc := ⟨.hbm, 700, rfl⟩
abbrev main_call0_call5_v137 : Ref sig .tc := ⟨.hbm, 701, rfl⟩
abbrev main_call0_call5_v138 : Ref sig .tc := ⟨.hbm, 702, rfl⟩
abbrev main_call0_call5_v139 : Ref sig .tc := ⟨.hbm, 703, rfl⟩
abbrev main_call0_call5_c_35 : Ref sig .tc := ⟨.hbm, 704, rfl⟩
abbrev main_call0_call5_v140 : Ref sig .tc := ⟨.hbm, 705, rfl⟩
abbrev main_call0_call5_v141 : Ref sig .tc := ⟨.hbm, 706, rfl⟩
abbrev main_call0_call5_v142 : Ref sig .tc := ⟨.hbm, 707, rfl⟩
abbrev main_call0_call5_c_36 : Ref sig .tc := ⟨.hbm, 708, rfl⟩
abbrev main_call0_call5_v143 : Ref sig .tc := ⟨.hbm, 709, rfl⟩
abbrev main_call0_call5_v144 : Ref sig .tc := ⟨.hbm, 710, rfl⟩
abbrev main_call0_call5_c_37 : Ref sig .tc := ⟨.hbm, 711, rfl⟩
abbrev main_call0_call5_v145 : Ref sig .tc := ⟨.hbm, 712, rfl⟩
abbrev main_call0_call5_v146 : Ref sig .tc := ⟨.hbm, 713, rfl⟩
abbrev main_call0_call5_v147 : Ref sig .tc := ⟨.hbm, 714, rfl⟩
abbrev main_call0_call5_v148 : Ref sig .tc := ⟨.hbm, 715, rfl⟩
abbrev main_call0_call5_v149 : Ref sig .tc := ⟨.hbm, 716, rfl⟩
abbrev main_call0_call5_c_38 : Ref sig .tc := ⟨.hbm, 717, rfl⟩
abbrev main_call0_call5_v150 : Ref sig .tc := ⟨.hbm, 718, rfl⟩
abbrev main_call0_call5_v151 : Ref sig .tc := ⟨.hbm, 719, rfl⟩
abbrev main_call0_call5_c_39 : Ref sig .tc := ⟨.hbm, 720, rfl⟩
abbrev main_call0_call5_v152 : Ref sig .tc := ⟨.hbm, 721, rfl⟩
abbrev main_call0_call5_v153 : Ref sig .tc := ⟨.hbm, 722, rfl⟩
abbrev main_call0_call5_v154 : Ref sig .tc := ⟨.hbm, 723, rfl⟩
abbrev main_call0_call5_v155 : Ref sig .tc := ⟨.hbm, 724, rfl⟩
abbrev main_call0_call5_v156 : Ref sig .tc := ⟨.hbm, 725, rfl⟩
abbrev main_call0_call5_c_40 : Ref sig .tc := ⟨.hbm, 726, rfl⟩
abbrev main_call0_call5_v157 : Ref sig .tc := ⟨.hbm, 727, rfl⟩
abbrev main_call0_call5_v158 : Ref sig .tc := ⟨.hbm, 728, rfl⟩
abbrev main_call0_call5_c_41 : Ref sig .tc := ⟨.hbm, 729, rfl⟩
abbrev main_call0_call5_v159 : Ref sig .tc := ⟨.hbm, 730, rfl⟩
abbrev main_call0_call5_v160 : Ref sig .tc := ⟨.hbm, 731, rfl⟩
abbrev main_call0_call5_v161 : Ref sig .tc := ⟨.hbm, 732, rfl⟩
abbrev main_call0_call5_v162 : Ref sig .tc := ⟨.hbm, 733, rfl⟩
abbrev main_call0_call5_v163 : Ref sig .tc := ⟨.hbm, 734, rfl⟩
abbrev main_call0_call5_c_42 : Ref sig .tc := ⟨.hbm, 735, rfl⟩
abbrev main_call0_call5_v164 : Ref sig .tc := ⟨.hbm, 736, rfl⟩
abbrev main_call0_call5_v165 : Ref sig .tc := ⟨.hbm, 737, rfl⟩
abbrev main_call0_call5_c_43 : Ref sig .tc := ⟨.hbm, 738, rfl⟩
abbrev main_call0_call5_v166 : Ref sig .tc := ⟨.hbm, 739, rfl⟩
abbrev main_call0_call5_v167 : Ref sig .tc := ⟨.hbm, 740, rfl⟩
abbrev main_call0_call5_v168 : Ref sig .tc := ⟨.hbm, 741, rfl⟩
abbrev main_call0_call5_v169 : Ref sig .tc := ⟨.hbm, 742, rfl⟩
abbrev main_call0_call5_v170 : Ref sig .tc := ⟨.hbm, 743, rfl⟩
abbrev main_call0_v37_0 : Ref sig .tc := ⟨.hbm, 744, rfl⟩
abbrev main_call0_call5_v172 : Ref sig .tc := ⟨.hbm, 745, rfl⟩
abbrev main_call0_call5_v173 : Ref sig .tc := ⟨.hbm, 746, rfl⟩
abbrev main_call0_call5_c_44 : Ref sig .tc := ⟨.hbm, 747, rfl⟩
abbrev main_call0_call5_v174 : Ref sig .tc := ⟨.hbm, 748, rfl⟩
abbrev main_call0_v37_1 : Ref sig .tc := ⟨.hbm, 749, rfl⟩
abbrev main_call0_v38 : Ref sig .tc := ⟨.hbm, 750, rfl⟩
abbrev main_call0_v39 : Ref sig .tc := ⟨.hbm, 751, rfl⟩
abbrev main_call0_v40 : Ref sig .tc := ⟨.hbm, 752, rfl⟩
abbrev main_call0_v41 : Ref sig .tc := ⟨.hbm, 753, rfl⟩
abbrev main_call0_c_10 : Ref sig .tc := ⟨.hbm, 754, rfl⟩
abbrev main_call0_v42 : Ref sig .tc := ⟨.hbm, 755, rfl⟩
abbrev main_call0_v43 : Ref sig .tc := ⟨.hbm, 756, rfl⟩
abbrev main_call0_v44 : Ref sig .tc := ⟨.hbm, 757, rfl⟩
abbrev main_call0_v45 : Ref sig .tc := ⟨.hbm, 758, rfl⟩
abbrev main_call0_v46 : Ref sig .tc := ⟨.hbm, 759, rfl⟩
abbrev main_call0_c_11 : Ref sig .tc := ⟨.hbm, 760, rfl⟩
abbrev main_call0_v47 : Ref sig .tc := ⟨.hbm, 761, rfl⟩
abbrev main_call0_v48 : Ref sig .tc := ⟨.hbm, 762, rfl⟩
abbrev main_call0_v49 : Ref sig .tc := ⟨.hbm, 763, rfl⟩
abbrev main_call0_c_12 : Ref sig .tc := ⟨.hbm, 764, rfl⟩
abbrev main_call0_v50 : Ref sig .tc := ⟨.hbm, 765, rfl⟩
abbrev main_call0_v51 : Ref sig .tc := ⟨.hbm, 766, rfl⟩
abbrev main_call0_v52 : Ref sig .tc := ⟨.hbm, 767, rfl⟩
abbrev main_call0_v53 : Ref sig .tc := ⟨.hbm, 768, rfl⟩
abbrev main_call0_v54 : Ref sig .tc := ⟨.hbm, 769, rfl⟩
abbrev main_call0_v55 : Ref sig .tc := ⟨.hbm, 770, rfl⟩
abbrev main_call0_v56 : Ref sig .tc := ⟨.hbm, 771, rfl⟩
abbrev main_call0_v57 : Ref sig .tc := ⟨.hbm, 772, rfl⟩
abbrev main_call0_v58 : Ref sig .tc := ⟨.hbm, 773, rfl⟩
abbrev main_call0_v59 : Ref sig .tc := ⟨.hbm, 774, rfl⟩
abbrev main_call0_v60 : Ref sig .tc := ⟨.hbm, 775, rfl⟩
abbrev main_call0_v61 : Ref sig .tc := ⟨.hbm, 776, rfl⟩
abbrev main_call0_v62 : Ref sig .tc := ⟨.hbm, 777, rfl⟩
abbrev main_call0_v63 : Ref sig .tc := ⟨.hbm, 778, rfl⟩
abbrev main_call0_v64 : Ref sig .tc := ⟨.hbm, 779, rfl⟩
abbrev main_v7 : Ref sig .tc := ⟨.hbm, 780, rfl⟩
abbrev main_v8 : Ref sig .tc := ⟨.hbm, 781, rfl⟩
abbrev main_c_4 : Ref sig .tc := ⟨.hbm, 782, rfl⟩
abbrev main_v9 : Ref sig .tc := ⟨.hbm, 783, rfl⟩
abbrev main_v10 : Ref sig .tc := ⟨.hbm, 784, rfl⟩
abbrev main_c_5 : Ref sig .tc := ⟨.hbm, 785, rfl⟩
abbrev main_v11 : Ref sig .tc := ⟨.hbm, 786, rfl⟩
abbrev main_v12 : Ref sig .tc := ⟨.hbm, 787, rfl⟩
abbrev main_v13 : Ref sig .tc := ⟨.hbm, 788, rfl⟩
abbrev main_c_6 : Ref sig .tc := ⟨.hbm, 789, rfl⟩
abbrev main_v14 : Ref sig .tc := ⟨.hbm, 790, rfl⟩
abbrev main_v15 : Ref sig .tc := ⟨.hbm, 791, rfl⟩
abbrev main_c_7 : Ref sig .tc := ⟨.hbm, 792, rfl⟩
abbrev main_v16 : Ref sig .tc := ⟨.hbm, 793, rfl⟩
abbrev main_v17 : Ref sig .tc := ⟨.hbm, 794, rfl⟩
abbrev main_v18 : Ref sig .tc := ⟨.hbm, 795, rfl⟩
abbrev main_v19 : Ref sig .tc := ⟨.hbm, 796, rfl⟩
abbrev main_v20 : Ref sig .tc := ⟨.hbm, 797, rfl⟩
abbrev main_v21 : Ref sig .tc := ⟨.hbm, 798, rfl⟩
abbrev main_v22 : Ref sig .tc := ⟨.hbm, 799, rfl⟩
abbrev main_v23 : Ref sig .tc := ⟨.hbm, 800, rfl⟩
abbrev main_v24 : Ref sig .tc := ⟨.hbm, 801, rfl⟩
abbrev main_v25 : Ref sig .tc := ⟨.hbm, 802, rfl⟩
abbrev main_v26 : Ref sig .tc := ⟨.hbm, 803, rfl⟩
abbrev main_v27 : Ref sig .tc := ⟨.hbm, 804, rfl⟩
abbrev main_v28 : Ref sig .tc := ⟨.hbm, 805, rfl⟩
abbrev main_v29 : Ref sig .tc := ⟨.hbm, 806, rfl⟩
abbrev main_v30 : Ref sig .tc := ⟨.hbm, 807, rfl⟩
abbrev main_v31 : Ref sig .tc := ⟨.hbm, 808, rfl⟩
abbrev main_v32_0 : Ref sig .tc := ⟨.hbm, 809, rfl⟩
abbrev main_v32_1 : Ref sig .tc := ⟨.hbm, 810, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c1024_i32 : BitVec 32 := 1024#32
  let v11 : BitVec 32 := Scalar.addi c0_i32 c1024_i32
  let c1_i32 : BitVec 32 := 1#32
  ⟨c0_i32, v11, c1_i32⟩
def k0_off1 (k0_t1 : Fin k0_t1_loop.trips) : Fin 2 → Nat :=
  let c8_i32 : BitVec 32 := 8#32
  let c0_i32 : BitVec 32 := 0#32
  let c1_i32 : BitVec 32 := 1#32
  let arg14 : BitVec 32 := Scf.iv c0_i32 c1_i32 k0_t1
  let v256 : BitVec 32 := Scalar.muli c8_i32 arg14
  let v257 : Index := Scalar.indexCast v256
  let c0_187 : Index := 0#32
  ![v257.toNat, 0]
abbrev stage0_0 : Fin 1 → Memref sig .tc .vmem S8x32768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x32768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x32768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x1024x3 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x1024x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== ReferenceIdeal.lean ====
abbrev S8x32768x3 : Shape := ⟨3, ![8, 32768, 3]⟩
abbrev S3x64 : Shape := ⟨2, ![3, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S_ : Shape := ⟨0, ![]⟩
abbrev S8x32768 : Shape := ⟨2, ![8, 32768]⟩
abbrev S1 : Shape := ⟨1, ![1]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S8 : Shape := ⟨1, ![8]⟩
abbrev S1024x8 : Shape := ⟨2, ![1024, 8]⟩
abbrev S8x1 : Shape := ⟨2, ![8, 1]⟩
abbrev S8x2 : Shape := ⟨2, ![8, 2]⟩
abbrev S8x3 : Shape := ⟨2, ![8, 3]⟩
abbrev S8x1x3 : Shape := ⟨3, ![8, 1, 3]⟩
abbrev S1x8 : Shape := ⟨2, ![1, 8]⟩
abbrev S8x1024 : Shape := ⟨2, ![8, 1024]⟩
abbrev S8x1024x1 : Shape := ⟨3, ![8, 1024, 1]⟩
abbrev S8x1024x2 : Shape := ⟨3, ![8, 1024, 2]⟩
abbrev S8x1024x3 : Shape := ⟨3, ![8, 1024, 3]⟩
abbrev S8x1024x64 : Shape := ⟨3, ![8, 1024, 64]⟩
abbrev S1x1x64 : Shape := ⟨3, ![1, 1, 64]⟩
abbrev S8x1024x128 : Shape := ⟨3, ![8, 1024, 128]⟩
abbrev S1x1x128 : Shape := ⟨3, ![1, 1, 128]⟩
abbrev S8x1024x256 : Shape := ⟨3, ![8, 1024, 256]⟩
abbrev S1x1x256 : Shape := ⟨3, ![1, 1, 256]⟩

abbrev nBuf : Space → Nat
  | .hbm => 869
  | .vmem => 0
  | .smem => 0
  | _ => 0

abbrev hbmTy0_0 (i : Nat) : BufTy := match i % 128 with
  | 0 => ⟨S8x32768x3, .f32⟩
  | 1 => ⟨S3x64, .f32⟩
  | 2 => ⟨S64, .f32⟩
  | 3 => ⟨S64x128, .f32⟩
  | 4 => ⟨S128, .f32⟩
  | 5 => ⟨S128x256, .f32⟩
  | 6 => ⟨S256, .f32⟩
  | 7 => ⟨S_, .f32⟩
  | 8 => ⟨S8x32768, .f32⟩
  | 9 => ⟨S_, .i32⟩
  | 10 => ⟨S_, .i32⟩
  | 11 => ⟨S_, .i32⟩
  | 12 => ⟨S_, .i32⟩
  | 13 => ⟨S1, .i32⟩
  | 14 => ⟨S_, .i32⟩
  | 15 => ⟨S_, .i32⟩
  | 16 => ⟨S_, .i32⟩
  | 17 => ⟨S1, .i32⟩
  | 18 => ⟨S2, .i32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S_, .i32⟩
  | 37 => ⟨S1, .i32⟩
  | 38 => ⟨S1, .i32⟩
  | 39 => ⟨S1, .i32⟩
  | 40 => ⟨S_, .i32⟩
  | 41 => ⟨S1, .i32⟩
  | 42 => ⟨S_, .i32⟩
  | 43 => ⟨S2, .i64⟩
  | 44 => ⟨S_, .i64⟩
  | 45 => ⟨S2, .i64⟩
  | 46 => ⟨S2, .i64⟩
  | 47 => ⟨S_, .i64⟩
  | 48 => ⟨S2, .i64⟩
  | 49 => ⟨S2, .i64⟩
  | 50 => ⟨S2, .i32⟩
  | 51 => ⟨S2, .i32⟩
  | 52 => ⟨S_, .i32⟩
  | 53 => ⟨S_, .i32⟩
  | 54 => ⟨S_, .i32⟩
  | 55 => ⟨S2, .i32⟩
  | 56 => ⟨S2, .i32⟩
  | 57 => ⟨S2, .i32⟩
  | 58 => ⟨S2, .i32⟩
  | 59 => ⟨S2, .i32⟩
  | 60 => ⟨S_, .i32⟩
  | 61 => ⟨S2, .i32⟩
  | 62 => ⟨S2, .i32⟩
  | 63 => ⟨S_, .i32⟩
  | 64 => ⟨S2, .i32⟩
  | 65 => ⟨S2, .i32⟩
  | 66 => ⟨S2, .i32⟩
  | 67 => ⟨S2, .i32⟩
  | 68 => ⟨S2, .i32⟩
  | 69 => ⟨S_, .i32⟩
  | 70 => ⟨S2, .i32⟩
  | 71 => ⟨S2, .i32⟩
  | 72 => ⟨S_, .i32⟩
  | 73 => ⟨S2, .i32⟩
  | 74 => ⟨S2, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S_, .i32⟩
  | 82 => ⟨S2, .i32⟩
  | 83 => ⟨S2, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S_, .i32⟩
  | 91 => ⟨S2, .i32⟩
  | 92 => ⟨S2, .i32⟩
  | 93 => ⟨S2, .i32⟩
  | 94 => ⟨S2, .i32⟩
  | 95 => ⟨S2, .i32⟩
  | 96 => ⟨S2, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S_, .i32⟩
  | 104 => ⟨S2, .i32⟩
  | 105 => ⟨S2, .i32⟩
  | 106 => ⟨S_, .i32⟩
  | 107 => ⟨S2, .i32⟩
  | 108 => ⟨S2, .i32⟩
  | 109 => ⟨S2, .i32⟩
  | 110 => ⟨S2, .i32⟩
  | 111 => ⟨S2, .i32⟩
  | 112 => ⟨S_, .i32⟩
  | 113 => ⟨S2, .i32⟩
  | 114 => ⟨S2, .i32⟩
  | 115 => ⟨S_, .i32⟩
  | 116 => ⟨S2, .i32⟩
  | 117 => ⟨S2, .i32⟩
  | 118 => ⟨S2, .i32⟩
  | 119 => ⟨S2, .i32⟩
  | 120 => ⟨S2, .i32⟩
  | 121 => ⟨S_, .i32⟩
  | 122 => ⟨S2, .i32⟩
  | 123 => ⟨S2, .i32⟩
  | 124 => ⟨S_, .i32⟩
  | 125 => ⟨S2, .i32⟩
  | 126 => ⟨S2, .i32⟩
  | 127 => ⟨S2, .i32⟩
  | _ => ⟨S8x32768x3, .f32⟩

abbrev hbmTy0_1 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S_, .i32⟩
  | 6 => ⟨S2, .i32⟩
  | 7 => ⟨S2, .i32⟩
  | 8 => ⟨S2, .i32⟩
  | 9 => ⟨S2, .i32⟩
  | 10 => ⟨S2, .i32⟩
  | 11 => ⟨S2, .i32⟩
  | 12 => ⟨S2, .i32⟩
  | 13 => ⟨S2, .i32⟩
  | 14 => ⟨S_, .i32⟩
  | 15 => ⟨S2, .i32⟩
  | 16 => ⟨S2, .i32⟩
  | 17 => ⟨S2, .i32⟩
  | 18 => ⟨S_, .i32⟩
  | 19 => ⟨S2, .i32⟩
  | 20 => ⟨S2, .i32⟩
  | 21 => ⟨S_, .i32⟩
  | 22 => ⟨S2, .i32⟩
  | 23 => ⟨S2, .i32⟩
  | 24 => ⟨S2, .i32⟩
  | 25 => ⟨S2, .i32⟩
  | 26 => ⟨S2, .i32⟩
  | 27 => ⟨S_, .i32⟩
  | 28 => ⟨S2, .i32⟩
  | 29 => ⟨S2, .i32⟩
  | 30 => ⟨S_, .i32⟩
  | 31 => ⟨S2, .i32⟩
  | 32 => ⟨S2, .i32⟩
  | 33 => ⟨S2, .i32⟩
  | 34 => ⟨S2, .i32⟩
  | 35 => ⟨S2, .i32⟩
  | 36 => ⟨S_, .i32⟩
  | 37 => ⟨S2, .i32⟩
  | 38 => ⟨S2, .i32⟩
  | 39 => ⟨S_, .i32⟩
  | 40 => ⟨S2, .i32⟩
  | 41 => ⟨S2, .i32⟩
  | 42 => ⟨S2, .i32⟩
  | 43 => ⟨S2, .i32⟩
  | 44 => ⟨S2, .i32⟩
  | 45 => ⟨S_, .i32⟩
  | 46 => ⟨S2, .i32⟩
  | 47 => ⟨S2, .i32⟩
  | 48 => ⟨S_, .i32⟩
  | 49 => ⟨S2, .i32⟩
  | 50 => ⟨S2, .i32⟩
  | 51 => ⟨S2, .i32⟩
  | 52 => ⟨S2, .i32⟩
  | 53 => ⟨S2, .i32⟩
  | 54 => ⟨S2, .i32⟩
  | 55 => ⟨S2, .i32⟩
  | 56 => ⟨S2, .i32⟩
  | 57 => ⟨S_, .i32⟩
  | 58 => ⟨S2, .i32⟩
  | 59 => ⟨S2, .i32⟩
  | 60 => ⟨S2, .i32⟩
  | 61 => ⟨S_, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S_, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S2, .i32⟩
  | 78 => ⟨S2, .i32⟩
  | 79 => ⟨S_, .i32⟩
  | 80 => ⟨S2, .i32⟩
  | 81 => ⟨S2, .i32⟩
  | 82 => ⟨S_, .i32⟩
  | 83 => ⟨S2, .i32⟩
  | 84 => ⟨S2, .i32⟩
  | 85 => ⟨S2, .i32⟩
  | 86 => ⟨S2, .i32⟩
  | 87 => ⟨S2, .i32⟩
  | 88 => ⟨S_, .i32⟩
  | 89 => ⟨S2, .i32⟩
  | 90 => ⟨S2, .i32⟩
  | 91 => ⟨S_, .i32⟩
  | 92 => ⟨S2, .i32⟩
  | 93 => ⟨S2, .i32⟩
  | 94 => ⟨S2, .i32⟩
  | 95 => ⟨S2, .i32⟩
  | 96 => ⟨S2, .i32⟩
  | 97 => ⟨S2, .i32⟩
  | 98 => ⟨S2, .i32⟩
  | 99 => ⟨S2, .i32⟩
  | 100 => ⟨S_, .i32⟩
  | 101 => ⟨S2, .i32⟩
  | 102 => ⟨S2, .i32⟩
  | 103 => ⟨S2, .i32⟩
  | 104 => ⟨S_, .i32⟩
  | 105 => ⟨S2, .i32⟩
  | 106 => ⟨S2, .i32⟩
  | 107 => ⟨S_, .i32⟩
  | 108 => ⟨S2, .i32⟩
  | 109 => ⟨S2, .i32⟩
  | 110 => ⟨S2, .i32⟩
  | 111 => ⟨S2, .i32⟩
  | 112 => ⟨S2, .i32⟩
  | 113 => ⟨S_, .i32⟩
  | 114 => ⟨S2, .i32⟩
  | 115 => ⟨S2, .i32⟩
  | 116 => ⟨S_, .i32⟩
  | 117 => ⟨S2, .i32⟩
  | 118 => ⟨S2, .i32⟩
  | 119 => ⟨S2, .i32⟩
  | 120 => ⟨S2, .i32⟩
  | 121 => ⟨S2, .i32⟩
  | 122 => ⟨S_, .i32⟩
  | 123 => ⟨S2, .i32⟩
  | 124 => ⟨S2, .i32⟩
  | 125 => ⟨S_, .i32⟩
  | 126 => ⟨S2, .i32⟩
  | 127 => ⟨S2, .i32⟩
  | _ => ⟨S8x32768x3, .f32⟩

abbrev hbmTy0_2 (i : Nat) : BufTy := match i % 128 with
  | 0 => ⟨S2, .i32⟩
  | 1 => ⟨S2, .i32⟩
  | 2 => ⟨S2, .i32⟩
  | 3 => ⟨S_, .i32⟩
  | 4 => ⟨S2, .i32⟩
  | 5 => ⟨S2, .i32⟩
  | 6 => ⟨S_, .i32⟩
  | 7 => ⟨S2, .i32⟩
  | 8 => ⟨S2, .i32⟩
  | 9 => ⟨S2, .i32⟩
  | 10 => ⟨S2, .i32⟩
  | 11 => ⟨S2, .i32⟩
  | 12 => ⟨S2, .i32⟩
  | 13 => ⟨S2, .i32⟩
  | 14 => ⟨S2, .i32⟩
  | 15 => ⟨S_, .i32⟩
  | 16 => ⟨S2, .i32⟩
  | 17 => ⟨S2, .i32⟩
  | 18 => ⟨S2x1, .i32⟩
  | 19 => ⟨S2x1, .i32⟩
  | 20 => ⟨S2x2, .i32⟩
  | 21 => ⟨S1x2, .i32⟩
  | 22 => ⟨S2, .i32⟩
  | 23 => ⟨S1x2, .i32⟩
  | 24 => ⟨S2, .i32⟩
  | 25 => ⟨S1, .i32⟩
  | 26 => ⟨S_, .i32⟩
  | 27 => ⟨S1, .i32⟩
  | 28 => ⟨S_, .i32⟩
  | 29 => ⟨S8, .i64⟩
  | 30 => ⟨S_, .i64⟩
  | 31 => ⟨S8, .i64⟩
  | 32 => ⟨S8, .i64⟩
  | 33 => ⟨S_, .i64⟩
  | 34 => ⟨S8, .i64⟩
  | 35 => ⟨S8, .i64⟩
  | 36 => ⟨S8, .i32⟩
  | 37 => ⟨S8, .i32⟩
  | 38 => ⟨S_, .i32⟩
  | 39 => ⟨S_, .i32⟩
  | 40 => ⟨S_, .i32⟩
  | 41 => ⟨S8, .i32⟩
  | 42 => ⟨S8, .i32⟩
  | 43 => ⟨S8, .i32⟩
  | 44 => ⟨S8, .i32⟩
  | 45 => ⟨S8, .i32⟩
  | 46 => ⟨S_, .i32⟩
  | 47 => ⟨S8, .i32⟩
  | 48 => ⟨S8, .i32⟩
  | 49 => ⟨S_, .i32⟩
  | 50 => ⟨S8, .i32⟩
  | 51 => ⟨S8, .i32⟩
  | 52 => ⟨S8, .i32⟩
  | 53 => ⟨S8, .i32⟩
  | 54 => ⟨S8, .i32⟩
  | 55 => ⟨S_, .i32⟩
  | 56 => ⟨S8, .i32⟩
  | 57 => ⟨S8, .i32⟩
  | 58 => ⟨S_, .i32⟩
  | 59 => ⟨S8, .i32⟩
  | 60 => ⟨S8, .i32⟩
  | 61 => ⟨S8, .i32⟩
  | 62 => ⟨S8, .i32⟩
  | 63 => ⟨S8, .i32⟩
  | 64 => ⟨S_, .i32⟩
  | 65 => ⟨S8, .i32⟩
  | 66 => ⟨S8, .i32⟩
  | 67 => ⟨S_, .i32⟩
  | 68 => ⟨S8, .i32⟩
  | 69 => ⟨S8, .i32⟩
  | 70 => ⟨S8, .i32⟩
  | 71 => ⟨S8, .i32⟩
  | 72 => ⟨S8, .i32⟩
  | 73 => ⟨S_, .i32⟩
  | 74 => ⟨S8, .i32⟩
  | 75 => ⟨S8, .i32⟩
  | 76 => ⟨S_, .i32⟩
  | 77 => ⟨S8, .i32⟩
  | 78 => ⟨S8, .i32⟩
  | 79 => ⟨S8, .i32⟩
  | 80 => ⟨S8, .i32⟩
  | 81 => ⟨S8, .i32⟩
  | 82 => ⟨S8, .i32⟩
  | 83 => ⟨S8, .i32⟩
  | 84 => ⟨S8, .i32⟩
  | 85 => ⟨S_, .i32⟩
  | 86 => ⟨S8, .i32⟩
  | 87 => ⟨S8, .i32⟩
  | 88 => ⟨S8, .i32⟩
  | 89 => ⟨S_, .i32⟩
  | 90 => ⟨S8, .i32⟩
  | 91 => ⟨S8, .i32⟩
  | 92 => ⟨S_, .i32⟩
  | 93 => ⟨S8, .i32⟩
  | 94 => ⟨S8, .i32⟩
  | 95 => ⟨S8, .i32⟩
  | 96 => ⟨S8, .i32⟩
  | 97 => ⟨S8, .i32⟩
  | 98 => ⟨S_, .i32⟩
  | 99 => ⟨S8, .i32⟩
  | 100 => ⟨S8, .i32⟩
  | 101 => ⟨S_, .i32⟩
  | 102 => ⟨S8, .i32⟩
  | 103 => ⟨S8, .i32⟩
  | 104 => ⟨S8, .i32⟩
  | 105 => ⟨S8, .i32⟩
  | 106 => ⟨S8, .i32⟩
  | 107 => ⟨S_, .i32⟩
  | 108 => ⟨S8, .i32⟩
  | 109 => ⟨S8, .i32⟩
  | 110 => ⟨S_, .i32⟩
  | 111 => ⟨S8, .i32⟩
  | 112 => ⟨S8, .i32⟩
  | 113 => ⟨S8, .i32⟩
  | 114 => ⟨S8, .i32⟩
  | 115 => ⟨S8, .i32⟩
  | 116 => ⟨S_, .i32⟩
  | 117 => ⟨S8, .i32⟩
  | 118 => ⟨S8, .i32⟩
  | 119 => ⟨S_, .i32⟩
  | 120 => ⟨S8, .i32⟩
  | 121 => ⟨S8, .i32⟩
  | 122 => ⟨S8, .i32⟩
  | 123 => ⟨S8, .i32⟩
  | 124 => ⟨S8, .i32⟩
  | 125 => ⟨S8, .i32⟩
  | 126 => ⟨S8, .i32⟩
  | 127 => ⟨S8, .i32⟩
  | _ => ⟨S8x32768x3, .f32⟩

abbrev hbmTy0_3 (i : Nat) : BufTy := match i % 128 with
  | 0 => ⟨S_, .i32⟩
  | 1 => ⟨S8, .i32⟩
  | 2 => ⟨S8, .i32⟩
  | 3 => ⟨S8, .i32⟩
  | 4 => ⟨S_, .i32⟩
  | 5 => ⟨S8, .i32⟩
  | 6 => ⟨S8, .i32⟩
  | 7 => ⟨S_, .i32⟩
  | 8 => ⟨S8, .i32⟩
  | 9 => ⟨S8, .i32⟩
  | 10 => ⟨S8, .i32⟩
  | 11 => ⟨S8, .i32⟩
  | 12 => ⟨S8, .i32⟩
  | 13 => ⟨S_, .i32⟩
  | 14 => ⟨S8, .i32⟩
  | 15 => ⟨S8, .i32⟩
  | 16 => ⟨S_, .i32⟩
  | 17 => ⟨S8, .i32⟩
  | 18 => ⟨S8, .i32⟩
  | 19 => ⟨S8, .i32⟩
  | 20 => ⟨S8, .i32⟩
  | 21 => ⟨S8, .i32⟩
  | 22 => ⟨S_, .i32⟩
  | 23 => ⟨S8, .i32⟩
  | 24 => ⟨S8, .i32⟩
  | 25 => ⟨S_, .i32⟩
  | 26 => ⟨S8, .i32⟩
  | 27 => ⟨S8, .i32⟩
  | 28 => ⟨S8, .i32⟩
  | 29 => ⟨S8, .i32⟩
  | 30 => ⟨S8, .i32⟩
  | 31 => ⟨S_, .i32⟩
  | 32 => ⟨S8, .i32⟩
  | 33 => ⟨S8, .i32⟩
  | 34 => ⟨S_, .i32⟩
  | 35 => ⟨S8, .i32⟩
  | 36 => ⟨S8, .i32⟩
  | 37 => ⟨S8, .i32⟩
  | 38 => ⟨S8, .i32⟩
  | 39 => ⟨S8, .i32⟩
  | 40 => ⟨S8, .i32⟩
  | 41 => ⟨S8, .i32⟩
  | 42 => ⟨S8, .i32⟩
  | 43 => ⟨S_, .i32⟩
  | 44 => ⟨S8, .i32⟩
  | 45 => ⟨S8, .i32⟩
  | 46 => ⟨S8, .i32⟩
  | 47 => ⟨S_, .i32⟩
  | 48 => ⟨S8, .i32⟩
  | 49 => ⟨S8, .i32⟩
  | 50 => ⟨S_, .i32⟩
  | 51 => ⟨S8, .i32⟩
  | 52 => ⟨S8, .i32⟩
  | 53 => ⟨S8, .i32⟩
  | 54 => ⟨S8, .i32⟩
  | 55 => ⟨S8, .i32⟩
  | 56 => ⟨S_, .i32⟩
  | 57 => ⟨S8, .i32⟩
  | 58 => ⟨S8, .i32⟩
  | 59 => ⟨S_, .i32⟩
  | 60 => ⟨S8, .i32⟩
  | 61 => ⟨S8, .i32⟩
  | 62 => ⟨S8, .i32⟩
  | 63 => ⟨S8, .i32⟩
  | 64 => ⟨S8, .i32⟩
  | 65 => ⟨S_, .i32⟩
  | 66 => ⟨S8, .i32⟩
  | 67 => ⟨S8, .i32⟩
  | 68 => ⟨S_, .i32⟩
  | 69 => ⟨S8, .i32⟩
  | 70 => ⟨S8, .i32⟩
  | 71 => ⟨S8, .i32⟩
  | 72 => ⟨S8, .i32⟩
  | 73 => ⟨S8, .i32⟩
  | 74 => ⟨S_, .i32⟩
  | 75 => ⟨S8, .i32⟩
  | 76 => ⟨S8, .i32⟩
  | 77 => ⟨S_, .i32⟩
  | 78 => ⟨S8, .i32⟩
  | 79 => ⟨S8, .i32⟩
  | 80 => ⟨S8, .i32⟩
  | 81 => ⟨S8, .i32⟩
  | 82 => ⟨S8, .i32⟩
  | 83 => ⟨S8, .i32⟩
  | 84 => ⟨S8, .i32⟩
  | 85 => ⟨S8, .i32⟩
  | 86 => ⟨S_, .i32⟩
  | 87 => ⟨S8, .i32⟩
  | 88 => ⟨S8, .i32⟩
  | 89 => ⟨S8, .i32⟩
  | 90 => ⟨S_, .i32⟩
  | 91 => ⟨S8, .i32⟩
  | 92 => ⟨S8, .i32⟩
  | 93 => ⟨S_, .i32⟩
  | 94 => ⟨S8, .i32⟩
  | 95 => ⟨S8, .i32⟩
  | 96 => ⟨S8, .i32⟩
  | 97 => ⟨S8, .i32⟩
  | 98 => ⟨S8, .i32⟩
  | 99 => ⟨S_, .i32⟩
  | 100 => ⟨S8, .i32⟩
  | 101 => ⟨S8, .i32⟩
  | 102 => ⟨S_, .i32⟩
  | 103 => ⟨S8, .i32⟩
  | 104 => ⟨S8, .i32⟩
  | 105 => ⟨S8, .i32⟩
  | 106 => ⟨S8, .i32⟩
  | 107 => ⟨S8, .i32⟩
  | 108 => ⟨S_, .i32⟩
  | 109 => ⟨S8, .i32⟩
  | 110 => ⟨S8, .i32⟩
  | 111 => ⟨S_, .i32⟩
  | 112 => ⟨S8, .i32⟩
  | 113 => ⟨S8, .i32⟩
  | 114 => ⟨S8, .i32⟩
  | 115 => ⟨S8, .i32⟩
  | 116 => ⟨S8, .i32⟩
  | 117 => ⟨S_, .i32⟩
  | 118 => ⟨S8, .i32⟩
  | 119 => ⟨S8, .i32⟩
  | 120 => ⟨S_, .i32⟩
  | 121 => ⟨S8, .i32⟩
  | 122 => ⟨S8, .i32⟩
  | 123 => ⟨S8, .i32⟩
  | 124 => ⟨S8, .i32⟩
  | 125 => ⟨S8, .i32⟩
  | 126 => ⟨S8, .i32⟩
  | 127 => ⟨S8, .i32⟩
  | _ => ⟨S8x32768x3, .f32⟩

abbrev hbmTy0_4 (i : Nat) : BufTy := match i % 128 with
  | 0 => ⟨S8, .i32⟩
  | 1 => ⟨S_, .i32⟩
  | 2 => ⟨S8, .i32⟩
  | 3 => ⟨S8, .i32⟩
  | 4 => ⟨S8, .i32⟩
  | 5 => ⟨S1, .i32⟩
  | 6 => ⟨S_, .i32⟩
  | 7 => ⟨S1, .i32⟩
  | 8 => ⟨S_, .i32⟩
  | 9 => ⟨S8, .i64⟩
  | 10 => ⟨S_, .i64⟩
  | 11 => ⟨S8, .i64⟩
  | 12 => ⟨S8, .i64⟩
  | 13 => ⟨S_, .i64⟩
  | 14 => ⟨S8, .i64⟩
  | 15 => ⟨S8, .i64⟩
  | 16 => ⟨S8, .i32⟩
  | 17 => ⟨S8, .i32⟩
  | 18 => ⟨S_, .i32⟩
  | 19 => ⟨S_, .i32⟩
  | 20 => ⟨S_, .i32⟩
  | 21 => ⟨S8, .i32⟩
  | 22 => ⟨S8, .i32⟩
  | 23 => ⟨S8, .i32⟩
  | 24 => ⟨S8, .i32⟩
  | 25 => ⟨S8, .i32⟩
  | 26 => ⟨S_, .i32⟩
  | 27 => ⟨S8, .i32⟩
  | 28 => ⟨S8, .i32⟩
  | 29 => ⟨S_, .i32⟩
  | 30 => ⟨S8, .i32⟩
  | 31 => ⟨S8, .i32⟩
  | 32 => ⟨S8, .i32⟩
  | 33 => ⟨S8, .i32⟩
  | 34 => ⟨S8, .i32⟩
  | 35 => ⟨S_, .i32⟩
  | 36 => ⟨S8, .i32⟩
  | 37 => ⟨S8, .i32⟩
  | 38 => ⟨S_, .i32⟩
  | 39 => ⟨S8, .i32⟩
  | 40 => ⟨S8, .i32⟩
  | 41 => ⟨S8, .i32⟩
  | 42 => ⟨S8, .i32⟩
  | 43 => ⟨S8, .i32⟩
  | 44 => ⟨S_, .i32⟩
  | 45 => ⟨S8, .i32⟩
  | 46 => ⟨S8, .i32⟩
  | 47 => ⟨S_, .i32⟩
  | 48 => ⟨S8, .i32⟩
  | 49 => ⟨S8, .i32⟩
  | 50 => ⟨S8, .i32⟩
  | 51 => ⟨S8, .i32⟩
  | 52 => ⟨S8, .i32⟩
  | 53 => ⟨S_, .i32⟩
  | 54 => ⟨S8, .i32⟩
  | 55 => ⟨S8, .i32⟩
  | 56 => ⟨S_, .i32⟩
  | 57 => ⟨S8, .i32⟩
  | 58 => ⟨S8, .i32⟩
  | 59 => ⟨S8, .i32⟩
  | 60 => ⟨S8, .i32⟩
  | 61 => ⟨S8, .i32⟩
  | 62 => ⟨S8, .i32⟩
  | 63 => ⟨S8, .i32⟩
  | 64 => ⟨S8, .i32⟩
  | 65 => ⟨S_, .i32⟩
  | 66 => ⟨S8, .i32⟩
  | 67 => ⟨S8, .i32⟩
  | 68 => ⟨S8, .i32⟩
  | 69 => ⟨S_, .i32⟩
  | 70 => ⟨S8, .i32⟩
  | 71 => ⟨S8, .i32⟩
  | 72 => ⟨S_, .i32⟩
  | 73 => ⟨S8, .i32⟩
  | 74 => ⟨S8, .i32⟩
  | 75 => ⟨S8, .i32⟩
  | 76 => ⟨S8, .i32⟩
  | 77 => ⟨S8, .i32⟩
  | 78 => ⟨S_, .i32⟩
  | 79 => ⟨S8, .i32⟩
  | 80 => ⟨S8, .i32⟩
  | 81 => ⟨S_, .i32⟩
  | 82 => ⟨S8, .i32⟩
  | 83 => ⟨S8, .i32⟩
  | 84 => ⟨S8, .i32⟩
  | 85 => ⟨S8, .i32⟩
  | 86 => ⟨S8, .i32⟩
  | 87 => ⟨S_, .i32⟩
  | 88 => ⟨S8, .i32⟩
  | 89 => ⟨S8, .i32⟩
  | 90 => ⟨S_, .i32⟩
  | 91 => ⟨S8, .i32⟩
  | 92 => ⟨S8, .i32⟩
  | 93 => ⟨S8, .i32⟩
  | 94 => ⟨S8, .i32⟩
  | 95 => ⟨S8, .i32⟩
  | 96 => ⟨S_, .i32⟩
  | 97 => ⟨S8, .i32⟩
  | 98 => ⟨S8, .i32⟩
  | 99 => ⟨S_, .i32⟩
  | 100 => ⟨S8, .i32⟩
  | 101 => ⟨S8, .i32⟩
  | 102 => ⟨S8, .i32⟩
  | 103 => ⟨S8, .i32⟩
  | 104 => ⟨S8, .i32⟩
  | 105 => ⟨S8, .i32⟩
  | 106 => ⟨S8, .i32⟩
  | 107 => ⟨S8, .i32⟩
  | 108 => ⟨S_, .i32⟩
  | 109 => ⟨S8, .i32⟩
  | 110 => ⟨S8, .i32⟩
  | 111 => ⟨S8, .i32⟩
  | 112 => ⟨S_, .i32⟩
  | 113 => ⟨S8, .i32⟩
  | 114 => ⟨S8, .i32⟩
  | 115 => ⟨S_, .i32⟩
  | 116 => ⟨S8, .i32⟩
  | 117 => ⟨S8, .i32⟩
  | 118 => ⟨S8, .i32⟩
  | 119 => ⟨S8, .i32⟩
  | 120 => ⟨S8, .i32⟩
  | 121 => ⟨S_, .i32⟩
  | 122 => ⟨S8, .i32⟩
  | 123 => ⟨S8, .i32⟩
  | 124 => ⟨S_, .i32⟩
  | 125 => ⟨S8, .i32⟩
  | 126 => ⟨S8, .i32⟩
  | 127 => ⟨S8, .i32⟩
  | _ => ⟨S8x32768x3, .f32⟩

abbrev hbmTy0_5 (i : Nat) : BufTy := match i % 128 with
  | 0 => ⟨S8, .i32⟩
  | 1 => ⟨S8, .i32⟩
  | 2 => ⟨S_, .i32⟩
  | 3 => ⟨S8, .i32⟩
  | 4 => ⟨S8, .i32⟩
  | 5 => ⟨S_, .i32⟩
  | 6 => ⟨S8, .i32⟩
  | 7 => ⟨S8, .i32⟩
  | 8 => ⟨S8, .i32⟩
  | 9 => ⟨S8, .i32⟩
  | 10 => ⟨S8, .i32⟩
  | 11 => ⟨S_, .i32⟩
  | 12 => ⟨S8, .i32⟩
  | 13 => ⟨S8, .i32⟩
  | 14 => ⟨S_, .i32⟩
  | 15 => ⟨S8, .i32⟩
  | 16 => ⟨S8, .i32⟩
  | 17 => ⟨S8, .i32⟩
  | 18 => ⟨S8, .i32⟩
  | 19 => ⟨S8, .i32⟩
  | 20 => ⟨S8, .i32⟩
  | 21 => ⟨S8, .i32⟩
  | 22 => ⟨S8, .i32⟩
  | 23 => ⟨S_, .i32⟩
  | 24 => ⟨S8, .i32⟩
  | 25 => ⟨S8, .i32⟩
  | 26 => ⟨S8, .i32⟩
  | 27 => ⟨S_, .i32⟩
  | 28 => ⟨S8, .i32⟩
  | 29 => ⟨S8, .i32⟩
  | 30 => ⟨S_, .i32⟩
  | 31 => ⟨S8, .i32⟩
  | 32 => ⟨S8, .i32⟩
  | 33 => ⟨S8, .i32⟩
  | 34 => ⟨S8, .i32⟩
  | 35 => ⟨S8, .i32⟩
  | 36 => ⟨S_, .i32⟩
  | 37 => ⟨S8, .i32⟩
  | 38 => ⟨S8, .i32⟩
  | 39 => ⟨S_, .i32⟩
  | 40 => ⟨S8, .i32⟩
  | 41 => ⟨S8, .i32⟩
  | 42 => ⟨S8, .i32⟩
  | 43 => ⟨S8, .i32⟩
  | 44 => ⟨S8, .i32⟩
  | 45 => ⟨S_, .i32⟩
  | 46 => ⟨S8, .i32⟩
  | 47 => ⟨S8, .i32⟩
  | 48 => ⟨S_, .i32⟩
  | 49 => ⟨S8, .i32⟩
  | 50 => ⟨S8, .i32⟩
  | 51 => ⟨S8, .i32⟩
  | 52 => ⟨S8, .i32⟩
  | 53 => ⟨S8, .i32⟩
  | 54 => ⟨S_, .i32⟩
  | 55 => ⟨S8, .i32⟩
  | 56 => ⟨S8, .i32⟩
  | 57 => ⟨S_, .i32⟩
  | 58 => ⟨S8, .i32⟩
  | 59 => ⟨S8, .i32⟩
  | 60 => ⟨S8, .i32⟩
  | 61 => ⟨S8, .i32⟩
  | 62 => ⟨S8, .i32⟩
  | 63 => ⟨S8, .i32⟩
  | 64 => ⟨S8, .i32⟩
  | 65 => ⟨S8, .i32⟩
  | 66 => ⟨S_, .i32⟩
  | 67 => ⟨S8, .i32⟩
  | 68 => ⟨S8, .i32⟩
  | 69 => ⟨S8, .i32⟩
  | 70 => ⟨S_, .i32⟩
  | 71 => ⟨S8, .i32⟩
  | 72 => ⟨S8, .i32⟩
  | 73 => ⟨S_, .i32⟩
  | 74 => ⟨S8, .i32⟩
  | 75 => ⟨S8, .i32⟩
  | 76 => ⟨S8, .i32⟩
  | 77 => ⟨S8, .i32⟩
  | 78 => ⟨S8, .i32⟩
  | 79 => ⟨S_, .i32⟩
  | 80 => ⟨S8, .i32⟩
  | 81 => ⟨S8, .i32⟩
  | 82 => ⟨S_, .i32⟩
  | 83 => ⟨S8, .i32⟩
  | 84 => ⟨S8, .i32⟩
  | 85 => ⟨S8, .i32⟩
  | 86 => ⟨S8, .i32⟩
  | 87 => ⟨S8, .i32⟩
  | 88 => ⟨S_, .i32⟩
  | 89 => ⟨S8, .i32⟩
  | 90 => ⟨S8, .i32⟩
  | 91 => ⟨S_, .i32⟩
  | 92 => ⟨S8, .i32⟩
  | 93 => ⟨S8, .i32⟩
  | 94 => ⟨S8, .i32⟩
  | 95 => ⟨S8, .i32⟩
  | 96 => ⟨S8, .i32⟩
  | 97 => ⟨S_, .i32⟩
  | 98 => ⟨S8, .i32⟩
  | 99 => ⟨S8, .i32⟩
  | 100 => ⟨S_, .i32⟩
  | 101 => ⟨S8, .i32⟩
  | 102 => ⟨S8, .i32⟩
  | 103 => ⟨S8, .i32⟩
  | 104 => ⟨S8, .i32⟩
  | 105 => ⟨S8, .i32⟩
  | 106 => ⟨S8, .i32⟩
  | 107 => ⟨S8, .i32⟩
  | 108 => ⟨S8, .i32⟩
  | 109 => ⟨S_, .i32⟩
  | 110 => ⟨S8, .i32⟩
  | 111 => ⟨S8, .i32⟩
  | 112 => ⟨S8, .i32⟩
  | 113 => ⟨S1, .i32⟩
  | 114 => ⟨S1, .i32⟩
  | 115 => ⟨S1, .i1⟩
  | 116 => ⟨S_, .i32⟩
  | 117 => ⟨S1, .i32⟩
  | 118 => ⟨S1, .i32⟩
  | 119 => ⟨S1, .i1⟩
  | 120 => ⟨S1, .i1⟩
  | 121 => ⟨S1, .i1⟩
  | 122 => ⟨S_, .i32⟩
  | 123 => ⟨S1, .i32⟩
  | 124 => ⟨S1, .i32⟩
  | 125 => ⟨S1, .i32⟩
  | 126 => ⟨S_, .i32⟩
  | 127 => ⟨S1, .i32⟩
  | _ => ⟨S8x32768x3, .f32⟩

abbrev hbmTy0_6 (i : Nat) : BufTy := match i % 128 with
  | 0 => ⟨S1, .i32⟩
  | 1 => ⟨S1, .i32⟩
  | 2 => ⟨S1, .i32⟩
  | 3 => ⟨S8, .i32⟩
  | 4 => ⟨S8, .i32⟩
  | 5 => ⟨S8, .i32⟩
  | 6 => ⟨S8, .i32⟩
  | 7 => ⟨S8, .i32⟩
  | 8 => ⟨S8, .i32⟩
  | 9 => ⟨S8, .i32⟩
  | 10 => ⟨S8, .i32⟩
  | 11 => ⟨S8, .i32⟩
  | 12 => ⟨S8, .i32⟩
  | 13 => ⟨S8, .i32⟩
  | 14 => ⟨S8, .i32⟩
  | 15 => ⟨S_, .i32⟩
  | 16 => ⟨S1024x8, .i32⟩
  | 17 => ⟨S_, .i32⟩
  | 18 => ⟨S8x32768x3, .f32⟩
  | 19 => ⟨S_, .i32⟩
  | 20 => ⟨S8x32768, .f32⟩
  | 21 => ⟨S8, .i32⟩
  | 22 => ⟨S1024x8, .i32⟩
  | 23 => ⟨S_, .i32⟩
  | 24 => ⟨S_, .i1⟩
  | 25 => ⟨S8, .i32⟩
  | 26 => ⟨S_, .i32⟩
  | 27 => ⟨S8, .i32⟩
  | 28 => ⟨S8, .i1⟩
  | 29 => ⟨S_, .i32⟩
  | 30 => ⟨S8, .i32⟩
  | 31 => ⟨S8, .i32⟩
  | 32 => ⟨S8, .i32⟩
  | 33 => ⟨S_, .i32⟩
  | 34 => ⟨S8, .i32⟩
  | 35 => ⟨S8, .i1⟩
  | 36 => ⟨S_, .i32⟩
  | 37 => ⟨S8, .i32⟩
  | 38 => ⟨S8, .i32⟩
  | 39 => ⟨S8, .i32⟩
  | 40 => ⟨S8x1, .i32⟩
  | 41 => ⟨S8x1, .i32⟩
  | 42 => ⟨S8x2, .i32⟩
  | 43 => ⟨S8x3, .f32⟩
  | 44 => ⟨S8x1x3, .f32⟩
  | 45 => ⟨S8x32768x3, .f32⟩
  | 46 => ⟨S8x32768x3, .f32⟩
  | 47 => ⟨S8x32768x3, .f32⟩
  | 48 => ⟨S_, .f32⟩
  | 49 => ⟨S8x32768, .f32⟩
  | 50 => ⟨S8x32768, .f32⟩
  | 51 => ⟨S8x32768, .i32⟩
  | 52 => ⟨S_, .f32⟩
  | 53 => ⟨S_, .i32⟩
  | 54 => ⟨S8, .f32⟩
  | 55 => ⟨S8, .i32⟩
  | 56 => ⟨S1x8, .i32⟩
  | 57 => ⟨S_, .i32⟩
  | 58 => ⟨S1024x8, .i32⟩
  | 59 => ⟨S_, .i32⟩
  | 60 => ⟨S_, .i32⟩
  | 61 => ⟨S8x1024, .i32⟩
  | 62 => ⟨S8, .i32⟩
  | 63 => ⟨S8x1, .i32⟩
  | 64 => ⟨S_, .i32⟩
  | 65 => ⟨S8x1, .i32⟩
  | 66 => ⟨S8x1, .i1⟩
  | 67 => ⟨S_, .i32⟩
  | 68 => ⟨S8x1, .i32⟩
  | 69 => ⟨S8x1, .i32⟩
  | 70 => ⟨S8x1, .i32⟩
  | 71 => ⟨S_, .i32⟩
  | 72 => ⟨S8x1024, .i32⟩
  | 73 => ⟨S8x1024, .i1⟩
  | 74 => ⟨S_, .i32⟩
  | 75 => ⟨S8x1024, .i32⟩
  | 76 => ⟨S8x1024, .i32⟩
  | 77 => ⟨S8x1024, .i32⟩
  | 78 => ⟨S8x1024, .i32⟩
  | 79 => ⟨S8x1024x1, .i32⟩
  | 80 => ⟨S8x1024x1, .i32⟩
  | 81 => ⟨S8x1024x2, .i32⟩
  | 82 => ⟨S8x1024x3, .f32⟩
  | 83 => ⟨S8x1024x64, .f32⟩
  | 84 => ⟨S1x1x64, .f32⟩
  | 85 => ⟨S8x1024x64, .f32⟩
  | 86 => ⟨S8x1024x64, .f32⟩
  | 87 => ⟨S_, .f32⟩
  | 88 => ⟨S8x1024x64, .f32⟩
  | 89 => ⟨S8x1024x64, .f32⟩
  | 90 => ⟨S8x1024x128, .f32⟩
  | 91 => ⟨S1x1x128, .f32⟩
  | 92 => ⟨S8x1024x128, .f32⟩
  | 93 => ⟨S8x1024x128, .f32⟩
  | 94 => ⟨S_, .f32⟩
  | 95 => ⟨S8x1024x128, .f32⟩
  | 96 => ⟨S8x1024x128, .f32⟩
  | 97 => ⟨S8x1024x256, .f32⟩
  | 98 => ⟨S1x1x256, .f32⟩
  | 99 => ⟨S8x1024x256, .f32⟩
  | 100 => ⟨S8x1024x256, .f32⟩
  | _ => ⟨S8x32768x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S8x32768x3, .f32⟩

abbrev bufTy : (tb : Table) → Fin (tcTables nBuf tb) → BufTy
  | .hbm, ⟨i, _⟩ => hbmTy i
  | _, _ => ⟨S8x32768x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_c_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_2 : Ref sig .tc := ⟨.hbm, 19, rfl⟩
abbrev main_c_3 : Ref sig .tc := ⟨.hbm, 20, rfl⟩
abbrev main_call0_c : Ref sig .tc := ⟨.hbm, 21, rfl⟩
abbrev main_call0_c_0 : Ref sig .tc := ⟨.hbm, 22, rfl⟩
abbrev main_call0_c_1 : Ref sig .tc := ⟨.hbm, 23, rfl⟩
abbrev main_call0_call0_v0 : Ref sig .tc := ⟨.hbm, 24, rfl⟩
abbrev main_call0_v0 : Ref sig .tc := ⟨.hbm, 25, rfl⟩
abbrev main_call0_v1 : Ref sig .tc := ⟨.hbm, 26, rfl⟩
abbrev main_call0_c_2 : Ref sig .tc := ⟨.hbm, 27, rfl⟩
abbrev main_call0_c_3 : Ref sig .tc := ⟨.hbm, 28, rfl⟩
abbrev main_call0_call1_v0 : Ref sig .tc := ⟨.hbm, 29, rfl⟩
abbrev main_call0_v2 : Ref sig .tc := ⟨.hbm, 30, rfl⟩
abbrev main_call0_v3 : Ref sig .tc := ⟨.hbm, 31, rfl⟩
abbrev main_call0_c_4 : Ref sig .tc := ⟨.hbm, 32, rfl⟩
abbrev main_call0_c_5 : Ref sig .tc := ⟨.hbm, 33, rfl⟩
abbrev main_call0_call2_v0 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_call3_v0 : Ref sig .tc := ⟨.hbm, 39, rfl⟩
abbrev main_call0_call3_v1 : Ref sig .tc := ⟨.hbm, 40, rfl⟩
abbrev main_call0_call3_v2 : Ref sig .tc := ⟨.hbm, 41, rfl⟩
abbrev main_call0_call3_v3 : Ref sig .tc := ⟨.hbm, 42, rfl⟩
abbrev main_call0_call3_v4 : Ref sig .tc := ⟨.hbm, 43, rfl⟩
abbrev main_call0_call3_c : Ref sig .tc := ⟨.hbm, 44, rfl⟩
abbrev main_call0_call3_v5 : Ref sig .tc := ⟨.hbm, 45, rfl⟩
abbrev main_call0_call3_v6 : Ref sig .tc := ⟨.hbm, 46, rfl⟩
abbrev main_call0_call3_c_0 : Ref sig .tc := ⟨.hbm, 47, rfl⟩
abbrev main_call0_call3_v7 : Ref sig .tc := ⟨.hbm, 48, rfl⟩
abbrev main_call0_call3_v8 : Ref sig .tc := ⟨.hbm, 49, rfl⟩
abbrev main_call0_call3_v9 : Ref sig .tc := ⟨.hbm, 50, rfl⟩
abbrev main_call0_call3_v10 : Ref sig .tc := ⟨.hbm, 51, rfl⟩
abbrev main_call0_call3_call0_v0 : Ref sig .tc := ⟨.hbm, 52, rfl⟩
abbrev main_call0_call3_call0_c : Ref sig .tc := ⟨.hbm, 53, rfl⟩
abbrev main_call0_call3_call0_v1 : Ref sig .tc := ⟨.hbm, 54, rfl⟩
abbrev main_call0_call3_call0_v2 : Ref sig .tc := ⟨.hbm, 55, rfl⟩
abbrev main_call0_call3_call0_v3 : Ref sig .tc := ⟨.hbm, 56, rfl⟩
abbrev main_call0_call3_call0_v4 : Ref sig .tc := ⟨.hbm, 57, rfl⟩
abbrev main_call0_call3_call0_v5 : Ref sig .tc := ⟨.hbm, 58, rfl⟩
abbrev main_call0_call3_call0_v6 : Ref sig .tc := ⟨.hbm, 59, rfl⟩
abbrev main_call0_call3_call0_c_0 : Ref sig .tc := ⟨.hbm, 60, rfl⟩
abbrev main_call0_call3_call0_v7 : Ref sig .tc := ⟨.hbm, 61, rfl⟩
abbrev main_call0_call3_call0_v8 : Ref sig .tc := ⟨.hbm, 62, rfl⟩
abbrev main_call0_call3_call0_c_1 : Ref sig .tc := ⟨.hbm, 63, rfl⟩
abbrev main_call0_call3_call0_v9 : Ref sig .tc := ⟨.hbm, 64, rfl⟩
abbrev main_call0_call3_call0_v10 : Ref sig .tc := ⟨.hbm, 65, rfl⟩
abbrev main_call0_call3_call0_v11 : Ref sig .tc := ⟨.hbm, 66, rfl⟩
abbrev main_call0_call3_call0_v12 : Ref sig .tc := ⟨.hbm, 67, rfl⟩
abbrev main_call0_call3_call0_v13 : Ref sig .tc := ⟨.hbm, 68, rfl⟩
abbrev main_call0_call3_call0_c_2 : Ref sig .tc := ⟨.hbm, 69, rfl⟩
abbrev main_call0_call3_call0_v14 : Ref sig .tc := ⟨.hbm, 70, rfl⟩
abbrev main_call0_call3_call0_v15 : Ref sig .tc := ⟨.hbm, 71, rfl⟩
abbrev main_call0_call3_call0_c_3 : Ref sig .tc := ⟨.hbm, 72, rfl⟩
abbrev main_call0_call3_call0_v16 : Ref sig .tc := ⟨.hbm, 73, rfl⟩
abbrev main_call0_call3_call0_v17 : Ref sig .tc := ⟨.hbm, 74, rfl⟩
abbrev main_call0_call3_call0_v18 : Ref sig .tc := ⟨.hbm, 75, rfl⟩
abbrev main_call0_call3_call0_v19 : Ref sig .tc := ⟨.hbm, 76, rfl⟩
abbrev main_call0_call3_call0_v20 : Ref sig .tc := ⟨.hbm, 77, rfl⟩
abbrev main_call0_call3_call0_c_4 : Ref sig .tc := ⟨.hbm, 78, rfl⟩
abbrev main_call0_call3_call0_v21 : Ref sig .tc := ⟨.hbm, 79, rfl⟩
abbrev main_call0_call3_call0_v22 : Ref sig .tc := ⟨.hbm, 80, rfl⟩
abbrev main_call0_call3_call0_c_5 : Ref sig .tc := ⟨.hbm, 81, rfl⟩
abbrev main_call0_call3_call0_v23 : Ref sig .tc := ⟨.hbm, 82, rfl⟩
abbrev main_call0_call3_call0_v24 : Ref sig .tc := ⟨.hbm, 83, rfl⟩
abbrev main_call0_call3_call0_v25 : Ref sig .tc := ⟨.hbm, 84, rfl⟩
abbrev main_call0_call3_call0_v26 : Ref sig .tc := ⟨.hbm, 85, rfl⟩
abbrev main_call0_call3_call0_v27 : Ref sig .tc := ⟨.hbm, 86, rfl⟩
abbrev main_call0_call3_call0_c_6 : Ref sig .tc := ⟨.hbm, 87, rfl⟩
abbrev main_call0_call3_call0_v28 : Ref sig .tc := ⟨.hbm, 88, rfl⟩
abbrev main_call0_call3_call0_v29 : Ref sig .tc := ⟨.hbm, 89, rfl⟩
abbrev main_call0_call3_call0_c_7 : Ref sig .tc := ⟨.hbm, 90, rfl⟩
abbrev main_call0_call3_call0_v30 : Ref sig .tc := ⟨.hbm, 91, rfl⟩
abbrev main_call0_call3_call0_v31 : Ref sig .tc := ⟨.hbm, 92, rfl⟩
abbrev main_call0_call3_call0_v32 : Ref sig .tc := ⟨.hbm, 93, rfl⟩
abbrev main_call0_call3_call0_v33 : Ref sig .tc := ⟨.hbm, 94, rfl⟩
abbrev main_call0_call3_call0_v34 : Ref sig .tc := ⟨.hbm, 95, rfl⟩
abbrev main_call0_call3_call0_v35 : Ref sig .tc := ⟨.hbm, 96, rfl⟩
abbrev main_call0_call3_call0_v36 : Ref sig .tc := ⟨.hbm, 97, rfl⟩
abbrev main_call0_call3_call0_v37 : Ref sig .tc := ⟨.hbm, 98, rfl⟩
abbrev main_call0_call3_call0_c_8 : Ref sig .tc := ⟨.hbm, 99, rfl⟩
abbrev main_call0_call3_call0_v38 : Ref sig .tc := ⟨.hbm, 100, rfl⟩
abbrev main_call0_call3_call0_v39 : Ref sig .tc := ⟨.hbm, 101, rfl⟩
abbrev main_call0_call3_call0_v40 : Ref sig .tc := ⟨.hbm, 102, rfl⟩
abbrev main_call0_call3_call0_c_9 : Ref sig .tc := ⟨.hbm, 103, rfl⟩
abbrev main_call0_call3_call0_v41 : Ref sig .tc := ⟨.hbm, 104, rfl⟩
abbrev main_call0_call3_call0_v42 : Ref sig .tc := ⟨.hbm, 105, rfl⟩
abbrev main_call0_call3_call0_c_10 : Ref sig .tc := ⟨.hbm, 106, rfl⟩
abbrev main_call0_call3_call0_v43 : Ref sig .tc := ⟨.hbm, 107, rfl⟩
abbrev main_call0_call3_call0_v44 : Ref sig .tc := ⟨.hbm, 108, rfl⟩
abbrev main_call0_call3_call0_v45 : Ref sig .tc := ⟨.hbm, 109, rfl⟩
abbrev main_call0_call3_call0_v46 : Ref sig .tc := ⟨.hbm, 110, rfl⟩
abbrev main_call0_call3_call0_v47 : Ref sig .tc := ⟨.hbm, 111, rfl⟩
abbrev main_call0_call3_call0_c_11 : Ref sig .tc := ⟨.hbm, 112, rfl⟩
abbrev main_call0_call3_call0_v48 : Ref sig .tc := ⟨.hbm, 113, rfl⟩
abbrev main_call0_call3_call0_v49 : Ref sig .tc := ⟨.hbm, 114, rfl⟩
abbrev main_call0_call3_call0_c_12 : Ref sig .tc := ⟨.hbm, 115, rfl⟩
abbrev main_call0_call3_call0_v50 : Ref sig .tc := ⟨.hbm, 116, rfl⟩
abbrev main_call0_call3_call0_v51 : Ref sig .tc := ⟨.hbm, 117, rfl⟩
abbrev main_call0_call3_call0_v52 : Ref sig .tc := ⟨.hbm, 118, rfl⟩
abbrev main_call0_call3_call0_v53 : Ref sig .tc := ⟨.hbm, 119, rfl⟩
abbrev main_call0_call3_call0_v54 : Ref sig .tc := ⟨.hbm, 120, rfl⟩
abbrev main_call0_call3_call0_c_13 : Ref sig .tc := ⟨.hbm, 121, rfl⟩
abbrev main_call0_call3_call0_v55 : Ref sig .tc := ⟨.hbm, 122, rfl⟩
abbrev main_call0_call3_call0_v56 : Ref sig .tc := ⟨.hbm, 123, rfl⟩
abbrev main_call0_call3_call0_c_14 : Ref sig .tc := ⟨.hbm, 124, rfl⟩
abbrev main_call0_call3_call0_v57 : Ref sig .tc := ⟨.hbm, 125, rfl⟩
abbrev main_call0_call3_call0_v58 : Ref sig .tc := ⟨.hbm, 126, rfl⟩
abbrev main_call0_call3_call0_v59 : Ref sig .tc := ⟨.hbm, 127, rfl⟩
abbrev main_call0_call3_call0_v60 : Ref sig .tc := ⟨.hbm, 128, rfl⟩
abbrev main_call0_call3_call0_v61 : Ref sig .tc := ⟨.hbm, 129, rfl⟩
abbrev main_call0_call3_call0_c_15 : Ref sig .tc := ⟨.hbm, 130, rfl⟩
abbrev main_call0_call3_call0_v62 : Ref sig .tc := ⟨.hbm, 131, rfl⟩
abbrev main_call0_call3_call0_v63 : Ref sig .tc := ⟨.hbm, 132, rfl⟩
abbrev main_call0_call3_call0_c_16 : Ref sig .tc := ⟨.hbm, 133, rfl⟩
abbrev main_call0_call3_call0_v64 : Ref sig .tc := ⟨.hbm, 134, rfl⟩
abbrev main_call0_call3_call0_v65 : Ref sig .tc := ⟨.hbm, 135, rfl⟩
abbrev main_call0_call3_call0_v66 : Ref sig .tc := ⟨.hbm, 136, rfl⟩
abbrev main_call0_call3_call0_v67 : Ref sig .tc := ⟨.hbm, 137, rfl⟩
abbrev main_call0_call3_call0_v68 : Ref sig .tc := ⟨.hbm, 138, rfl⟩
abbrev main_call0_call3_call0_v69 : Ref sig .tc := ⟨.hbm, 139, rfl⟩
abbrev main_call0_call3_call0_v70 : Ref sig .tc := ⟨.hbm, 140, rfl⟩
abbrev main_call0_call3_call0_v71 : Ref sig .tc := ⟨.hbm, 141, rfl⟩
abbrev main_call0_call3_call0_c_17 : Ref sig .tc := ⟨.hbm, 142, rfl⟩
abbrev main_call0_call3_call0_v72 : Ref sig .tc := ⟨.hbm, 143, rfl⟩
abbrev main_call0_call3_call0_v73 : Ref sig .tc := ⟨.hbm, 144, rfl⟩
abbrev main_call0_call3_call0_v74 : Ref sig .tc := ⟨.hbm, 145, rfl⟩
abbrev main_call0_call3_call0_c_18 : Ref sig .tc := ⟨.hbm, 146, rfl⟩
abbrev main_call0_call3_call0_v75 : Ref sig .tc := ⟨.hbm, 147, rfl⟩
abbrev main_call0_call3_call0_v76 : Ref sig .tc := ⟨.hbm, 148, rfl⟩
abbrev main_call0_call3_call0_c_19 : Ref sig .tc := ⟨.hbm, 149, rfl⟩
abbrev main_call0_call3_call0_v77 : Ref sig .tc := ⟨.hbm, 150, rfl⟩
abbrev main_call0_call3_call0_v78 : Ref sig .tc := ⟨.hbm, 151, rfl⟩
abbrev main_call0_call3_call0_v79 : Ref sig .tc := ⟨.hbm, 152, rfl⟩
abbrev main_call0_call3_call0_v80 : Ref sig .tc := ⟨.hbm, 153, rfl⟩
abbrev main_call0_call3_call0_v81 : Ref sig .tc := ⟨.hbm, 154, rfl⟩
abbrev main_call0_call3_call0_c_20 : Ref sig .tc := ⟨.hbm, 155, rfl⟩
abbrev main_call0_call3_call0_v82 : Ref sig .tc := ⟨.hbm, 156, rfl⟩
abbrev main_call0_call3_call0_v83 : Ref sig .tc := ⟨.hbm, 157, rfl⟩
abbrev main_call0_call3_call0_c_21 : Ref sig .tc := ⟨.hbm, 158, rfl⟩
abbrev main_call0_call3_call0_v84 : Ref sig .tc := ⟨.hbm, 159, rfl⟩
abbrev main_call0_call3_call0_v85 : Ref sig .tc := ⟨.hbm, 160, rfl⟩
abbrev main_call0_call3_call0_v86 : Ref sig .tc := ⟨.hbm, 161, rfl⟩
abbrev main_call0_call3_call0_v87 : Ref sig .tc := ⟨.hbm, 162, rfl⟩
abbrev main_call0_call3_call0_v88 : Ref sig .tc := ⟨.hbm, 163, rfl⟩
abbrev main_call0_call3_call0_c_22 : Ref sig .tc := ⟨.hbm, 164, rfl⟩
abbrev main_call0_call3_call0_v89 : Ref sig .tc := ⟨.hbm, 165, rfl⟩
abbrev main_call0_call3_call0_v90 : Ref sig .tc := ⟨.hbm, 166, rfl⟩
abbrev main_call0_call3_call0_c_23 : Ref sig .tc := ⟨.hbm, 167, rfl⟩
abbrev main_call0_call3_call0_v91 : Ref sig .tc := ⟨.hbm, 168, rfl⟩
abbrev main_call0_call3_call0_v92 : Ref sig .tc := ⟨.hbm, 169, rfl⟩
abbrev main_call0_call3_call0_v93 : Ref sig .tc := ⟨.hbm, 170, rfl⟩
abbrev main_call0_call3_call0_v94 : Ref sig .tc := ⟨.hbm, 171, rfl⟩
abbrev main_call0_call3_call0_v95 : Ref sig .tc := ⟨.hbm, 172, rfl⟩
abbrev main_call0_call3_call0_c_24 : Ref sig .tc := ⟨.hbm, 173, rfl⟩
abbrev main_call0_call3_call0_v96 : Ref sig .tc := ⟨.hbm, 174, rfl⟩
abbrev main_call0_call3_call0_v97 : Ref sig .tc := ⟨.hbm, 175, rfl⟩
abbrev main_call0_call3_call0_c_25 : Ref sig .tc := ⟨.hbm, 176, rfl⟩
abbrev main_call0_call3_call0_v98 : Ref sig .tc := ⟨.hbm, 177, rfl⟩
abbrev main_call0_call3_call0_v99 : Ref sig .tc := ⟨.hbm, 178, rfl⟩
abbrev main_call0_call3_call0_v100 : Ref sig .tc := ⟨.hbm, 179, rfl⟩
abbrev main_call0_call3_call0_v101 : Ref sig .tc := ⟨.hbm, 180, rfl⟩
abbrev main_call0_call3_call0_v102 : Ref sig .tc := ⟨.hbm, 181, rfl⟩
abbrev main_call0_call3_call0_v103 : Ref sig .tc := ⟨.hbm, 182, rfl⟩
abbrev main_call0_call3_call0_v104 : Ref sig .tc := ⟨.hbm, 183, rfl⟩
abbrev main_call0_call3_call0_v105 : Ref sig .tc := ⟨.hbm, 184, rfl⟩
abbrev main_call0_call3_call0_c_26 : Ref sig .tc := ⟨.hbm, 185, rfl⟩
abbrev main_call0_call3_call0_v106 : Ref sig .tc := ⟨.hbm, 186, rfl⟩
abbrev main_call0_call3_call0_v107 : Ref sig .tc := ⟨.hbm, 187, rfl⟩
abbrev main_call0_call3_call0_v108 : Ref sig .tc := ⟨.hbm, 188, rfl⟩
abbrev main_call0_call3_call0_c_27 : Ref sig .tc := ⟨.hbm, 189, rfl⟩
abbrev main_call0_call3_call0_v109 : Ref sig .tc := ⟨.hbm, 190, rfl⟩
abbrev main_call0_call3_call0_v110 : Ref sig .tc := ⟨.hbm, 191, rfl⟩
abbrev main_call0_call3_call0_c_28 : Ref sig .tc := ⟨.hbm, 192, rfl⟩
abbrev main_call0_call3_call0_v111 : Ref sig .tc := ⟨.hbm, 193, rfl⟩
abbrev main_call0_call3_call0_v112 : Ref sig .tc := ⟨.hbm, 194, rfl⟩
abbrev main_call0_call3_call0_v113 : Ref sig .tc := ⟨.hbm, 195, rfl⟩
abbrev main_call0_call3_call0_v114 : Ref sig .tc := ⟨.hbm, 196, rfl⟩
abbrev main_call0_call3_call0_v115 : Ref sig .tc := ⟨.hbm, 197, rfl⟩
abbrev main_call0_call3_call0_c_29 : Ref sig .tc := ⟨.hbm, 198, rfl⟩
abbrev main_call0_call3_call0_v116 : Ref sig .tc := ⟨.hbm, 199, rfl⟩
abbrev main_call0_call3_call0_v117 : Ref sig .tc := ⟨.hbm, 200, rfl⟩
abbrev main_call0_call3_call0_c_30 : Ref sig .tc := ⟨.hbm, 201, rfl⟩
abbrev main_call0_call3_call0_v118 : Ref sig .tc := ⟨.hbm, 202, rfl⟩
abbrev main_call0_call3_call0_v119 : Ref sig .tc := ⟨.hbm, 203, rfl⟩
abbrev main_call0_call3_call0_v120 : Ref sig .tc := ⟨.hbm, 204, rfl⟩
abbrev main_call0_call3_call0_v121 : Ref sig .tc := ⟨.hbm, 205, rfl⟩
abbrev main_call0_call3_call0_v122 : Ref sig .tc := ⟨.hbm, 206, rfl⟩
abbrev main_call0_call3_call0_c_31 : Ref sig .tc := ⟨.hbm, 207, rfl⟩
abbrev main_call0_call3_call0_v123 : Ref sig .tc := ⟨.hbm, 208, rfl⟩
abbrev main_call0_call3_call0_v124 : Ref sig .tc := ⟨.hbm, 209, rfl⟩
abbrev main_call0_call3_call0_c_32 : Ref sig .tc := ⟨.hbm, 210, rfl⟩
abbrev main_call0_call3_call0_v125 : Ref sig .tc := ⟨.hbm, 211, rfl⟩
abbrev main_call0_call3_call0_v126 : Ref sig .tc := ⟨.hbm, 212, rfl⟩
abbrev main_call0_call3_call0_v127 : Ref sig .tc := ⟨.hbm, 213, rfl⟩
abbrev main_call0_call3_call0_v128 : Ref sig .tc := ⟨.hbm, 214, rfl⟩
abbrev main_call0_call3_call0_v129 : Ref sig .tc := ⟨.hbm, 215, rfl⟩
abbrev main_call0_call3_call0_c_33 : Ref sig .tc := ⟨.hbm, 216, rfl⟩
abbrev main_call0_call3_call0_v130 : Ref sig .tc := ⟨.hbm, 217, rfl⟩
abbrev main_call0_call3_call0_v131 : Ref sig .tc := ⟨.hbm, 218, rfl⟩
abbrev main_call0_call3_call0_c_34 : Ref sig .tc := ⟨.hbm, 219, rfl⟩
abbrev main_call0_call3_call0_v132 : Ref sig .tc := ⟨.hbm, 220, rfl⟩
abbrev main_call0_call3_call0_v133 : Ref sig .tc := ⟨.hbm, 221, rfl⟩
abbrev main_call0_call3_call0_v134 : Ref sig .tc := ⟨.hbm, 222, rfl⟩
abbrev main_call0_call3_call0_v135 : Ref sig .tc := ⟨.hbm, 223, rfl⟩
abbrev main_call0_call3_call0_v136 : Ref sig .tc := ⟨.hbm, 224, rfl⟩
abbrev main_call0_call3_call0_v137 : Ref sig .tc := ⟨.hbm, 225, rfl⟩
abbrev main_call0_call3_call0_v138 : Ref sig .tc := ⟨.hbm, 226, rfl⟩
abbrev main_call0_call3_call0_v139 : Ref sig .tc := ⟨.hbm, 227, rfl⟩
abbrev main_call0_call3_call0_c_35 : Ref sig .tc := ⟨.hbm, 228, rfl⟩
abbrev main_call0_call3_call0_v140 : Ref sig .tc := ⟨.hbm, 229, rfl⟩
abbrev main_call0_call3_call0_v141 : Ref sig .tc := ⟨.hbm, 230, rfl⟩
abbrev main_call0_call3_call0_v142 : Ref sig .tc := ⟨.hbm, 231, rfl⟩
abbrev main_call0_call3_call0_c_36 : Ref sig .tc := ⟨.hbm, 232, rfl⟩
abbrev main_call0_call3_call0_v143 : Ref sig .tc := ⟨.hbm, 233, rfl⟩
abbrev main_call0_call3_call0_v144 : Ref sig .tc := ⟨.hbm, 234, rfl⟩
abbrev main_call0_call3_call0_c_37 : Ref sig .tc := ⟨.hbm, 235, rfl⟩
abbrev main_call0_call3_call0_v145 : Ref sig .tc := ⟨.hbm, 236, rfl⟩
abbrev main_call0_call3_call0_v146 : Ref sig .tc := ⟨.hbm, 237, rfl⟩
abbrev main_call0_call3_call0_v147 : Ref sig .tc := ⟨.hbm, 238, rfl⟩
abbrev main_call0_call3_call0_v148 : Ref sig .tc := ⟨.hbm, 239, rfl⟩
abbrev main_call0_call3_call0_v149 : Ref sig .tc := ⟨.hbm, 240, rfl⟩
abbrev main_call0_call3_call0_c_38 : Ref sig .tc := ⟨.hbm, 241, rfl⟩
abbrev main_call0_call3_call0_v150 : Ref sig .tc := ⟨.hbm, 242, rfl⟩
abbrev main_call0_call3_call0_v151 : Ref sig .tc := ⟨.hbm, 243, rfl⟩
abbrev main_call0_call3_call0_c_39 : Ref sig .tc := ⟨.hbm, 244, rfl⟩
abbrev main_call0_call3_call0_v152 : Ref sig .tc := ⟨.hbm, 245, rfl⟩
abbrev main_call0_call3_call0_v153 : Ref sig .tc := ⟨.hbm, 246, rfl⟩
abbrev main_call0_call3_call0_v154 : Ref sig .tc := ⟨.hbm, 247, rfl⟩
abbrev main_call0_call3_call0_v155 : Ref sig .tc := ⟨.hbm, 248, rfl⟩
abbrev main_call0_call3_call0_v156 : Ref sig .tc := ⟨.hbm, 249, rfl⟩
abbrev main_call0_call3_call0_c_40 : Ref sig .tc := ⟨.hbm, 250, rfl⟩
abbrev main_call0_call3_call0_v157 : Ref sig .tc := ⟨.hbm, 251, rfl⟩
abbrev main_call0_call3_call0_v158 : Ref sig .tc := ⟨.hbm, 252, rfl⟩
abbrev main_call0_call3_call0_c_41 : Ref sig .tc := ⟨.hbm, 253, rfl⟩
abbrev main_call0_call3_call0_v159 : Ref sig .tc := ⟨.hbm, 254, rfl⟩
abbrev main_call0_call3_call0_v160 : Ref sig .tc := ⟨.hbm, 255, rfl⟩
abbrev main_call0_call3_call0_v161 : Ref sig .tc := ⟨.hbm, 256, rfl⟩
abbrev main_call0_call3_call0_v162 : Ref sig .tc := ⟨.hbm, 257, rfl⟩
abbrev main_call0_call3_call0_v163 : Ref sig .tc := ⟨.hbm, 258, rfl⟩
abbrev main_call0_call3_call0_c_42 : Ref sig .tc := ⟨.hbm, 259, rfl⟩
abbrev main_call0_call3_call0_v164 : Ref sig .tc := ⟨.hbm, 260, rfl⟩
abbrev main_call0_call3_call0_v165 : Ref sig .tc := ⟨.hbm, 261, rfl⟩
abbrev main_call0_call3_call0_c_43 : Ref sig .tc := ⟨.hbm, 262, rfl⟩
abbrev main_call0_call3_call0_v166 : Ref sig .tc := ⟨.hbm, 263, rfl⟩
abbrev main_call0_call3_call0_v167 : Ref sig .tc := ⟨.hbm, 264, rfl⟩
abbrev main_call0_call3_call0_v168 : Ref sig .tc := ⟨.hbm, 265, rfl⟩
abbrev main_call0_call3_call0_v169 : Ref sig .tc := ⟨.hbm, 266, rfl⟩
abbrev main_call0_call3_call0_v170 : Ref sig .tc := ⟨.hbm, 267, rfl⟩
abbrev main_call0_call3_v11_0 : Ref sig .tc := ⟨.hbm, 268, rfl⟩
abbrev main_call0_call3_call0_v172 : Ref sig .tc := ⟨.hbm, 269, rfl⟩
abbrev main_call0_call3_call0_v173 : Ref sig .tc := ⟨.hbm, 270, rfl⟩
abbrev main_call0_call3_call0_c_44 : Ref sig .tc := ⟨.hbm, 271, rfl⟩
abbrev main_call0_call3_call0_v174 : Ref sig .tc := ⟨.hbm, 272, rfl⟩
abbrev main_call0_call3_v11_1 : Ref sig .tc := ⟨.hbm, 273, rfl⟩
abbrev main_call0_call3_v12 : Ref sig .tc := ⟨.hbm, 274, rfl⟩
abbrev main_call0_call3_v13 : Ref sig .tc := ⟨.hbm, 275, rfl⟩
abbrev main_call0_v8 : Ref sig .tc := ⟨.hbm, 276, rfl⟩
abbrev main_call0_v9 : Ref sig .tc := ⟨.hbm, 277, rfl⟩
abbrev main_call0_v10 : Ref sig .tc := ⟨.hbm, 278, rfl⟩
abbrev main_call0_v11 : Ref sig .tc := ⟨.hbm, 279, rfl⟩
abbrev main_call0_v12 : Ref sig .tc := ⟨.hbm, 280, rfl⟩
abbrev main_call0_v13 : Ref sig .tc := ⟨.hbm, 281, rfl⟩
abbrev main_call0_v14 : Ref sig .tc := ⟨.hbm, 282, rfl⟩
abbrev main_call0_v15 : Ref sig .tc := ⟨.hbm, 283, rfl⟩
abbrev main_call0_v16 : Ref sig .tc := ⟨.hbm, 284, rfl⟩
abbrev main_call0_v17 : Ref sig .tc := ⟨.hbm, 285, rfl⟩
abbrev main_call0_c_6 : Ref sig .tc := ⟨.hbm, 286, rfl⟩
abbrev main_call0_v18 : Ref sig .tc := ⟨.hbm, 287, rfl⟩
abbrev main_call0_v19 : Ref sig .tc := ⟨.hbm, 288, rfl⟩
abbrev main_call0_c_7 : Ref sig .tc := ⟨.hbm, 289, rfl⟩
abbrev main_call0_v20 : Ref sig .tc := ⟨.hbm, 290, rfl⟩
abbrev main_call0_v21 : Ref sig .tc := ⟨.hbm, 291, rfl⟩
abbrev main_call0_v22 : Ref sig .tc := ⟨.hbm, 292, rfl⟩
abbrev main_call0_v23 : Ref sig .tc := ⟨.hbm, 293, rfl⟩
abbrev main_call0_call4_v0 : Ref sig .tc := ⟨.hbm, 294, rfl⟩
abbrev main_call0_call4_c : Ref sig .tc := ⟨.hbm, 295, rfl⟩
abbrev main_call0_call4_v1 : Ref sig .tc := ⟨.hbm, 296, rfl⟩
abbrev main_call0_call4_v2 : Ref sig .tc := ⟨.hbm, 297, rfl⟩
abbrev main_call0_call4_v3 : Ref sig .tc := ⟨.hbm, 298, rfl⟩
abbrev main_call0_call4_v4 : Ref sig .tc := ⟨.hbm, 299, rfl⟩
abbrev main_call0_call4_v5 : Ref sig .tc := ⟨.hbm, 300, rfl⟩
abbrev main_call0_call4_v6 : Ref sig .tc := ⟨.hbm, 301, rfl⟩
abbrev main_call0_call4_c_0 : Ref sig .tc := ⟨.hbm, 302, rfl⟩
abbrev main_call0_call4_v7 : Ref sig .tc := ⟨.hbm, 303, rfl⟩
abbrev main_call0_call4_v8 : Ref sig .tc := ⟨.hbm, 304, rfl⟩
abbrev main_call0_call4_c_1 : Ref sig .tc := ⟨.hbm, 305, rfl⟩
abbrev main_call0_call4_v9 : Ref sig .tc := ⟨.hbm, 306, rfl⟩
abbrev main_call0_call4_v10 : Ref sig .tc := ⟨.hbm, 307, rfl⟩
abbrev main_call0_call4_v11 : Ref sig .tc := ⟨.hbm, 308, rfl⟩
abbrev main_call0_call4_v12 : Ref sig .tc := ⟨.hbm, 309, rfl⟩
abbrev main_call0_call4_v13 : Ref sig .tc := ⟨.hbm, 310, rfl⟩
abbrev main_call0_call4_c_2 : Ref sig .tc := ⟨.hbm, 311, rfl⟩
abbrev main_call0_call4_v14 : Ref sig .tc := ⟨.hbm, 312, rfl⟩
abbrev main_call0_call4_v15 : Ref sig .tc := ⟨.hbm, 313, rfl⟩
abbrev main_call0_call4_c_3 : Ref sig .tc := ⟨.hbm, 314, rfl⟩
abbrev main_call0_call4_v16 : Ref sig .tc := ⟨.hbm, 315, rfl⟩
abbrev main_call0_call4_v17 : Ref sig .tc := ⟨.hbm, 316, rfl⟩
abbrev main_call0_call4_v18 : Ref sig .tc := ⟨.hbm, 317, rfl⟩
abbrev main_call0_call4_v19 : Ref sig .tc := ⟨.hbm, 318, rfl⟩
abbrev main_call0_call4_v20 : Ref sig .tc := ⟨.hbm, 319, rfl⟩
abbrev main_call0_call4_c_4 : Ref sig .tc := ⟨.hbm, 320, rfl⟩
abbrev main_call0_call4_v21 : Ref sig .tc := ⟨.hbm, 321, rfl⟩
abbrev main_call0_call4_v22 : Ref sig .tc := ⟨.hbm, 322, rfl⟩
abbrev main_call0_call4_c_5 : Ref sig .tc := ⟨.hbm, 323, rfl⟩
abbrev main_call0_call4_v23 : Ref sig .tc := ⟨.hbm, 324, rfl⟩
abbrev main_call0_call4_v24 : Ref sig .tc := ⟨.hbm, 325, rfl⟩
abbrev main_call0_call4_v25 : Ref sig .tc := ⟨.hbm, 326, rfl⟩
abbrev main_call0_call4_v26 : Ref sig .tc := ⟨.hbm, 327, rfl⟩
abbrev main_call0_call4_v27 : Ref sig .tc := ⟨.hbm, 328, rfl⟩
abbrev main_call0_call4_c_6 : Ref sig .tc := ⟨.hbm, 329, rfl⟩
abbrev main_call0_call4_v28 : Ref sig .tc := ⟨.hbm, 330, rfl⟩
abbrev main_call0_call4_v29 : Ref sig .tc := ⟨.hbm, 331, rfl⟩
abbrev main_call0_call4_c_7 : Ref sig .tc := ⟨.hbm, 332, rfl⟩
abbrev main_call0_call4_v30 : Ref sig .tc := ⟨.hbm, 333, rfl⟩
abbrev main_call0_call4_v31 : Ref sig .tc := ⟨.hbm, 334, rfl⟩
abbrev main_call0_call4_v32 : Ref sig .tc := ⟨.hbm, 335, rfl⟩
abbrev main_call0_call4_v33 : Ref sig .tc := ⟨.hbm, 336, rfl⟩
abbrev main_call0_call4_v34 : Ref sig .tc := ⟨.hbm, 337, rfl⟩
abbrev main_call0_call4_v35 : Ref sig .tc := ⟨.hbm, 338, rfl⟩
abbrev main_call0_call4_v36 : Ref sig .tc := ⟨.hbm, 339, rfl⟩
abbrev main_call0_call4_v37 : Ref sig .tc := ⟨.hbm, 340, rfl⟩
abbrev main_call0_call4_c_8 : Ref sig .tc := ⟨.hbm, 341, rfl⟩
abbrev main_call0_call4_v38 : Ref sig .tc := ⟨.hbm, 342, rfl⟩
abbrev main_call0_call4_v39 : Ref sig .tc := ⟨.hbm, 343, rfl⟩
abbrev main_call0_call4_v40 : Ref sig .tc := ⟨.hbm, 344, rfl⟩
abbrev main_call0_call4_c_9 : Ref sig .tc := ⟨.hbm, 345, rfl⟩
abbrev main_call0_call4_v41 : Ref sig .tc := ⟨.hbm, 346, rfl⟩
abbrev main_call0_call4_v42 : Ref sig .tc := ⟨.hbm, 347, rfl⟩
abbrev main_call0_call4_c_10 : Ref sig .tc := ⟨.hbm, 348, rfl⟩
abbrev main_call0_call4_v43 : Ref sig .tc := ⟨.hbm, 349, rfl⟩
abbrev main_call0_call4_v44 : Ref sig .tc := ⟨.hbm, 350, rfl⟩
abbrev main_call0_call4_v45 : Ref sig .tc := ⟨.hbm, 351, rfl⟩
abbrev main_call0_call4_v46 : Ref sig .tc := ⟨.hbm, 352, rfl⟩
abbrev main_call0_call4_v47 : Ref sig .tc := ⟨.hbm, 353, rfl⟩
abbrev main_call0_call4_c_11 : Ref sig .tc := ⟨.hbm, 354, rfl⟩
abbrev main_call0_call4_v48 : Ref sig .tc := ⟨.hbm, 355, rfl⟩
abbrev main_call0_call4_v49 : Ref sig .tc := ⟨.hbm, 356, rfl⟩
abbrev main_call0_call4_c_12 : Ref sig .tc := ⟨.hbm, 357, rfl⟩
abbrev main_call0_call4_v50 : Ref sig .tc := ⟨.hbm, 358, rfl⟩
abbrev main_call0_call4_v51 : Ref sig .tc := ⟨.hbm, 359, rfl⟩
abbrev main_call0_call4_v52 : Ref sig .tc := ⟨.hbm, 360, rfl⟩
abbrev main_call0_call4_v53 : Ref sig .tc := ⟨.hbm, 361, rfl⟩
abbrev main_call0_call4_v54 : Ref sig .tc := ⟨.hbm, 362, rfl⟩
abbrev main_call0_call4_c_13 : Ref sig .tc := ⟨.hbm, 363, rfl⟩
abbrev main_call0_call4_v55 : Ref sig .tc := ⟨.hbm, 364, rfl⟩
abbrev main_call0_call4_v56 : Ref sig .tc := ⟨.hbm, 365, rfl⟩
abbrev main_call0_call4_c_14 : Ref sig .tc := ⟨.hbm, 366, rfl⟩
abbrev main_call0_call4_v57 : Ref sig .tc := ⟨.hbm, 367, rfl⟩
abbrev main_call0_call4_v58 : Ref sig .tc := ⟨.hbm, 368, rfl⟩
abbrev main_call0_call4_v59 : Ref sig .tc := ⟨.hbm, 369, rfl⟩
abbrev main_call0_call4_v60 : Ref sig .tc := ⟨.hbm, 370, rfl⟩
abbrev main_call0_call4_v61 : Ref sig .tc := ⟨.hbm, 371, rfl⟩
abbrev main_call0_call4_c_15 : Ref sig .tc := ⟨.hbm, 372, rfl⟩
abbrev main_call0_call4_v62 : Ref sig .tc := ⟨.hbm, 373, rfl⟩
abbrev main_call0_call4_v63 : Ref sig .tc := ⟨.hbm, 374, rfl⟩
abbrev main_call0_call4_c_16 : Ref sig .tc := ⟨.hbm, 375, rfl⟩
abbrev main_call0_call4_v64 : Ref sig .tc := ⟨.hbm, 376, rfl⟩
abbrev main_call0_call4_v65 : Ref sig .tc := ⟨.hbm, 377, rfl⟩
abbrev main_call0_call4_v66 : Ref sig .tc := ⟨.hbm, 378, rfl⟩
abbrev main_call0_call4_v67 : Ref sig .tc := ⟨.hbm, 379, rfl⟩
abbrev main_call0_call4_v68 : Ref sig .tc := ⟨.hbm, 380, rfl⟩
abbrev main_call0_call4_v69 : Ref sig .tc := ⟨.hbm, 381, rfl⟩
abbrev main_call0_call4_v70 : Ref sig .tc := ⟨.hbm, 382, rfl⟩
abbrev main_call0_call4_v71 : Ref sig .tc := ⟨.hbm, 383, rfl⟩
abbrev main_call0_call4_c_17 : Ref sig .tc := ⟨.hbm, 384, rfl⟩
abbrev main_call0_call4_v72 : Ref sig .tc := ⟨.hbm, 385, rfl⟩
abbrev main_call0_call4_v73 : Ref sig .tc := ⟨.hbm, 386, rfl⟩
abbrev main_call0_call4_v74 : Ref sig .tc := ⟨.hbm, 387, rfl⟩
abbrev main_call0_call4_c_18 : Ref sig .tc := ⟨.hbm, 388, rfl⟩
abbrev main_call0_call4_v75 : Ref sig .tc := ⟨.hbm, 389, rfl⟩
abbrev main_call0_call4_v76 : Ref sig .tc := ⟨.hbm, 390, rfl⟩
abbrev main_call0_call4_c_19 : Ref sig .tc := ⟨.hbm, 391, rfl⟩
abbrev main_call0_call4_v77 : Ref sig .tc := ⟨.hbm, 392, rfl⟩
abbrev main_call0_call4_v78 : Ref sig .tc := ⟨.hbm, 393, rfl⟩
abbrev main_call0_call4_v79 : Ref sig .tc := ⟨.hbm, 394, rfl⟩
abbrev main_call0_call4_v80 : Ref sig .tc := ⟨.hbm, 395, rfl⟩
abbrev main_call0_call4_v81 : Ref sig .tc := ⟨.hbm, 396, rfl⟩
abbrev main_call0_call4_c_20 : Ref sig .tc := ⟨.hbm, 397, rfl⟩
abbrev main_call0_call4_v82 : Ref sig .tc := ⟨.hbm, 398, rfl⟩
abbrev main_call0_call4_v83 : Ref sig .tc := ⟨.hbm, 399, rfl⟩
abbrev main_call0_call4_c_21 : Ref sig .tc := ⟨.hbm, 400, rfl⟩
abbrev main_call0_call4_v84 : Ref sig .tc := ⟨.hbm, 401, rfl⟩
abbrev main_call0_call4_v85 : Ref sig .tc := ⟨.hbm, 402, rfl⟩
abbrev main_call0_call4_v86 : Ref sig .tc := ⟨.hbm, 403, rfl⟩
abbrev main_call0_call4_v87 : Ref sig .tc := ⟨.hbm, 404, rfl⟩
abbrev main_call0_call4_v88 : Ref sig .tc := ⟨.hbm, 405, rfl⟩
abbrev main_call0_call4_c_22 : Ref sig .tc := ⟨.hbm, 406, rfl⟩
abbrev main_call0_call4_v89 : Ref sig .tc := ⟨.hbm, 407, rfl⟩
abbrev main_call0_call4_v90 : Ref sig .tc := ⟨.hbm, 408, rfl⟩
abbrev main_call0_call4_c_23 : Ref sig .tc := ⟨.hbm, 409, rfl⟩
abbrev main_call0_call4_v91 : Ref sig .tc := ⟨.hbm, 410, rfl⟩
abbrev main_call0_call4_v92 : Ref sig .tc := ⟨.hbm, 411, rfl⟩
abbrev main_call0_call4_v93 : Ref sig .tc := ⟨.hbm, 412, rfl⟩
abbrev main_call0_call4_v94 : Ref sig .tc := ⟨.hbm, 413, rfl⟩
abbrev main_call0_call4_v95 : Ref sig .tc := ⟨.hbm, 414, rfl⟩
abbrev main_call0_call4_c_24 : Ref sig .tc := ⟨.hbm, 415, rfl⟩
abbrev main_call0_call4_v96 : Ref sig .tc := ⟨.hbm, 416, rfl⟩
abbrev main_call0_call4_v97 : Ref sig .tc := ⟨.hbm, 417, rfl⟩
abbrev main_call0_call4_c_25 : Ref sig .tc := ⟨.hbm, 418, rfl⟩
abbrev main_call0_call4_v98 : Ref sig .tc := ⟨.hbm, 419, rfl⟩
abbrev main_call0_call4_v99 : Ref sig .tc := ⟨.hbm, 420, rfl⟩
abbrev main_call0_call4_v100 : Ref sig .tc := ⟨.hbm, 421, rfl⟩
abbrev main_call0_call4_v101 : Ref sig .tc := ⟨.hbm, 422, rfl⟩
abbrev main_call0_call4_v102 : Ref sig .tc := ⟨.hbm, 423, rfl⟩
abbrev main_call0_call4_v103 : Ref sig .tc := ⟨.hbm, 424, rfl⟩
abbrev main_call0_call4_v104 : Ref sig .tc := ⟨.hbm, 425, rfl⟩
abbrev main_call0_call4_v105 : Ref sig .tc := ⟨.hbm, 426, rfl⟩
abbrev main_call0_call4_c_26 : Ref sig .tc := ⟨.hbm, 427, rfl⟩
abbrev main_call0_call4_v106 : Ref sig .tc := ⟨.hbm, 428, rfl⟩
abbrev main_call0_call4_v107 : Ref sig .tc := ⟨.hbm, 429, rfl⟩
abbrev main_call0_call4_v108 : Ref sig .tc := ⟨.hbm, 430, rfl⟩
abbrev main_call0_call4_c_27 : Ref sig .tc := ⟨.hbm, 431, rfl⟩
abbrev main_call0_call4_v109 : Ref sig .tc := ⟨.hbm, 432, rfl⟩
abbrev main_call0_call4_v110 : Ref sig .tc := ⟨.hbm, 433, rfl⟩
abbrev main_call0_call4_c_28 : Ref sig .tc := ⟨.hbm, 434, rfl⟩
abbrev main_call0_call4_v111 : Ref sig .tc := ⟨.hbm, 435, rfl⟩
abbrev main_call0_call4_v112 : Ref sig .tc := ⟨.hbm, 436, rfl⟩
abbrev main_call0_call4_v113 : Ref sig .tc := ⟨.hbm, 437, rfl⟩
abbrev main_call0_call4_v114 : Ref sig .tc := ⟨.hbm, 438, rfl⟩
abbrev main_call0_call4_v115 : Ref sig .tc := ⟨.hbm, 439, rfl⟩
abbrev main_call0_call4_c_29 : Ref sig .tc := ⟨.hbm, 440, rfl⟩
abbrev main_call0_call4_v116 : Ref sig .tc := ⟨.hbm, 441, rfl⟩
abbrev main_call0_call4_v117 : Ref sig .tc := ⟨.hbm, 442, rfl⟩
abbrev main_call0_call4_c_30 : Ref sig .tc := ⟨.hbm, 443, rfl⟩
abbrev main_call0_call4_v118 : Ref sig .tc := ⟨.hbm, 444, rfl⟩
abbrev main_call0_call4_v119 : Ref sig .tc := ⟨.hbm, 445, rfl⟩
abbrev main_call0_call4_v120 : Ref sig .tc := ⟨.hbm, 446, rfl⟩
abbrev main_call0_call4_v121 : Ref sig .tc := ⟨.hbm, 447, rfl⟩
abbrev main_call0_call4_v122 : Ref sig .tc := ⟨.hbm, 448, rfl⟩
abbrev main_call0_call4_c_31 : Ref sig .tc := ⟨.hbm, 449, rfl⟩
abbrev main_call0_call4_v123 : Ref sig .tc := ⟨.hbm, 450, rfl⟩
abbrev main_call0_call4_v124 : Ref sig .tc := ⟨.hbm, 451, rfl⟩
abbrev main_call0_call4_c_32 : Ref sig .tc := ⟨.hbm, 452, rfl⟩
abbrev main_call0_call4_v125 : Ref sig .tc := ⟨.hbm, 453, rfl⟩
abbrev main_call0_call4_v126 : Ref sig .tc := ⟨.hbm, 454, rfl⟩
abbrev main_call0_call4_v127 : Ref sig .tc := ⟨.hbm, 455, rfl⟩
abbrev main_call0_call4_v128 : Ref sig .tc := ⟨.hbm, 456, rfl⟩
abbrev main_call0_call4_v129 : Ref sig .tc := ⟨.hbm, 457, rfl⟩
abbrev main_call0_call4_c_33 : Ref sig .tc := ⟨.hbm, 458, rfl⟩
abbrev main_call0_call4_v130 : Ref sig .tc := ⟨.hbm, 459, rfl⟩
abbrev main_call0_call4_v131 : Ref sig .tc := ⟨.hbm, 460, rfl⟩
abbrev main_call0_call4_c_34 : Ref sig .tc := ⟨.hbm, 461, rfl⟩
abbrev main_call0_call4_v132 : Ref sig .tc := ⟨.hbm, 462, rfl⟩
abbrev main_call0_call4_v133 : Ref sig .tc := ⟨.hbm, 463, rfl⟩
abbrev main_call0_call4_v134 : Ref sig .tc := ⟨.hbm, 464, rfl⟩
abbrev main_call0_call4_v135 : Ref sig .tc := ⟨.hbm, 465, rfl⟩
abbrev main_call0_call4_v136 : Ref sig .tc := ⟨.hbm, 466, rfl⟩
abbrev main_call0_call4_v137 : Ref sig .tc := ⟨.hbm, 467, rfl⟩
abbrev main_call0_call4_v138 : Ref sig .tc := ⟨.hbm, 468, rfl⟩
abbrev main_call0_call4_v139 : Ref sig .tc := ⟨.hbm, 469, rfl⟩
abbrev main_call0_call4_c_35 : Ref sig .tc := ⟨.hbm, 470, rfl⟩
abbrev main_call0_call4_v140 : Ref sig .tc := ⟨.hbm, 471, rfl⟩
abbrev main_call0_call4_v141 : Ref sig .tc := ⟨.hbm, 472, rfl⟩
abbrev main_call0_call4_v142 : Ref sig .tc := ⟨.hbm, 473, rfl⟩
abbrev main_call0_call4_c_36 : Ref sig .tc := ⟨.hbm, 474, rfl⟩
abbrev main_call0_call4_v143 : Ref sig .tc := ⟨.hbm, 475, rfl⟩
abbrev main_call0_call4_v144 : Ref sig .tc := ⟨.hbm, 476, rfl⟩
abbrev main_call0_call4_c_37 : Ref sig .tc := ⟨.hbm, 477, rfl⟩
abbrev main_call0_call4_v145 : Ref sig .tc := ⟨.hbm, 478, rfl⟩
abbrev main_call0_call4_v146 : Ref sig .tc := ⟨.hbm, 479, rfl⟩
abbrev main_call0_call4_v147 : Ref sig .tc := ⟨.hbm, 480, rfl⟩
abbrev main_call0_call4_v148 : Ref sig .tc := ⟨.hbm, 481, rfl⟩
abbrev main_call0_call4_v149 : Ref sig .tc := ⟨.hbm, 482, rfl⟩
abbrev main_call0_call4_c_38 : Ref sig .tc := ⟨.hbm, 483, rfl⟩
abbrev main_call0_call4_v150 : Ref sig .tc := ⟨.hbm, 484, rfl⟩
abbrev main_call0_call4_v151 : Ref sig .tc := ⟨.hbm, 485, rfl⟩
abbrev main_call0_call4_c_39 : Ref sig .tc := ⟨.hbm, 486, rfl⟩
abbrev main_call0_call4_v152 : Ref sig .tc := ⟨.hbm, 487, rfl⟩
abbrev main_call0_call4_v153 : Ref sig .tc := ⟨.hbm, 488, rfl⟩
abbrev main_call0_call4_v154 : Ref sig .tc := ⟨.hbm, 489, rfl⟩
abbrev main_call0_call4_v155 : Ref sig .tc := ⟨.hbm, 490, rfl⟩
abbrev main_call0_call4_v156 : Ref sig .tc := ⟨.hbm, 491, rfl⟩
abbrev main_call0_call4_c_40 : Ref sig .tc := ⟨.hbm, 492, rfl⟩
abbrev main_call0_call4_v157 : Ref sig .tc := ⟨.hbm, 493, rfl⟩
abbrev main_call0_call4_v158 : Ref sig .tc := ⟨.hbm, 494, rfl⟩
abbrev main_call0_call4_c_41 : Ref sig .tc := ⟨.hbm, 495, rfl⟩
abbrev main_call0_call4_v159 : Ref sig .tc := ⟨.hbm, 496, rfl⟩
abbrev main_call0_call4_v160 : Ref sig .tc := ⟨.hbm, 497, rfl⟩
abbrev main_call0_call4_v161 : Ref sig .tc := ⟨.hbm, 498, rfl⟩
abbrev main_call0_call4_v162 : Ref sig .tc := ⟨.hbm, 499, rfl⟩
abbrev main_call0_call4_v163 : Ref sig .tc := ⟨.hbm, 500, rfl⟩
abbrev main_call0_call4_c_42 : Ref sig .tc := ⟨.hbm, 501, rfl⟩
abbrev main_call0_call4_v164 : Ref sig .tc := ⟨.hbm, 502, rfl⟩
abbrev main_call0_call4_v165 : Ref sig .tc := ⟨.hbm, 503, rfl⟩
abbrev main_call0_call4_c_43 : Ref sig .tc := ⟨.hbm, 504, rfl⟩
abbrev main_call0_call4_v166 : Ref sig .tc := ⟨.hbm, 505, rfl⟩
abbrev main_call0_call4_v167 : Ref sig .tc := ⟨.hbm, 506, rfl⟩
abbrev main_call0_call4_v168 : Ref sig .tc := ⟨.hbm, 507, rfl⟩
abbrev main_call0_call4_v169 : Ref sig .tc := ⟨.hbm, 508, rfl⟩
abbrev main_call0_call4_v170 : Ref sig .tc := ⟨.hbm, 509, rfl⟩
abbrev main_call0_v24_0 : Ref sig .tc := ⟨.hbm, 510, rfl⟩
abbrev main_call0_call4_v172 : Ref sig .tc := ⟨.hbm, 511, rfl⟩
abbrev main_call0_call4_v173 : Ref sig .tc := ⟨.hbm, 512, rfl⟩
abbrev main_call0_call4_c_44 : Ref sig .tc := ⟨.hbm, 513, rfl⟩
abbrev main_call0_call4_v174 : Ref sig .tc := ⟨.hbm, 514, rfl⟩
abbrev main_call0_v24_1 : Ref sig .tc := ⟨.hbm, 515, rfl⟩
abbrev main_call0_v25 : Ref sig .tc := ⟨.hbm, 516, rfl⟩
abbrev main_call0_v26 : Ref sig .tc := ⟨.hbm, 517, rfl⟩
abbrev main_call0_v27 : Ref sig .tc := ⟨.hbm, 518, rfl⟩
abbrev main_call0_v28 : Ref sig .tc := ⟨.hbm, 519, rfl⟩
abbrev main_call0_v29 : Ref sig .tc := ⟨.hbm, 520, rfl⟩
abbrev main_call0_v30 : Ref sig .tc := ⟨.hbm, 521, rfl⟩
abbrev main_call0_c_8 : Ref sig .tc := ⟨.hbm, 522, rfl⟩
abbrev main_call0_v31 : Ref sig .tc := ⟨.hbm, 523, rfl⟩
abbrev main_call0_v32 : Ref sig .tc := ⟨.hbm, 524, rfl⟩
abbrev main_call0_c_9 : Ref sig .tc := ⟨.hbm, 525, rfl⟩
abbrev main_call0_v33 : Ref sig .tc := ⟨.hbm, 526, rfl⟩
abbrev main_call0_v34 : Ref sig .tc := ⟨.hbm, 527, rfl⟩
abbrev main_call0_v35 : Ref sig .tc := ⟨.hbm, 528, rfl⟩
abbrev main_call0_v36 : Ref sig .tc := ⟨.hbm, 529, rfl⟩
abbrev main_call0_call5_v0 : Ref sig .tc := ⟨.hbm, 530, rfl⟩
abbrev main_call0_call5_c : Ref sig .tc := ⟨.hbm, 531, rfl⟩
abbrev main_call0_call5_v1 : Ref sig .tc := ⟨.hbm, 532, rfl⟩
abbrev main_call0_call5_v2 : Ref sig .tc := ⟨.hbm, 533, rfl⟩
abbrev main_call0_call5_v3 : Ref sig .tc := ⟨.hbm, 534, rfl⟩
abbrev main_call0_call5_v4 : Ref sig .tc := ⟨.hbm, 535, rfl⟩
abbrev main_call0_call5_v5 : Ref sig .tc := ⟨.hbm, 536, rfl⟩
abbrev main_call0_call5_v6 : Ref sig .tc := ⟨.hbm, 537, rfl⟩
abbrev main_call0_call5_c_0 : Ref sig .tc := ⟨.hbm, 538, rfl⟩
abbrev main_call0_call5_v7 : Ref sig .tc := ⟨.hbm, 539, rfl⟩
abbrev main_call0_call5_v8 : Ref sig .tc := ⟨.hbm, 540, rfl⟩
abbrev main_call0_call5_c_1 : Ref sig .tc := ⟨.hbm, 541, rfl⟩
abbrev main_call0_call5_v9 : Ref sig .tc := ⟨.hbm, 542, rfl⟩
abbrev main_call0_call5_v10 : Ref sig .tc := ⟨.hbm, 543, rfl⟩
abbrev main_call0_call5_v11 : Ref sig .tc := ⟨.hbm, 544, rfl⟩
abbrev main_call0_call5_v12 : Ref sig .tc := ⟨.hbm, 545, rfl⟩
abbrev main_call0_call5_v13 : Ref sig .tc := ⟨.hbm, 546, rfl⟩
abbrev main_call0_call5_c_2 : Ref sig .tc := ⟨.hbm, 547, rfl⟩
abbrev main_call0_call5_v14 : Ref sig .tc := ⟨.hbm, 548, rfl⟩
abbrev main_call0_call5_v15 : Ref sig .tc := ⟨.hbm, 549, rfl⟩
abbrev main_call0_call5_c_3 : Ref sig .tc := ⟨.hbm, 550, rfl⟩
abbrev main_call0_call5_v16 : Ref sig .tc := ⟨.hbm, 551, rfl⟩
abbrev main_call0_call5_v17 : Ref sig .tc := ⟨.hbm, 552, rfl⟩
abbrev main_call0_call5_v18 : Ref sig .tc := ⟨.hbm, 553, rfl⟩
abbrev main_call0_call5_v19 : Ref sig .tc := ⟨.hbm, 554, rfl⟩
abbrev main_call0_call5_v20 : Ref sig .tc := ⟨.hbm, 555, rfl⟩
abbrev main_call0_call5_c_4 : Ref sig .tc := ⟨.hbm, 556, rfl⟩
abbrev main_call0_call5_v21 : Ref sig .tc := ⟨.hbm, 557, rfl⟩
abbrev main_call0_call5_v22 : Ref sig .tc := ⟨.hbm, 558, rfl⟩
abbrev main_call0_call5_c_5 : Ref sig .tc := ⟨.hbm, 559, rfl⟩
abbrev main_call0_call5_v23 : Ref sig .tc := ⟨.hbm, 560, rfl⟩
abbrev main_call0_call5_v24 : Ref sig .tc := ⟨.hbm, 561, rfl⟩
abbrev main_call0_call5_v25 : Ref sig .tc := ⟨.hbm, 562, rfl⟩
abbrev main_call0_call5_v26 : Ref sig .tc := ⟨.hbm, 563, rfl⟩
abbrev main_call0_call5_v27 : Ref sig .tc := ⟨.hbm, 564, rfl⟩
abbrev main_call0_call5_c_6 : Ref sig .tc := ⟨.hbm, 565, rfl⟩
abbrev main_call0_call5_v28 : Ref sig .tc := ⟨.hbm, 566, rfl⟩
abbrev main_call0_call5_v29 : Ref sig .tc := ⟨.hbm, 567, rfl⟩
abbrev main_call0_call5_c_7 : Ref sig .tc := ⟨.hbm, 568, rfl⟩
abbrev main_call0_call5_v30 : Ref sig .tc := ⟨.hbm, 569, rfl⟩
abbrev main_call0_call5_v31 : Ref sig .tc := ⟨.hbm, 570, rfl⟩
abbrev main_call0_call5_v32 : Ref sig .tc := ⟨.hbm, 571, rfl⟩
abbrev main_call0_call5_v33 : Ref sig .tc := ⟨.hbm, 572, rfl⟩
abbrev main_call0_call5_v34 : Ref sig .tc := ⟨.hbm, 573, rfl⟩
abbrev main_call0_call5_v35 : Ref sig .tc := ⟨.hbm, 574, rfl⟩
abbrev main_call0_call5_v36 : Ref sig .tc := ⟨.hbm, 575, rfl⟩
abbrev main_call0_call5_v37 : Ref sig .tc := ⟨.hbm, 576, rfl⟩
abbrev main_call0_call5_c_8 : Ref sig .tc := ⟨.hbm, 577, rfl⟩
abbrev main_call0_call5_v38 : Ref sig .tc := ⟨.hbm, 578, rfl⟩
abbrev main_call0_call5_v39 : Ref sig .tc := ⟨.hbm, 579, rfl⟩
abbrev main_call0_call5_v40 : Ref sig .tc := ⟨.hbm, 580, rfl⟩
abbrev main_call0_call5_c_9 : Ref sig .tc := ⟨.hbm, 581, rfl⟩
abbrev main_call0_call5_v41 : Ref sig .tc := ⟨.hbm, 582, rfl⟩
abbrev main_call0_call5_v42 : Ref sig .tc := ⟨.hbm, 583, rfl⟩
abbrev main_call0_call5_c_10 : Ref sig .tc := ⟨.hbm, 584, rfl⟩
abbrev main_call0_call5_v43 : Ref sig .tc := ⟨.hbm, 585, rfl⟩
abbrev main_call0_call5_v44 : Ref sig .tc := ⟨.hbm, 586, rfl⟩
abbrev main_call0_call5_v45 : Ref sig .tc := ⟨.hbm, 587, rfl⟩
abbrev main_call0_call5_v46 : Ref sig .tc := ⟨.hbm, 588, rfl⟩
abbrev main_call0_call5_v47 : Ref sig .tc := ⟨.hbm, 589, rfl⟩
abbrev main_call0_call5_c_11 : Ref sig .tc := ⟨.hbm, 590, rfl⟩
abbrev main_call0_call5_v48 : Ref sig .tc := ⟨.hbm, 591, rfl⟩
abbrev main_call0_call5_v49 : Ref sig .tc := ⟨.hbm, 592, rfl⟩
abbrev main_call0_call5_c_12 : Ref sig .tc := ⟨.hbm, 593, rfl⟩
abbrev main_call0_call5_v50 : Ref sig .tc := ⟨.hbm, 594, rfl⟩
abbrev main_call0_call5_v51 : Ref sig .tc := ⟨.hbm, 595, rfl⟩
abbrev main_call0_call5_v52 : Ref sig .tc := ⟨.hbm, 596, rfl⟩
abbrev main_call0_call5_v53 : Ref sig .tc := ⟨.hbm, 597, rfl⟩
abbrev main_call0_call5_v54 : Ref sig .tc := ⟨.hbm, 598, rfl⟩
abbrev main_call0_call5_c_13 : Ref sig .tc := ⟨.hbm, 599, rfl⟩
abbrev main_call0_call5_v55 : Ref sig .tc := ⟨.hbm, 600, rfl⟩
abbrev main_call0_call5_v56 : Ref sig .tc := ⟨.hbm, 601, rfl⟩
abbrev main_call0_call5_c_14 : Ref sig .tc := ⟨.hbm, 602, rfl⟩
abbrev main_call0_call5_v57 : Ref sig .tc := ⟨.hbm, 603, rfl⟩
abbrev main_call0_call5_v58 : Ref sig .tc := ⟨.hbm, 604, rfl⟩
abbrev main_call0_call5_v59 : Ref sig .tc := ⟨.hbm, 605, rfl⟩
abbrev main_call0_call5_v60 : Ref sig .tc := ⟨.hbm, 606, rfl⟩
abbrev main_call0_call5_v61 : Ref sig .tc := ⟨.hbm, 607, rfl⟩
abbrev main_call0_call5_c_15 : Ref sig .tc := ⟨.hbm, 608, rfl⟩
abbrev main_call0_call5_v62 : Ref sig .tc := ⟨.hbm, 609, rfl⟩
abbrev main_call0_call5_v63 : Ref sig .tc := ⟨.hbm, 610, rfl⟩
abbrev main_call0_call5_c_16 : Ref sig .tc := ⟨.hbm, 611, rfl⟩
abbrev main_call0_call5_v64 : Ref sig .tc := ⟨.hbm, 612, rfl⟩
abbrev main_call0_call5_v65 : Ref sig .tc := ⟨.hbm, 613, rfl⟩
abbrev main_call0_call5_v66 : Ref sig .tc := ⟨.hbm, 614, rfl⟩
abbrev main_call0_call5_v67 : Ref sig .tc := ⟨.hbm, 615, rfl⟩
abbrev main_call0_call5_v68 : Ref sig .tc := ⟨.hbm, 616, rfl⟩
abbrev main_call0_call5_v69 : Ref sig .tc := ⟨.hbm, 617, rfl⟩
abbrev main_call0_call5_v70 : Ref sig .tc := ⟨.hbm, 618, rfl⟩
abbrev main_call0_call5_v71 : Ref sig .tc := ⟨.hbm, 619, rfl⟩
abbrev main_call0_call5_c_17 : Ref sig .tc := ⟨.hbm, 620, rfl⟩
abbrev main_call0_call5_v72 : Ref sig .tc := ⟨.hbm, 621, rfl⟩
abbrev main_call0_call5_v73 : Ref sig .tc := ⟨.hbm, 622, rfl⟩
abbrev main_call0_call5_v74 : Ref sig .tc := ⟨.hbm, 623, rfl⟩
abbrev main_call0_call5_c_18 : Ref sig .tc := ⟨.hbm, 624, rfl⟩
abbrev main_call0_call5_v75 : Ref sig .tc := ⟨.hbm, 625, rfl⟩
abbrev main_call0_call5_v76 : Ref sig .tc := ⟨.hbm, 626, rfl⟩
abbrev main_call0_call5_c_19 : Ref sig .tc := ⟨.hbm, 627, rfl⟩
abbrev main_call0_call5_v77 : Ref sig .tc := ⟨.hbm, 628, rfl⟩
abbrev main_call0_call5_v78 : Ref sig .tc := ⟨.hbm, 629, rfl⟩
abbrev main_call0_call5_v79 : Ref sig .tc := ⟨.hbm, 630, rfl⟩
abbrev main_call0_call5_v80 : Ref sig .tc := ⟨.hbm, 631, rfl⟩
abbrev main_call0_call5_v81 : Ref sig .tc := ⟨.hbm, 632, rfl⟩
abbrev main_call0_call5_c_20 : Ref sig .tc := ⟨.hbm, 633, rfl⟩
abbrev main_call0_call5_v82 : Ref sig .tc := ⟨.hbm, 634, rfl⟩
abbrev main_call0_call5_v83 : Ref sig .tc := ⟨.hbm, 635, rfl⟩
abbrev main_call0_call5_c_21 : Ref sig .tc := ⟨.hbm, 636, rfl⟩
abbrev main_call0_call5_v84 : Ref sig .tc := ⟨.hbm, 637, rfl⟩
abbrev main_call0_call5_v85 : Ref sig .tc := ⟨.hbm, 638, rfl⟩
abbrev main_call0_call5_v86 : Ref sig .tc := ⟨.hbm, 639, rfl⟩
abbrev main_call0_call5_v87 : Ref sig .tc := ⟨.hbm, 640, rfl⟩
abbrev main_call0_call5_v88 : Ref sig .tc := ⟨.hbm, 641, rfl⟩
abbrev main_call0_call5_c_22 : Ref sig .tc := ⟨.hbm, 642, rfl⟩
abbrev main_call0_call5_v89 : Ref sig .tc := ⟨.hbm, 643, rfl⟩
abbrev main_call0_call5_v90 : Ref sig .tc := ⟨.hbm, 644, rfl⟩
abbrev main_call0_call5_c_23 : Ref sig .tc := ⟨.hbm, 645, rfl⟩
abbrev main_call0_call5_v91 : Ref sig .tc := ⟨.hbm, 646, rfl⟩
abbrev main_call0_call5_v92 : Ref sig .tc := ⟨.hbm, 647, rfl⟩
abbrev main_call0_call5_v93 : Ref sig .tc := ⟨.hbm, 648, rfl⟩
abbrev main_call0_call5_v94 : Ref sig .tc := ⟨.hbm, 649, rfl⟩
abbrev main_call0_call5_v95 : Ref sig .tc := ⟨.hbm, 650, rfl⟩
abbrev main_call0_call5_c_24 : Ref sig .tc := ⟨.hbm, 651, rfl⟩
abbrev main_call0_call5_v96 : Ref sig .tc := ⟨.hbm, 652, rfl⟩
abbrev main_call0_call5_v97 : Ref sig .tc := ⟨.hbm, 653, rfl⟩
abbrev main_call0_call5_c_25 : Ref sig .tc := ⟨.hbm, 654, rfl⟩
abbrev main_call0_call5_v98 : Ref sig .tc := ⟨.hbm, 655, rfl⟩
abbrev main_call0_call5_v99 : Ref sig .tc := ⟨.hbm, 656, rfl⟩
abbrev main_call0_call5_v100 : Ref sig .tc := ⟨.hbm, 657, rfl⟩
abbrev main_call0_call5_v101 : Ref sig .tc := ⟨.hbm, 658, rfl⟩
abbrev main_call0_call5_v102 : Ref sig .tc := ⟨.hbm, 659, rfl⟩
abbrev main_call0_call5_v103 : Ref sig .tc := ⟨.hbm, 660, rfl⟩
abbrev main_call0_call5_v104 : Ref sig .tc := ⟨.hbm, 661, rfl⟩
abbrev main_call0_call5_v105 : Ref sig .tc := ⟨.hbm, 662, rfl⟩
abbrev main_call0_call5_c_26 : Ref sig .tc := ⟨.hbm, 663, rfl⟩
abbrev main_call0_call5_v106 : Ref sig .tc := ⟨.hbm, 664, rfl⟩
abbrev main_call0_call5_v107 : Ref sig .tc := ⟨.hbm, 665, rfl⟩
abbrev main_call0_call5_v108 : Ref sig .tc := ⟨.hbm, 666, rfl⟩
abbrev main_call0_call5_c_27 : Ref sig .tc := ⟨.hbm, 667, rfl⟩
abbrev main_call0_call5_v109 : Ref sig .tc := ⟨.hbm, 668, rfl⟩
abbrev main_call0_call5_v110 : Ref sig .tc := ⟨.hbm, 669, rfl⟩
abbrev main_call0_call5_c_28 : Ref sig .tc := ⟨.hbm, 670, rfl⟩
abbrev main_call0_call5_v111 : Ref sig .tc := ⟨.hbm, 671, rfl⟩
abbrev main_call0_call5_v112 : Ref sig .tc := ⟨.hbm, 672, rfl⟩
abbrev main_call0_call5_v113 : Ref sig .tc := ⟨.hbm, 673, rfl⟩
abbrev main_call0_call5_v114 : Ref sig .tc := ⟨.hbm, 674, rfl⟩
abbrev main_call0_call5_v115 : Ref sig .tc := ⟨.hbm, 675, rfl⟩
abbrev main_call0_call5_c_29 : Ref sig .tc := ⟨.hbm, 676, rfl⟩
abbrev main_call0_call5_v116 : Ref sig .tc := ⟨.hbm, 677, rfl⟩
abbrev main_call0_call5_v117 : Ref sig .tc := ⟨.hbm, 678, rfl⟩
abbrev main_call0_call5_c_30 : Ref sig .tc := ⟨.hbm, 679, rfl⟩
abbrev main_call0_call5_v118 : Ref sig .tc := ⟨.hbm, 680, rfl⟩
abbrev main_call0_call5_v119 : Ref sig .tc := ⟨.hbm, 681, rfl⟩
abbrev main_call0_call5_v120 : Ref sig .tc := ⟨.hbm, 682, rfl⟩
abbrev main_call0_call5_v121 : Ref sig .tc := ⟨.hbm, 683, rfl⟩
abbrev main_call0_call5_v122 : Ref sig .tc := ⟨.hbm, 684, rfl⟩
abbrev main_call0_call5_c_31 : Ref sig .tc := ⟨.hbm, 685, rfl⟩
abbrev main_call0_call5_v123 : Ref sig .tc := ⟨.hbm, 686, rfl⟩
abbrev main_call0_call5_v124 : Ref sig .tc := ⟨.hbm, 687, rfl⟩
abbrev main_call0_call5_c_32 : Ref sig .tc := ⟨.hbm, 688, rfl⟩
abbrev main_call0_call5_v125 : Ref sig .tc := ⟨.hbm, 689, rfl⟩
abbrev main_call0_call5_v126 : Ref sig .tc := ⟨.hbm, 690, rfl⟩
abbrev main_call0_call5_v127 : Ref sig .tc := ⟨.hbm, 691, rfl⟩
abbrev main_call0_call5_v128 : Ref sig .tc := ⟨.hbm, 692, rfl⟩
abbrev main_call0_call5_v129 : Ref sig .tc := ⟨.hbm, 693, rfl⟩
abbrev main_call0_call5_c_33 : Ref sig .tc := ⟨.hbm, 694, rfl⟩
abbrev main_call0_call5_v130 : Ref sig .tc := ⟨.hbm, 695, rfl⟩
abbrev main_call0_call5_v131 : Ref sig .tc := ⟨.hbm, 696, rfl⟩
abbrev main_call0_call5_c_34 : Ref sig .tc := ⟨.hbm, 697, rfl⟩
abbrev main_call0_call5_v132 : Ref sig .tc := ⟨.hbm, 698, rfl⟩
abbrev main_call0_call5_v133 : Ref sig .tc := ⟨.hbm, 699, rfl⟩
abbrev main_call0_call5_v134 : Ref sig .tc := ⟨.hbm, 700, rfl⟩
abbrev main_call0_call5_v135 : Ref sig .tc := ⟨.hbm, 701, rfl⟩
abbrev main_call0_call5_v136 : Ref sig .tc := ⟨.hbm, 702, rfl⟩
abbrev main_call0_call5_v137 : Ref sig .tc := ⟨.hbm, 703, rfl⟩
abbrev main_call0_call5_v138 : Ref sig .tc := ⟨.hbm, 704, rfl⟩
abbrev main_call0_call5_v139 : Ref sig .tc := ⟨.hbm, 705, rfl⟩
abbrev main_call0_call5_c_35 : Ref sig .tc := ⟨.hbm, 706, rfl⟩
abbrev main_call0_call5_v140 : Ref sig .tc := ⟨.hbm, 707, rfl⟩
abbrev main_call0_call5_v141 : Ref sig .tc := ⟨.hbm, 708, rfl⟩
abbrev main_call0_call5_v142 : Ref sig .tc := ⟨.hbm, 709, rfl⟩
abbrev main_call0_call5_c_36 : Ref sig .tc := ⟨.hbm, 710, rfl⟩
abbrev main_call0_call5_v143 : Ref sig .tc := ⟨.hbm, 711, rfl⟩
abbrev main_call0_call5_v144 : Ref sig .tc := ⟨.hbm, 712, rfl⟩
abbrev main_call0_call5_c_37 : Ref sig .tc := ⟨.hbm, 713, rfl⟩
abbrev main_call0_call5_v145 : Ref sig .tc := ⟨.hbm, 714, rfl⟩
abbrev main_call0_call5_v146 : Ref sig .tc := ⟨.hbm, 715, rfl⟩
abbrev main_call0_call5_v147 : Ref sig .tc := ⟨.hbm, 716, rfl⟩
abbrev main_call0_call5_v148 : Ref sig .tc := ⟨.hbm, 717, rfl⟩
abbrev main_call0_call5_v149 : Ref sig .tc := ⟨.hbm, 718, rfl⟩
abbrev main_call0_call5_c_38 : Ref sig .tc := ⟨.hbm, 719, rfl⟩
abbrev main_call0_call5_v150 : Ref sig .tc := ⟨.hbm, 720, rfl⟩
abbrev main_call0_call5_v151 : Ref sig .tc := ⟨.hbm, 721, rfl⟩
abbrev main_call0_call5_c_39 : Ref sig .tc := ⟨.hbm, 722, rfl⟩
abbrev main_call0_call5_v152 : Ref sig .tc := ⟨.hbm, 723, rfl⟩
abbrev main_call0_call5_v153 : Ref sig .tc := ⟨.hbm, 724, rfl⟩
abbrev main_call0_call5_v154 : Ref sig .tc := ⟨.hbm, 725, rfl⟩
abbrev main_call0_call5_v155 : Ref sig .tc := ⟨.hbm, 726, rfl⟩
abbrev main_call0_call5_v156 : Ref sig .tc := ⟨.hbm, 727, rfl⟩
abbrev main_call0_call5_c_40 : Ref sig .tc := ⟨.hbm, 728, rfl⟩
abbrev main_call0_call5_v157 : Ref sig .tc := ⟨.hbm, 729, rfl⟩
abbrev main_call0_call5_v158 : Ref sig .tc := ⟨.hbm, 730, rfl⟩
abbrev main_call0_call5_c_41 : Ref sig .tc := ⟨.hbm, 731, rfl⟩
abbrev main_call0_call5_v159 : Ref sig .tc := ⟨.hbm, 732, rfl⟩
abbrev main_call0_call5_v160 : Ref sig .tc := ⟨.hbm, 733, rfl⟩
abbrev main_call0_call5_v161 : Ref sig .tc := ⟨.hbm, 734, rfl⟩
abbrev main_call0_call5_v162 : Ref sig .tc := ⟨.hbm, 735, rfl⟩
abbrev main_call0_call5_v163 : Ref sig .tc := ⟨.hbm, 736, rfl⟩
abbrev main_call0_call5_c_42 : Ref sig .tc := ⟨.hbm, 737, rfl⟩
abbrev main_call0_call5_v164 : Ref sig .tc := ⟨.hbm, 738, rfl⟩
abbrev main_call0_call5_v165 : Ref sig .tc := ⟨.hbm, 739, rfl⟩
abbrev main_call0_call5_c_43 : Ref sig .tc := ⟨.hbm, 740, rfl⟩
abbrev main_call0_call5_v166 : Ref sig .tc := ⟨.hbm, 741, rfl⟩
abbrev main_call0_call5_v167 : Ref sig .tc := ⟨.hbm, 742, rfl⟩
abbrev main_call0_call5_v168 : Ref sig .tc := ⟨.hbm, 743, rfl⟩
abbrev main_call0_call5_v169 : Ref sig .tc := ⟨.hbm, 744, rfl⟩
abbrev main_call0_call5_v170 : Ref sig .tc := ⟨.hbm, 745, rfl⟩
abbrev main_call0_v37_0 : Ref sig .tc := ⟨.hbm, 746, rfl⟩
abbrev main_call0_call5_v172 : Ref sig .tc := ⟨.hbm, 747, rfl⟩
abbrev main_call0_call5_v173 : Ref sig .tc := ⟨.hbm, 748, rfl⟩
abbrev main_call0_call5_c_44 : Ref sig .tc := ⟨.hbm, 749, rfl⟩
abbrev main_call0_call5_v174 : Ref sig .tc := ⟨.hbm, 750, rfl⟩
abbrev main_call0_v37_1 : Ref sig .tc := ⟨.hbm, 751, rfl⟩
abbrev main_call0_v38 : Ref sig .tc := ⟨.hbm, 752, rfl⟩
abbrev main_call0_v39 : Ref sig .tc := ⟨.hbm, 753, rfl⟩
abbrev main_call0_v40 : Ref sig .tc := ⟨.hbm, 754, rfl⟩
abbrev main_call0_v41 : Ref sig .tc := ⟨.hbm, 755, rfl⟩
abbrev main_call0_c_10 : Ref sig .tc := ⟨.hbm, 756, rfl⟩
abbrev main_call0_v42 : Ref sig .tc := ⟨.hbm, 757, rfl⟩
abbrev main_call0_v43 : Ref sig .tc := ⟨.hbm, 758, rfl⟩
abbrev main_call0_v44 : Ref sig .tc := ⟨.hbm, 759, rfl⟩
abbrev main_call0_v45 : Ref sig .tc := ⟨.hbm, 760, rfl⟩
abbrev main_call0_v46 : Ref sig .tc := ⟨.hbm, 761, rfl⟩
abbrev main_call0_c_11 : Ref sig .tc := ⟨.hbm, 762, rfl⟩
abbrev main_call0_v47 : Ref sig .tc := ⟨.hbm, 763, rfl⟩
abbrev main_call0_v48 : Ref sig .tc := ⟨.hbm, 764, rfl⟩
abbrev main_call0_v49 : Ref sig .tc := ⟨.hbm, 765, rfl⟩
abbrev main_call0_c_12 : Ref sig .tc := ⟨.hbm, 766, rfl⟩
abbrev main_call0_v50 : Ref sig .tc := ⟨.hbm, 767, rfl⟩
abbrev main_call0_v51 : Ref sig .tc := ⟨.hbm, 768, rfl⟩
abbrev main_call0_v52 : Ref sig .tc := ⟨.hbm, 769, rfl⟩
abbrev main_call0_v53 : Ref sig .tc := ⟨.hbm, 770, rfl⟩
abbrev main_call0_v54 : Ref sig .tc := ⟨.hbm, 771, rfl⟩
abbrev main_call0_v55 : Ref sig .tc := ⟨.hbm, 772, rfl⟩
abbrev main_call0_v56 : Ref sig .tc := ⟨.hbm, 773, rfl⟩
abbrev main_call0_v57 : Ref sig .tc := ⟨.hbm, 774, rfl⟩
abbrev main_call0_v58 : Ref sig .tc := ⟨.hbm, 775, rfl⟩
abbrev main_call0_v59 : Ref sig .tc := ⟨.hbm, 776, rfl⟩
abbrev main_call0_v60 : Ref sig .tc := ⟨.hbm, 777, rfl⟩
abbrev main_call0_v61 : Ref sig .tc := ⟨.hbm, 778, rfl⟩
abbrev main_call0_v62 : Ref sig .tc := ⟨.hbm, 779, rfl⟩
abbrev main_call0_v63 : Ref sig .tc := ⟨.hbm, 780, rfl⟩
abbrev main_call0_v64 : Ref sig .tc := ⟨.hbm, 781, rfl⟩
abbrev main_v8 : Ref sig .tc := ⟨.hbm, 782, rfl⟩
abbrev main_c_4 : Ref sig .tc := ⟨.hbm, 783, rfl⟩
abbrev main_v9 : Ref sig .tc := ⟨.hbm, 784, rfl⟩
abbrev main_c_5 : Ref sig .tc := ⟨.hbm, 785, rfl⟩
abbrev main_v10_0 : Ref sig .tc := ⟨.hbm, 786, rfl⟩
abbrev main_v10_1 : Ref sig .tc := ⟨.hbm, 787, rfl⟩
abbrev main_v10_2 : Ref sig .tc := ⟨.hbm, 788, rfl⟩
abbrev main_v10_3 : Ref sig .tc := ⟨.hbm, 789, rfl⟩
abbrev main_v10_4 : Ref sig .tc := ⟨.hbm, 790, rfl⟩
abbrev main_while0c_c_14 : Ref sig .tc := ⟨.hbm, 791, rfl⟩
abbrev main_while0c_v43 : Ref sig .tc := ⟨.hbm, 792, rfl⟩
abbrev main_while0b_v43 : Ref sig .tc := ⟨.hbm, 793, rfl⟩
abbrev main_while0b_c_14 : Ref sig .tc := ⟨.hbm, 794, rfl⟩
abbrev main_while0b_v44 : Ref sig .tc := ⟨.hbm, 795, rfl⟩
abbrev main_while0b_v45 : Ref sig .tc := ⟨.hbm, 796, rfl⟩
abbrev main_while0b_c_15 : Ref sig .tc := ⟨.hbm, 797, rfl⟩
abbrev main_while0b_v46 : Ref sig .tc := ⟨.hbm, 798, rfl⟩
abbrev main_while0b_v47 : Ref sig .tc := ⟨.hbm, 799, rfl⟩
abbrev main_while0b_v48 : Ref sig .tc := ⟨.hbm, 800, rfl⟩
abbrev main_while0b_c_16 : Ref sig .tc := ⟨.hbm, 801, rfl⟩
abbrev main_while0b_v49 : Ref sig .tc := ⟨.hbm, 802, rfl⟩
abbrev main_while0b_v50 : Ref sig .tc := ⟨.hbm, 803, rfl⟩
abbrev main_while0b_c_17 : Ref sig .tc := ⟨.hbm, 804, rfl⟩
abbrev main_while0b_v51 : Ref sig .tc := ⟨.hbm, 805, rfl⟩
abbrev main_while0b_v52 : Ref sig .tc := ⟨.hbm, 806, rfl⟩
abbrev main_while0b_v53 : Ref sig .tc := ⟨.hbm, 807, rfl⟩
abbrev main_while0b_v54 : Ref sig .tc := ⟨.hbm, 808, rfl⟩
abbrev main_while0b_v55 : Ref sig .tc := ⟨.hbm, 809, rfl⟩
abbrev main_while0b_v56 : Ref sig .tc := ⟨.hbm, 810, rfl⟩
abbrev main_while0b_v57 : Ref sig .tc := ⟨.hbm, 811, rfl⟩
abbrev main_while0b_v58 : Ref sig .tc := ⟨.hbm, 812, rfl⟩
abbrev main_while0b_v59 : Ref sig .tc := ⟨.hbm, 813, rfl⟩
abbrev main_while0b_v60 : Ref sig .tc := ⟨.hbm, 814, rfl⟩
abbrev main_while0b_v61 : Ref sig .tc := ⟨.hbm, 815, rfl⟩
abbrev main_while0b_cst_18 : Ref sig .tc := ⟨.hbm, 816, rfl⟩
abbrev main_while0b_v62 : Ref sig .tc := ⟨.hbm, 817, rfl⟩
abbrev main_while0b_v63 : Ref sig .tc := ⟨.hbm, 818, rfl⟩
abbrev main_while0b_call1_v0 : Ref sig .tc := ⟨.hbm, 819, rfl⟩
abbrev main_while0b_call1_cst : Ref sig .tc := ⟨.hbm, 820, rfl⟩
abbrev main_while0b_call1_c : Ref sig .tc := ⟨.hbm, 821, rfl⟩
abbrev main_while0b_call1_v1_0 : Ref sig .tc := ⟨.hbm, 822, rfl⟩
abbrev main_while0b_v64 : Ref sig .tc := ⟨.hbm, 823, rfl⟩
abbrev main_while0b_call2_v0 : Ref sig .tc := ⟨.hbm, 824, rfl⟩
abbrev main_while0b_call2_c : Ref sig .tc := ⟨.hbm, 825, rfl⟩
abbrev main_while0b_v65 : Ref sig .tc := ⟨.hbm, 826, rfl⟩
abbrev main_while0b_c_19 : Ref sig .tc := ⟨.hbm, 827, rfl⟩
abbrev main_while0b_v66 : Ref sig .tc := ⟨.hbm, 828, rfl⟩
abbrev main_v11 : Ref sig .tc := ⟨.hbm, 829, rfl⟩
abbrev main_v12 : Ref sig .tc := ⟨.hbm, 830, rfl⟩
abbrev main_v13 : Ref sig .tc := ⟨.hbm, 831, rfl⟩
abbrev main_c_6 : Ref sig .tc := ⟨.hbm, 832, rfl⟩
abbrev main_v14 : Ref sig .tc := ⟨.hbm, 833, rfl⟩
abbrev main_v15 : Ref sig .tc := ⟨.hbm, 834, rfl⟩
abbrev main_c_7 : Ref sig .tc := ⟨.hbm, 835, rfl⟩
abbrev main_v16 : Ref sig .tc := ⟨.hbm, 836, rfl⟩
abbrev main_v17 : Ref sig .tc := ⟨.hbm, 837, rfl⟩
abbrev main_v18 : Ref sig .tc := ⟨.hbm, 838, rfl⟩
abbrev main_c_8 : Ref sig .tc := ⟨.hbm, 839, rfl⟩
abbrev main_v19 : Ref sig .tc := ⟨.hbm, 840, rfl⟩
abbrev main_v20 : Ref sig .tc := ⟨.hbm, 841, rfl⟩
abbrev main_c_9 : Ref sig .tc := ⟨.hbm, 842, rfl⟩
abbrev main_v21 : Ref sig .tc := ⟨.hbm, 843, rfl⟩
abbrev main_v22 : Ref sig .tc := ⟨.hbm, 844, rfl⟩
abbrev main_v23 : Ref sig .tc := ⟨.hbm, 845, rfl⟩
abbrev main_v24 : Ref sig .tc := ⟨.hbm, 846, rfl⟩
abbrev main_v25 : Ref sig .tc := ⟨.hbm, 847, rfl⟩
abbrev main_v26 : Ref sig .tc := ⟨.hbm, 848, rfl⟩
abbrev main_v27 : Ref sig .tc := ⟨.hbm, 849, rfl⟩
abbrev main_v28 : Ref sig .tc := ⟨.hbm, 850, rfl⟩
abbrev main_v29 : Ref sig .tc := ⟨.hbm, 851, rfl⟩
abbrev main_v30 : Ref sig .tc := ⟨.hbm, 852, rfl⟩
abbrev main_v31 : Ref sig .tc := ⟨.hbm, 853, rfl⟩
abbrev main_v32 : Ref sig .tc := ⟨.hbm, 854, rfl⟩
abbrev main_call3_cst : Ref sig .tc := ⟨.hbm, 855, rfl⟩
abbrev main_call3_v0 : Ref sig .tc := ⟨.hbm, 856, rfl⟩
abbrev main_v33 : Ref sig .tc := ⟨.hbm, 857, rfl⟩
abbrev main_v34 : Ref sig .tc := ⟨.hbm, 858, rfl⟩
abbrev main_v35 : Ref sig .tc := ⟨.hbm, 859, rfl⟩
abbrev main_v36 : Ref sig .tc := ⟨.hbm, 860, rfl⟩
abbrev main_v37 : Ref sig .tc := ⟨.hbm, 861, rfl⟩
abbrev main_call4_cst : Ref sig .tc := ⟨.hbm, 862, rfl⟩
abbrev main_call4_v0 : Ref sig .tc := ⟨.hbm, 863, rfl⟩
abbrev main_v38 : Ref sig .tc := ⟨.hbm, 864, rfl⟩
abbrev main_v39 : Ref sig .tc := ⟨.hbm, 865, rfl⟩
abbrev main_v40 : Ref sig .tc := ⟨.hbm, 866, rfl⟩
abbrev main_v41 : Ref sig .tc := ⟨.hbm, 867, rfl⟩
abbrev main_v42 : Ref sig .tc := ⟨.hbm, 868, rfl⟩

abbrev nD : Nat := 1
abbrev τ : Topo := Topo.v7x

variable {F : FTy → Type} [FloatOps F]

abbrev main_while0_count : Scf.Loop 32 := ⟨0#32, 1024#32, 1#32⟩
-- ==== Proof.Body.lean ====
/-
  The kernel's body, written again by its rounds.

  The printed body unrolls its 128 chunks and its eight output slabs; here each is one definition at a
  number, and `kernel_eq` says that the printed body is the program so written.
-/
module

public import proofs.«01_k».proof.Proof.Gen.KernelIdeal
public import Idealize.ShloMosaic.Lib.Pipeline.Regions

@[expose] public section

set_option maxRecDepth 65536

noncomputable section

namespace Cert.KernelIdeal.Fps

open Idealize.ShloMosaic Idealize.SL.Sem
open Cert.KernelIdeal Cert.KernelIdeal.Facts₀ Cert.KernelIdeal.Facts

variable {F : FTy → Type} [FloatOps F]

/-- The kernel's programs: at its own labels, on the TensorCore. -/
abbrev KProg (F : FTy → Type) [FloatOps F] (α : Type) : Type 1 := Prog (TpuEff nD τ sig (Elt F) Λ₀ .tc) α

/-- What a sweep carries per lane: the largest distance met so far, the chunk it was met in, and that
    point's three coordinates. -/
structure Lanes (F : FTy → Type) where
  m : FVec F S8x256 .f32
  k : IVec S8x256 32
  e0 : FVec F S8x256 .f32
  e1 : FVec F S8x256 .f32
  e2 : FVec F S8x256 .f32

/-- A sweep's first carry. -/
def lanes0 : Lanes F where
  m := broadcast S8x256 (Scalar.ofBits .f32 0xBF800000#32)
  k := broadcast S8x256 0#32
  e0 := broadcast S8x256 (Scalar.ofBits .f32 0x00000000#32)
  e1 := broadcast S8x256 (Scalar.ofBits .f32 0x00000000#32)
  e2 := broadcast S8x256 (Scalar.ofBits .f32 0x00000000#32)

/-- A chunk's coordinate, as loaded. -/
abbrev same (x : FVec F S8x256 .f32) : FVec F S8x256 .f32 := shapeCast S8x256 x shapeCasts_S8x256_S8x256

/-- A chunk's squared distances to the current points. -/
def sqdist (c0 c1 c2 : FVec F S8x1 .f32) (x0 x1 x2 : FVec F S8x256 .f32) : FVec F S8x256 .f32 :=
  let d0 := subf (same x0) (broadcastTo S8x256 c0 broadcasts_S8x1_S8x256)
  let d1 := subf (same x1) (broadcastTo S8x256 c1 broadcasts_S8x1_S8x256)
  let d2 := subf (same x2) (broadcastTo S8x256 c2 broadcasts_S8x1_S8x256)
  addf (addf (mulf d0 d0) (mulf d2 d2)) (mulf d1 d1)

/-- The chunk's new distances. -/
def newdist (c0 c1 c2 : FVec F S8x1 .f32) (x0 x1 x2 d : FVec F S8x256 .f32) : FVec F S8x256 .f32 :=
  minimumf d (sqdist c0 c1 c2 x0 x1 x2)

/-- The carry after chunk `k`, whose new distances are `d`. -/
def lanesStep (k : ℕ) (x0 x1 x2 d : FVec F S8x256 .f32) (s : Lanes F) : Lanes F where
  m := select (cmpf .ogt d s.m) d s.m
  k := select (cmpf .ogt d s.m) (broadcast S8x256 (BitVec.ofNat 32 k)) s.k
  e0 := select (cmpf .ogt d s.m) (same x0) s.e0
  e1 := select (cmpf .ogt d s.m) (same x1) s.e1
  e2 := select (cmpf .ogt d s.m) (same x2) s.e2

/-- Chunk `k` lies inside the row. -/
theorem chunk_inb (k : Fin 128) : ∀ a, (![0, 256 * k.val] : Fin 2 → ℕ) a + S8x256.size a ≤ S8x32768.size a := by
  have := k.isLt
  intro a
  match a with
  | ⟨0, _⟩ => simp [S8x256, S8x32768]
  | ⟨1, _⟩ => simp [S8x256, S8x32768]; omega

/-- Chunk `k` of a row buffer: 256 lanes of each of the eight rows. -/
abbrev chunkRect (k : Fin 128) : Rect S8x32768 :=
  Rect.unit (s := S8x32768) ![0, 256 * k.val] S8x256.size (chunk_inb k)

variable (arg0 arg1 arg2 arg12 : Memref sig .tc .vmem S8x32768 .f32)

/-- One chunk: load its coordinates, lower its distances, keep what is larger per lane. -/
def chunk (c0 c1 c2 : FVec F S8x1 .f32) (k : Fin 128) (s : Lanes F) : KProg F (Lanes F) := do
  let x0 : Vec F S8x256 .f32 ← Prog.lift (.load arg0 (chunkRect k).toLoadRect (View.loadsAt_vmem h_S8x256))
  let x1 : Vec F S8x256 .f32 ← Prog.lift (.load arg1 (chunkRect k).toLoadRect (View.loadsAt_vmem h_S8x256))
  let x2 : Vec F S8x256 .f32 ← Prog.lift (.load arg2 (chunkRect k).toLoadRect (View.loadsAt_vmem h_S8x256))
  let d : Vec F S8x256 .f32 ← Prog.lift (.load arg12 (chunkRect k).toLoadRect (View.loadsAt_vmem h_S8x256))
  let _d' : Vec F S8x256 .f32 ← Prog.lift (.load arg12 (chunkRect k).toLoadRect (View.loadsAt_vmem h_S8x256))
  Prog.lift (.store arg12 (chunkRect k) (same (newdist c0 c1 c2 x0 x1 x2 d)) Finset.univ
    (View.stores_vmem_bits_univ h_S8x256 rfl) (.inl rfl))
  pure (lanesStep k.val x0 x1 x2 (newdist c0 c1 c2 x0 x1 x2 d) s)

/-- The `n` chunks from chunk `k` on. -/
def chunks (c0 c1 c2 : FVec F S8x1 .f32) : (n k : ℕ) → k + n ≤ 128 → Lanes F → KProg F (Lanes F)
  | 0, _, _, s => pure s
  | n + 1, k, h, s => do
    let s' ← chunk arg0 arg1 arg2 arg12 c0 c1 c2 ⟨k, by omega⟩ s
    chunks c0 c1 c2 n (k + 1) (by omega) s'

/-- The lane numbers. -/
abbrev laneNo : IVec S8x256 32 := iota .tc S8x256 32 [1] iota_S8x256_d1_w32

/-- Which lane holds the row's farthest point, the first of them. -/
def pick (s : Lanes F) : IVec S8x256 1 :=
  let v3978 : FVec F S8 .f32 := multiReduction .maximumf [1] S8 s.m 0xFF800000#32 reduces_S8x256_S8 (.inl rfl) rfl
  let v3980 : FVec F S8x256 .f32 := broadcastTo S8x256 (shapeCast S8x1 v3978 shapeCasts_S8_S8x1) broadcasts_S8x1_S8x256
  let v3986 : IVec S8x256 32 := select (cmpf .oeq s.m v3980)
    (addi (muli s.k (broadcast S8x256 256#32)) laneNo) (broadcast S8x256 32768#32)
  let v3987 : IVec S8 32 := multiReductionI .minsi [1] S8 v3986 2147483647#32 reduces_S8x256_S8 rfl
  cmpi .eq v3986 (broadcastTo S8x256 (shapeCast S8x1 v3987 shapeCasts_S8_S8x1) broadcasts_S8x1_S8x256)

/-- The picked lane's entry of `e`, row by row: the sum of the entries with all other lanes zeroed. -/
def picked (w : IVec S8x256 1) (e : FVec F S8x256 .f32) : FVec F S8x1 .f32 :=
  shapeCast S8x1 (multiReduction .add [1] S8 (select w e (broadcast S8x256 (Scalar.ofBits .f32 0x00000000#32)))
    0x00000000#32 reduces_S8x256_S8 (.inl rfl) rfl) shapeCasts_S8_S8x1

/-- The rows of the sample buffer that trip `t` writes. -/
abbrev rowRect (t : Fin k0_t1_loop.trips) : Rect S8192x3 :=
  Rect.unit (s := S8192x3) (k0_off1 t) S8x3.size (k0_off1_inb t)

/-- The three coordinates of the current points side by side. -/
abbrev pts (c0 c1 c2 : FVec F S8x1 .f32) : FVec F S8x3 .f32 :=
  shapeCast S8x3 (concatenate S8x3 1 [⟨S8x1, c0⟩, ⟨S8x1, c1⟩, ⟨S8x1, c2⟩] concatenates_S8x1_S8x1_S8x1_S8x3_d1)
    shapeCasts_S8x3_S8x3

/-- One trip: record the current points, sweep all chunks, and move to the farthest points. -/
def trip (arg13 : Memref sig .tc .vmem S8192x3 .f32) (t : Fin k0_t1_loop.trips)
    (c : FVec F S8x1 .f32 × FVec F S8x1 .f32 × FVec F S8x1 .f32) :
    KProg F (FVec F S8x1 .f32 × FVec F S8x1 .f32 × FVec F S8x1 .f32) := do
  let _o : Vec F S8x3 .f32 ← Prog.lift (.load arg13 (rowRect t).toLoadRect (View.loadsAt_vmem h_S8x3))
  Prog.lift (.store arg13 (rowRect t) (pts c.1 c.2.1 c.2.2) Finset.univ (View.stores_vmem_bits_univ h_S8x3 rfl) (.inl rfl))
  let s ← chunks arg0 arg1 arg2 arg12 c.1 c.2.1 c.2.2 128 0 (by omega) lanes0
  pure (picked (pick s) s.e0, picked (pick s) s.e1, picked (pick s) s.e2)

/-! ## The output slabs -/

/-- Row `b` can be cut from the transposed samples. -/
theorem slab_slices (b : Fin 8) : S1024x8x3.Slices ![0, b.val, 0] S1024x1x3 := by
  revert b; decide

/-- Slab `b` lies inside the first output. -/
theorem slab3_inb (b : Fin 8) : ∀ a, (![b.val, 0, 0] : Fin 3 → ℕ) a + S1x1024x3.size a ≤ S8x1024x3.size a := by
  revert b; decide

/-- Slab `b` lies inside the second output. -/
theorem slab256_inb (b : Fin 8) : ∀ a, (![b.val, 0, 0] : Fin 3 → ℕ) a + S1x1024x256.size a ≤ S8x1024x256.size a := by
  revert b; decide

/-- Batch `b` of the points' output. -/
abbrev slab3 (b : Fin 8) : Rect S8x1024x3 := Rect.unit (s := S8x1024x3) ![b.val, 0, 0] S1x1024x3.size (slab3_inb b)

/-- Batch `b` of the features' output. -/
abbrev slab256 (b : Fin 8) : Rect S8x1024x256 :=
  Rect.unit (s := S8x1024x256) ![b.val, 0, 0] S1x1024x256.size (slab256_inb b)

/-- Batch `b`'s sampled points. -/
def pb (b : Fin 8) (v14 : FVec F S1024x8x3 .f32) : FVec F S1024x3 .f32 :=
  shapeCast S1024x3 (extractStridedSlice S1024x1x3 ![0, b.val, 0] v14 (slab_slices b)) shapeCasts_S1024x1x3_S1024x3

/-- The three layers on one batch's points. -/
def mlp (p : FVec F S1024x3 .f32) (w1 : FVec F S3x64 .f32) (b1 : FVec F S1x64 .f32) (w2 : FVec F S64x128 .f32)
    (b2 : FVec F S1x128 .f32) (w3 : FVec F S128x256 .f32) (b3 : FVec F S1x256 .f32) : FVec F S1024x256 .f32 :=
  let v21 : FVec F S1024x64 .f32 := matmul dot_S1024x3_S3x64_S1024x64_1_0_0_1_n_n none p w1 (constant S1024x64 .f32 0x00000000#32)
  let v25 : FVec F S1024x64 .f32 := addf v21 (broadcastTo S1024x64 (shapeCast S1x64 b1 shapeCasts_S1x64_S1x64) broadcasts_S1x64_S1024x64)
  let v27 : FVec F S1024x64 .f32 := maximumf v25 (broadcast S1024x64 (Scalar.ofBits .f32 0x00000000#32))
  let v29 : FVec F S1024x128 .f32 := matmul dot_S1024x64_S64x128_S1024x128_1_0_0_1_n_n none v27 w2 (constant S1024x128 .f32 0x00000000#32)
  let v33 : FVec F S1024x128 .f32 := addf v29 (broadcastTo S1024x128 (shapeCast S1x128 b2 shapeCasts_S1x128_S1x128) broadcasts_S1x128_S1024x128)
  let v35 : FVec F S1024x128 .f32 := maximumf v33 (broadcast S1024x128 (Scalar.ofBits .f32 0x00000000#32))
  let v37 : FVec F S1024x256 .f32 := matmul dot_S1024x128_S128x256_S1024x256_1_0_0_1_n_n none v35 w3 (constant S1024x256 .f32 0x00000000#32)
  addf v37 (broadcastTo S1024x256 (shapeCast S1x256 b3 shapeCasts_S1x256_S1x256) broadcasts_S1x256_S1024x256)

section Slabs
variable (arg4 : Memref sig .tc .vmem S3x64 .f32) (arg5 : Memref sig .tc .vmem S1x64 .f32)
  (arg6 : Memref sig .tc .vmem S64x128 .f32) (arg7 : Memref sig .tc .vmem S1x128 .f32)
  (arg8 : Memref sig .tc .vmem S128x256 .f32) (arg9 : Memref sig .tc .vmem S1x256 .f32)
  (arg10 : Memref sig .tc .vmem S8x1024x3 .f32) (arg11 : Memref sig .tc .vmem S8x1024x256 .f32)

/-- Batch `b`'s output: its points, and the layers on them. -/
def slab (v14 : FVec F S1024x8x3 .f32) (b : Fin 8) : KProg F PUnit := do
  let _o : Vec F S1x1024x3 .f32 ← Prog.lift (.load arg10 (slab3 b).toLoadRect (View.loadsAt_vmem h_S1x1024x3))
  Prog.lift (.store arg10 (slab3 b) (shapeCast S1x1024x3 (pb b v14) shapeCasts_S1024x3_S1x1024x3) Finset.univ
    (View.stores_vmem_bits_univ h_S1x1024x3 rfl) (.inl rfl))
  let w1 : Vec F S3x64 .f32 ← Prog.lift (.load arg4 (Rect.unit (s := S3x64) ![0, 0] S3x64.size inb_S3x64_S3x64_0_0).toLoadRect (View.loadsAt_vmem h_S3x64))
  let b1 : Vec F S1x64 .f32 ← Prog.lift (.load arg5 (Rect.unit (s := S1x64) ![0, 0] S1x64.size inb_S1x64_S1x64_0_0).toLoadRect (View.loadsAt_vmem h_S1x64))
  let w2 : Vec F S64x128 .f32 ← Prog.lift (.load arg6 (Rect.unit (s := S64x128) ![0, 0] S64x128.size inb_S64x128_S64x128_0_0).toLoadRect (View.loadsAt_vmem h_S64x128))
  let b2 : Vec F S1x128 .f32 ← Prog.lift (.load arg7 (Rect.unit (s := S1x128) ![0, 0] S1x128.size inb_S1x128_S1x128_0_0).toLoadRect (View.loadsAt_vmem h_S1x128))
  let w3 : Vec F S128x256 .f32 ← Prog.lift (.load arg8 (Rect.unit (s := S128x256) ![0, 0] S128x256.size inb_S128x256_S128x256_0_0).toLoadRect (View.loadsAt_vmem h_S128x256))
  let b3 : Vec F S1x256 .f32 ← Prog.lift (.load arg9 (Rect.unit (s := S1x256) ![0, 0] S1x256.size inb_S1x256_S1x256_0_0).toLoadRect (View.loadsAt_vmem h_S1x256))
  let _o' : Vec F S1x1024x256 .f32 ← Prog.lift (.load arg11 (slab256 b).toLoadRect (View.loadsAt_vmem h_S1x1024x256))
  Prog.lift (.store arg11 (slab256 b) (shapeCast S1x1024x256 (mlp (pb b v14) w1 b1 w2 b2 w3 b3) shapeCasts_S1024x256_S1x1024x256) Finset.univ
    (View.stores_vmem_bits_univ h_S1x1024x256 rfl) (.inl rfl))

/-- The `n` batches from batch `b` on. -/
def slabs (v14 : FVec F S1024x8x3 .f32) : (n b : ℕ) → b + n ≤ 8 → KProg F PUnit
  | 0, _, _ => pure ⟨⟩
  | n + 1, b, h => do
    slab arg4 arg5 arg6 arg7 arg8 arg9 arg10 arg11 v14 ⟨b, by omega⟩
    slabs v14 n (b + 1) (by omega)

/-- What comes before the loop: fill the distances, load the first points' coordinates. -/
def enter {α : Type} (arg3 : Memref sig .tc .vmem S8x3 .f32)
    (rest : FVec F S8x1 .f32 → FVec F S8x1 .f32 → FVec F S8x1 .f32 → KProg F α) : KProg F α := do
  let _d : Vec F S8x32768 .f32 ← Prog.lift (.load arg12 (Rect.unit (s := S8x32768) ![0, 0] S8x32768.size inb_S8x32768_S8x32768_0_0).toLoadRect (View.loadsAt_vmem h_S8x32768))
  Prog.lift (.store arg12 (Rect.unit (s := S8x32768) ![0, 0] S8x32768.size inb_S8x32768_S8x32768_0_0)
    (shapeCast S8x32768 (broadcast S8x32768 (Scalar.ofBits .f32 0x501502F9#32)) shapeCasts_S8x32768_S8x32768) Finset.univ (View.stores_vmem_bits_univ h_S8x32768 rfl) (.inl rfl))
  let v5 : Vec F S8x1 .f32 ← Prog.lift (.load arg3 (Rect.unit (s := S8x3) ![0, 0] S8x1.size inb_S8x3_S8x1_0_0).toLoadRect (View.loadsAt_vmem h_S8x1))
  let v7 : Vec F S8x1 .f32 ← Prog.lift (.load arg3 (Rect.unit (s := S8x3) ![0, 1] S8x1.size inb_S8x3_S8x1_0_1).toLoadRect (View.loadsAt_vmem h_S8x1))
  let v9 : Vec F S8x1 .f32 ← Prog.lift (.load arg3 (Rect.unit (s := S8x3) ![0, 2] S8x1.size inb_S8x3_S8x1_0_2).toLoadRect (View.loadsAt_vmem h_S8x1))
  rest v5 v7 v9

/-- What follows the entry can be moved into it. -/
theorem enter_bind {α β : Type} (arg3 : Memref sig .tc .vmem S8x3 .f32)
    (rest : FVec F S8x1 .f32 → FVec F S8x1 .f32 → FVec F S8x1 .f32 → KProg F α) (g : α → KProg F β) :
    (enter arg12 arg3 rest >>= g) = enter arg12 arg3 fun a b c => rest a b c >>= g := rfl

/-- The 1024 trips. -/
abbrev trips (arg13 : Memref sig .tc .vmem S8192x3 .f32) (v5 v7 v9 : FVec F S8x1 .f32) :
    KProg F (FVec F S8x1 .f32 × FVec F S8x1 .f32 × FVec F S8x1 .f32) :=
  Scf.Loop.for k0_t1_loop k0_t1_ok (shapeCast S8x1 v5 shapeCasts_S8x1_S8x1, shapeCast S8x1 v7 shapeCasts_S8x1_S8x1, shapeCast S8x1 v9 shapeCasts_S8x1_S8x1)
    (trip arg0 arg1 arg2 arg12 arg13)

/-- The whole body. -/
def body (arg3 : Memref sig .tc .vmem S8x3 .f32) (arg13 : Memref sig .tc .vmem S8192x3 .f32) : KProg F PUnit :=
  enter arg12 arg3 fun v5 v7 v9 => trips arg0 arg1 arg2 arg12 arg13 v5 v7 v9 >>= fun _ => do
    let v13 : Vec F S8192x3 .f32 ← Prog.lift (.load arg13 (Rect.unit (s := S8192x3) ![0, 0] S8192x3.size inb_S8192x3_S8192x3_0_0).toLoadRect (View.loadsAt_vmem h_S8192x3))
    slabs arg4 arg5 arg6 arg7 arg8 arg9 arg10 arg11 (shapeCast S1024x8x3 v13 shapeCasts_S8192x3_S1024x8x3) 8 0 (by omega)

/-- What follows the loop in the printed body's first window: batch 0 up to its second product. -/
def firstSlab (arg13 : Memref sig .tc .vmem S8192x3 .f32) :
    KProg F (Σ' (v14 : FVec F S1024x8x3 .f32), FVec F S1024x128 .f32) := do
  let v13 : Vec F S8192x3 .f32 ← Prog.lift (.load arg13 (Rect.unit (s := S8192x3) ![0, 0] S8192x3.size inb_S8192x3_S8192x3_0_0).toLoadRect (View.loadsAt_vmem h_S8192x3))
  let v14 : FVec F S1024x8x3 .f32 := shapeCast S1024x8x3 v13 shapeCasts_S8192x3_S1024x8x3
  let _o : Vec F S1x1024x3 .f32 ← Prog.lift (.load arg10 (slab3 0).toLoadRect (View.loadsAt_vmem h_S1x1024x3))
  Prog.lift (.store arg10 (slab3 0) (shapeCast S1x1024x3 (pb 0 v14) shapeCasts_S1024x3_S1x1024x3) Finset.univ
    (View.stores_vmem_bits_univ h_S1x1024x3 rfl) (.inl rfl))
  let w1 : Vec F S3x64 .f32 ← Prog.lift (.load arg4 (Rect.unit (s := S3x64) ![0, 0] S3x64.size inb_S3x64_S3x64_0_0).toLoadRect (View.loadsAt_vmem h_S3x64))
  let b1 : Vec F S1x64 .f32 ← Prog.lift (.load arg5 (Rect.unit (s := S1x64) ![0, 0] S1x64.size inb_S1x64_S1x64_0_0).toLoadRect (View.loadsAt_vmem h_S1x64))
  let w2 : Vec F S64x128 .f32 ← Prog.lift (.load arg6 (Rect.unit (s := S64x128) ![0, 0] S64x128.size inb_S64x128_S64x128_0_0).toLoadRect (View.loadsAt_vmem h_S64x128))
  let v21 : FVec F S1024x64 .f32 := matmul dot_S1024x3_S3x64_S1024x64_1_0_0_1_n_n none (pb 0 v14) w1 (constant S1024x64 .f32 0x00000000#32)
  let v25 : FVec F S1024x64 .f32 := addf v21 (broadcastTo S1024x64 (shapeCast S1x64 b1 shapeCasts_S1x64_S1x64) broadcasts_S1x64_S1024x64)
  let v27 : FVec F S1024x64 .f32 := maximumf v25 (broadcast S1024x64 (Scalar.ofBits .f32 0x00000000#32))
  pure ⟨v14, matmul dot_S1024x64_S64x128_S1024x128_1_0_0_1_n_n none v27 w2 (constant S1024x128 .f32 0x00000000#32)⟩

variable (arg3 : Memref sig .tc .vmem S8x3 .f32) (arg13 : Memref sig .tc .vmem S8192x3 .f32)
  (h0 : arg0.IsWhole) (h1 : arg1.IsWhole) (h2 : arg2.IsWhole) (h3 : arg3.IsWhole) (h4 : arg4.IsWhole)
  (h5 : arg5.IsWhole) (h6 : arg6.IsWhole) (h7 : arg7.IsWhole) (h8 : arg8.IsWhole) (h9 : arg9.IsWhole)
  (h10 : arg10.IsWhole) (h11 : arg11.IsWhole) (h12 : arg12.IsWhole) (h13 : arg13.IsWhole)

/-- The printed body's first window: before the loop, the trips, and the start of batch 0. -/
theorem part90_eq :
    k0_part90 (F := F) arg0 h0 arg1 h1 arg2 h2 arg3 h3 arg4 h4 arg5 h5 arg6 h6 arg7 h7 arg8 h8 arg9 h9
      arg10 h10 arg11 h11 arg12 h12 arg13 h13
      = enter arg12 arg3 fun v5 v7 v9 => trips arg0 arg1 arg2 arg12 arg13 v5 v7 v9 >>= fun _ =>
          firstSlab arg4 arg5 arg6 arg10 arg13 := by
  open Idealize.ShloMosaic.Pipeline in chain_rfl

/-- The printed body is the body written by rounds. -/
theorem kernel_eq :
    cc0__fused_kernel (F := F) arg0 h0 arg1 h1 arg2 h2 arg3 h3 arg4 h4 arg5 h5 arg6 h6 arg7 h7 arg8 h8 arg9 h9
      arg10 h10 arg11 h11 arg12 h12 arg13 h13
      = body arg0 arg1 arg2 arg12 arg4 arg5 arg6 arg7 arg8 arg9 arg10 arg11 arg3 arg13 := by
  unfold cc0__fused_kernel
  rw [part90_eq]
  refine (enter_bind arg12 arg3 _ _).trans ?_
  refine (congrArg (enter arg12 arg3) (funext fun v5 => funext fun v7 => funext fun v9 => bind_assoc _ _ _)).trans ?_
  open Idealize.ShloMosaic.Pipeline in chain_rfl

end Slabs

end Cert.KernelIdeal.Fps
-- ==== Proof.Triples.lean ====
/-
  What one run of the kernel's body does to the buffers it holds.

  Buffers are held by what is read through them (`owns`). The body's values are stated as functions of the
  contents: one chunk, the sweep over 128 chunks, the state before each trip, the sample buffer's rows and the
  two outputs.
-/
module

public import proofs.«01_k».proof.Proof.Body
public import proofs.«01_k».proof.Proof.Gen.KernelIdeal.Frame
public import Idealize.ShloMosaic.Lib.Memref
public import Idealize.ShloMosaic.Lib.Scf
public import Idealize.ShloMosaic.Lib.Tactic
public import Idealize.ShloMosaic.Lib.VecWindow
public import Idealize.ShloMosaic.Lib.Pipeline.ValueKit.Geometry

@[expose] public section

noncomputable section

namespace Cert.KernelIdeal.Fps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Facts₀ Cert.KernelIdeal.Facts

variable {F : FTy → Type} [FloatOps F]

local notation "𝕄" => MT nD τ sig Unit (Elt F) ℕ (UR sig nD τ) ℕ

/-- No call is made, so no variant descends. -/
abbrev 𝒱₀ : Variants := Variants.none

section Rules

/-- A load from an owned memref yields the part of its contents that the rectangle names. -/
theorem load_owned {c : Dev nD} {E : Set ℕ} {α : Type} {Q : α → sProp 𝕄} {s : Shape} {e : EltTy}
    {M : Memref sig .tc .vmem s e} {r : Rect s} {hl : M.view.LoadsAt r.toLoadRect}
    {X : s.Idx → Elt F e} {k : (r.shape.Idx → Elt F e) → KProg F α} :
    iprop(owns (c : Thread nD τ) M fullShare X
        ∗ (∀ x, ⌜x = fun i => X (r.emb i)⌝ -∗ owns (c : Thread nD τ) M fullShare X
            -∗ wp frame (wpE (defs₀ (F := F)) 𝒱₀ c none) E (k x) Q))
      ⊢ wp frame (wpE (defs₀ (F := F)) 𝒱₀ c none) E (Prog.lift (.load M r.toLoadRect hl) >>= k) Q := by
  change _ ⊢ wp frame (wpE (defs₀ (F := F)) 𝒱₀ c none) E (.op (.load M r.toLoadRect hl) k) Q
  unfold owns
  iintro ⟨⟨%f, %hf, H⟩, Hk⟩
  subst hf
  iapply (wp_load_rect (defs := defs₀ (F := F)) 𝒱₀ (c : Thread nD τ) none E (m := M) (r := r) (hl := hl)
    (S := M.view.set) (f := f) (M.view.set_slice_subset r)) $$ H
  iintro H
  iapply Hk $$ %_ %rfl
  iexists f
  isplitr
  · ipureintro; rfl
  · iexact H

/-- A store into an owned memref replaces the part of its contents that the rectangle names. -/
theorem store_owned {c : Dev nD} {E : Set ℕ} {α : Type} {Q : α → sProp 𝕄} {s : Shape} {e : EltTy}
    {M : Memref sig .tc .vmem s e} {r : Rect s} {w : r.shape.Idx → Elt F e}
    {hx : (M.access r).Stores Finset.univ} {hm : Finset.univ = Finset.univ ∨ ∀ a, r.stride a = 1}
    {X : s.Idx → Elt F e} {k : PUnit → KProg F α} :
    iprop(owns (c : Thread nD τ) M fullShare X
        ∗ (owns (c : Thread nD τ) M fullShare (r.overlay X w)
            -∗ wp frame (wpE (defs₀ (F := F)) 𝒱₀ c none) E (k ⟨⟩) Q))
      ⊢ wp frame (wpE (defs₀ (F := F)) 𝒱₀ c none) E (Prog.lift (.store M r w Finset.univ hx hm) >>= k) Q := by
  change _ ⊢ wp frame (wpE (defs₀ (F := F)) 𝒱₀ c none) E (.op (.store M r w Finset.univ hx hm) k) Q
  unfold owns
  iintro ⟨⟨%f, %hf, H⟩, Hk⟩
  subst hf
  iapply (wp_store (defs := defs₀ (F := F)) 𝒱₀ (c : Thread nD τ) none E (m := M) (r := r) (w := w) (hx := hx) (hm := hm)
    (S := M.view.set) (f := f) (by exact M.view.set_slice_subset r)) $$ H
  iintro H
  iapply Hk
  iexists (M.access r).write (Elt F) f w Finset.univ
  isplitr
  · ipureintro
    funext j
    by_cases hj : j ∈ r.set
    · obtain ⟨i, rfl⟩ := r.exists_idx_of_mem hj
      refine Eq.trans ?_ (Rect.overlay_emb r _ w i).symm
      exact congrFun (View.read_write_univ (v := M.access r) f w) i
    · rw [Rect.overlay_of_not_mem _ _ _ hj]
      exact View.read_slice_write_of_not_mem (v := M.view) r f w Finset.univ (by rwa [Rect.map_emb_univ])
  · iexact H

/-- The same where the store ends the program. -/
theorem store_owned_last {c : Dev nD} {E : Set ℕ} {s : Shape} {e : EltTy}
    {M : Memref sig .tc .vmem s e} {r : Rect s} {w : r.shape.Idx → Elt F e}
    {hx : (M.access r).Stores Finset.univ} {hm : Finset.univ = Finset.univ ∨ ∀ a, r.stride a = 1}
    {X : s.Idx → Elt F e} {Q : PUnit → sProp 𝕄} :
    iprop(owns (c : Thread nD τ) M fullShare X
        ∗ (owns (c : Thread nD τ) M fullShare (r.overlay X w) -∗ Q ⟨⟩))
      ⊢ wp frame (wpE (defs₀ (F := F)) 𝒱₀ c none) E (Prog.lift (.store M r w Finset.univ hx hm)) Q := by
  refine BIBase.Entails.trans ?_ (store_owned (X := X) (k := fun x => pure x))
  iintro ⟨H, Hk⟩
  isplitl [H]
  · iexact H
  iintro H
  iapply (le_wp_ret frame (wpE (defs₀ (F := F)) 𝒱₀ c none) E PUnit.unit Q)
  iapply Hk
  iexact H

end Rules

/-! ## The values -/

/-- Chunk `k` of a row buffer's contents. -/
def chunkOf (k : Fin 128) (X : FVec F S8x32768 .f32) : FVec F S8x256 .f32 := fun i => X ((chunkRect k).emb i)

/-- The chunk's new distances, from the distances `D` before it. -/
def chunkDist (c0 c1 c2 : FVec F S8x1 .f32) (X0 X1 X2 : FVec F S8x32768 .f32) (k : Fin 128)
    (D : FVec F S8x32768 .f32) : FVec F S8x256 .f32 :=
  newdist c0 c1 c2 (chunkOf k X0) (chunkOf k X1) (chunkOf k X2) (chunkOf k D)

/-- The distances and the carry after one chunk. -/
def chunkFn (c0 c1 c2 : FVec F S8x1 .f32) (X0 X1 X2 : FVec F S8x32768 .f32) (k : Fin 128)
    (p : FVec F S8x32768 .f32 × Lanes F) : FVec F S8x32768 .f32 × Lanes F :=
  ((chunkRect k).overlay p.1 (same (chunkDist c0 c1 c2 X0 X1 X2 k p.1)),
    lanesStep k.val (chunkOf k X0) (chunkOf k X1) (chunkOf k X2) (chunkDist c0 c1 c2 X0 X1 X2 k p.1) p.2)

/-- The distances and the carry after the `n` chunks from chunk `k` on. -/
def sweepFn (c0 c1 c2 : FVec F S8x1 .f32) (X0 X1 X2 : FVec F S8x32768 .f32) :
    (n k : ℕ) → k + n ≤ 128 → FVec F S8x32768 .f32 × Lanes F → FVec F S8x32768 .f32 × Lanes F
  | 0, _, _, p => p
  | n + 1, k, h, p => sweepFn c0 c1 c2 X0 X1 X2 n (k + 1) (by omega) (chunkFn c0 c1 c2 X0 X1 X2 ⟨k, by omega⟩ p)

/-- Three coordinates of the eight current points. -/
abbrev Pts (F : FTy → Type) : Type := FVec F S8x1 .f32 × FVec F S8x1 .f32 × FVec F S8x1 .f32

/-- The distances and the current points after one trip. -/
def tripFn (X0 X1 X2 : FVec F S8x32768 .f32) (q : FVec F S8x32768 .f32 × Pts F) : FVec F S8x32768 .f32 × Pts F :=
  let r := sweepFn q.2.1 q.2.2.1 q.2.2.2 X0 X1 X2 128 0 (by omega) (q.1, lanes0)
  (r.1, picked (pick r.2) r.2.e0, picked (pick r.2) r.2.e1, picked (pick r.2) r.2.e2)

/-- The distances before the first trip. -/
def dist0 : FVec F S8x32768 .f32 := broadcast S8x32768 (Scalar.ofBits .f32 0x501502F9#32)

/-- Column `a` of the first points. -/
def col0 (P : FVec F S8x3 .f32) : FVec F S8x1 .f32 :=
  fun i => P ((Rect.unit (s := S8x3) ![0, 0] S8x1.size inb_S8x3_S8x1_0_0).emb i)
@[inherit_doc col0] def col1 (P : FVec F S8x3 .f32) : FVec F S8x1 .f32 :=
  fun i => P ((Rect.unit (s := S8x3) ![0, 1] S8x1.size inb_S8x3_S8x1_0_1).emb i)
@[inherit_doc col0] def col2 (P : FVec F S8x3 .f32) : FVec F S8x1 .f32 :=
  fun i => P ((Rect.unit (s := S8x3) ![0, 2] S8x1.size inb_S8x3_S8x1_0_2).emb i)

/-- The first points, as the loop receives them. -/
def pts0 (P : FVec F S8x3 .f32) : Pts F :=
  (shapeCast S8x1 (col0 P) shapeCasts_S8x1_S8x1, shapeCast S8x1 (col1 P) shapeCasts_S8x1_S8x1,
    shapeCast S8x1 (col2 P) shapeCasts_S8x1_S8x1)

/-- The distances and the current points before trip `t`. -/
def stateAt (X0 X1 X2 : FVec F S8x32768 .f32) (P : FVec F S8x3 .f32) : ℕ → FVec F S8x32768 .f32 × Pts F
  | 0 => (dist0, pts0 P)
  | t + 1 => tripFn X0 X1 X2 (stateAt X0 X1 X2 P t)

/-- What trip `t` records. -/
def rowsAt (X0 X1 X2 : FVec F S8x32768 .f32) (P : FVec F S8x3 .f32) (t : ℕ) : FVec F S8x3 .f32 :=
  pts (stateAt X0 X1 X2 P t).2.1 (stateAt X0 X1 X2 P t).2.2.1 (stateAt X0 X1 X2 P t).2.2.2

/-! ## The sweep and the trip -/

section Sweep

variable (arg0 arg1 arg2 arg12 : Memref sig .tc .vmem S8x32768 .f32)
variable (X0 X1 X2 : FVec F S8x32768 .f32) (c : Dev nD)

/-- The four row buffers held: the coordinates at `X0`, `X1`, `X2` and the distances at `D`. -/
def held (D : FVec F S8x32768 .f32) : sProp 𝕄 :=
  iprop(owns (c : Thread nD τ) arg0 fullShare X0 ∗ owns (c : Thread nD τ) arg1 fullShare X1
    ∗ owns (c : Thread nD τ) arg2 fullShare X2 ∗ owns (c : Thread nD τ) arg12 fullShare D)

/-- One chunk. -/
theorem chunk_spec {E : Set ℕ} (c0 c1 c2 : FVec F S8x1 .f32) (k : Fin 128) (p : FVec F S8x32768 .f32 × Lanes F)
    (Q : Lanes F → sProp 𝕄) :
    iprop(held arg0 arg1 arg2 arg12 X0 X1 X2 c p.1
        ∗ (held arg0 arg1 arg2 arg12 X0 X1 X2 c (chunkFn c0 c1 c2 X0 X1 X2 k p).1
            -∗ Q (chunkFn c0 c1 c2 X0 X1 X2 k p).2))
      ⊢ wp frame (wpE (defs₀ (F := F)) 𝒱₀ c none) E (chunk arg0 arg1 arg2 arg12 c0 c1 c2 k p.2) Q := by
  unfold held chunk chunkFn chunkDist
  dsimp only
  iintro ⟨⟨H0, H1, H2, H12⟩, Hk⟩
  iapply (load_owned (X := X0))
  isplitl [H0]; · iexact H0
  iintro %x0 %e0 H0
  obtain rfl : x0 = chunkOf k X0 := e0
  iapply (load_owned (X := X1))
  isplitl [H1]; · iexact H1
  iintro %x1 %e1 H1
  obtain rfl : x1 = chunkOf k X1 := e1
  iapply (load_owned (X := X2))
  isplitl [H2]; · iexact H2
  iintro %x2 %e2 H2
  obtain rfl : x2 = chunkOf k X2 := e2
  iapply (load_owned (X := p.1))
  isplitl [H12]; · iexact H12
  iintro %d %ed H12
  obtain rfl : d = chunkOf k p.1 := ed
  iapply (load_owned (X := p.1))
  isplitl [H12]; · iexact H12
  iintro %_ %_ H12
  iapply (store_owned (X := p.1))
  isplitl [H12]; · iexact H12
  iintro H12
  iapply (le_wp_ret frame (wpE (defs₀ (F := F)) 𝒱₀ c none) E _ Q)
  iapply Hk
  isplitl [H0]; · iexact H0
  isplitl [H1]; · iexact H1
  isplitl [H2]; · iexact H2
  iexact H12

/-- The chunks from `k` on. -/
theorem chunks_spec {E : Set ℕ} (c0 c1 c2 : FVec F S8x1 .f32) (Q : Lanes F → sProp 𝕄) :
    ∀ (n k : ℕ) (h : k + n ≤ 128) (p : FVec F S8x32768 .f32 × Lanes F),
    iprop(held arg0 arg1 arg2 arg12 X0 X1 X2 c p.1
        ∗ (held arg0 arg1 arg2 arg12 X0 X1 X2 c (sweepFn c0 c1 c2 X0 X1 X2 n k h p).1
            -∗ Q (sweepFn c0 c1 c2 X0 X1 X2 n k h p).2))
      ⊢ wp frame (wpE (defs₀ (F := F)) 𝒱₀ c none) E (chunks arg0 arg1 arg2 arg12 c0 c1 c2 n k h p.2) Q := by
  intro n
  induction n with
  | zero =>
    intro k h p
    simp only [sweepFn, chunks]
    iintro ⟨H, Hk⟩
    iapply (le_wp_ret frame (wpE (defs₀ (F := F)) 𝒱₀ c none) E _ Q)
    iapply Hk
    iexact H
  | succ n ih =>
    intro k h p
    rw [chunks, wp_bind]
    iintro ⟨H, Hk⟩
    iapply (chunk_spec arg0 arg1 arg2 arg12 X0 X1 X2 c c0 c1 c2 ⟨k, _⟩ p)
    isplitl [H]; · iexact H
    iintro H
    iapply (ih (k + 1) _ (chunkFn c0 c1 c2 X0 X1 X2 ⟨k, _⟩ p))
    isplitl [H]; · iexact H
    iexact Hk

variable (arg13 : Memref sig .tc .vmem S8192x3 .f32)

/-- One trip. -/
theorem trip_spec {E : Set ℕ} (t : Fin k0_t1_loop.trips) (q : FVec F S8x32768 .f32 × Pts F)
    (S : FVec F S8192x3 .f32) (Q : Pts F → sProp 𝕄) :
    iprop(held arg0 arg1 arg2 arg12 X0 X1 X2 c q.1 ∗ owns (c : Thread nD τ) arg13 fullShare S
        ∗ (held arg0 arg1 arg2 arg12 X0 X1 X2 c (tripFn X0 X1 X2 q).1
            -∗ owns (c : Thread nD τ) arg13 fullShare ((rowRect t).overlay S (pts q.2.1 q.2.2.1 q.2.2.2))
            -∗ Q (tripFn X0 X1 X2 q).2))
      ⊢ wp frame (wpE (defs₀ (F := F)) 𝒱₀ c none) E (trip arg0 arg1 arg2 arg12 arg13 t q.2) Q := by
  unfold trip tripFn
  dsimp only
  iintro ⟨H, HS, Hk⟩
  iapply (load_owned (X := S))
  isplitl [HS]; · iexact HS
  iintro %_ %_ HS
  iapply (store_owned (X := S))
  isplitl [HS]; · iexact HS
  iintro HS
  rw [wp_bind]
  iapply (chunks_spec arg0 arg1 arg2 arg12 X0 X1 X2 c q.2.1 q.2.2.1 q.2.2.2 _ 128 0 _ (q.1, lanes0))
  isplitl [H]; · iexact H
  iintro H
  iapply (le_wp_ret frame (wpE (defs₀ (F := F)) 𝒱₀ c none) E _ Q)
  iapply Hk $$ H HS

variable (P : FVec F S8x3 .f32)

/-- Before trip `t`: the current points and the distances are the state's, and the sample buffer holds the
    rows recorded so far. -/
def tripInv (t : ℕ) (a : Pts F) : sProp 𝕄 :=
  iprop(⌜a = (stateAt X0 X1 X2 P t).2⌝ ∗ held arg0 arg1 arg2 arg12 X0 X1 X2 c (stateAt X0 X1 X2 P t).1
    ∗ ∃ S, ⌜∀ u : Fin k0_t1_loop.trips, u.val < t → ∀ i, S ((rowRect u).emb i) = rowsAt X0 X1 X2 P u.val i⌝
      ∗ owns (c : Thread nD τ) arg13 fullShare S)

/-- Two trips' rows are apart. -/
theorem rowRect_not_mem {t u : Fin k0_t1_loop.trips} (h : u ≠ t) (i : (rowRect u).shape.Idx) :
    (rowRect u).emb i ∉ (rowRect t).set := by
  intro hm
  obtain ⟨j, hj⟩ := (rowRect t).exists_idx_of_mem hm
  have h0 := congrArg (fun x : S8192x3.Idx => (x 0).val) hj
  have hi := (i 0).isLt
  have hj' := (j 0).isLt
  simp only [ValueKit.rect_emb_unit_val, Gen.k0_off1_eq] at h0
  have hne := Fin.val_ne_of_ne h
  change (j 0).val < 8 at hj'
  change (i 0).val < 8 at hi
  have ht := congrFun (Gen.k0_off1_eq t) 0
  simp at h0 ht
  omega

/-- A trip keeps the invariant. -/
theorem trip_inv {E : Set ℕ} (t : Fin k0_t1_loop.trips) (a : Pts F) :
    tripInv arg0 arg1 arg2 arg12 X0 X1 X2 c arg13 P t.val a
      ⊢ wp frame (wpE (defs₀ (F := F)) 𝒱₀ c none) E (trip arg0 arg1 arg2 arg12 arg13 t a)
          (tripInv arg0 arg1 arg2 arg12 X0 X1 X2 c arg13 P (t.val + 1)) := by
  unfold tripInv
  iintro ⟨%ha, H, ⟨%S, %hS, HS⟩⟩
  subst ha
  iapply (trip_spec arg0 arg1 arg2 arg12 X0 X1 X2 c arg13 t (stateAt X0 X1 X2 P t.val) S)
  isplitl [H]; · iexact H
  isplitl [HS]; · iexact HS
  iintro H HS
  isplitr
  · ipureintro; rfl
  isplitl [H]; · iexact H
  iexists (rowRect t).overlay S (rowsAt X0 X1 X2 P t.val)
  isplitr
  · ipureintro
    intro u hu i
    by_cases hut : u = t
    · subst hut
      exact Rect.overlay_emb (rowRect u) _ _ i
    · refine (Rect.overlay_of_not_mem _ _ _ (rowRect_not_mem hut i)).trans ?_
      exact hS u (by have := Fin.val_ne_of_ne hut; omega) i
  · iexact HS

end Sweep

end Cert.KernelIdeal.Fps
-- ==== Proof.BodySpec.lean ====
/-
  The whole body: what the two outputs hold after it.

  The loop's triple is the invariant of `Triples`; the eight output slabs are one lemma by induction on the batch.
-/
module

public import proofs.«01_k».proof.Proof.Triples
public import Idealize.ShloMosaic.Lib.ValueIdxCore

@[expose] public section

set_option maxRecDepth 65536

noncomputable section

namespace Cert.KernelIdeal.Fps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)
open Cert.KernelIdeal Cert.KernelIdeal.Facts₀ Cert.KernelIdeal.Facts

variable {F : FTy → Type} [FloatOps F]

local notation "𝕄" => MT nD τ sig Unit (Elt F) ℕ (UR sig nD τ) ℕ

/-! ## The values -/

/-- The sample buffer after the loop: row `8 t + b` is batch `b`'s point of trip `t`. -/
def samples (X0 X1 X2 : FVec F S8x32768 .f32) (P : FVec F S8x3 .f32) : FVec F S8192x3 .f32 := fun j =>
  rowsAt X0 X1 X2 P ((j 0).val / 8) (ix2 (⟨(j 0).val % 8, Nat.mod_lt _ (by omega)⟩ : Fin 8) (j 1))

/-- The sampled points by sample, batch and coordinate. -/
def sampled (X0 X1 X2 : FVec F S8x32768 .f32) (P : FVec F S8x3 .f32) : FVec F S1024x8x3 .f32 :=
  shapeCast S1024x8x3 (samples X0 X1 X2 P) shapeCasts_S8192x3_S1024x8x3

/-- Batch `b`'s part of the points' output. -/
def ptsSlab (v14 : FVec F S1024x8x3 .f32) (b : Fin 8) : FVec F S1x1024x3 .f32 :=
  shapeCast S1x1024x3 (pb b v14) shapeCasts_S1024x3_S1x1024x3

/-- Batch `b`'s part of the features' output. -/
def featSlab (v14 : FVec F S1024x8x3 .f32) (w1 : FVec F S3x64 .f32) (b1 : FVec F S1x64 .f32) (w2 : FVec F S64x128 .f32)
    (b2 : FVec F S1x128 .f32) (w3 : FVec F S128x256 .f32) (b3 : FVec F S1x256 .f32) (b : Fin 8) : FVec F S1x1024x256 .f32 :=
  shapeCast S1x1024x256 (mlp (pb b v14) w1 b1 w2 b2 w3 b3) shapeCasts_S1024x256_S1x1024x256

/-- The points' output. -/
def outPts (v14 : FVec F S1024x8x3 .f32) : FVec F S8x1024x3 .f32 := fun j =>
  ptsSlab v14 (j 0) (ix3 (0 : Fin 1) (j 1) (j 2))

/-- The features' output. -/
def outFeats (v14 : FVec F S1024x8x3 .f32) (w1 : FVec F S3x64 .f32) (b1 : FVec F S1x64 .f32) (w2 : FVec F S64x128 .f32)
    (b2 : FVec F S1x128 .f32) (w3 : FVec F S128x256 .f32) (b3 : FVec F S1x256 .f32) : FVec F S8x1024x256 .f32 := fun j =>
  featSlab v14 w1 b1 w2 b2 w3 b3 (j 0) (ix3 (0 : Fin 1) (j 1) (j 2))

/-- A rectangle of all elements reads the contents themselves. -/
theorem read_full {s : Shape} {α : Type} {off : Fin s.rank → ℕ} (inb : ∀ a, off a + s.size a ≤ s.size a) (X : s.Idx → α) :
    (fun i => X ((Rect.unit off s.size inb).emb i)) = X :=
  funext fun i => congrArg X (Rect.emb_unit_full inb i)

/-- A rectangle of all elements overlays everything. -/
theorem overlay_full {s : Shape} {α : Type} {off : Fin s.rank → ℕ} (inb : ∀ a, off a + s.size a ≤ s.size a) (X : s.Idx → α)
    (G : s.Idx → α) : (Rect.unit off s.size inb).overlay X G = G := funext fun i => by
  have h := Rect.overlay_emb (Rect.unit off s.size inb) X G i
  rwa [Rect.emb_unit_full inb i] at h

/-- The rows recorded by all trips are the whole sample buffer. -/
theorem eq_samples {X0 X1 X2 : FVec F S8x32768 .f32} {P : FVec F S8x3 .f32} {S : FVec F S8192x3 .f32}
    (h : ∀ u : Fin k0_t1_loop.trips, u.val < k0_t1_loop.trips → ∀ i, S ((rowRect u).emb i) = rowsAt X0 X1 X2 P u.val i) :
    S = samples X0 X1 X2 P := by
  funext j
  have hj : (j 0).val < 8192 := (j 0).isLt
  have htr : k0_t1_loop.trips = 1024 := by decide
  have hu : (j 0).val / 8 < k0_t1_loop.trips := by omega
  have he : (rowRect ⟨(j 0).val / 8, hu⟩).emb
      (ix2 (⟨(j 0).val % 8, Nat.mod_lt _ (by omega)⟩ : Fin 8) (j 1) : S8x3.Idx) = j := by
    funext a
    apply Fin.ext
    refine (ValueKit.rect_emb_unit_val _ _ _ _ a).trans ?_
    refine (congrArg (· + _) (congrFun (Gen.k0_off1_eq _) a)).trans ?_
    match a with
    | ⟨0, _⟩ => show 8 * ((j 0).val / 8) + (j 0).val % 8 = (j 0).val; omega
    | ⟨1, _⟩ => show 0 + (j 1).val = (j 1).val; omega
  exact (congrArg S he).symm.trans (h ⟨_, hu⟩ hu _)

/-- Two batches' slabs of the points' output are apart. -/
theorem slab3_not_mem {b b' : Fin 8} (h : b ≠ b') (i : (slab3 b).shape.Idx) : (slab3 b).emb i ∉ (slab3 b').set := by
  intro hm
  have hm := (Rect.mem_set_unit.mp hm) 0
  rw [ValueKit.rect_emb_unit_val] at hm
  have hi : (i 0).val < 1 := (i 0).isLt
  have hne := Fin.val_ne_of_ne h
  simp at hm
  omega

/-- Two batches' slabs of the features' output are apart. -/
theorem slab256_not_mem {b b' : Fin 8} (h : b ≠ b') (i : (slab256 b).shape.Idx) : (slab256 b).emb i ∉ (slab256 b').set := by
  intro hm
  have hm := (Rect.mem_set_unit.mp hm) 0
  rw [ValueKit.rect_emb_unit_val] at hm
  have hi : (i 0).val < 1 := (i 0).isLt
  have hne := Fin.val_ne_of_ne h
  simp at hm
  omega

/-- The points' slabs of all batches are the whole output. -/
theorem eq_outPts {v14 : FVec F S1024x8x3 .f32} {Y : FVec F S8x1024x3 .f32}
    (h : ∀ b : Fin 8, b.val < 8 → ∀ i, Y ((slab3 b).emb i) = ptsSlab v14 b i) : Y = outPts v14 := by
  funext j
  have he : (slab3 (j 0)).emb (ix3 (0 : Fin 1) (j 1) (j 2) : S1x1024x3.Idx) = j := by
    funext a
    apply Fin.ext
    rw [ValueKit.rect_emb_unit_val]
    match a with
    | ⟨0, _⟩ => show (j 0).val + 0 = (j 0).val; omega
    | ⟨1, _⟩ => show 0 + (j 1).val = (j 1).val; omega
    | ⟨2, _⟩ => show 0 + (j 2).val = (j 2).val; omega
  exact (congrArg Y he).symm.trans (h (j 0) (j 0).isLt _)

/-- The features' slabs of all batches are the whole output. -/
theorem eq_outFeats {v14 : FVec F S1024x8x3 .f32} {w1 : FVec F S3x64 .f32} {b1 : FVec F S1x64 .f32} {w2 : FVec F S64x128 .f32}
    {b2 : FVec F S1x128 .f32} {w3 : FVec F S128x256 .f32} {b3 : FVec F S1x256 .f32} {Y : FVec F S8x1024x256 .f32}
    (h : ∀ b : Fin 8, b.val < 8 → ∀ i, Y ((slab256 b).emb i) = featSlab v14 w1 b1 w2 b2 w3 b3 b i) :
    Y = outFeats v14 w1 b1 w2 b2 w3 b3 := by
  funext j
  have he : (slab256 (j 0)).emb (ix3 (0 : Fin 1) (j 1) (j 2) : S1x1024x256.Idx) = j := by
    funext a
    apply Fin.ext
    rw [ValueKit.rect_emb_unit_val]
    match a with
    | ⟨0, _⟩ => show (j 0).val + 0 = (j 0).val; omega
    | ⟨1, _⟩ => show 0 + (j 1).val = (j 1).val; omega
    | ⟨2, _⟩ => show 0 + (j 2).val = (j 2).val; omega
  exact (congrArg Y he).symm.trans (h (j 0) (j 0).isLt _)

/-! ## The slabs -/

section Slabs

variable (arg4 : Memref sig .tc .vmem S3x64 .f32) (arg5 : Memref sig .tc .vmem S1x64 .f32)
  (arg6 : Memref sig .tc .vmem S64x128 .f32) (arg7 : Memref sig .tc .vmem S1x128 .f32)
  (arg8 : Memref sig .tc .vmem S128x256 .f32) (arg9 : Memref sig .tc .vmem S1x256 .f32)
  (arg10 : Memref sig .tc .vmem S8x1024x3 .f32) (arg11 : Memref sig .tc .vmem S8x1024x256 .f32)
variable (w1 : FVec F S3x64 .f32) (b1 : FVec F S1x64 .f32) (w2 : FVec F S64x128 .f32)
  (b2 : FVec F S1x128 .f32) (w3 : FVec F S128x256 .f32) (b3 : FVec F S1x256 .f32) (c : Dev nD)

/-- The layers' weights and biases, held. -/
def weights : sProp 𝕄 :=
  iprop(owns (c : Thread nD τ) arg4 fullShare w1 ∗ owns (c : Thread nD τ) arg5 fullShare b1
    ∗ owns (c : Thread nD τ) arg6 fullShare w2 ∗ owns (c : Thread nD τ) arg7 fullShare b2
    ∗ owns (c : Thread nD τ) arg8 fullShare w3 ∗ owns (c : Thread nD τ) arg9 fullShare b3)

/-- One slab. -/
theorem slab_spec {E : Set ℕ} (v14 : FVec F S1024x8x3 .f32) (b : Fin 8) (Y : FVec F S8x1024x3 .f32)
    (Z : FVec F S8x1024x256 .f32) (Q : PUnit → sProp 𝕄) :
    iprop(weights arg4 arg5 arg6 arg7 arg8 arg9 w1 b1 w2 b2 w3 b3 c
        ∗ owns (c : Thread nD τ) arg10 fullShare Y ∗ owns (c : Thread nD τ) arg11 fullShare Z
        ∗ (weights arg4 arg5 arg6 arg7 arg8 arg9 w1 b1 w2 b2 w3 b3 c
            -∗ owns (c : Thread nD τ) arg10 fullShare ((slab3 b).overlay Y (ptsSlab v14 b))
            -∗ owns (c : Thread nD τ) arg11 fullShare ((slab256 b).overlay Z (featSlab v14 w1 b1 w2 b2 w3 b3 b))
            -∗ Q ⟨⟩))
      ⊢ wp frame (wpE (defs₀ (F := F)) 𝒱₀ c none) E (slab arg4 arg5 arg6 arg7 arg8 arg9 arg10 arg11 v14 b) Q := by
  unfold weights slab ptsSlab featSlab
  iintro ⟨⟨H4, H5, H6, H7, H8, H9⟩, H10, H11, Hk⟩
  iapply (load_owned (X := Y))
  isplitl [H10]; · iexact H10
  iintro %_ %_ H10
  iapply (store_owned (X := Y))
  isplitl [H10]; · iexact H10
  iintro H10
  iapply (load_owned (X := w1))
  isplitl [H4]; · iexact H4
  iintro %x1 %e1 H4
  obtain rfl : x1 = w1 := e1.trans (read_full _ w1)
  iapply (load_owned (X := b1))
  isplitl [H5]; · iexact H5
  iintro %x2 %e2 H5
  obtain rfl : x2 = b1 := e2.trans (read_full _ b1)
  iapply (load_owned (X := w2))
  isplitl [H6]; · iexact H6
  iintro %x3 %e3 H6
  obtain rfl : x3 = w2 := e3.trans (read_full _ w2)
  iapply (load_owned (X := b2))
  isplitl [H7]; · iexact H7
  iintro %x4 %e4 H7
  obtain rfl : x4 = b2 := e4.trans (read_full _ b2)
  iapply (load_owned (X := w3))
  isplitl [H8]; · iexact H8
  iintro %x5 %e5 H8
  obtain rfl : x5 = w3 := e5.trans (read_full _ w3)
  iapply (load_owned (X := b3))
  isplitl [H9]; · iexact H9
  iintro %x6 %e6 H9
  obtain rfl : x6 = b3 := e6.trans (read_full _ b3)
  iapply (load_owned (X := Z))
  isplitl [H11]; · iexact H11
  iintro %_ %_ H11
  iapply (store_owned_last (X := Z))
  isplitl [H11]; · iexact H11
  iintro H11
  iapply Hk $$ [H4 H5 H6 H7 H8 H9] H10 H11
  isplitl [H4]; · iexact H4
  isplitl [H5]; · iexact H5
  isplitl [H6]; · iexact H6
  isplitl [H7]; · iexact H7
  isplitl [H8]; · iexact H8
  iexact H9

/-- The outputs with the slabs of the batches below `b` written. -/
def slabInv (v14 : FVec F S1024x8x3 .f32) (b : ℕ) : sProp 𝕄 :=
  iprop(∃ Y Z, ⌜(∀ b' : Fin 8, b'.val < b → ∀ i, Y ((slab3 b').emb i) = ptsSlab v14 b' i)
      ∧ ∀ b' : Fin 8, b'.val < b → ∀ i, Z ((slab256 b').emb i) = featSlab v14 w1 b1 w2 b2 w3 b3 b' i⌝
    ∗ owns (c : Thread nD τ) arg10 fullShare Y ∗ owns (c : Thread nD τ) arg11 fullShare Z)

/-- The slabs from batch `b` on. -/
theorem slabs_spec {E : Set ℕ} (v14 : FVec F S1024x8x3 .f32) (Q : PUnit → sProp 𝕄) :
    ∀ (n b : ℕ) (h : b + n ≤ 8),
    iprop(weights arg4 arg5 arg6 arg7 arg8 arg9 w1 b1 w2 b2 w3 b3 c
        ∗ slabInv arg10 arg11 w1 b1 w2 b2 w3 b3 c v14 b
        ∗ (weights arg4 arg5 arg6 arg7 arg8 arg9 w1 b1 w2 b2 w3 b3 c
            -∗ slabInv arg10 arg11 w1 b1 w2 b2 w3 b3 c v14 (b + n) -∗ Q ⟨⟩))
      ⊢ wp frame (wpE (defs₀ (F := F)) 𝒱₀ c none) E (slabs arg4 arg5 arg6 arg7 arg8 arg9 arg10 arg11 v14 n b h) Q := by
  intro n
  induction n with
  | zero =>
    intro b h
    simp only [slabs, Nat.add_zero]
    iintro ⟨HW, HI, Hk⟩
    iapply (le_wp_ret frame (wpE (defs₀ (F := F)) 𝒱₀ c none) E PUnit.unit Q)
    iapply Hk $$ HW HI
  | succ n ih =>
    intro b h
    have hb : b < 8 := by omega
    rw [slabs, wp_bind, show b + (n + 1) = b + 1 + n by omega]
    have hinv : slabInv arg10 arg11 w1 b1 w2 b2 w3 b3 c v14 b ⊢ iprop(∃ Y Z, ⌜(∀ b' : Fin 8, b'.val < b → ∀ i, Y ((slab3 b').emb i) = ptsSlab v14 b' i)
      ∧ ∀ b' : Fin 8, b'.val < b → ∀ i, Z ((slab256 b').emb i) = featSlab v14 w1 b1 w2 b2 w3 b3 b' i⌝
    ∗ owns (c : Thread nD τ) arg10 fullShare Y ∗ owns (c : Thread nD τ) arg11 fullShare Z) := .rfl
    iintro ⟨HW, HI, Hk⟩
    ihave HI' := hinv $$ HI
    icases HI' with ⟨%Y, %Z, %hYZ, HY, HZ⟩
    iapply (slab_spec arg4 arg5 arg6 arg7 arg8 arg9 arg10 arg11 w1 b1 w2 b2 w3 b3 c v14 ⟨b, hb⟩ Y Z)
    isplitl [HW]; · iexact HW
    isplitl [HY]; · iexact HY
    isplitl [HZ]; · iexact HZ
    iintro HW HY HZ
    iapply (ih (b + 1) _)
    isplitl [HW]; · iexact HW
    isplitl [HY HZ]
    · unfold slabInv
      iexists (slab3 ⟨b, hb⟩).overlay Y (ptsSlab v14 ⟨b, hb⟩)
      iexists (slab256 ⟨b, hb⟩).overlay Z (featSlab v14 w1 b1 w2 b2 w3 b3 ⟨b, hb⟩)
      isplitr
      · ipureintro
        refine ⟨fun b' hb' i => ?_, fun b' hb' i => ?_⟩
        · by_cases hbb : b' = ⟨b, hb⟩
          · subst hbb; exact Rect.overlay_emb (slab3 _) _ _ i
          · refine (Rect.overlay_of_not_mem _ _ _ (slab3_not_mem hbb i)).trans ?_
            exact hYZ.1 b' (by have := Fin.val_ne_of_ne hbb; simp at this; omega) i
        · by_cases hbb : b' = ⟨b, hb⟩
          · subst hbb; exact Rect.overlay_emb (slab256 _) _ _ i
          · refine (Rect.overlay_of_not_mem _ _ _ (slab256_not_mem hbb i)).trans ?_
            exact hYZ.2 b' (by have := Fin.val_ne_of_ne hbb; simp at this; omega) i
      isplitl [HY]; · iexact HY
      iexact HZ
    · iexact Hk

/-! ## The body -/

variable (arg0 arg1 arg2 arg12 : Memref sig .tc .vmem S8x32768 .f32)
  (arg3 : Memref sig .tc .vmem S8x3 .f32) (arg13 : Memref sig .tc .vmem S8192x3 .f32)
variable (X0 X1 X2 : FVec F S8x32768 .f32) (P : FVec F S8x3 .f32)

/-- The body: the inputs are kept, and the outputs hold the sampled points and their features. -/
theorem body_spec {E : Set ℕ} (Q : PUnit → sProp 𝕄) :
    iprop(owns (c : Thread nD τ) arg0 fullShare X0 ∗ owns (c : Thread nD τ) arg1 fullShare X1
        ∗ owns (c : Thread nD τ) arg2 fullShare X2 ∗ owns (c : Thread nD τ) arg3 fullShare P
        ∗ weights arg4 arg5 arg6 arg7 arg8 arg9 w1 b1 w2 b2 w3 b3 c
        ∗ (∃ d, owns (c : Thread nD τ) arg10 fullShare d) ∗ (∃ d, owns (c : Thread nD τ) arg11 fullShare d)
        ∗ (∃ d, owns (c : Thread nD τ) arg12 fullShare d) ∗ (∃ d, owns (c : Thread nD τ) arg13 fullShare d)
        ∗ (owns (c : Thread nD τ) arg0 fullShare X0 -∗ owns (c : Thread nD τ) arg1 fullShare X1
            -∗ owns (c : Thread nD τ) arg2 fullShare X2 -∗ owns (c : Thread nD τ) arg3 fullShare P
            -∗ weights arg4 arg5 arg6 arg7 arg8 arg9 w1 b1 w2 b2 w3 b3 c
            -∗ owns (c : Thread nD τ) arg10 fullShare (outPts (sampled X0 X1 X2 P))
            -∗ owns (c : Thread nD τ) arg11 fullShare (outFeats (sampled X0 X1 X2 P) w1 b1 w2 b2 w3 b3)
            -∗ (∃ d, owns (c : Thread nD τ) arg12 fullShare d) -∗ (∃ d, owns (c : Thread nD τ) arg13 fullShare d)
            -∗ Q ⟨⟩))
      ⊢ wp frame (wpE (defs₀ (F := F)) 𝒱₀ c none) E
          (body arg0 arg1 arg2 arg12 arg4 arg5 arg6 arg7 arg8 arg9 arg10 arg11 arg3 arg13) Q := by
  unfold body enter
  iintro ⟨H0, H1, H2, H3, HW, ⟨%y, HY⟩, ⟨%z, HZ⟩, ⟨%d, HD⟩, ⟨%s, HS⟩, Hk⟩
  iapply (load_owned (X := d))
  isplitl [HD]; · iexact HD
  iintro %_ %_ HD
  iapply (store_owned (X := d))
  isplitl [HD]; · iexact HD
  iintro HD
  iapply (load_owned (X := P))
  isplitl [H3]; · iexact H3
  iintro %x1 %e1 H3
  obtain rfl : x1 = col0 P := e1
  iapply (load_owned (X := P))
  isplitl [H3]; · iexact H3
  iintro %x2 %e2 H3
  obtain rfl : x2 = col1 P := e2
  iapply (load_owned (X := P))
  isplitl [H3]; · iexact H3
  iintro %x3 %e3 H3
  obtain rfl : x3 = col2 P := e3
  rw [overlay_full]
  rw [wp_bind]
  unfold trips
  rw [show (Scf.Loop.for k0_t1_loop k0_t1_ok (shapeCast S8x1 (col0 P) shapeCasts_S8x1_S8x1, shapeCast S8x1 (col1 P) shapeCasts_S8x1_S8x1, shapeCast S8x1 (col2 P) shapeCasts_S8x1_S8x1)
    (trip arg0 arg1 arg2 arg12 arg13) : KProg F (Pts F)) = Scf.for k0_t1_loop.lb k0_t1_loop.ub k0_t1_loop.st k0_t1_ok (pts0 P) (trip arg0 arg1 arg2 arg12 arg13) from rfl]
  iapply (Scf.wp_for frame (wpE (defs₀ (F := F)) 𝒱₀ (c : Thread nD τ) none) E k0_t1_loop.lb k0_t1_loop.ub k0_t1_loop.st k0_t1_ok (pts0 P)
    (trip arg0 arg1 arg2 arg12 arg13) (tripInv arg0 arg1 arg2 arg12 X0 X1 X2 c arg13 P)
    (fun t a => trip_inv arg0 arg1 arg2 arg12 X0 X1 X2 c arg13 P t a))
  isplitl [H0 H1 H2 HD HS]
  · unfold tripInv held
    isplitr
    · ipureintro; rfl
    isplitl [H0 H1 H2 HD]
    · isplitl [H0]; · iexact H0
      isplitl [H1]; · iexact H1
      isplitl [H2]; · iexact H2
      iexact HD
    iexists s
    isplitr
    · ipureintro; intro u hu; omega
    iexact HS
  iintro %a HI
  have hinv : tripInv arg0 arg1 arg2 arg12 X0 X1 X2 c arg13 P k0_t1_loop.trips a
      ⊢ iprop(⌜a = (stateAt X0 X1 X2 P k0_t1_loop.trips).2⌝ ∗ held arg0 arg1 arg2 arg12 X0 X1 X2 c (stateAt X0 X1 X2 P k0_t1_loop.trips).1
    ∗ ∃ S, ⌜∀ u : Fin k0_t1_loop.trips, u.val < k0_t1_loop.trips → ∀ i, S ((rowRect u).emb i) = rowsAt X0 X1 X2 P u.val i⌝
      ∗ owns (c : Thread nD τ) arg13 fullShare S) := .rfl
  ihave HI' := hinv $$ HI
  icases HI' with ⟨%_, HH, ⟨%S, %hS, HS⟩⟩
  obtain rfl := eq_samples hS
  iapply (load_owned (X := samples X0 X1 X2 P))
  isplitl [HS]; · iexact HS
  iintro %x4 %e4 HS
  obtain rfl : x4 = samples X0 X1 X2 P := e4.trans (read_full _ (samples X0 X1 X2 P))
  iapply (slabs_spec arg4 arg5 arg6 arg7 arg8 arg9 arg10 arg11 w1 b1 w2 b2 w3 b3 c (sampled X0 X1 X2 P) Q 8 0 (by omega))
  isplitl [HW]; · iexact HW
  isplitl [HY HZ]
  · unfold slabInv
    iexists y
    iexists z
    isplitr
    · ipureintro; exact ⟨fun b' hb' => by omega, fun b' hb' => by omega⟩
    isplitl [HY]; · iexact HY
    iexact HZ
  have hinv' : slabInv arg10 arg11 w1 b1 w2 b2 w3 b3 c (sampled X0 X1 X2 P) (0 + 8) ⊢ iprop(owns (c : Thread nD τ) arg10 fullShare (outPts (sampled X0 X1 X2 P))
            ∗ owns (c : Thread nD τ) arg11 fullShare (outFeats (sampled X0 X1 X2 P) w1 b1 w2 b2 w3 b3)) := by
    unfold slabInv
    iintro ⟨%Y, %Z, %h, HY, HZ⟩
    obtain rfl := eq_outPts h.1
    obtain rfl := eq_outFeats h.2
    isplitl [HY]; · iexact HY
    iexact HZ
  have hh : held arg0 arg1 arg2 arg12 X0 X1 X2 c (stateAt X0 X1 X2 P k0_t1_loop.trips).1 ⊢ iprop(owns (c : Thread nD τ) arg0 fullShare X0 ∗ owns (c : Thread nD τ) arg1 fullShare X1
    ∗ owns (c : Thread nD τ) arg2 fullShare X2 ∗ owns (c : Thread nD τ) arg12 fullShare (stateAt X0 X1 X2 P k0_t1_loop.trips).1) := .rfl
  iintro HW HI
  ihave HI' := hinv' $$ HI
  icases HI' with ⟨HY, HZ⟩
  ihave HH' := hh $$ HH
  icases HH' with ⟨H0, H1, H2, HD⟩
  iapply Hk $$ H0 H1 H2 H3 HW HY HZ [HD] [HS]
  · iexists _; iexact HD
  · iexists _; iexact HS

end Slabs

end Cert.KernelIdeal.Fps
-- ==== Proof.Run.lean ====
/-
  The kernel's program run whole, for any float values.

  The one call's proof data name what each window's staging buffer holds after the body (`BodySpec`); the
  pipeline's theorem then gives the final memory. The frame and the values of both results are read off it.
-/
module

public import proofs.«01_k».proof.Proof.BodySpec
public import proofs.«01_k».proof.Proof.Gen.KernelIdeal.Points

@[expose] public section

set_option maxRecDepth 65536

noncomputable section

namespace Cert.KernelIdeal.Fps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The sampled points that the call computes from what it is handed. -/
def sampledAt (c : Dev nD) (t : Fin cfg0.N) : FVec F S1024x8x3 .f32 :=
  sampled (iblk m c 0 t) (iblk m c 1 t) (iblk m c 2 t) (iblk m c 3 t)

/-- The points' output of the call. -/
def ptsAt (c : Dev nD) (t : Fin cfg0.N) : FVec F S8x1024x3 .f32 := outPts (sampledAt m c t)

/-- The features' output of the call. -/
def featsAt (c : Dev nD) (t : Fin cfg0.N) : FVec F S8x1024x256 .f32 :=
  outFeats (sampledAt m c t) (iblk m c 4 t) (iblk m c 5 t) (iblk m c 6 t) (iblk m c 7 t) (iblk m c 8 t) (iblk m c 9 t)

/-- The call's proof data: inputs stay, the outputs are the body's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => ptsAt m c t
    | ⟨11, _⟩ => featsAt m c t
  Φ _ := Pipeline.ΦA spec0 c
  q _ := fullShare
  owed _ := 0

/-- Each window starts with what its array holds at the call. -/
theorem A_eq (c : Dev nD) (w) : (dats m 0 c).A w = V m c (Pipeline.arrRef spec0 w) := rfl

/-- What window 0 holds after a point. -/
theorem after0_0 (c : Dev nD) (t) : (dats m 0 c).after 0 t = iblk m c 0 t := by dsimp only [dats]
/-- What window 1 holds after a point. -/
theorem after0_1 (c : Dev nD) (t) : (dats m 0 c).after 1 t = iblk m c 1 t := by dsimp only [dats]
/-- What window 2 holds after a point. -/
theorem after0_2 (c : Dev nD) (t) : (dats m 0 c).after 2 t = iblk m c 2 t := by dsimp only [dats]
/-- What window 3 holds after a point. -/
theorem after0_3 (c : Dev nD) (t) : (dats m 0 c).after 3 t = iblk m c 3 t := by dsimp only [dats]
/-- What window 4 holds after a point. -/
theorem after0_4 (c : Dev nD) (t) : (dats m 0 c).after 4 t = iblk m c 4 t := by dsimp only [dats]
/-- What window 5 holds after a point. -/
theorem after0_5 (c : Dev nD) (t) : (dats m 0 c).after 5 t = iblk m c 5 t := by dsimp only [dats]
/-- What window 6 holds after a point. -/
theorem after0_6 (c : Dev nD) (t) : (dats m 0 c).after 6 t = iblk m c 6 t := by dsimp only [dats]
/-- What window 7 holds after a point. -/
theorem after0_7 (c : Dev nD) (t) : (dats m 0 c).after 7 t = iblk m c 7 t := by dsimp only [dats]
/-- What window 8 holds after a point. -/
theorem after0_8 (c : Dev nD) (t) : (dats m 0 c).after 8 t = iblk m c 8 t := by dsimp only [dats]
/-- What window 9 holds after a point. -/
theorem after0_9 (c : Dev nD) (t) : (dats m 0 c).after 9 t = iblk m c 9 t := by dsimp only [dats]
/-- What window 10 holds after a point. -/
theorem after0_10 (c : Dev nD) (t) : (dats m 0 c).after 10 t = ptsAt m c t := by dsimp only [dats]
/-- What window 11 holds after a point. -/
theorem after0_11 (c : Dev nD) (t) : (dats m 0 c).after 11 t = featsAt m c t := by dsimp only [dats]

/-- What window 0 holds before a point. -/
theorem before0_0 (c : Dev nD) (t) (d) : (dats m 0 c).before 0 t d = iblk m c 0 t := before0_0_of m (dats m 0 c) (A_eq m c 0) (after0_0 m c) t d
/-- What window 1 holds before a point. -/
theorem before0_1 (c : Dev nD) (t) (d) : (dats m 0 c).before 1 t d = iblk m c 1 t := before0_1_of m (dats m 0 c) (A_eq m c 1) (after0_1 m c) t d
/-- What window 2 holds before a point. -/
theorem before0_2 (c : Dev nD) (t) (d) : (dats m 0 c).before 2 t d = iblk m c 2 t := before0_2_of m (dats m 0 c) (A_eq m c 2) (after0_2 m c) t d
/-- What window 3 holds before a point. -/
theorem before0_3 (c : Dev nD) (t) (d) : (dats m 0 c).before 3 t d = iblk m c 3 t := before0_3_of m (dats m 0 c) (A_eq m c 3) (after0_3 m c) t d
/-- What window 4 holds before a point. -/
theorem before0_4 (c : Dev nD) (t) (d) : (dats m 0 c).before 4 t d = iblk m c 4 t := before0_4_of m (dats m 0 c) (A_eq m c 4) (after0_4 m c) t d
/-- What window 5 holds before a point. -/
theorem before0_5 (c : Dev nD) (t) (d) : (dats m 0 c).before 5 t d = iblk m c 5 t := before0_5_of m (dats m 0 c) (A_eq m c 5) (after0_5 m c) t d
/-- What window 6 holds before a point. -/
theorem before0_6 (c : Dev nD) (t) (d) : (dats m 0 c).before 6 t d = iblk m c 6 t := before0_6_of m (dats m 0 c) (A_eq m c 6) (after0_6 m c) t d
/-- What window 7 holds before a point. -/
theorem before0_7 (c : Dev nD) (t) (d) : (dats m 0 c).before 7 t d = iblk m c 7 t := before0_7_of m (dats m 0 c) (A_eq m c 7) (after0_7 m c) t d
/-- What window 8 holds before a point. -/
theorem before0_8 (c : Dev nD) (t) (d) : (dats m 0 c).before 8 t d = iblk m c 8 t := before0_8_of m (dats m 0 c) (A_eq m c 8) (after0_8 m c) t d
/-- What window 9 holds before a point. -/
theorem before0_9 (c : Dev nD) (t) (d) : (dats m 0 c).before 9 t d = iblk m c 9 t := before0_9_of m (dats m 0 c) (A_eq m c 9) (after0_9 m c) t d

/-- The region's invariant holds the two scratch buffers at some contents. -/
theorem open_scratch (c : Dev nD) :
    (ΦA spec0 c : sProp 𝕄) ⊢ iprop((∃ d, owns (c : Thread nD τ) (Memref.whole cc0_scratch0) fullShare d)
      ∗ (∃ d, owns (c : Thread nD τ) (Memref.whole cc0_scratch1) fullShare d) ∗ ∃ r, prngReg c r) := by
  unfold ΦA
  rw [scopedRest0_eq]
  iintro ⟨⟨⟨%f, Hf⟩, ⟨%g, Hg⟩⟩, Hr⟩
  isplitl [Hf]
  · iexists f; rw [owns_whole]; iexact Hf
  isplitl [Hg]
  · iexists g; rw [owns_whole]; iexact Hg
  iexact Hr

/-- The scratch buffers at any contents give the invariant back. -/
theorem close_scratch (c : Dev nD) :
    iprop((∃ d, owns (c : Thread nD τ) (Memref.whole cc0_scratch0) fullShare d)
      ∗ (∃ d, owns (c : Thread nD τ) (Memref.whole cc0_scratch1) fullShare d) ∗ ∃ r, prngReg c r) ⊢ (ΦA spec0 c : sProp 𝕄) := by
  unfold ΦA
  rw [scopedRest0_eq]
  simp only [owns_whole]
  iintro ⟨⟨%f, Hf⟩, ⟨%g, Hg⟩, Hr⟩
  isplitl [Hf Hg]
  · isplitl [Hf]
    · iexists f; iexact Hf
    · iexists g; iexact Hg
  iexact Hr

/-- The body at the call's one point meets its obligation. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5, before0_6, before0_7, before0_8, before0_9]
  rw [show (dats m 0 c).Φ t.succ = ΦA spec0 c from rfl, show (dats m 0 c).Φ t.castSucc = ΦA spec0 c from rfl,
    show (dats m 0 c).owesAt () t.succ = (dats m 0 c).owesAt () t.castSucc from rfl, after0_0, after0_1, after0_2, after0_3,
    after0_4, after0_5, after0_6, after0_7, after0_8, after0_9, after0_10, after0_11]
  rw [kernel_eq]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  ihave HΦ' := (open_scratch (F := F) c) $$ HΦ
  icases HΦ' with ⟨HD, HS, HR⟩
  iapply (body_spec _ _ _ _ _ _ _ _ (iblk m c 4 t) (iblk m c 5 t) (iblk m c 6 t) (iblk m c 7 t) (iblk m c 8 t) (iblk m c 9 t) c
    _ _ _ _ _ _ (iblk m c 0 t) (iblk m c 1 t) (iblk m c 2 t) (iblk m c 3 t))
  isplitl [H0]; · iexact H0
  isplitl [H1]; · iexact H1
  isplitl [H2]; · iexact H2
  isplitl [H3]; · iexact H3
  isplitl [H4 H5 H6 H7 H8 H9]
  · unfold weights
    isplitl [H4]; · iexact H4
    isplitl [H5]; · iexact H5
    isplitl [H6]; · iexact H6
    isplitl [H7]; · iexact H7
    isplitl [H8]; · iexact H8
    iexact H9
  isplitl [H10]; · iexists _; iexact H10
  isplitl [H11]; · iexists _; iexact H11
  isplitl [HD]; · iexact HD
  isplitl [HS]; · iexact HS
  unfold weights
  iintro H0 H1 H2 H3 ⟨H4, H5, H6, H7, H8, H9⟩ H10 H11 HD HS
  isplitl [HD HS HR]
  · iapply (close_scratch (F := F) c)
    isplitl [HD]; · iexact HD
    isplitl [HS]; · iexact HS
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

-- the launch theorem's implicit arguments are found by unfolding plain definitions in a metavariable's type
set_option backward.isDefEq.respectTransparency.types false in
set_option maxHeartbeats 4000000 in
/-- From any memory with zero counters the program terminates; every array of the call then holds what the
    proof data say, and every counter reads zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

end Cert.KernelIdeal.Fps
-- ==== Proof.Transfer.lean ====
/-
  The kernel's program as printed and its idealized reading are the same program: no operation was replaced.
  What is shown of the second at every float instance therefore holds of the first.
-/
module

public import proofs.«01_k».proof.Kernel
public import proofs.«01_k».proof.KernelIdeal
public import proofs.«01_k».proof.Proof.Gen.Kernel
public import proofs.«01_k».proof.Proof.Gen.KernelIdeal
public import Idealize.ShloMosaic.Lib.Pipeline.Regions

@[expose] public section
namespace Cert.Kernel.Transfer
open Idealize.ShloMosaic Idealize.SL.Sem

variable {F : FTy → Type} [FloatOps F]

/-- The two programs call the same bodies. -/
theorem defs_eq : Cert.Kernel.defs (F := F) = Cert.KernelIdeal.defs (F := F) := by
  open Idealize.ShloMosaic.Pipeline in chain_rfl

/-- The two programs are the same. -/
theorem main_eq : Cert.Kernel.main (F := F) = Cert.KernelIdeal.main (F := F) := by
  open Idealize.ShloMosaic.Pipeline in chain_rfl

end Cert.Kernel.Transfer
-- ==== Proof.RefOps.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

-- the long list recurses past the default depth
set_option maxRecDepth 10084

noncomputable section

namespace Cert.ReferenceIdeal.Fps

open Cert.ReferenceIdeal Cert.ReferenceIdeal.Gen
open Idealize.ShloMosaic Idealize.ShloMosaic.TcCoe Idealize.ShloMosaic.Tactic
open Idealize.ShloMosaic.StableHlo

variable {F : FTy → Type} [FloatOps F]

set_option maxHeartbeats 40000000 in
/-- The draw of the eight first indices: the called random-integer function, operation by operation. -/
abbrev randintOps : List (HloOp τ sig (Elt F)) :=
  ( TRef.nullary (.of main_call0_c : TRef sig ⟨S_, .i32⟩) (constantI S_ 32 2147483647#32)
  :: TRef.nullary (.of main_call0_c_0 : TRef sig ⟨S_, .i32⟩) (constantI S_ 32 2147483648#32)
  :: TRef.nullary (.of main_call0_c_1 : TRef sig ⟨S_, .i32⟩) (constantI S_ 32 2147483647#32)
  :: TRef.binary (.of main_call0_c_0 : TRef sig ⟨S_, .i32⟩) (.of main_call0_c : TRef sig ⟨S_, .i32⟩) (.of main_call0_call0_v0 : TRef sig ⟨S_, .i32⟩) maxsi
  :: TRef.binary (.of main_call0_c_1 : TRef sig ⟨S_, .i32⟩) (.of main_call0_call0_v0 : TRef sig ⟨S_, .i32⟩) (.of main_call0_v0 : TRef sig ⟨S_, .i32⟩) minsi
  :: TRef.binary (.of main_c_3 : TRef sig ⟨S_, .i32⟩) main_call0_call0.v1 (.of main_call0_v1 : TRef sig ⟨S_, .i1⟩) (cmpi .sgt)
  :: TRef.nullary (.of main_call0_c_2 : TRef sig ⟨S_, .i32⟩) (constantI S_ 32 2147483648#32)
  :: TRef.nullary (.of main_call0_c_3 : TRef sig ⟨S_, .i32⟩) (constantI S_ 32 2147483647#32)
  :: TRef.binary (.of main_call0_c_2 : TRef sig ⟨S_, .i32⟩) (.of main_c_2 : TRef sig ⟨S_, .i32⟩) (.of main_call0_call1_v0 : TRef sig ⟨S_, .i32⟩) maxsi
  :: TRef.binary (.of main_call0_c_3 : TRef sig ⟨S_, .i32⟩) (.of main_call0_call1_v0 : TRef sig ⟨S_, .i32⟩) (.of main_call0_v2 : TRef sig ⟨S_, .i32⟩) minsi
  :: TRef.unary main_call0_call1.v1 (.of main_call0_v3 : TRef sig ⟨S_, .i32⟩) id
  :: TRef.nullary (.of main_call0_c_4 : TRef sig ⟨S_, .i32⟩) (constantI S_ 32 2147483648#32)
  :: TRef.nullary (.of main_call0_c_5 : TRef sig ⟨S_, .i32⟩) (constantI S_ 32 2147483647#32)
  :: TRef.binary (.of main_call0_c_4 : TRef sig ⟨S_, .i32⟩) (.of main_c_3 : TRef sig ⟨S_, .i32⟩) (.of main_call0_call2_v0 : TRef sig ⟨S_, .i32⟩) maxsi
  :: TRef.binary (.of main_call0_c_5 : TRef sig ⟨S_, .i32⟩) (.of main_call0_call2_v0 : TRef sig ⟨S_, .i32⟩) (.of main_call0_v4 : TRef sig ⟨S_, .i32⟩) minsi
  :: TRef.unary main_call0_call2.v1 (.of main_call0_v5 : TRef sig ⟨S_, .i32⟩) id
  :: TRef.unary (.of main_call0_v3 : TRef sig ⟨S_, .i32⟩) (.of main_call0_v6 : TRef sig ⟨S1, .i32⟩) (broadcastInDim S1 ![] bcast_S_S1)
  :: TRef.unary (.of main_call0_v5 : TRef sig ⟨S_, .i32⟩) (.of main_call0_v7 : TRef sig ⟨S1, .i32⟩) (broadcastInDim S1 ![] bcast_S_S1)
  :: TRef.unary (.of main_v7 : TRef sig ⟨S2, .i32⟩) (.of main_call0_call3_v0 : TRef sig ⟨S1, .i32⟩) (extractStridedSlice S1 ![0] · slices_S2_S1_0)
  :: TRef.reshape (.of main_call0_call3_v0 : TRef sig ⟨S1, .i32⟩) (.of main_call0_call3_v1 : TRef sig ⟨S_, .i32⟩) (rfl : (.i32 : EltTy) = .i32) shapeCasts_S1_S_
  :: TRef.unary (.of main_v7 : TRef sig ⟨S2, .i32⟩) (.of main_call0_call3_v2 : TRef sig ⟨S1, .i32⟩) (extractStridedSlice S1 ![1] · slices_S2_S1_1)
  :: TRef.reshape (.of main_call0_call3_v2 : TRef sig ⟨S1, .i32⟩) (.of main_call0_call3_v3 : TRef sig ⟨S_, .i32⟩) (rfl : (.i32 : EltTy) = .i32) shapeCasts_S1_S_
  :: TRef.nullary (.of main_call0_call3_v4 : TRef sig ⟨S2, .i64⟩) (iotaInDim S2 64 0)
  :: TRef.nullary (.of main_call0_call3_c : TRef sig ⟨S_, .i64⟩) (constantI S_ 64 1#64)
  :: TRef.unary (.of main_call0_call3_c : TRef sig ⟨S_, .i64⟩) (.of main_call0_call3_v5 : TRef sig ⟨S2, .i64⟩) (broadcastInDim S2 ![] bcast_S_S2)
  :: TRef.binary (.of main_call0_call3_v5 : TRef sig ⟨S2, .i64⟩) (.of main_call0_call3_v4 : TRef sig ⟨S2, .i64⟩) (.of main_call0_call3_v6 : TRef sig ⟨S2, .i64⟩) muli
  :: TRef.nullary (.of main_call0_call3_c_0 : TRef sig ⟨S_, .i64⟩) (constantI S_ 64 32#64)
  :: TRef.unary (.of main_call0_call3_c_0 : TRef sig ⟨S_, .i64⟩) (.of main_call0_call3_v7 : TRef sig ⟨S2, .i64⟩) (broadcastInDim S2 ![] bcast_S_S2)
  :: TRef.binary (.of main_call0_call3_v6 : TRef sig ⟨S2, .i64⟩) (.of main_call0_call3_v7 : TRef sig ⟨S2, .i64⟩) (.of main_call0_call3_v8 : TRef sig ⟨S2, .i64⟩) Host.shrui
  :: TRef.unary (.of main_call0_call3_v6 : TRef sig ⟨S2, .i64⟩) (.of main_call0_call3_v9 : TRef sig ⟨S2, .i32⟩) (trunci 32 · natLt_32_64)
  :: TRef.unary (.of main_call0_call3_v8 : TRef sig ⟨S2, .i64⟩) (.of main_call0_call3_v10 : TRef sig ⟨S2, .i32⟩) (trunci 32 · natLt_32_64)
  :: TRef.binary (.of main_call0_call3_v1 : TRef sig ⟨S_, .i32⟩) (.of main_call0_call3_v3 : TRef sig ⟨S_, .i32⟩) (.of main_call0_call3_call0_v0 : TRef sig ⟨S_, .i32⟩) xori
  :: TRef.nullary (.of main_call0_call3_call0_c : TRef sig ⟨S_, .i32⟩) (constantI S_ 32 466688986#32)
  :: TRef.binary (.of main_call0_call3_call0_v0 : TRef sig ⟨S_, .i32⟩) (.of main_call0_call3_call0_c : TRef sig ⟨S_, .i32⟩) (.of main_call0_call3_call0_v1 : TRef sig ⟨S_, .i32⟩) xori
  :: TRef.unary (.of main_call0_call3_v1 : TRef sig ⟨S_, .i32⟩) (.of main_call0_call3_call0_v2 : TRef sig ⟨S2, .i32⟩) (broadcastInDim S2 ![] bcast_S_S2)
  :: TRef.binary (.of main_call0_call3_v10 : TRef sig ⟨S2, .i32⟩) (.of main_call0_call3_call0_v2 : TRef sig ⟨S2, .i32⟩) (.of main_call0_call3_call0_v3 : TRef sig ⟨S2, .i32⟩) addi
  :: TRef.unary (.of main_call0_call3_v3 : TRef sig ⟨S_, .i32⟩) (.of main_call0_call3_call0_v4 : TRef sig ⟨S2, .i32⟩) (broadcastInDim S2 ![] bcast_S_S2)
  :: TRef.binary (.of main_call0_call3_v9 : TRef sig ⟨S2, .i32⟩) (.of main_call0_call3_call0_v4 : TRef sig ⟨S2, .i32⟩) (.of main_call0_call3_call0_v5 : TRef sig ⟨S2, .i32⟩) addi
  :: TRef.binary (.of main_call0_call3_call0_v3 : TRef sig ⟨S2, .i32⟩) (.of main_call0_call3_call0_v5 : TRef sig ⟨S2, .i32⟩) (.of main_call0_call3_call0_v6 : TRef sig ⟨S2, .i32⟩) addi
  :: TRef.nullary (.of main_call0_call3_call0_c_0 : TRef sig ⟨S_, .i32⟩) (constantI S_ 32 13#32)
  :: TRef.unary (.of main_call0_call3_call0_c_0 : TRef sig ⟨S_, .i32⟩) (.of main_call0_call3_call0_v7 : TRef sig ⟨S2, .i32⟩) (broadcastInDim S2 ![] bcast_S_S2)
  :: TRef.binary (.of main_call0_call3_call0_v5 : TRef sig ⟨S2, .i32⟩) (.of main_call0_call3_call0_v7 : TRef sig ⟨S2, .i32⟩) (.of main_call0_call3_call0_v8 : TRef sig ⟨S2, .i32⟩) Host.shli
  :: TRef.nullary (.of main_call0_call3_call0_c_1 : TRef sig ⟨S_, .i32⟩) (constantI S_ 32 19#32)
  :: TRef.unary (.of main_call0_call3_call0_c_1 : TRef sig ⟨S_, .i32⟩) (.of main_call0_call3_call0_v9 : TRef sig ⟨S2, .i32⟩) (broadcastInDim S2 ![] bcast_S_S2)
  :: TRef.binary (.of main_call0_call3_call0_v5 : TRef sig ⟨S2, .i32⟩) (.of main_call0_call3_call0_v9 : TRef sig ⟨S2, .i32⟩) (.of main_call0_call3_call0_v10 : TRef sig ⟨S2, .i32⟩) Host.shrui
  :: TRef.binary (.of main_call0_call3_call0_v8 : TRef sig ⟨S2, .i32⟩) (.of main_call0_call3_call0_v10 : TRef sig ⟨S2, .i32⟩) (.of main_call0_call3_call0_v11 : TRef sig ⟨S2, .i32⟩) ori
  :: TRef.binary (.of main_call0_call3_call0_v6 : TRef sig ⟨S2, .i32⟩) (.of main_call0_call3_call0_v11 : TRef sig ⟨S2, .i32⟩) (.of main_call0_call3_call0_v12 : TRef sig ⟨S2, .i32⟩) xori
  :: TRef.binary (.of main_call0_call3_call0_v6 : TRef sig ⟨S2, .i32⟩) (.of main_call0_call3_call0_v12 : TRef sig ⟨S2, .i32⟩) (.of main_call0_call3_call0_v13 : TRef sig ⟨S2, .i32⟩) addi
  :: TRef.nullary (.of main_call0_call3_call0_c_2 : TRef sig ⟨S_, .i32⟩) (constantI S_ 32 15#32)
  :: TRef.unary (.of main_call0_call3_call0_c_2 : TRef sig ⟨S_, .i32⟩) (.of main_call0_call3_call0_v14 : TRef sig ⟨S2, .i32⟩) (broadcastInDim S2 ![] bcast_S_S2)
  :: TRef.binary (.of main_call0_call3_call0_v12 : TRef sig ⟨S2, .i32⟩) (.of main_call0_call3_call0_v14 : TRef sig ⟨S2, .i32⟩) (.of main_call0_call3_call0_v15 : TRef sig ⟨S2, .i32⟩) Host.shli
  :: TRef.nullary (.of main_call0_call3_call0_c_3 : TRef sig ⟨S_, .i32⟩) (constantI S_ 32 17#32)
  :: TRef.unary (.of main_call0_call3_call0_c_3 : TRef sig ⟨S_, .i32⟩) (.of main_call0_call3_call0_v16 : TRef sig ⟨S2, .i32⟩) (broadcastInDim S2 ![] bcast_S_S2)
  :: TRef.binary (.of main_call0_call3_call0_v12 : TRef sig ⟨S2, .i32⟩) (.of main_call0_call3_call0_v16 : TRef sig ⟨S2, .i32⟩) (.of main_call0_call3_call0_v17 : TRef sig ⟨S2, .i32⟩) Host.shrui
  :: TRef.binary (.of main_call0_call3_call0_v15 : TRef sig ⟨S2, .i32⟩) (.of main_call0_call3_call0_v17 : TRef sig ⟨S2, .i32⟩) (.of main_call0_call3_call0_v18 : TRef sig ⟨S2, .i32⟩) ori
  :: TRef.binary (.of main_call0_call3_call0_v13 : TRef sig ⟨S2, .i32⟩) (.of main_call0_call3_call0_v18 : TRef sig ⟨S2, .i32⟩) (.of main_call0_call3_call0_v19 : TRef sig ⟨S2, .i32⟩) xori
  :: TRef.binary (.of main_call0_call3_call0_v13 : TRef sig ⟨S2, .i32⟩) (.of main_call0_call3_call0_v19 : TRef sig ⟨S2, .i32⟩) (.of main_call0_call3_call0_v20 : TRef sig ⟨S2, .i32⟩) addi
  :: TRef.nullary (.of main_call0_call3_call0_c_4 : TRef sig ⟨S_, .i32⟩) (constantI S_ 32 26#32)
  :: TRef.unary (.of main_call0_call3_call0_c_4 : TRef sig ⟨S_, .i32⟩) (.of main_call0_call3_call0_v21 : TRef sig ⟨S2, .i32⟩) (broadcastInDim S2 ![] bcast_S_S2)
  :: TRef.binary (.of main_call0_call3_call0_v19 : TRef sig ⟨S2, .i32⟩) (.of main_call0_call3_call0_v21 : TRef sig ⟨S2, .i32⟩) (.of main_call0_call3_call0_v22 : TRef sig ⟨S2, .i32⟩) Host.shli
  :: TRef.nullary (.of main_call0_call3_call0_c_5 : TRef sig ⟨S_, .i32⟩) (constantI S_ 32 6#32)
  :: TRef.unary (.of main_call0_call3_call0_c_5 : TRef sig ⟨S_, .i32⟩) (.of main_call0_call3_call0_v23 : TRef sig ⟨S2, .i32⟩) (broadcastInDim S2 ![] bcast_S_S2)
  :: TRef.binary (.of main_call0_call3_call0_v19 : TRef sig ⟨S2, .i32⟩) (.of main_call0_call3_call0_v23 : TRef sig ⟨S2, .i32⟩) (.of main_call0_call3_call0_v24 : TRef sig ⟨S2, .i32⟩) Host.shrui
  :: TRef.binary (.of main_call0_call3_call0_v22 : TRef sig ⟨S2, .i32⟩) (.of main_call0_call3_call0_v24 : TRef sig ⟨S2, .i32⟩) (.of main_call0_call3_call0_v25 : TRef sig ⟨S2, .i32⟩) ori
  :: TRef.binary (.of main_call0_call3_call0_v20 : TRef sig ⟨S2, .i32⟩) (.of main_call0_call3_call0_v25 : TRef sig ⟨S2, .i32⟩) (.of main_call0_call3_call0_v26 : TRef sig ⟨S2, .i32⟩) xori
  :: TRef.binary (.of main_call0_call3_call0_v20 : TRef sig ⟨S2, .i32⟩) (.of main_call0_call3_call0_v26 : TRef sig ⟨S2, .i32⟩) (.of main_call0_call3_call0_v27 : TRef sig ⟨S2, .i32⟩) addi
  :: TRef.nullary (.of main_call0_call3_call0_c_6 : TRef sig ⟨S_, .i32⟩) (constantI S_ 32 6#32)
  :: TRef.unary (.of main_call0_call3_call0_c_6 : TRef sig ⟨S_, .i32⟩) (.of main_call0_call3_call0_v28 : TRef sig ⟨S2, .i32⟩) (broadcastInDim S2 ![] bcast_S_S2)
  :: TRef.binary (.of main_call0_call3_call0_v26 : TRef sig ⟨S2, .i32⟩) (.of main_call0_call3_call0_v28 : TRef sig ⟨S2, .i32⟩) (.of main_call0_call3_call0_v29 : TRef sig ⟨S2, .i32⟩) Host.shli
  :: TRef.nullary (.of main_call0_call3_call0_c_7 : TRef sig ⟨S_, .i32⟩) (constantI S_ 32 26#32)
  :: TRef.unary (.of main_call0_call3_call0_c_7 : TRef sig ⟨S_, .i32⟩) (.of main_call0_call3_call0_v30 : TRef sig ⟨S2, .i32⟩) (broadcastInDim S2 ![] bcast_S_S2)
  :: TRef.binary (.of main_call0_call3_call0_v26 : TRef sig ⟨S2, .i32⟩) (.of main_call0_call3_call0_v30 : TRef sig ⟨S2, .i32⟩) (.of main_call0_call3_call0_v31 : TRef sig ⟨S2, .i32⟩) Host.shrui
  :: TRef.binary (.of main_call0_call3_call0_v29 : TRef sig ⟨S2, .i32⟩) (.of main_call0_call3_call0_v31 : TRef sig ⟨S2, .i32⟩) (.of main_call0_call3_call0_v32 : TRef sig ⟨S2, .i32⟩) ori
  :: TRef.binary (.of main_call0_call3_call0_v27 : TRef sig ⟨S2, .i32⟩) (.of main_call0_call3_call0_v32 : TRef sig ⟨S2, .i32⟩) (.of main_call0_call3_call0_v33 : TRef sig ⟨S2, .i32⟩) xori
  :: TRef.unary (.of main_call0_call3_v3 : TRef sig ⟨S_, .i32⟩) (.of main_call0_call3_call0_v34 : TRef sig ⟨S2, .i32⟩) (broadcastInDim S2 ![] bcast_S_S2)
  :: TRef.binary (.of main_call0_call3_call0_v27 : TRef sig ⟨S2, .i32⟩) (.of main_call0_call3_call0_v34 : TRef sig ⟨S2, .i32⟩) (.of main_call0_call3_call0_v35 : TRef sig ⟨S2, .i32⟩) addi
  :: TRef.unary (.of main_call0_call3_call0_v1 : TRef sig ⟨S_, .i32⟩) (.of main_call0_call3_call0_v36 : TRef sig ⟨S2, .i32⟩) (broadcastInDim S2 ![] bcast_S_S2)
  :: TRef.binary (.of main_call0_call3_call0_v33 : TRef sig ⟨S2, .i32⟩) (.of main_call0_call3_call0_v36 : TRef sig ⟨S2, .i32⟩) (.of main_call0_call3_call0_v37 : TRef sig ⟨S2, .i32⟩) addi
  :: TRef.nullary (.of main_call0_call3_call0_c_8 : TRef sig ⟨S_, .i32⟩) (constantI S_ 32 1#32)
  :: TRef.unary (.of main_call0_call3_call0_c_8 : TRef sig ⟨S_, .i32⟩) (.of main_call0_call3_call0_v38 : TRef sig ⟨S2, .i32⟩) (broadcastInDim S2 ![] bcast_S_S2)
  :: TRef.binary (.of main_call0_call3_call0_v37 : TRef sig ⟨S2, .i32⟩) (.of main_call0_call3_call0_v38 : TRef sig ⟨S2, .i32⟩) (.of main_call0_call3_call0_v39 : TRef sig ⟨S2, .i32⟩) addi
  :: TRef.binary (.of main_call0_call3_call0_v35 : TRef sig ⟨S2, .i32⟩) (.of main_call0_call3_call0_v39 : TRef sig ⟨S2, .i32⟩) (.of main_call0_call3_call0_v40 : TRef sig ⟨S2, .i32⟩) addi
  :: TRef.nullary (.of main_call0_call3_call0_c_9 : TRef sig ⟨S_, .i32⟩) (constantI S_ 32 17#32)
  :: TRef.unary (.of main_call0_call3_call0_c_9 : TRef sig ⟨S_, .i32⟩) (.of main_call0_call3_call0_v41 : TRef sig ⟨S2, .i32⟩) (broadcastInDim S2 ![] bcast_S_S2)
  :: TRef.binary (.of main_call0_call3_call0_v39 : TRef sig ⟨S2, .i32⟩) (.of main_call0_call3_call0_v41 : TRef sig ⟨S2, .i32⟩) (.of main_call0_call3_call0_v42 : TRef sig ⟨S2, .i32⟩) Host.shli
  :: TRef.nullary (.of main_call0_call3_call0_c_10 : TRef sig ⟨S_, .i32⟩) (constantI S_ 32 15#32)
  :: TRef.unary (.of main_call0_call3_call0_c_10 : TRef sig ⟨S_, .i32⟩) (.of main_call0_call3_call0_v43 : TRef sig ⟨S2, .i32⟩) (broadcastInDim S2 ![] bcast_S_S2)
  :: TRef.binary (.of main_call0_call3_call0_v39 : TRef sig ⟨S2, .i32⟩) (.of main_call0_call3_call0_v43 : TRef sig ⟨S2, .i32⟩) (.of main_call0_call3_call0_v44 : TRef sig ⟨S2, .i32⟩) Host.shrui
  :: TRef.binary (.of main_call0_call3_call0_v42 : TRef sig ⟨S2, .i32⟩) (.of main_call0_call3_call0_v44 : TRef sig ⟨S2, .i32⟩) (.of main_call0_call3_call0_v45 : TRef sig ⟨S2, .i32⟩) ori
  :: TRef.binary (.of main_call0_call3_call0_v40 : TRef sig ⟨S2, .i32⟩) (.of main_call0_call3_call0_v45 : TRef sig ⟨S2, .i32⟩) (.of main_call0_call3_call0_v46 : TRef sig ⟨S2, .i32⟩) xori
  :: TRef.binary (.of main_call0_call3_call0_v40 : TRef sig ⟨S2, .i32⟩) (.of main_call0_call3_call0_v46 : TRef sig ⟨S2, .i32⟩) (.of main_call0_call3_call0_v47 : TRef sig ⟨S2, .i32⟩) addi
  :: TRef.nullary (.of main_call0_call3_call0_c_11 : TRef sig ⟨S_, .i32⟩) (constantI S_ 32 29#32)
  :: TRef.unary (.of main_call0_call3_call0_c_11 : TRef sig ⟨S_, .i32⟩) (.of main_call0_call3_call0_v48 : TRef sig ⟨S2, .i32⟩) (broadcastInDim S2 ![] bcast_S_S2)
  :: TRef.binary (.of main_call0_call3_call0_v46 : TRef sig ⟨S2, .i32⟩) (.of main_call0_call3_call0_v48 : TRef sig ⟨S2, .i32⟩) (.of main_call0_call3_call0_v49 : TRef sig ⟨S2, .i32⟩) Host.shli
  :: TRef.nullary (.of main_call0_call3_call0_c_12 : TRef sig ⟨S_, .i32⟩) (constantI S_ 32 3#32)
  :: TRef.unary (.of main_call0_call3_call0_c_12 : TRef sig ⟨S_, .i32⟩) (.of main_call0_call3_call0_v50 : TRef sig ⟨S2, .i32⟩) (broadcastInDim S2 ![] bcast_S_S2)
  :: TRef.binary (.of main_call0_call3_call0_v46 : TRef sig ⟨S2, .i32⟩) (.of main_call0_call3_call0_v50 : TRef sig ⟨S2, .i32⟩) (.of main_call0_call3_call0_v51 : TRef sig ⟨S2, .i32⟩) Host.shrui
  :: TRef.binary (.of main_call0_call3_call0_v49 : TRef sig ⟨S2, .i32⟩) (.of main_call0_call3_call0_v51 : TRef sig ⟨S2, .i32⟩) (.of main_call0_call3_call0_v52 : TRef sig ⟨S2, .i32⟩) ori
  :: TRef.binary (.of main_call0_call3_call0_v47 : TRef sig ⟨S2, .i32⟩) (.of main_call0_call3_call0_v52 : TRef sig ⟨S2, .i32⟩) (.of main_call0_call3_call0_v53 : TRef sig ⟨S2, .i32⟩) xori
  :: TRef.binary (.of main_call0_call3_call0_v47 : TRef sig ⟨S2, .i32⟩) (.of main_call0_call3_call0_v53 : TRef sig ⟨S2, .i32⟩) (.of main_call0_call3_call0_v54 : TRef sig ⟨S2, .i32⟩) addi
  :: TRef.nullary (.of main_call0_call3_call0_c_13 : TRef sig ⟨S_, .i32⟩) (constantI S_ 32 16#32)
  :: TRef.unary (.of main_call0_call3_call0_c_13 : TRef sig ⟨S_, .i32⟩) (.of main_call0_call3_call0_v55 : TRef sig ⟨S2, .i32⟩) (broadcastInDim S2 ![] bcast_S_S2)
  :: TRef.binary (.of main_call0_call3_call0_v53 : TRef sig ⟨S2, .i32⟩) (.of main_call0_call3_call0_v55 : TRef sig ⟨S2, .i32⟩) (.of main_call0_call3_call0_v56 : TRef sig ⟨S2, .i32⟩) Host.shli
  :: TRef.nullary (.of main_call0_call3_call0_c_14 : TRef sig ⟨S_, .i32⟩) (constantI S_ 32 16#32)
  :: TRef.unary (.of main_call0_call3_call0_c_14 : TRef sig ⟨S_, .i32⟩) (.of main_call0_call3_call0_v57 : TRef sig ⟨S2, .i32⟩) (broadcastInDim S2 ![] bcast_S_S2)
  :: TRef.binary (.of main_call0_call3_call0_v53 : TRef sig ⟨S2, .i32⟩) (.of main_call0_call3_call0_v57 : TRef sig ⟨S2, .i32⟩) (.of main_call0_call3_call0_v58 : TRef sig ⟨S2, .i32⟩) Host.shrui
  :: TRef.binary (.of main_call0_call3_call0_v56 : TRef sig ⟨S2, .i32⟩) (.of main_call0_call3_call0_v58 : TRef sig ⟨S2, .i32⟩) (.of main_call0_call3_call0_v59 : TRef sig ⟨S2, .i32⟩) ori
  :: TRef.binary (.of main_call0_call3_call0_v54 : TRef sig ⟨S2, .i32⟩) (.of main_call0_call3_call0_v59 : TRef sig ⟨S2, .i32⟩) (.of main_call0_call3_call0_v60 : TRef sig ⟨S2, .i32⟩) xori
  :: TRef.binary (.of main_call0_call3_call0_v54 : TRef sig ⟨S2, .i32⟩) (.of main_call0_call3_call0_v60 : TRef sig ⟨S2, .i32⟩) (.of main_call0_call3_call0_v61 : TRef sig ⟨S2, .i32⟩) addi
  :: TRef.nullary (.of main_call0_call3_call0_c_15 : TRef sig ⟨S_, .i32⟩) (constantI S_ 32 24#32)
  :: TRef.unary (.of main_call0_call3_call0_c_15 : TRef sig ⟨S_, .i32⟩) (.of main_call0_call3_call0_v62 : TRef sig ⟨S2, .i32⟩) (broadcastInDim S2 ![] bcast_S_S2)
  :: TRef.binary (.of main_call0_call3_call0_v60 : TRef sig ⟨S2, .i32⟩) (.of main_call0_call3_call0_v62 : TRef sig ⟨S2, .i32⟩) (.of main_call0_call3_call0_v63 : TRef sig ⟨S2, .i32⟩) Host.shli
  :: TRef.nullary (.of main_call0_call3_call0_c_16 : TRef sig ⟨S_, .i32⟩) (constantI S_ 32 8#32)
  :: TRef.unary (.of main_call0_call3_call0_c_16 : TRef sig ⟨S_, .i32⟩) (.of main_call0_call3_call0_v64 : TRef sig ⟨S2, .i32⟩) (broadcastInDim S2 ![] bcast_S_S2)
  :: TRef.binary (.of main_call0_call3_call0_v60 : TRef sig ⟨S2, .i32⟩) (.of main_call0_call3_call0_v64 : TRef sig ⟨S2, .i32⟩) (.of main_call0_call3_call0_v65 : TRef sig ⟨S2, .i32⟩) Host.shrui
  :: TRef.binary (.of main_call0_call3_call0_v63 : TRef sig ⟨S2, .i32⟩) (.of main_call0_call3_call0_v65 : TRef sig ⟨S2, .i32⟩) (.of main_call0_call3_call0_v66 : TRef sig ⟨S2, .i32⟩) ori
  :: TRef.binary (.of main_call0_call3_call0_v61 : TRef sig ⟨S2, .i32⟩) (.of main_call0_call3_call0_v66 : TRef sig ⟨S2, .i32⟩) (.of main_call0_call3_call0_v67 : TRef sig ⟨S2, .i32⟩) xori
  :: TRef.unary (.of main_call0_call3_call0_v1 : TRef sig ⟨S_, .i32⟩) (.of main_call0_call3_call0_v68 : TRef sig ⟨S2, .i32⟩) (broadcastInDim S2 ![] bcast_S_S2)
  :: TRef.binary (.of main_call0_call3_call0_v61 : TRef sig ⟨S2, .i32⟩) (.of main_call0_call3_call0_v68 : TRef sig ⟨S2, .i32⟩) (.of main_call0_call3_call0_v69 : TRef sig ⟨S2, .i32⟩) addi
  :: TRef.unary (.of main_call0_call3_v1 : TRef sig ⟨S_, .i32⟩) (.of main_call0_call3_call0_v70 : TRef sig ⟨S2, .i32⟩) (broadcastInDim S2 ![] bcast_S_S2)
  :: TRef.binary (.of main_call0_call3_call0_v67 : TRef sig ⟨S2, .i32⟩) (.of main_call0_call3_call0_v70 : TRef sig ⟨S2, .i32⟩) (.of main_call0_call3_call0_v71 : TRef sig ⟨S2, .i32⟩) addi
  :: TRef.nullary (.of main_call0_call3_call0_c_17 : TRef sig ⟨S_, .i32⟩) (constantI S_ 32 2#32)
  :: TRef.unary (.of main_call0_call3_call0_c_17 : TRef sig ⟨S_, .i32⟩) (.of main_call0_call3_call0_v72 : TRef sig ⟨S2, .i32⟩) (broadcastInDim S2 ![] bcast_S_S2)
  :: TRef.binary (.of main_call0_call3_call0_v71 : TRef sig ⟨S2, .i32⟩) (.of main_call0_call3_call0_v72 : TRef sig ⟨S2, .i32⟩) (.of main_call0_call3_call0_v73 : TRef sig ⟨S2, .i32⟩) addi
  :: TRef.binary (.of main_call0_call3_call0_v69 : TRef sig ⟨S2, .i32⟩) (.of main_call0_call3_call0_v73 : TRef sig ⟨S2, .i32⟩) (.of main_call0_call3_call0_v74 : TRef sig ⟨S2, .i32⟩) addi
  :: TRef.nullary (.of main_call0_call3_call0_c_18 : TRef sig ⟨S_, .i32⟩) (constantI S_ 32 13#32)
  :: TRef.unary (.of main_call0_call3_call0_c_18 : TRef sig ⟨S_, .i32⟩) (.of main_call0_call3_call0_v75 : TRef sig ⟨S2, .i32⟩) (broadcastInDim S2 ![] bcast_S_S2)
  :: TRef.binary (.of main_call0_call3_call0_v73 : TRef sig ⟨S2, .i32⟩) (.of main_call0_call3_call0_v75 : TRef sig ⟨S2, .i32⟩) (.of main_call0_call3_call0_v76 : TRef sig ⟨S2, .i32⟩) Host.shli
  :: TRef.nullary (.of main_call0_call3_call0_c_19 : TRef sig ⟨S_, .i32⟩) (constantI S_ 32 19#32)
  :: TRef.unary (.of main_call0_call3_call0_c_19 : TRef sig ⟨S_, .i32⟩) (.of main_call0_call3_call0_v77 : TRef sig ⟨S2, .i32⟩) (broadcastInDim S2 ![] bcast_S_S2)
  :: TRef.binary (.of main_call0_call3_call0_v73 : TRef sig ⟨S2, .i32⟩) (.of main_call0_call3_call0_v77 : TRef sig ⟨S2, .i32⟩) (.of main_call0_call3_call0_v78 : TRef sig ⟨S2, .i32⟩) Host.shrui
  :: TRef.binary (.of main_call0_call3_call0_v76 : TRef sig ⟨S2, .i32⟩) (.of main_call0_call3_call0_v78 : TRef sig ⟨S2, .i32⟩) (.of main_call0_call3_call0_v79 : TRef sig ⟨S2, .i32⟩) ori
  :: TRef.binary (.of main_call0_call3_call0_v74 : TRef sig ⟨S2, .i32⟩) (.of main_call0_call3_call0_v79 : TRef sig ⟨S2, .i32⟩) (.of main_call0_call3_call0_v80 : TRef sig ⟨S2, .i32⟩) xori
  :: TRef.binary (.of main_call0_call3_call0_v74 : TRef sig ⟨S2, .i32⟩) (.of main_call0_call3_call0_v80 : TRef sig ⟨S2, .i32⟩) (.of main_call0_call3_call0_v81 : TRef sig ⟨S2, .i32⟩) addi
  :: TRef.nullary (.of main_call0_call3_call0_c_20 : TRef sig ⟨S_, .i32⟩) (constantI S_ 32 15#32)
  :: TRef.unary (.of main_call0_call3_call0_c_20 : TRef sig ⟨S_, .i32⟩) (.of main_call0_call3_call0_v82 : TRef sig ⟨S2, .i32⟩) (broadcastInDim S2 ![] bcast_S_S2)
  :: TRef.binary (.of main_call0_call3_call0_v80 : TRef sig ⟨S2, .i32⟩) (.of main_call0_call3_call0_v82 : TRef sig ⟨S2, .i32⟩) (.of main_call0_call3_call0_v83 : TRef sig ⟨S2, .i32⟩) Host.shli
  :: TRef.nullary (.of main_call0_call3_call0_c_21 : TRef sig ⟨S_, .i32⟩) (constantI S_ 32 17#32)
  :: TRef.unary (.of main_call0_call3_call0_c_21 : TRef sig ⟨S_, .i32⟩) (.of main_call0_call3_call0_v84 : TRef sig ⟨S2, .i32⟩) (broadcastInDim S2 ![] bcast_S_S2)
  :: TRef.binary (.of main_call0_call3_call0_v80 : TRef sig ⟨S2, .i32⟩) (.of main_call0_call3_call0_v84 : TRef sig ⟨S2, .i32⟩) (.of main_call0_call3_call0_v85 : TRef sig ⟨S2, .i32⟩) Host.shrui
  :: TRef.binary (.of main_call0_call3_call0_v83 : TRef sig ⟨S2, .i32⟩) (.of main_call0_call3_call0_v85 : TRef sig ⟨S2, .i32⟩) (.of main_call0_call3_call0_v86 : TRef sig ⟨S2, .i32⟩) ori
  :: TRef.binary (.of main_call0_call3_call0_v81 : TRef sig ⟨S2, .i32⟩) (.of main_call0_call3_call0_v86 : TRef sig ⟨S2, .i32⟩) (.of main_call0_call3_call0_v87 : TRef sig ⟨S2, .i32⟩) xori
  :: TRef.binary (.of main_call0_call3_call0_v81 : TRef sig ⟨S2, .i32⟩) (.of main_call0_call3_call0_v87 : TRef sig ⟨S2, .i32⟩) (.of main_call0_call3_call0_v88 : TRef sig ⟨S2, .i32⟩) addi
  :: TRef.nullary (.of main_call0_call3_call0_c_22 : TRef sig ⟨S_, .i32⟩) (constantI S_ 32 26#32)
  :: TRef.unary (.of main_call0_call3_call0_c_22 : TRef sig ⟨S_, .i32⟩) (.of main_call0_call3_call0_v89 : TRef sig ⟨S2, .i32⟩) (broadcastInDim S2 ![] bcast_S_S2)
  :: TRef.binary (.of main_call0_call3_call0_v87 : TRef sig ⟨S2, .i32⟩) (.of main_call0_call3_call0_v89 : TRef sig ⟨S2, .i32⟩) (.of main_call0_call3_call0_v90 : TRef sig ⟨S2, .i32⟩) Host.shli
  :: TRef.nullary (.of main_call0_call3_call0_c_23 : TRef sig ⟨S_, .i32⟩) (constantI S_ 32 6#32)
  :: TRef.unary (.of main_call0_call3_call0_c_23 : TRef sig ⟨S_, .i32⟩) (.of main_call0_call3_call0_v91 : TRef sig ⟨S2, .i32⟩) (broadcastInDim S2 ![] bcast_S_S2)
  :: TRef.binary (.of main_call0_call3_call0_v87 : TRef sig ⟨S2, .i32⟩) (.of main_call0_call3_call0_v91 : TRef sig ⟨S2, .i32⟩) (.of main_call0_call3_call0_v92 : TRef sig ⟨S2, .i32⟩) Host.shrui
  :: TRef.binary (.of main_call0_call3_call0_v90 : TRef sig ⟨S2, .i32⟩) (.of main_call0_call3_call0_v92 : TRef sig ⟨S2, .i32⟩) (.of main_call0_call3_call0_v93 : TRef sig ⟨S2, .i32⟩) ori
  :: TRef.binary (.of main_call0_call3_call0_v88 : TRef sig ⟨S2, .i32⟩) (.of main_call0_call3_call0_v93 : TRef sig ⟨S2, .i32⟩) (.of main_call0_call3_call0_v94 : TRef sig ⟨S2, .i32⟩) xori
  :: TRef.binary (.of main_call0_call3_call0_v88 : TRef sig ⟨S2, .i32⟩) (.of main_call0_call3_call0_v94 : TRef sig ⟨S2, .i32⟩) (.of main_call0_call3_call0_v95 : TRef sig ⟨S2, .i32⟩) addi
  :: TRef.nullary (.of main_call0_call3_call0_c_24 : TRef sig ⟨S_, .i32⟩) (constantI S_ 32 6#32)
  :: TRef.unary (.of main_call0_call3_call0_c_24 : TRef sig ⟨S_, .i32⟩) (.of main_call0_call3_call0_v96 : TRef sig ⟨S2, .i32⟩) (broadcastInDim S2 ![] bcast_S_S2)
  :: TRef.binary (.of main_call0_call3_call0_v94 : TRef sig ⟨S2, .i32⟩) (.of main_call0_call3_call0_v96 : TRef sig ⟨S2, .i32⟩) (.of main_call0_call3_call0_v97 : TRef sig ⟨S2, .i32⟩) Host.shli
  :: TRef.nullary (.of main_call0_call3_call0_c_25 : TRef sig ⟨S_, .i32⟩) (constantI S_ 32 26#32)
  :: TRef.unary (.of main_call0_call3_call0_c_25 : TRef sig ⟨S_, .i32⟩) (.of main_call0_call3_call0_v98 : TRef sig ⟨S2, .i32⟩) (broadcastInDim S2 ![] bcast_S_S2)
  :: TRef.binary (.of main_call0_call3_call0_v94 : TRef sig ⟨S2, .i32⟩) (.of main_call0_call3_call0_v98 : TRef sig ⟨S2, .i32⟩) (.of main_call0_call3_call0_v99 : TRef sig ⟨S2, .i32⟩) Host.shrui
  :: TRef.binary (.of main_call0_call3_call0_v97 : TRef sig ⟨S2, .i32⟩) (.of main_call0_call3_call0_v99 : TRef sig ⟨S2, .i32⟩) (.of main_call0_call3_call0_v100 : TRef sig ⟨S2, .i32⟩) ori
  :: TRef.binary (.of main_call0_call3_call0_v95 : TRef sig ⟨S2, .i32⟩) (.of main_call0_call3_call0_v100 : TRef sig ⟨S2, .i32⟩) (.of main_call0_call3_call0_v101 : TRef sig ⟨S2, .i32⟩) xori
  :: TRef.unary (.of main_call0_call3_v1 : TRef sig ⟨S_, .i32⟩) (.of main_call0_call3_call0_v102 : TRef sig ⟨S2, .i32⟩) (broadcastInDim S2 ![] bcast_S_S2)
  :: TRef.binary (.of main_call0_call3_call0_v95 : TRef sig ⟨S2, .i32⟩) (.of main_call0_call3_call0_v102 : TRef sig ⟨S2, .i32⟩) (.of main_call0_call3_call0_v103 : TRef sig ⟨S2, .i32⟩) addi
  :: TRef.unary (.of main_call0_call3_v3 : TRef sig ⟨S_, .i32⟩) (.of main_call0_call3_call0_v104 : TRef sig ⟨S2, .i32⟩) (broadcastInDim S2 ![] bcast_S_S2)
  :: TRef.binary (.of main_call0_call3_call0_v101 : TRef sig ⟨S2, .i32⟩) (.of main_call0_call3_call0_v104 : TRef sig ⟨S2, .i32⟩) (.of main_call0_call3_call0_v105 : TRef sig ⟨S2, .i32⟩) addi
  :: TRef.nullary (.of main_call0_call3_call0_c_26 : TRef sig ⟨S_, .i32⟩) (constantI S_ 32 3#32)
  :: TRef.unary (.of main_call0_call3_call0_c_26 : TRef sig ⟨S_, .i32⟩) (.of main_call0_call3_call0_v106 : TRef sig ⟨S2, .i32⟩) (broadcastInDim S2 ![] bcast_S_S2)
  :: TRef.binary (.of main_call0_call3_call0_v105 : TRef sig ⟨S2, .i32⟩) (.of main_call0_call3_call0_v106 : TRef sig ⟨S2, .i32⟩) (.of main_call0_call3_call0_v107 : TRef sig ⟨S2, .i32⟩) addi
  :: TRef.binary (.of main_call0_call3_call0_v103 : TRef sig ⟨S2, .i32⟩) (.of main_call0_call3_call0_v107 : TRef sig ⟨S2, .i32⟩) (.of main_call0_call3_call0_v108 : TRef sig ⟨S2, .i32⟩) addi
  :: TRef.nullary (.of main_call0_call3_call0_c_27 : TRef sig ⟨S_, .i32⟩) (constantI S_ 32 17#32)
  :: TRef.unary (.of main_call0_call3_call0_c_27 : TRef sig ⟨S_, .i32⟩) (.of main_call0_call3_call0_v109 : TRef sig ⟨S2, .i32⟩) (broadcastInDim S2 ![] bcast_S_S2)
  :: TRef.binary (.of main_call0_call3_call0_v107 : TRef sig ⟨S2, .i32⟩) (.of main_call0_call3_call0_v109 : TRef sig ⟨S2, .i32⟩) (.of main_call0_call3_call0_v110 : TRef sig ⟨S2, .i32⟩) Host.shli
  :: TRef.nullary (.of main_call0_call3_call0_c_28 : TRef sig ⟨S_, .i32⟩) (constantI S_ 32 15#32)
  :: TRef.unary (.of main_call0_call3_call0_c_28 : TRef sig ⟨S_, .i32⟩) (.of main_call0_call3_call0_v111 : TRef sig ⟨S2, .i32⟩) (broadcastInDim S2 ![] bcast_S_S2)
  :: TRef.binary (.of main_call0_call3_call0_v107 : TRef sig ⟨S2, .i32⟩) (.of main_call0_call3_call0_v111 : TRef sig ⟨S2, .i32⟩) (.of main_call0_call3_call0_v112 : TRef sig ⟨S2, .i32⟩) Host.shrui
  :: TRef.binary (.of main_call0_call3_call0_v110 : TRef sig ⟨S2, .i32⟩) (.of main_call0_call3_call0_v112 : TRef sig ⟨S2, .i32⟩) (.of main_call0_call3_call0_v113 : TRef sig ⟨S2, .i32⟩) ori
  :: TRef.binary (.of main_call0_call3_call0_v108 : TRef sig ⟨S2, .i32⟩) (.of main_call0_call3_call0_v113 : TRef sig ⟨S2, .i32⟩) (.of main_call0_call3_call0_v114 : TRef sig ⟨S2, .i32⟩) xori
  :: TRef.binary (.of main_call0_call3_call0_v108 : TRef sig ⟨S2, .i32⟩) (.of main_call0_call3_call0_v114 : TRef sig ⟨S2, .i32⟩) (.of main_call0_call3_call0_v115 : TRef sig ⟨S2, .i32⟩) addi
  :: TRef.nullary (.of main_call0_call3_call0_c_29 : TRef sig ⟨S_, .i32⟩) (constantI S_ 32 29#32)
  :: TRef.unary (.of main_call0_call3_call0_c_29 : TRef sig ⟨S_, .i32⟩) (.of main_call0_call3_call0_v116 : TRef sig ⟨S2, .i32⟩) (broadcastInDim S2 ![] bcast_S_S2)
  :: TRef.binary (.of main_call0_call3_call0_v114 : TRef sig ⟨S2, .i32⟩) (.of main_call0_call3_call0_v116 : TRef sig ⟨S2, .i32⟩) (.of main_call0_call3_call0_v117 : TRef sig ⟨S2, .i32⟩) Host.shli
  :: TRef.nullary (.of main_call0_call3_call0_c_30 : TRef sig ⟨S_, .i32⟩) (constantI S_ 32 3#32)
  :: TRef.unary (.of main_call0_call3_call0_c_30 : TRef sig ⟨S_, .i32⟩) (.of main_call0_call3_call0_v118 : TRef sig ⟨S2, .i32⟩) (broadcastInDim S2 ![] bcast_S_S2)
  :: TRef.binary (.of main_call0_call3_call0_v114 : TRef sig ⟨S2, .i32⟩) (.of main_call0_call3_call0_v118 : TRef sig ⟨S2, .i32⟩) (.of main_call0_call3_call0_v119 : TRef sig ⟨S2, .i32⟩) Host.shrui
  :: TRef.binary (.of main_call0_call3_call0_v117 : TRef sig ⟨S2, .i32⟩) (.of main_call0_call3_call0_v119 : TRef sig ⟨S2, .i32⟩) (.of main_call0_call3_call0_v120 : TRef sig ⟨S2, .i32⟩) ori
  :: TRef.binary (.of main_call0_call3_call0_v115 : TRef sig ⟨S2, .i32⟩) (.of main_call0_call3_call0_v120 : TRef sig ⟨S2, .i32⟩) (.of main_call0_call3_call0_v121 : TRef sig ⟨S2, .i32⟩) xori
  :: TRef.binary (.of main_call0_call3_call0_v115 : TRef sig ⟨S2, .i32⟩) (.of main_call0_call3_call0_v121 : TRef sig ⟨S2, .i32⟩) (.of main_call0_call3_call0_v122 : TRef sig ⟨S2, .i32⟩) addi
  :: TRef.nullary (.of main_call0_call3_call0_c_31 : TRef sig ⟨S_, .i32⟩) (constantI S_ 32 16#32)
  :: TRef.unary (.of main_call0_call3_call0_c_31 : TRef sig ⟨S_, .i32⟩) (.of main_call0_call3_call0_v123 : TRef sig ⟨S2, .i32⟩) (broadcastInDim S2 ![] bcast_S_S2)
  :: TRef.binary (.of main_call0_call3_call0_v121 : TRef sig ⟨S2, .i32⟩) (.of main_call0_call3_call0_v123 : TRef sig ⟨S2, .i32⟩) (.of main_call0_call3_call0_v124 : TRef sig ⟨S2, .i32⟩) Host.shli
  :: TRef.nullary (.of main_call0_call3_call0_c_32 : TRef sig ⟨S_, .i32⟩) (constantI S_ 32 16#32)
  :: TRef.unary (.of main_call0_call3_call0_c_32 : TRef sig ⟨S_, .i32⟩) (.of main_call0_call3_call0_v125 : TRef sig ⟨S2, .i32⟩) (broadcastInDim S2 ![] bcast_S_S2)
  :: TRef.binary (.of main_call0_call3_call0_v121 : TRef sig ⟨S2, .i32⟩) (.of main_call0_call3_call0_v125 : TRef sig ⟨S2, .i32⟩) (.of main_call0_call3_call0_v126 : TRef sig ⟨S2, .i32⟩) Host.shrui
  :: TRef.binary (.of main_call0_call3_call0_v124 : TRef sig ⟨S2, .i32⟩) (.of main_call0_call3_call0_v126 : TRef sig ⟨S2, .i32⟩) (.of main_call0_call3_call0_v127 : TRef sig ⟨S2, .i32⟩) ori
  :: TRef.binary (.of main_call0_call3_call0_v122 : TRef sig ⟨S2, .i32⟩) (.of main_call0_call3_call0_v127 : TRef sig ⟨S2, .i32⟩) (.of main_call0_call3_call0_v128 : TRef sig ⟨S2, .i32⟩) xori
  :: TRef.binary (.of main_call0_call3_call0_v122 : TRef sig ⟨S2, .i32⟩) (.of main_call0_call3_call0_v128 : TRef sig ⟨S2, .i32⟩) (.of main_call0_call3_call0_v129 : TRef sig ⟨S2, .i32⟩) addi
  :: TRef.nullary (.of main_call0_call3_call0_c_33 : TRef sig ⟨S_, .i32⟩) (constantI S_ 32 24#32)
  :: TRef.unary (.of main_call0_call3_call0_c_33 : TRef sig ⟨S_, .i32⟩) (.of main_call0_call3_call0_v130 : TRef sig ⟨S2, .i32⟩) (broadcastInDim S2 ![] bcast_S_S2)
  :: TRef.binary (.of main_call0_call3_call0_v128 : TRef sig ⟨S2, .i32⟩) (.of main_call0_call3_call0_v130 : TRef sig ⟨S2, .i32⟩) (.of main_call0_call3_call0_v131 : TRef sig ⟨S2, .i32⟩) Host.shli
  :: TRef.nullary (.of main_call0_call3_call0_c_34 : TRef sig ⟨S_, .i32⟩) (constantI S_ 32 8#32)
  :: TRef.unary (.of main_call0_call3_call0_c_34 : TRef sig ⟨S_, .i32⟩) (.of main_call0_call3_call0_v132 : TRef sig ⟨S2, .i32⟩) (broadcastInDim S2 ![] bcast_S_S2)
  :: TRef.binary (.of main_call0_call3_call0_v128 : TRef sig ⟨S2, .i32⟩) (.of main_call0_call3_call0_v132 : TRef sig ⟨S2, .i32⟩) (.of main_call0_call3_call0_v133 : TRef sig ⟨S2, .i32⟩) Host.shrui
  :: TRef.binary (.of main_call0_call3_call0_v131 : TRef sig ⟨S2, .i32⟩) (.of main_call0_call3_call0_v133 : TRef sig ⟨S2, .i32⟩) (.of main_call0_call3_call0_v134 : TRef sig ⟨S2, .i32⟩) ori
  :: TRef.binary (.of main_call0_call3_call0_v129 : TRef sig ⟨S2, .i32⟩) (.of main_call0_call3_call0_v134 : TRef sig ⟨S2, .i32⟩) (.of main_call0_call3_call0_v135 : TRef sig ⟨S2, .i32⟩) xori
  :: TRef.unary (.of main_call0_call3_v3 : TRef sig ⟨S_, .i32⟩) (.of main_call0_call3_call0_v136 : TRef sig ⟨S2, .i32⟩) (broadcastInDim S2 ![] bcast_S_S2)
  :: TRef.binary (.of main_call0_call3_call0_v129 : TRef sig ⟨S2, .i32⟩) (.of main_call0_call3_call0_v136 : TRef sig ⟨S2, .i32⟩) (.of main_call0_call3_call0_v137 : TRef sig ⟨S2, .i32⟩) addi
  :: TRef.unary (.of main_call0_call3_call0_v1 : TRef sig ⟨S_, .i32⟩) (.of main_call0_call3_call0_v138 : TRef sig ⟨S2, .i32⟩) (broadcastInDim S2 ![] bcast_S_S2)
  :: TRef.binary (.of main_call0_call3_call0_v135 : TRef sig ⟨S2, .i32⟩) (.of main_call0_call3_call0_v138 : TRef sig ⟨S2, .i32⟩) (.of main_call0_call3_call0_v139 : TRef sig ⟨S2, .i32⟩) addi
  :: TRef.nullary (.of main_call0_call3_call0_c_35 : TRef sig ⟨S_, .i32⟩) (constantI S_ 32 4#32)
  :: TRef.unary (.of main_call0_call3_call0_c_35 : TRef sig ⟨S_, .i32⟩) (.of main_call0_call3_call0_v140 : TRef sig ⟨S2, .i32⟩) (broadcastInDim S2 ![] bcast_S_S2)
  :: TRef.binary (.of main_call0_call3_call0_v139 : TRef sig ⟨S2, .i32⟩) (.of main_call0_call3_call0_v140 : TRef sig ⟨S2, .i32⟩) (.of main_call0_call3_call0_v141 : TRef sig ⟨S2, .i32⟩) addi
  :: TRef.binary (.of main_call0_call3_call0_v137 : TRef sig ⟨S2, .i32⟩) (.of main_call0_call3_call0_v141 : TRef sig ⟨S2, .i32⟩) (.of main_call0_call3_call0_v142 : TRef sig ⟨S2, .i32⟩) addi
  :: TRef.nullary (.of main_call0_call3_call0_c_36 : TRef sig ⟨S_, .i32⟩) (constantI S_ 32 13#32)
  :: TRef.unary (.of main_call0_call3_call0_c_36 : TRef sig ⟨S_, .i32⟩) (.of main_call0_call3_call0_v143 : TRef sig ⟨S2, .i32⟩) (broadcastInDim S2 ![] bcast_S_S2)
  :: TRef.binary (.of main_call0_call3_call0_v141 : TRef sig ⟨S2, .i32⟩) (.of main_call0_call3_call0_v143 : TRef sig ⟨S2, .i32⟩) (.of main_call0_call3_call0_v144 : TRef sig ⟨S2, .i32⟩) Host.shli
  :: TRef.nullary (.of main_call0_call3_call0_c_37 : TRef sig ⟨S_, .i32⟩) (constantI S_ 32 19#32)
  :: TRef.unary (.of main_call0_call3_call0_c_37 : TRef sig ⟨S_, .i32⟩) (.of main_call0_call3_call0_v145 : TRef sig ⟨S2, .i32⟩) (broadcastInDim S2 ![] bcast_S_S2)
  :: TRef.binary (.of main_call0_call3_call0_v141 : TRef sig ⟨S2, .i32⟩) (.of main_call0_call3_call0_v145 : TRef sig ⟨S2, .i32⟩) (.of main_call0_call3_call0_v146 : TRef sig ⟨S2, .i32⟩) Host.shrui
  :: TRef.binary (.of main_call0_call3_call0_v144 : TRef sig ⟨S2, .i32⟩) (.of main_call0_call3_call0_v146 : TRef sig ⟨S2, .i32⟩) (.of main_call0_call3_call0_v147 : TRef sig ⟨S2, .i32⟩) ori
  :: TRef.binary (.of main_call0_call3_call0_v142 : TRef sig ⟨S2, .i32⟩) (.of main_call0_call3_call0_v147 : TRef sig ⟨S2, .i32⟩) (.of main_call0_call3_call0_v148 : TRef sig ⟨S2, .i32⟩) xori
  :: TRef.binary (.of main_call0_call3_call0_v142 : TRef sig ⟨S2, .i32⟩) (.of main_call0_call3_call0_v148 : TRef sig ⟨S2, .i32⟩) (.of main_call0_call3_call0_v149 : TRef sig ⟨S2, .i32⟩) addi
  :: TRef.nullary (.of main_call0_call3_call0_c_38 : TRef sig ⟨S_, .i32⟩) (constantI S_ 32 15#32)
  :: TRef.unary (.of main_call0_call3_call0_c_38 : TRef sig ⟨S_, .i32⟩) (.of main_call0_call3_call0_v150 : TRef sig ⟨S2, .i32⟩) (broadcastInDim S2 ![] bcast_S_S2)
  :: TRef.binary (.of main_call0_call3_call0_v148 : TRef sig ⟨S2, .i32⟩) (.of main_call0_call3_call0_v150 : TRef sig ⟨S2, .i32⟩) (.of main_call0_call3_call0_v151 : TRef sig ⟨S2, .i32⟩) Host.shli
  :: TRef.nullary (.of main_call0_call3_call0_c_39 : TRef sig ⟨S_, .i32⟩) (constantI S_ 32 17#32)
  :: TRef.unary (.of main_call0_call3_call0_c_39 : TRef sig ⟨S_, .i32⟩) (.of main_call0_call3_call0_v152 : TRef sig ⟨S2, .i32⟩) (broadcastInDim S2 ![] bcast_S_S2)
  :: TRef.binary (.of main_call0_call3_call0_v148 : TRef sig ⟨S2, .i32⟩) (.of main_call0_call3_call0_v152 : TRef sig ⟨S2, .i32⟩) (.of main_call0_call3_call0_v153 : TRef sig ⟨S2, .i32⟩) Host.shrui
  :: TRef.binary (.of main_call0_call3_call0_v151 : TRef sig ⟨S2, .i32⟩) (.of main_call0_call3_call0_v153 : TRef sig ⟨S2, .i32⟩) (.of main_call0_call3_call0_v154 : TRef sig ⟨S2, .i32⟩) ori
  :: TRef.binary (.of main_call0_call3_call0_v149 : TRef sig ⟨S2, .i32⟩) (.of main_call0_call3_call0_v154 : TRef sig ⟨S2, .i32⟩) (.of main_call0_call3_call0_v155 : TRef sig ⟨S2, .i32⟩) xori
  :: TRef.binary (.of main_call0_call3_call0_v149 : TRef sig ⟨S2, .i32⟩) (.of main_call0_call3_call0_v155 : TRef sig ⟨S2, .i32⟩) (.of main_call0_call3_call0_v156 : TRef sig ⟨S2, .i32⟩) addi
  :: TRef.nullary (.of main_call0_call3_call0_c_40 : TRef sig ⟨S_, .i32⟩) (constantI S_ 32 26#32)
  :: TRef.unary (.of main_call0_call3_call0_c_40 : TRef sig ⟨S_, .i32⟩) (.of main_call0_call3_call0_v157 : TRef sig ⟨S2, .i32⟩) (broadcastInDim S2 ![] bcast_S_S2)
  :: TRef.binary (.of main_call0_call3_call0_v155 : TRef sig ⟨S2, .i32⟩) (.of main_call0_call3_call0_v157 : TRef sig ⟨S2, .i32⟩) (.of main_call0_call3_call0_v158 : TRef sig ⟨S2, .i32⟩) Host.shli
  :: TRef.nullary (.of main_call0_call3_call0_c_41 : TRef sig ⟨S_, .i32⟩) (constantI S_ 32 6#32)
  :: TRef.unary (.of main_call0_call3_call0_c_41 : TRef sig ⟨S_, .i32⟩) (.of main_call0_call3_call0_v159 : TRef sig ⟨S2, .i32⟩) (broadcastInDim S2 ![] bcast_S_S2)
  :: TRef.binary (.of main_call0_call3_call0_v155 : TRef sig ⟨S2, .i32⟩) (.of main_call0_call3_call0_v159 : TRef sig ⟨S2, .i32⟩) (.of main_call0_call3_call0_v160 : TRef sig ⟨S2, .i32⟩) Host.shrui
  :: TRef.binary (.of main_call0_call3_call0_v158 : TRef sig ⟨S2, .i32⟩) (.of main_call0_call3_call0_v160 : TRef sig ⟨S2, .i32⟩) (.of main_call0_call3_call0_v161 : TRef sig ⟨S2, .i32⟩) ori
  :: TRef.binary (.of main_call0_call3_call0_v156 : TRef sig ⟨S2, .i32⟩) (.of main_call0_call3_call0_v161 : TRef sig ⟨S2, .i32⟩) (.of main_call0_call3_call0_v162 : TRef sig ⟨S2, .i32⟩) xori
  :: TRef.binary (.of main_call0_call3_call0_v156 : TRef sig ⟨S2, .i32⟩) (.of main_call0_call3_call0_v162 : TRef sig ⟨S2, .i32⟩) (.of main_call0_call3_call0_v163 : TRef sig ⟨S2, .i32⟩) addi
  :: TRef.nullary (.of main_call0_call3_call0_c_42 : TRef sig ⟨S_, .i32⟩) (constantI S_ 32 6#32)
  :: TRef.unary (.of main_call0_call3_call0_c_42 : TRef sig ⟨S_, .i32⟩) (.of main_call0_call3_call0_v164 : TRef sig ⟨S2, .i32⟩) (broadcastInDim S2 ![] bcast_S_S2)
  :: TRef.binary (.of main_call0_call3_call0_v162 : TRef sig ⟨S2, .i32⟩) (.of main_call0_call3_call0_v164 : TRef sig ⟨S2, .i32⟩) (.of main_call0_call3_call0_v165 : TRef sig ⟨S2, .i32⟩) Host.shli
  :: TRef.nullary (.of main_call0_call3_call0_c_43 : TRef sig ⟨S_, .i32⟩) (constantI S_ 32 26#32)
  :: TRef.unary (.of main_call0_call3_call0_c_43 : TRef sig ⟨S_, .i32⟩) (.of main_call0_call3_call0_v166 : TRef sig ⟨S2, .i32⟩) (broadcastInDim S2 ![] bcast_S_S2)
  :: TRef.binary (.of main_call0_call3_call0_v162 : TRef sig ⟨S2, .i32⟩) (.of main_call0_call3_call0_v166 : TRef sig ⟨S2, .i32⟩) (.of main_call0_call3_call0_v167 : TRef sig ⟨S2, .i32⟩) Host.shrui
  :: TRef.binary (.of main_call0_call3_call0_v165 : TRef sig ⟨S2, .i32⟩) (.of main_call0_call3_call0_v167 : TRef sig ⟨S2, .i32⟩) (.of main_call0_call3_call0_v168 : TRef sig ⟨S2, .i32⟩) ori
  :: TRef.binary (.of main_call0_call3_call0_v163 : TRef sig ⟨S2, .i32⟩) (.of main_call0_call3_call0_v168 : TRef sig ⟨S2, .i32⟩) (.of main_call0_call3_call0_v169 : TRef sig ⟨S2, .i32⟩) xori
  :: TRef.unary (.of main_call0_call3_call0_v1 : TRef sig ⟨S_, .i32⟩) (.of main_call0_call3_call0_v170 : TRef sig ⟨S2, .i32⟩) (broadcastInDim S2 ![] bcast_S_S2)
  :: TRef.binary (.of main_call0_call3_call0_v163 : TRef sig ⟨S2, .i32⟩) (.of main_call0_call3_call0_v170 : TRef sig ⟨S2, .i32⟩) (.of main_call0_call3_v11_0 : TRef sig ⟨S2, .i32⟩) addi
  :: TRef.unary (.of main_call0_call3_v1 : TRef sig ⟨S_, .i32⟩) (.of main_call0_call3_call0_v172 : TRef sig ⟨S2, .i32⟩) (broadcastInDim S2 ![] bcast_S_S2)
  :: TRef.binary (.of main_call0_call3_call0_v169 : TRef sig ⟨S2, .i32⟩) (.of main_call0_call3_call0_v172 : TRef sig ⟨S2, .i32⟩) (.of main_call0_call3_call0_v173 : TRef sig ⟨S2, .i32⟩) addi
  :: TRef.nullary (.of main_call0_call3_call0_c_44 : TRef sig ⟨S_, .i32⟩) (constantI S_ 32 5#32)
  :: TRef.unary (.of main_call0_call3_call0_c_44 : TRef sig ⟨S_, .i32⟩) (.of main_call0_call3_call0_v174 : TRef sig ⟨S2, .i32⟩) (broadcastInDim S2 ![] bcast_S_S2)
  :: TRef.binary (.of main_call0_call3_call0_v173 : TRef sig ⟨S2, .i32⟩) (.of main_call0_call3_call0_v174 : TRef sig ⟨S2, .i32⟩) (.of main_call0_call3_v11_1 : TRef sig ⟨S2, .i32⟩) addi
  :: TRef.unary main_call0_call3_call0.v171 (.of main_call0_call3_v12 : TRef sig ⟨S2x1, .i32⟩) (broadcastInDim S2x1 ![0] bcast_S2_S2x1_0)
  :: TRef.unary main_call0_call3_call0.v175 (.of main_call0_call3_v13 : TRef sig ⟨S2x1, .i32⟩) (broadcastInDim S2x1 ![0] bcast_S2_S2x1_0)
  :: TRef.binary (.of main_call0_call3_v12 : TRef sig ⟨S2x1, .i32⟩) (.of main_call0_call3_v13 : TRef sig ⟨S2x1, .i32⟩) (.of main_call0_v8 : TRef sig ⟨S2x2, .i32⟩) (fun a b => concatenate S2x2 1 [⟨S2x1, a⟩, ⟨S2x1, b⟩] concatenates_S2x1_S2x1_S2x2_d1)
  :: TRef.unary main_call0_call3.v14 (.of main_call0_v9 : TRef sig ⟨S1x2, .i32⟩) (extractStridedSlice S1x2 ![0, 0] · slices_S2x2_S1x2_0_0)
  :: TRef.reshape (.of main_call0_v9 : TRef sig ⟨S1x2, .i32⟩) (.of main_call0_v10 : TRef sig ⟨S2, .i32⟩) (rfl : (.i32 : EltTy) = .i32) shapeCasts_S1x2_S2
  :: TRef.unary main_call0_call3.v14 (.of main_call0_v11 : TRef sig ⟨S1x2, .i32⟩) (extractStridedSlice S1x2 ![1, 0] · slices_S2x2_S1x2_1_0)
  :: TRef.reshape (.of main_call0_v11 : TRef sig ⟨S1x2, .i32⟩) (.of main_call0_v12 : TRef sig ⟨S2, .i32⟩) (rfl : (.i32 : EltTy) = .i32) shapeCasts_S1x2_S2
  :: TRef.unary (.of main_call0_v10 : TRef sig ⟨S2, .i32⟩) (.of main_call0_v13 : TRef sig ⟨S1, .i32⟩) (extractStridedSlice S1 ![0] · slices_S2_S1_0)
  :: TRef.reshape (.of main_call0_v13 : TRef sig ⟨S1, .i32⟩) (.of main_call0_v14 : TRef sig ⟨S_, .i32⟩) (rfl : (.i32 : EltTy) = .i32) shapeCasts_S1_S_
  :: TRef.unary (.of main_call0_v10 : TRef sig ⟨S2, .i32⟩) (.of main_call0_v15 : TRef sig ⟨S1, .i32⟩) (extractStridedSlice S1 ![1] · slices_S2_S1_1)
  :: TRef.reshape (.of main_call0_v15 : TRef sig ⟨S1, .i32⟩) (.of main_call0_v16 : TRef sig ⟨S_, .i32⟩) (rfl : (.i32 : EltTy) = .i32) shapeCasts_S1_S_
  :: TRef.nullary (.of main_call0_v17 : TRef sig ⟨S8, .i64⟩) (iotaInDim S8 64 0)
  :: TRef.nullary (.of main_call0_c_6 : TRef sig ⟨S_, .i64⟩) (constantI S_ 64 1#64)
  :: TRef.unary (.of main_call0_c_6 : TRef sig ⟨S_, .i64⟩) (.of main_call0_v18 : TRef sig ⟨S8, .i64⟩) (broadcastInDim S8 ![] bcast_S_S8)
  :: TRef.binary (.of main_call0_v18 : TRef sig ⟨S8, .i64⟩) (.of main_call0_v17 : TRef sig ⟨S8, .i64⟩) (.of main_call0_v19 : TRef sig ⟨S8, .i64⟩) muli
  :: TRef.nullary (.of main_call0_c_7 : TRef sig ⟨S_, .i64⟩) (constantI S_ 64 32#64)
  :: TRef.unary (.of main_call0_c_7 : TRef sig ⟨S_, .i64⟩) (.of main_call0_v20 : TRef sig ⟨S8, .i64⟩) (broadcastInDim S8 ![] bcast_S_S8)
  :: TRef.binary (.of main_call0_v19 : TRef sig ⟨S8, .i64⟩) (.of main_call0_v20 : TRef sig ⟨S8, .i64⟩) (.of main_call0_v21 : TRef sig ⟨S8, .i64⟩) Host.shrui
  :: TRef.unary (.of main_call0_v19 : TRef sig ⟨S8, .i64⟩) (.of main_call0_v22 : TRef sig ⟨S8, .i32⟩) (trunci 32 · natLt_32_64)
  :: TRef.unary (.of main_call0_v21 : TRef sig ⟨S8, .i64⟩) (.of main_call0_v23 : TRef sig ⟨S8, .i32⟩) (trunci 32 · natLt_32_64)
  :: TRef.binary (.of main_call0_v14 : TRef sig ⟨S_, .i32⟩) (.of main_call0_v16 : TRef sig ⟨S_, .i32⟩) (.of main_call0_call4_v0 : TRef sig ⟨S_, .i32⟩) xori
  :: TRef.nullary (.of main_call0_call4_c : TRef sig ⟨S_, .i32⟩) (constantI S_ 32 466688986#32)
  :: TRef.binary (.of main_call0_call4_v0 : TRef sig ⟨S_, .i32⟩) (.of main_call0_call4_c : TRef sig ⟨S_, .i32⟩) (.of main_call0_call4_v1 : TRef sig ⟨S_, .i32⟩) xori
  :: TRef.unary (.of main_call0_v14 : TRef sig ⟨S_, .i32⟩) (.of main_call0_call4_v2 : TRef sig ⟨S8, .i32⟩) (broadcastInDim S8 ![] bcast_S_S8)
  :: TRef.binary (.of main_call0_v23 : TRef sig ⟨S8, .i32⟩) (.of main_call0_call4_v2 : TRef sig ⟨S8, .i32⟩) (.of main_call0_call4_v3 : TRef sig ⟨S8, .i32⟩) addi
  :: TRef.unary (.of main_call0_v16 : TRef sig ⟨S_, .i32⟩) (.of main_call0_call4_v4 : TRef sig ⟨S8, .i32⟩) (broadcastInDim S8 ![] bcast_S_S8)
  :: TRef.binary (.of main_call0_v22 : TRef sig ⟨S8, .i32⟩) (.of main_call0_call4_v4 : TRef sig ⟨S8, .i32⟩) (.of main_call0_call4_v5 : TRef sig ⟨S8, .i32⟩) addi
  :: TRef.binary (.of main_call0_call4_v3 : TRef sig ⟨S8, .i32⟩) (.of main_call0_call4_v5 : TRef sig ⟨S8, .i32⟩) (.of main_call0_call4_v6 : TRef sig ⟨S8, .i32⟩) addi
  :: TRef.nullary (.of main_call0_call4_c_0 : TRef sig ⟨S_, .i32⟩) (constantI S_ 32 13#32)
  :: TRef.unary (.of main_call0_call4_c_0 : TRef sig ⟨S_, .i32⟩) (.of main_call0_call4_v7 : TRef sig ⟨S8, .i32⟩) (broadcastInDim S8 ![] bcast_S_S8)
  :: TRef.binary (.of main_call0_call4_v5 : TRef sig ⟨S8, .i32⟩) (.of main_call0_call4_v7 : TRef sig ⟨S8, .i32⟩) (.of main_call0_call4_v8 : TRef sig ⟨S8, .i32⟩) Host.shli
  :: TRef.nullary (.of main_call0_call4_c_1 : TRef sig ⟨S_, .i32⟩) (constantI S_ 32 19#32)
  :: TRef.unary (.of main_call0_call4_c_1 : TRef sig ⟨S_, .i32⟩) (.of main_call0_call4_v9 : TRef sig ⟨S8, .i32⟩) (broadcastInDim S8 ![] bcast_S_S8)
  :: TRef.binary (.of main_call0_call4_v5 : TRef sig ⟨S8, .i32⟩) (.of main_call0_call4_v9 : TRef sig ⟨S8, .i32⟩) (.of main_call0_call4_v10 : TRef sig ⟨S8, .i32⟩) Host.shrui
  :: TRef.binary (.of main_call0_call4_v8 : TRef sig ⟨S8, .i32⟩) (.of main_call0_call4_v10 : TRef sig ⟨S8, .i32⟩) (.of main_call0_call4_v11 : TRef sig ⟨S8, .i32⟩) ori
  :: TRef.binary (.of main_call0_call4_v6 : TRef sig ⟨S8, .i32⟩) (.of main_call0_call4_v11 : TRef sig ⟨S8, .i32⟩) (.of main_call0_call4_v12 : TRef sig ⟨S8, .i32⟩) xori
  :: TRef.binary (.of main_call0_call4_v6 : TRef sig ⟨S8, .i32⟩) (.of main_call0_call4_v12 : TRef sig ⟨S8, .i32⟩) (.of main_call0_call4_v13 : TRef sig ⟨S8, .i32⟩) addi
  :: TRef.nullary (.of main_call0_call4_c_2 : TRef sig ⟨S_, .i32⟩) (constantI S_ 32 15#32)
  :: TRef.unary (.of main_call0_call4_c_2 : TRef sig ⟨S_, .i32⟩) (.of main_call0_call4_v14 : TRef sig ⟨S8, .i32⟩) (broadcastInDim S8 ![] bcast_S_S8)
  :: TRef.binary (.of main_call0_call4_v12 : TRef sig ⟨S8, .i32⟩) (.of main_call0_call4_v14 : TRef sig ⟨S8, .i32⟩) (.of main_call0_call4_v15 : TRef sig ⟨S8, .i32⟩) Host.shli
  :: TRef.nullary (.of main_call0_call4_c_3 : TRef sig ⟨S_, .i32⟩) (constantI S_ 32 17#32)
  :: TRef.unary (.of main_call0_call4_c_3 : TRef sig ⟨S_, .i32⟩) (.of main_call0_call4_v16 : TRef sig ⟨S8, .i32⟩) (broadcastInDim S8 ![] bcast_S_S8)
  :: TRef.binary (.of main_call0_call4_v12 : TRef sig ⟨S8, .i32⟩) (.of main_call0_call4_v16 : TRef sig ⟨S8, .i32⟩) (.of main_call0_call4_v17 : TRef sig ⟨S8, .i32⟩) Host.shrui
  :: TRef.binary (.of main_call0_call4_v15 : TRef sig ⟨S8, .i32⟩) (.of main_call0_call4_v17 : TRef sig ⟨S8, .i32⟩) (.of main_call0_call4_v18 : TRef sig ⟨S8, .i32⟩) ori
  :: TRef.binary (.of main_call0_call4_v13 : TRef sig ⟨S8, .i32⟩) (.of main_call0_call4_v18 : TRef sig ⟨S8, .i32⟩) (.of main_call0_call4_v19 : TRef sig ⟨S8, .i32⟩) xori
  :: TRef.binary (.of main_call0_call4_v13 : TRef sig ⟨S8, .i32⟩) (.of main_call0_call4_v19 : TRef sig ⟨S8, .i32⟩) (.of main_call0_call4_v20 : TRef sig ⟨S8, .i32⟩) addi
  :: TRef.nullary (.of main_call0_call4_c_4 : TRef sig ⟨S_, .i32⟩) (constantI S_ 32 26#32)
  :: TRef.unary (.of main_call0_call4_c_4 : TRef sig ⟨S_, .i32⟩) (.of main_call0_call4_v21 : TRef sig ⟨S8, .i32⟩) (broadcastInDim S8 ![] bcast_S_S8)
  :: TRef.binary (.of main_call0_call4_v19 : TRef sig ⟨S8, .i32⟩) (.of main_call0_call4_v21 : TRef sig ⟨S8, .i32⟩) (.of main_call0_call4_v22 : TRef sig ⟨S8, .i32⟩) Host.shli
  :: TRef.nullary (.of main_call0_call4_c_5 : TRef sig ⟨S_, .i32⟩) (constantI S_ 32 6#32)
  :: TRef.unary (.of main_call0_call4_c_5 : TRef sig ⟨S_, .i32⟩) (.of main_call0_call4_v23 : TRef sig ⟨S8, .i32⟩) (broadcastInDim S8 ![] bcast_S_S8)
  :: TRef.binary (.of main_call0_call4_v19 : TRef sig ⟨S8, .i32⟩) (.of main_call0_call4_v23 : TRef sig ⟨S8, .i32⟩) (.of main_call0_call4_v24 : TRef sig ⟨S8, .i32⟩) Host.shrui
  :: TRef.binary (.of main_call0_call4_v22 : TRef sig ⟨S8, .i32⟩) (.of main_call0_call4_v24 : TRef sig ⟨S8, .i32⟩) (.of main_call0_call4_v25 : TRef sig ⟨S8, .i32⟩) ori
  :: TRef.binary (.of main_call0_call4_v20 : TRef sig ⟨S8, .i32⟩) (.of main_call0_call4_v25 : TRef sig ⟨S8, .i32⟩) (.of main_call0_call4_v26 : TRef sig ⟨S8, .i32⟩) xori
  :: TRef.binary (.of main_call0_call4_v20 : TRef sig ⟨S8, .i32⟩) (.of main_call0_call4_v26 : TRef sig ⟨S8, .i32⟩) (.of main_call0_call4_v27 : TRef sig ⟨S8, .i32⟩) addi
  :: TRef.nullary (.of main_call0_call4_c_6 : TRef sig ⟨S_, .i32⟩) (constantI S_ 32 6#32)
  :: TRef.unary (.of main_call0_call4_c_6 : TRef sig ⟨S_, .i32⟩) (.of main_call0_call4_v28 : TRef sig ⟨S8, .i32⟩) (broadcastInDim S8 ![] bcast_S_S8)
  :: TRef.binary (.of main_call0_call4_v26 : TRef sig ⟨S8, .i32⟩) (.of main_call0_call4_v28 : TRef sig ⟨S8, .i32⟩) (.of main_call0_call4_v29 : TRef sig ⟨S8, .i32⟩) Host.shli
  :: TRef.nullary (.of main_call0_call4_c_7 : TRef sig ⟨S_, .i32⟩) (constantI S_ 32 26#32)
  :: TRef.unary (.of main_call0_call4_c_7 : TRef sig ⟨S_, .i32⟩) (.of main_call0_call4_v30 : TRef sig ⟨S8, .i32⟩) (broadcastInDim S8 ![] bcast_S_S8)
  :: TRef.binary (.of main_call0_call4_v26 : TRef sig ⟨S8, .i32⟩) (.of main_call0_call4_v30 : TRef sig ⟨S8, .i32⟩) (.of main_call0_call4_v31 : TRef sig ⟨S8, .i32⟩) Host.shrui
  :: TRef.binary (.of main_call0_call4_v29 : TRef sig ⟨S8, .i32⟩) (.of main_call0_call4_v31 : TRef sig ⟨S8, .i32⟩) (.of main_call0_call4_v32 : TRef sig ⟨S8, .i32⟩) ori
  :: TRef.binary (.of main_call0_call4_v27 : TRef sig ⟨S8, .i32⟩) (.of main_call0_call4_v32 : TRef sig ⟨S8, .i32⟩) (.of main_call0_call4_v33 : TRef sig ⟨S8, .i32⟩) xori
  :: TRef.unary (.of main_call0_v16 : TRef sig ⟨S_, .i32⟩) (.of main_call0_call4_v34 : TRef sig ⟨S8, .i32⟩) (broadcastInDim S8 ![] bcast_S_S8)
  :: TRef.binary (.of main_call0_call4_v27 : TRef sig ⟨S8, .i32⟩) (.of main_call0_call4_v34 : TRef sig ⟨S8, .i32⟩) (.of main_call0_call4_v35 : TRef sig ⟨S8, .i32⟩) addi
  :: TRef.unary (.of main_call0_call4_v1 : TRef sig ⟨S_, .i32⟩) (.of main_call0_call4_v36 : TRef sig ⟨S8, .i32⟩) (broadcastInDim S8 ![] bcast_S_S8)
  :: TRef.binary (.of main_call0_call4_v33 : TRef sig ⟨S8, .i32⟩) (.of main_call0_call4_v36 : TRef sig ⟨S8, .i32⟩) (.of main_call0_call4_v37 : TRef sig ⟨S8, .i32⟩) addi
  :: TRef.nullary (.of main_call0_call4_c_8 : TRef sig ⟨S_, .i32⟩) (constantI S_ 32 1#32)
  :: TRef.unary (.of main_call0_call4_c_8 : TRef sig ⟨S_, .i32⟩) (.of main_call0_call4_v38 : TRef sig ⟨S8, .i32⟩) (broadcastInDim S8 ![] bcast_S_S8)
  :: TRef.binary (.of main_call0_call4_v37 : TRef sig ⟨S8, .i32⟩) (.of main_call0_call4_v38 : TRef sig ⟨S8, .i32⟩) (.of main_call0_call4_v39 : TRef sig ⟨S8, .i32⟩) addi
  :: TRef.binary (.of main_call0_call4_v35 : TRef sig ⟨S8, .i32⟩) (.of main_call0_call4_v39 : TRef sig ⟨S8, .i32⟩) (.of main_call0_call4_v40 : TRef sig ⟨S8, .i32⟩) addi
  :: TRef.nullary (.of main_call0_call4_c_9 : TRef sig ⟨S_, .i32⟩) (constantI S_ 32 17#32)
  :: TRef.unary (.of main_call0_call4_c_9 : TRef sig ⟨S_, .i32⟩) (.of main_call0_call4_v41 : TRef sig ⟨S8, .i32⟩) (broadcastInDim S8 ![] bcast_S_S8)
  :: TRef.binary (.of main_call0_call4_v39 : TRef sig ⟨S8, .i32⟩) (.of main_call0_call4_v41 : TRef sig ⟨S8, .i32⟩) (.of main_call0_call4_v42 : TRef sig ⟨S8, .i32⟩) Host.shli
  :: TRef.nullary (.of main_call0_call4_c_10 : TRef sig ⟨S_, .i32⟩) (constantI S_ 32 15#32)
  :: TRef.unary (.of main_call0_call4_c_10 : TRef sig ⟨S_, .i32⟩) (.of main_call0_call4_v43 : TRef sig ⟨S8, .i32⟩) (broadcastInDim S8 ![] bcast_S_S8)
  :: TRef.binary (.of main_call0_call4_v39 : TRef sig ⟨S8, .i32⟩) (.of main_call0_call4_v43 : TRef sig ⟨S8, .i32⟩) (.of main_call0_call4_v44 : TRef sig ⟨S8, .i32⟩) Host.shrui
  :: TRef.binary (.of main_call0_call4_v42 : TRef sig ⟨S8, .i32⟩) (.of main_call0_call4_v44 : TRef sig ⟨S8, .i32⟩) (.of main_call0_call4_v45 : TRef sig ⟨S8, .i32⟩) ori
  :: TRef.binary (.of main_call0_call4_v40 : TRef sig ⟨S8, .i32⟩) (.of main_call0_call4_v45 : TRef sig ⟨S8, .i32⟩) (.of main_call0_call4_v46 : TRef sig ⟨S8, .i32⟩) xori
  :: TRef.binary (.of main_call0_call4_v40 : TRef sig ⟨S8, .i32⟩) (.of main_call0_call4_v46 : TRef sig ⟨S8, .i32⟩) (.of main_call0_call4_v47 : TRef sig ⟨S8, .i32⟩) addi
  :: TRef.nullary (.of main_call0_call4_c_11 : TRef sig ⟨S_, .i32⟩) (constantI S_ 32 29#32)
  :: TRef.unary (.of main_call0_call4_c_11 : TRef sig ⟨S_, .i32⟩) (.of main_call0_call4_v48 : TRef sig ⟨S8, .i32⟩) (broadcastInDim S8 ![] bcast_S_S8)
  :: TRef.binary (.of main_call0_call4_v46 : TRef sig ⟨S8, .i32⟩) (.of main_call0_call4_v48 : TRef sig ⟨S8, .i32⟩) (.of main_call0_call4_v49 : TRef sig ⟨S8, .i32⟩) Host.shli
  :: TRef.nullary (.of main_call0_call4_c_12 : TRef sig ⟨S_, .i32⟩) (constantI S_ 32 3#32)
  :: TRef.unary (.of main_call0_call4_c_12 : TRef sig ⟨S_, .i32⟩) (.of main_call0_call4_v50 : TRef sig ⟨S8, .i32⟩) (broadcastInDim S8 ![] bcast_S_S8)
  :: TRef.binary (.of main_call0_call4_v46 : TRef sig ⟨S8, .i32⟩) (.of main_call0_call4_v50 : TRef sig ⟨S8, .i32⟩) (.of main_call0_call4_v51 : TRef sig ⟨S8, .i32⟩) Host.shrui
  :: TRef.binary (.of main_call0_call4_v49 : TRef sig ⟨S8, .i32⟩) (.of main_call0_call4_v51 : TRef sig ⟨S8, .i32⟩) (.of main_call0_call4_v52 : TRef sig ⟨S8, .i32⟩) ori
  :: TRef.binary (.of main_call0_call4_v47 : TRef sig ⟨S8, .i32⟩) (.of main_call0_call4_v52 : TRef sig ⟨S8, .i32⟩) (.of main_call0_call4_v53 : TRef sig ⟨S8, .i32⟩) xori
  :: TRef.binary (.of main_call0_call4_v47 : TRef sig ⟨S8, .i32⟩) (.of main_call0_call4_v53 : TRef sig ⟨S8, .i32⟩) (.of main_call0_call4_v54 : TRef sig ⟨S8, .i32⟩) addi
  :: TRef.nullary (.of main_call0_call4_c_13 : TRef sig ⟨S_, .i32⟩) (constantI S_ 32 16#32)
  :: TRef.unary (.of main_call0_call4_c_13 : TRef sig ⟨S_, .i32⟩) (.of main_call0_call4_v55 : TRef sig ⟨S8, .i32⟩) (broadcastInDim S8 ![] bcast_S_S8)
  :: TRef.binary (.of main_call0_call4_v53 : TRef sig ⟨S8, .i32⟩) (.of main_call0_call4_v55 : TRef sig ⟨S8, .i32⟩) (.of main_call0_call4_v56 : TRef sig ⟨S8, .i32⟩) Host.shli
  :: TRef.nullary (.of main_call0_call4_c_14 : TRef sig ⟨S_, .i32⟩) (constantI S_ 32 16#32)
  :: TRef.unary (.of main_call0_call4_c_14 : TRef sig ⟨S_, .i32⟩) (.of main_call0_call4_v57 : TRef sig ⟨S8, .i32⟩) (broadcastInDim S8 ![] bcast_S_S8)
  :: TRef.binary (.of main_call0_call4_v53 : TRef sig ⟨S8, .i32⟩) (.of main_call0_call4_v57 : TRef sig ⟨S8, .i32⟩) (.of main_call0_call4_v58 : TRef sig ⟨S8, .i32⟩) Host.shrui
  :: TRef.binary (.of main_call0_call4_v56 : TRef sig ⟨S8, .i32⟩) (.of main_call0_call4_v58 : TRef sig ⟨S8, .i32⟩) (.of main_call0_call4_v59 : TRef sig ⟨S8, .i32⟩) ori
  :: TRef.binary (.of main_call0_call4_v54 : TRef sig ⟨S8, .i32⟩) (.of main_call0_call4_v59 : TRef sig ⟨S8, .i32⟩) (.of main_call0_call4_v60 : TRef sig ⟨S8, .i32⟩) xori
  :: TRef.binary (.of main_call0_call4_v54 : TRef sig ⟨S8, .i32⟩) (.of main_call0_call4_v60 : TRef sig ⟨S8, .i32⟩) (.of main_call0_call4_v61 : TRef sig ⟨S8, .i32⟩) addi
  :: TRef.nullary (.of main_call0_call4_c_15 : TRef sig ⟨S_, .i32⟩) (constantI S_ 32 24#32)
  :: TRef.unary (.of main_call0_call4_c_15 : TRef sig ⟨S_, .i32⟩) (.of main_call0_call4_v62 : TRef sig ⟨S8, .i32⟩) (broadcastInDim S8 ![] bcast_S_S8)
  :: TRef.binary (.of main_call0_call4_v60 : TRef sig ⟨S8, .i32⟩) (.of main_call0_call4_v62 : TRef sig ⟨S8, .i32⟩) (.of main_call0_call4_v63 : TRef sig ⟨S8, .i32⟩) Host.shli
  :: TRef.nullary (.of main_call0_call4_c_16 : TRef sig ⟨S_, .i32⟩) (constantI S_ 32 8#32)
  :: TRef.unary (.of main_call0_call4_c_16 : TRef sig ⟨S_, .i32⟩) (.of main_call0_call4_v64 : TRef sig ⟨S8, .i32⟩) (broadcastInDim S8 ![] bcast_S_S8)
  :: TRef.binary (.of main_call0_call4_v60 : TRef sig ⟨S8, .i32⟩) (.of main_call0_call4_v64 : TRef sig ⟨S8, .i32⟩) (.of main_call0_call4_v65 : TRef sig ⟨S8, .i32⟩) Host.shrui
  :: TRef.binary (.of main_call0_call4_v63 : TRef sig ⟨S8, .i32⟩) (.of main_call0_call4_v65 : TRef sig ⟨S8, .i32⟩) (.of main_call0_call4_v66 : TRef sig ⟨S8, .i32⟩) ori
  :: TRef.binary (.of main_call0_call4_v61 : TRef sig ⟨S8, .i32⟩) (.of main_call0_call4_v66 : TRef sig ⟨S8, .i32⟩) (.of main_call0_call4_v67 : TRef sig ⟨S8, .i32⟩) xori
  :: TRef.unary (.of main_call0_call4_v1 : TRef sig ⟨S_, .i32⟩) (.of main_call0_call4_v68 : TRef sig ⟨S8, .i32⟩) (broadcastInDim S8 ![] bcast_S_S8)
  :: TRef.binary (.of main_call0_call4_v61 : TRef sig ⟨S8, .i32⟩) (.of main_call0_call4_v68 : TRef sig ⟨S8, .i32⟩) (.of main_call0_call4_v69 : TRef sig ⟨S8, .i32⟩) addi
  :: TRef.unary (.of main_call0_v14 : TRef sig ⟨S_, .i32⟩) (.of main_call0_call4_v70 : TRef sig ⟨S8, .i32⟩) (broadcastInDim S8 ![] bcast_S_S8)
  :: TRef.binary (.of main_call0_call4_v67 : TRef sig ⟨S8, .i32⟩) (.of main_call0_call4_v70 : TRef sig ⟨S8, .i32⟩) (.of main_call0_call4_v71 : TRef sig ⟨S8, .i32⟩) addi
  :: TRef.nullary (.of main_call0_call4_c_17 : TRef sig ⟨S_, .i32⟩) (constantI S_ 32 2#32)
  :: TRef.unary (.of main_call0_call4_c_17 : TRef sig ⟨S_, .i32⟩) (.of main_call0_call4_v72 : TRef sig ⟨S8, .i32⟩) (broadcastInDim S8 ![] bcast_S_S8)
  :: TRef.binary (.of main_call0_call4_v71 : TRef sig ⟨S8, .i32⟩) (.of main_call0_call4_v72 : TRef sig ⟨S8, .i32⟩) (.of main_call0_call4_v73 : TRef sig ⟨S8, .i32⟩) addi
  :: TRef.binary (.of main_call0_call4_v69 : TRef sig ⟨S8, .i32⟩) (.of main_call0_call4_v73 : TRef sig ⟨S8, .i32⟩) (.of main_call0_call4_v74 : TRef sig ⟨S8, .i32⟩) addi
  :: TRef.nullary (.of main_call0_call4_c_18 : TRef sig ⟨S_, .i32⟩) (constantI S_ 32 13#32)
  :: TRef.unary (.of main_call0_call4_c_18 : TRef sig ⟨S_, .i32⟩) (.of main_call0_call4_v75 : TRef sig ⟨S8, .i32⟩) (broadcastInDim S8 ![] bcast_S_S8)
  :: TRef.binary (.of main_call0_call4_v73 : TRef sig ⟨S8, .i32⟩) (.of main_call0_call4_v75 : TRef sig ⟨S8, .i32⟩) (.of main_call0_call4_v76 : TRef sig ⟨S8, .i32⟩) Host.shli
  :: TRef.nullary (.of main_call0_call4_c_19 : TRef sig ⟨S_, .i32⟩) (constantI S_ 32 19#32)
  :: TRef.unary (.of main_call0_call4_c_19 : TRef sig ⟨S_, .i32⟩) (.of main_call0_call4_v77 : TRef sig ⟨S8, .i32⟩) (broadcastInDim S8 ![] bcast_S_S8)
  :: TRef.binary (.of main_call0_call4_v73 : TRef sig ⟨S8, .i32⟩) (.of main_call0_call4_v77 : TRef sig ⟨S8, .i32⟩) (.of main_call0_call4_v78 : TRef sig ⟨S8, .i32⟩) Host.shrui
  :: TRef.binary (.of main_call0_call4_v76 : TRef sig ⟨S8, .i32⟩) (.of main_call0_call4_v78 : TRef sig ⟨S8, .i32⟩) (.of main_call0_call4_v79 : TRef sig ⟨S8, .i32⟩) ori
  :: TRef.binary (.of main_call0_call4_v74 : TRef sig ⟨S8, .i32⟩) (.of main_call0_call4_v79 : TRef sig ⟨S8, .i32⟩) (.of main_call0_call4_v80 : TRef sig ⟨S8, .i32⟩) xori
  :: TRef.binary (.of main_call0_call4_v74 : TRef sig ⟨S8, .i32⟩) (.of main_call0_call4_v80 : TRef sig ⟨S8, .i32⟩) (.of main_call0_call4_v81 : TRef sig ⟨S8, .i32⟩) addi
  :: TRef.nullary (.of main_call0_call4_c_20 : TRef sig ⟨S_, .i32⟩) (constantI S_ 32 15#32)
  :: TRef.unary (.of main_call0_call4_c_20 : TRef sig ⟨S_, .i32⟩) (.of main_call0_call4_v82 : TRef sig ⟨S8, .i32⟩) (broadcastInDim S8 ![] bcast_S_S8)
  :: TRef.binary (.of main_call0_call4_v80 : TRef sig ⟨S8, .i32⟩) (.of main_call0_call4_v82 : TRef sig ⟨S8, .i32⟩) (.of main_call0_call4_v83 : TRef sig ⟨S8, .i32⟩) Host.shli
  :: TRef.nullary (.of main_call0_call4_c_21 : TRef sig ⟨S_, .i32⟩) (constantI S_ 32 17#32)
  :: TRef.unary (.of main_call0_call4_c_21 : TRef sig ⟨S_, .i32⟩) (.of main_call0_call4_v84 : TRef sig ⟨S8, .i32⟩) (broadcastInDim S8 ![] bcast_S_S8)
  :: TRef.binary (.of main_call0_call4_v80 : TRef sig ⟨S8, .i32⟩) (.of main_call0_call4_v84 : TRef sig ⟨S8, .i32⟩) (.of main_call0_call4_v85 : TRef sig ⟨S8, .i32⟩) Host.shrui
  :: TRef.binary (.of main_call0_call4_v83 : TRef sig ⟨S8, .i32⟩) (.of main_call0_call4_v85 : TRef sig ⟨S8, .i32⟩) (.of main_call0_call4_v86 : TRef sig ⟨S8, .i32⟩) ori
  :: TRef.binary (.of main_call0_call4_v81 : TRef sig ⟨S8, .i32⟩) (.of main_call0_call4_v86 : TRef sig ⟨S8, .i32⟩) (.of main_call0_call4_v87 : TRef sig ⟨S8, .i32⟩) xori
  :: TRef.binary (.of main_call0_call4_v81 : TRef sig ⟨S8, .i32⟩) (.of main_call0_call4_v87 : TRef sig ⟨S8, .i32⟩) (.of main_call0_call4_v88 : TRef sig ⟨S8, .i32⟩) addi
  :: TRef.nullary (.of main_call0_call4_c_22 : TRef sig ⟨S_, .i32⟩) (constantI S_ 32 26#32)
  :: TRef.unary (.of main_call0_call4_c_22 : TRef sig ⟨S_, .i32⟩) (.of main_call0_call4_v89 : TRef sig ⟨S8, .i32⟩) (broadcastInDim S8 ![] bcast_S_S8)
  :: TRef.binary (.of main_call0_call4_v87 : TRef sig ⟨S8, .i32⟩) (.of main_call0_call4_v89 : TRef sig ⟨S8, .i32⟩) (.of main_call0_call4_v90 : TRef sig ⟨S8, .i32⟩) Host.shli
  :: TRef.nullary (.of main_call0_call4_c_23 : TRef sig ⟨S_, .i32⟩) (constantI S_ 32 6#32)
  :: TRef.unary (.of main_call0_call4_c_23 : TRef sig ⟨S_, .i32⟩) (.of main_call0_call4_v91 : TRef sig ⟨S8, .i32⟩) (broadcastInDim S8 ![] bcast_S_S8)
  :: TRef.binary (.of main_call0_call4_v87 : TRef sig ⟨S8, .i32⟩) (.of main_call0_call4_v91 : TRef sig ⟨S8, .i32⟩) (.of main_call0_call4_v92 : TRef sig ⟨S8, .i32⟩) Host.shrui
  :: TRef.binary (.of main_call0_call4_v90 : TRef sig ⟨S8, .i32⟩) (.of main_call0_call4_v92 : TRef sig ⟨S8, .i32⟩) (.of main_call0_call4_v93 : TRef sig ⟨S8, .i32⟩) ori
  :: TRef.binary (.of main_call0_call4_v88 : TRef sig ⟨S8, .i32⟩) (.of main_call0_call4_v93 : TRef sig ⟨S8, .i32⟩) (.of main_call0_call4_v94 : TRef sig ⟨S8, .i32⟩) xori
  :: TRef.binary (.of main_call0_call4_v88 : TRef sig ⟨S8, .i32⟩) (.of main_call0_call4_v94 : TRef sig ⟨S8, .i32⟩) (.of main_call0_call4_v95 : TRef sig ⟨S8, .i32⟩) addi
  :: TRef.nullary (.of main_call0_call4_c_24 : TRef sig ⟨S_, .i32⟩) (constantI S_ 32 6#32)
  :: TRef.unary (.of main_call0_call4_c_24 : TRef sig ⟨S_, .i32⟩) (.of main_call0_call4_v96 : TRef sig ⟨S8, .i32⟩) (broadcastInDim S8 ![] bcast_S_S8)
  :: TRef.binary (.of main_call0_call4_v94 : TRef sig ⟨S8, .i32⟩) (.of main_call0_call4_v96 : TRef sig ⟨S8, .i32⟩) (.of main_call0_call4_v97 : TRef sig ⟨S8, .i32⟩) Host.shli
  :: TRef.nullary (.of main_call0_call4_c_25 : TRef sig ⟨S_, .i32⟩) (constantI S_ 32 26#32)
  :: TRef.unary (.of main_call0_call4_c_25 : TRef sig ⟨S_, .i32⟩) (.of main_call0_call4_v98 : TRef sig ⟨S8, .i32⟩) (broadcastInDim S8 ![] bcast_S_S8)
  :: TRef.binary (.of main_call0_call4_v94 : TRef sig ⟨S8, .i32⟩) (.of main_call0_call4_v98 : TRef sig ⟨S8, .i32⟩) (.of main_call0_call4_v99 : TRef sig ⟨S8, .i32⟩) Host.shrui
  :: TRef.binary (.of main_call0_call4_v97 : TRef sig ⟨S8, .i32⟩) (.of main_call0_call4_v99 : TRef sig ⟨S8, .i32⟩) (.of main_call0_call4_v100 : TRef sig ⟨S8, .i32⟩) ori
  :: TRef.binary (.of main_call0_call4_v95 : TRef sig ⟨S8, .i32⟩) (.of main_call0_call4_v100 : TRef sig ⟨S8, .i32⟩) (.of main_call0_call4_v101 : TRef sig ⟨S8, .i32⟩) xori
  :: TRef.unary (.of main_call0_v14 : TRef sig ⟨S_, .i32⟩) (.of main_call0_call4_v102 : TRef sig ⟨S8, .i32⟩) (broadcastInDim S8 ![] bcast_S_S8)
  :: TRef.binary (.of main_call0_call4_v95 : TRef sig ⟨S8, .i32⟩) (.of main_call0_call4_v102 : TRef sig ⟨S8, .i32⟩) (.of main_call0_call4_v103 : TRef sig ⟨S8, .i32⟩) addi
  :: TRef.unary (.of main_call0_v16 : TRef sig ⟨S_, .i32⟩) (.of main_call0_call4_v104 : TRef sig ⟨S8, .i32⟩) (broadcastInDim S8 ![] bcast_S_S8)
  :: TRef.binary (.of main_call0_call4_v101 : TRef sig ⟨S8, .i32⟩) (.of main_call0_call4_v104 : TRef sig ⟨S8, .i32⟩) (.of main_call0_call4_v105 : TRef sig ⟨S8, .i32⟩) addi
  :: TRef.nullary (.of main_call0_call4_c_26 : TRef sig ⟨S_, .i32⟩) (constantI S_ 32 3#32)
  :: TRef.unary (.of main_call0_call4_c_26 : TRef sig ⟨S_, .i32⟩) (.of main_call0_call4_v106 : TRef sig ⟨S8, .i32⟩) (broadcastInDim S8 ![] bcast_S_S8)
  :: TRef.binary (.of main_call0_call4_v105 : TRef sig ⟨S8, .i32⟩) (.of main_call0_call4_v106 : TRef sig ⟨S8, .i32⟩) (.of main_call0_call4_v107 : TRef sig ⟨S8, .i32⟩) addi
  :: TRef.binary (.of main_call0_call4_v103 : TRef sig ⟨S8, .i32⟩) (.of main_call0_call4_v107 : TRef sig ⟨S8, .i32⟩) (.of main_call0_call4_v108 : TRef sig ⟨S8, .i32⟩) addi
  :: TRef.nullary (.of main_call0_call4_c_27 : TRef sig ⟨S_, .i32⟩) (constantI S_ 32 17#32)
  :: TRef.unary (.of main_call0_call4_c_27 : TRef sig ⟨S_, .i32⟩) (.of main_call0_call4_v109 : TRef sig ⟨S8, .i32⟩) (broadcastInDim S8 ![] bcast_S_S8)
  :: TRef.binary (.of main_call0_call4_v107 : TRef sig ⟨S8, .i32⟩) (.of main_call0_call4_v109 : TRef sig ⟨S8, .i32⟩) (.of main_call0_call4_v110 : TRef sig ⟨S8, .i32⟩) Host.shli
  :: TRef.nullary (.of main_call0_call4_c_28 : TRef sig ⟨S_, .i32⟩) (constantI S_ 32 15#32)
  :: TRef.unary (.of main_call0_call4_c_28 : TRef sig ⟨S_, .i32⟩) (.of main_call0_call4_v111 : TRef sig ⟨S8, .i32⟩) (broadcastInDim S8 ![] bcast_S_S8)
  :: TRef.binary (.of main_call0_call4_v107 : TRef sig ⟨S8, .i32⟩) (.of main_call0_call4_v111 : TRef sig ⟨S8, .i32⟩) (.of main_call0_call4_v112 : TRef sig ⟨S8, .i32⟩) Host.shrui
  :: TRef.binary (.of main_call0_call4_v110 : TRef sig ⟨S8, .i32⟩) (.of main_call0_call4_v112 : TRef sig ⟨S8, .i32⟩) (.of main_call0_call4_v113 : TRef sig ⟨S8, .i32⟩) ori
  :: TRef.binary (.of main_call0_call4_v108 : TRef sig ⟨S8, .i32⟩) (.of main_call0_call4_v113 : TRef sig ⟨S8, .i32⟩) (.of main_call0_call4_v114 : TRef sig ⟨S8, .i32⟩) xori
  :: TRef.binary (.of main_call0_call4_v108 : TRef sig ⟨S8, .i32⟩) (.of main_call0_call4_v114 : TRef sig ⟨S8, .i32⟩) (.of main_call0_call4_v115 : TRef sig ⟨S8, .i32⟩) addi
  :: TRef.nullary (.of main_call0_call4_c_29 : TRef sig ⟨S_, .i32⟩) (constantI S_ 32 29#32)
  :: TRef.unary (.of main_call0_call4_c_29 : TRef sig ⟨S_, .i32⟩) (.of main_call0_call4_v116 : TRef sig ⟨S8, .i32⟩) (broadcastInDim S8 ![] bcast_S_S8)
  :: TRef.binary (.of main_call0_call4_v114 : TRef sig ⟨S8, .i32⟩) (.of main_call0_call4_v116 : TRef sig ⟨S8, .i32⟩) (.of main_call0_call4_v117 : TRef sig ⟨S8, .i32⟩) Host.shli
  :: TRef.nullary (.of main_call0_call4_c_30 : TRef sig ⟨S_, .i32⟩) (constantI S_ 32 3#32)
  :: TRef.unary (.of main_call0_call4_c_30 : TRef sig ⟨S_, .i32⟩) (.of main_call0_call4_v118 : TRef sig ⟨S8, .i32⟩) (broadcastInDim S8 ![] bcast_S_S8)
  :: TRef.binary (.of main_call0_call4_v114 : TRef sig ⟨S8, .i32⟩) (.of main_call0_call4_v118 : TRef sig ⟨S8, .i32⟩) (.of main_call0_call4_v119 : TRef sig ⟨S8, .i32⟩) Host.shrui
  :: TRef.binary (.of main_call0_call4_v117 : TRef sig ⟨S8, .i32⟩) (.of main_call0_call4_v119 : TRef sig ⟨S8, .i32⟩) (.of main_call0_call4_v120 : TRef sig ⟨S8, .i32⟩) ori
  :: TRef.binary (.of main_call0_call4_v115 : TRef sig ⟨S8, .i32⟩) (.of main_call0_call4_v120 : TRef sig ⟨S8, .i32⟩) (.of main_call0_call4_v121 : TRef sig ⟨S8, .i32⟩) xori
  :: TRef.binary (.of main_call0_call4_v115 : TRef sig ⟨S8, .i32⟩) (.of main_call0_call4_v121 : TRef sig ⟨S8, .i32⟩) (.of main_call0_call4_v122 : TRef sig ⟨S8, .i32⟩) addi
  :: TRef.nullary (.of main_call0_call4_c_31 : TRef sig ⟨S_, .i32⟩) (constantI S_ 32 16#32)
  :: TRef.unary (.of main_call0_call4_c_31 : TRef sig ⟨S_, .i32⟩) (.of main_call0_call4_v123 : TRef sig ⟨S8, .i32⟩) (broadcastInDim S8 ![] bcast_S_S8)
  :: TRef.binary (.of main_call0_call4_v121 : TRef sig ⟨S8, .i32⟩) (.of main_call0_call4_v123 : TRef sig ⟨S8, .i32⟩) (.of main_call0_call4_v124 : TRef sig ⟨S8, .i32⟩) Host.shli
  :: TRef.nullary (.of main_call0_call4_c_32 : TRef sig ⟨S_, .i32⟩) (constantI S_ 32 16#32)
  :: TRef.unary (.of main_call0_call4_c_32 : TRef sig ⟨S_, .i32⟩) (.of main_call0_call4_v125 : TRef sig ⟨S8, .i32⟩) (broadcastInDim S8 ![] bcast_S_S8)
  :: TRef.binary (.of main_call0_call4_v121 : TRef sig ⟨S8, .i32⟩) (.of main_call0_call4_v125 : TRef sig ⟨S8, .i32⟩) (.of main_call0_call4_v126 : TRef sig ⟨S8, .i32⟩) Host.shrui
  :: TRef.binary (.of main_call0_call4_v124 : TRef sig ⟨S8, .i32⟩) (.of main_call0_call4_v126 : TRef sig ⟨S8, .i32⟩) (.of main_call0_call4_v127 : TRef sig ⟨S8, .i32⟩) ori
  :: TRef.binary (.of main_call0_call4_v122 : TRef sig ⟨S8, .i32⟩) (.of main_call0_call4_v127 : TRef sig ⟨S8, .i32⟩) (.of main_call0_call4_v128 : TRef sig ⟨S8, .i32⟩) xori
  :: TRef.binary (.of main_call0_call4_v122 : TRef sig ⟨S8, .i32⟩) (.of main_call0_call4_v128 : TRef sig ⟨S8, .i32⟩) (.of main_call0_call4_v129 : TRef sig ⟨S8, .i32⟩) addi
  :: TRef.nullary (.of main_call0_call4_c_33 : TRef sig ⟨S_, .i32⟩) (constantI S_ 32 24#32)
  :: TRef.unary (.of main_call0_call4_c_33 : TRef sig ⟨S_, .i32⟩) (.of main_call0_call4_v130 : TRef sig ⟨S8, .i32⟩) (broadcastInDim S8 ![] bcast_S_S8)
  :: TRef.binary (.of main_call0_call4_v128 : TRef sig ⟨S8, .i32⟩) (.of main_call0_call4_v130 : TRef sig ⟨S8, .i32⟩) (.of main_call0_call4_v131 : TRef sig ⟨S8, .i32⟩) Host.shli
  :: TRef.nullary (.of main_call0_call4_c_34 : TRef sig ⟨S_, .i32⟩) (constantI S_ 32 8#32)
  :: TRef.unary (.of main_call0_call4_c_34 : TRef sig ⟨S_, .i32⟩) (.of main_call0_call4_v132 : TRef sig ⟨S8, .i32⟩) (broadcastInDim S8 ![] bcast_S_S8)
  :: TRef.binary (.of main_call0_call4_v128 : TRef sig ⟨S8, .i32⟩) (.of main_call0_call4_v132 : TRef sig ⟨S8, .i32⟩) (.of main_call0_call4_v133 : TRef sig ⟨S8, .i32⟩) Host.shrui
  :: TRef.binary (.of main_call0_call4_v131 : TRef sig ⟨S8, .i32⟩) (.of main_call0_call4_v133 : TRef sig ⟨S8, .i32⟩) (.of main_call0_call4_v134 : TRef sig ⟨S8, .i32⟩) ori
  :: TRef.binary (.of main_call0_call4_v129 : TRef sig ⟨S8, .i32⟩) (.of main_call0_call4_v134 : TRef sig ⟨S8, .i32⟩) (.of main_call0_call4_v135 : TRef sig ⟨S8, .i32⟩) xori
  :: TRef.unary (.of main_call0_v16 : TRef sig ⟨S_, .i32⟩) (.of main_call0_call4_v136 : TRef sig ⟨S8, .i32⟩) (broadcastInDim S8 ![] bcast_S_S8)
  :: TRef.binary (.of main_call0_call4_v129 : TRef sig ⟨S8, .i32⟩) (.of main_call0_call4_v136 : TRef sig ⟨S8, .i32⟩) (.of main_call0_call4_v137 : TRef sig ⟨S8, .i32⟩) addi
  :: TRef.unary (.of main_call0_call4_v1 : TRef sig ⟨S_, .i32⟩) (.of main_call0_call4_v138 : TRef sig ⟨S8, .i32⟩) (broadcastInDim S8 ![] bcast_S_S8)
  :: TRef.binary (.of main_call0_call4_v135 : TRef sig ⟨S8, .i32⟩) (.of main_call0_call4_v138 : TRef sig ⟨S8, .i32⟩) (.of main_call0_call4_v139 : TRef sig ⟨S8, .i32⟩) addi
  :: TRef.nullary (.of main_call0_call4_c_35 : TRef sig ⟨S_, .i32⟩) (constantI S_ 32 4#32)
  :: TRef.unary (.of main_call0_call4_c_35 : TRef sig ⟨S_, .i32⟩) (.of main_call0_call4_v140 : TRef sig ⟨S8, .i32⟩) (broadcastInDim S8 ![] bcast_S_S8)
  :: TRef.binary (.of main_call0_call4_v139 : TRef sig ⟨S8, .i32⟩) (.of main_call0_call4_v140 : TRef sig ⟨S8, .i32⟩) (.of main_call0_call4_v141 : TRef sig ⟨S8, .i32⟩) addi
  :: TRef.binary (.of main_call0_call4_v137 : TRef sig ⟨S8, .i32⟩) (.of main_call0_call4_v141 : TRef sig ⟨S8, .i32⟩) (.of main_call0_call4_v142 : TRef sig ⟨S8, .i32⟩) addi
  :: TRef.nullary (.of main_call0_call4_c_36 : TRef sig ⟨S_, .i32⟩) (constantI S_ 32 13#32)
  :: TRef.unary (.of main_call0_call4_c_36 : TRef sig ⟨S_, .i32⟩) (.of main_call0_call4_v143 : TRef sig ⟨S8, .i32⟩) (broadcastInDim S8 ![] bcast_S_S8)
  :: TRef.binary (.of main_call0_call4_v141 : TRef sig ⟨S8, .i32⟩) (.of main_call0_call4_v143 : TRef sig ⟨S8, .i32⟩) (.of main_call0_call4_v144 : TRef sig ⟨S8, .i32⟩) Host.shli
  :: TRef.nullary (.of main_call0_call4_c_37 : TRef sig ⟨S_, .i32⟩) (constantI S_ 32 19#32)
  :: TRef.unary (.of main_call0_call4_c_37 : TRef sig ⟨S_, .i32⟩) (.of main_call0_call4_v145 : TRef sig ⟨S8, .i32⟩) (broadcastInDim S8 ![] bcast_S_S8)
  :: TRef.binary (.of main_call0_call4_v141 : TRef sig ⟨S8, .i32⟩) (.of main_call0_call4_v145 : TRef sig ⟨S8, .i32⟩) (.of main_call0_call4_v146 : TRef sig ⟨S8, .i32⟩) Host.shrui
  :: TRef.binary (.of main_call0_call4_v144 : TRef sig ⟨S8, .i32⟩) (.of main_call0_call4_v146 : TRef sig ⟨S8, .i32⟩) (.of main_call0_call4_v147 : TRef sig ⟨S8, .i32⟩) ori
  :: TRef.binary (.of main_call0_call4_v142 : TRef sig ⟨S8, .i32⟩) (.of main_call0_call4_v147 : TRef sig ⟨S8, .i32⟩) (.of main_call0_call4_v148 : TRef sig ⟨S8, .i32⟩) xori
  :: TRef.binary (.of main_call0_call4_v142 : TRef sig ⟨S8, .i32⟩) (.of main_call0_call4_v148 : TRef sig ⟨S8, .i32⟩) (.of main_call0_call4_v149 : TRef sig ⟨S8, .i32⟩) addi
  :: TRef.nullary (.of main_call0_call4_c_38 : TRef sig ⟨S_, .i32⟩) (constantI S_ 32 15#32)
  :: TRef.unary (.of main_call0_call4_c_38 : TRef sig ⟨S_, .i32⟩) (.of main_call0_call4_v150 : TRef sig ⟨S8, .i32⟩) (broadcastInDim S8 ![] bcast_S_S8)
  :: TRef.binary (.of main_call0_call4_v148 : TRef sig ⟨S8, .i32⟩) (.of main_call0_call4_v150 : TRef sig ⟨S8, .i32⟩) (.of main_call0_call4_v151 : TRef sig ⟨S8, .i32⟩) Host.shli
  :: TRef.nullary (.of main_call0_call4_c_39 : TRef sig ⟨S_, .i32⟩) (constantI S_ 32 17#32)
  :: TRef.unary (.of main_call0_call4_c_39 : TRef sig ⟨S_, .i32⟩) (.of main_call0_call4_v152 : TRef sig ⟨S8, .i32⟩) (broadcastInDim S8 ![] bcast_S_S8)
  :: TRef.binary (.of main_call0_call4_v148 : TRef sig ⟨S8, .i32⟩) (.of main_call0_call4_v152 : TRef sig ⟨S8, .i32⟩) (.of main_call0_call4_v153 : TRef sig ⟨S8, .i32⟩) Host.shrui
  :: TRef.binary (.of main_call0_call4_v151 : TRef sig ⟨S8, .i32⟩) (.of main_call0_call4_v153 : TRef sig ⟨S8, .i32⟩) (.of main_call0_call4_v154 : TRef sig ⟨S8, .i32⟩) ori
  :: TRef.binary (.of main_call0_call4_v149 : TRef sig ⟨S8, .i32⟩) (.of main_call0_call4_v154 : TRef sig ⟨S8, .i32⟩) (.of main_call0_call4_v155 : TRef sig ⟨S8, .i32⟩) xori
  :: TRef.binary (.of main_call0_call4_v149 : TRef sig ⟨S8, .i32⟩) (.of main_call0_call4_v155 : TRef sig ⟨S8, .i32⟩) (.of main_call0_call4_v156 : TRef sig ⟨S8, .i32⟩) addi
  :: TRef.nullary (.of main_call0_call4_c_40 : TRef sig ⟨S_, .i32⟩) (constantI S_ 32 26#32)
  :: TRef.unary (.of main_call0_call4_c_40 : TRef sig ⟨S_, .i32⟩) (.of main_call0_call4_v157 : TRef sig ⟨S8, .i32⟩) (broadcastInDim S8 ![] bcast_S_S8)
  :: TRef.binary (.of main_call0_call4_v155 : TRef sig ⟨S8, .i32⟩) (.of main_call0_call4_v157 : TRef sig ⟨S8, .i32⟩) (.of main_call0_call4_v158 : TRef sig ⟨S8, .i32⟩) Host.shli
  :: TRef.nullary (.of main_call0_call4_c_41 : TRef sig ⟨S_, .i32⟩) (constantI S_ 32 6#32)
  :: TRef.unary (.of main_call0_call4_c_41 : TRef sig ⟨S_, .i32⟩) (.of main_call0_call4_v159 : TRef sig ⟨S8, .i32⟩) (broadcastInDim S8 ![] bcast_S_S8)
  :: TRef.binary (.of main_call0_call4_v155 : TRef sig ⟨S8, .i32⟩) (.of main_call0_call4_v159 : TRef sig ⟨S8, .i32⟩) (.of main_call0_call4_v160 : TRef sig ⟨S8, .i32⟩) Host.shrui
  :: TRef.binary (.of main_call0_call4_v158 : TRef sig ⟨S8, .i32⟩) (.of main_call0_call4_v160 : TRef sig ⟨S8, .i32⟩) (.of main_call0_call4_v161 : TRef sig ⟨S8, .i32⟩) ori
  :: TRef.binary (.of main_call0_call4_v156 : TRef sig ⟨S8, .i32⟩) (.of main_call0_call4_v161 : TRef sig ⟨S8, .i32⟩) (.of main_call0_call4_v162 : TRef sig ⟨S8, .i32⟩) xori
  :: TRef.binary (.of main_call0_call4_v156 : TRef sig ⟨S8, .i32⟩) (.of main_call0_call4_v162 : TRef sig ⟨S8, .i32⟩) (.of main_call0_call4_v163 : TRef sig ⟨S8, .i32⟩) addi
  :: TRef.nullary (.of main_call0_call4_c_42 : TRef sig ⟨S_, .i32⟩) (constantI S_ 32 6#32)
  :: TRef.unary (.of main_call0_call4_c_42 : TRef sig ⟨S_, .i32⟩) (.of main_call0_call4_v164 : TRef sig ⟨S8, .i32⟩) (broadcastInDim S8 ![] bcast_S_S8)
  :: TRef.binary (.of main_call0_call4_v162 : TRef sig ⟨S8, .i32⟩) (.of main_call0_call4_v164 : TRef sig ⟨S8, .i32⟩) (.of main_call0_call4_v165 : TRef sig ⟨S8, .i32⟩) Host.shli
  :: TRef.nullary (.of main_call0_call4_c_43 : TRef sig ⟨S_, .i32⟩) (constantI S_ 32 26#32)
  :: TRef.unary (.of main_call0_call4_c_43 : TRef sig ⟨S_, .i32⟩) (.of main_call0_call4_v166 : TRef sig ⟨S8, .i32⟩) (broadcastInDim S8 ![] bcast_S_S8)
  :: TRef.binary (.of main_call0_call4_v162 : TRef sig ⟨S8, .i32⟩) (.of main_call0_call4_v166 : TRef sig ⟨S8, .i32⟩) (.of main_call0_call4_v167 : TRef sig ⟨S8, .i32⟩) Host.shrui
  :: TRef.binary (.of main_call0_call4_v165 : TRef sig ⟨S8, .i32⟩) (.of main_call0_call4_v167 : TRef sig ⟨S8, .i32⟩) (.of main_call0_call4_v168 : TRef sig ⟨S8, .i32⟩) ori
  :: TRef.binary (.of main_call0_call4_v163 : TRef sig ⟨S8, .i32⟩) (.of main_call0_call4_v168 : TRef sig ⟨S8, .i32⟩) (.of main_call0_call4_v169 : TRef sig ⟨S8, .i32⟩) xori
  :: TRef.unary (.of main_call0_call4_v1 : TRef sig ⟨S_, .i32⟩) (.of main_call0_call4_v170 : TRef sig ⟨S8, .i32⟩) (broadcastInDim S8 ![] bcast_S_S8)
  :: TRef.binary (.of main_call0_call4_v163 : TRef sig ⟨S8, .i32⟩) (.of main_call0_call4_v170 : TRef sig ⟨S8, .i32⟩) (.of main_call0_v24_0 : TRef sig ⟨S8, .i32⟩) addi
  :: TRef.unary (.of main_call0_v14 : TRef sig ⟨S_, .i32⟩) (.of main_call0_call4_v172 : TRef sig ⟨S8, .i32⟩) (broadcastInDim S8 ![] bcast_S_S8)
  :: TRef.binary (.of main_call0_call4_v169 : TRef sig ⟨S8, .i32⟩) (.of main_call0_call4_v172 : TRef sig ⟨S8, .i32⟩) (.of main_call0_call4_v173 : TRef sig ⟨S8, .i32⟩) addi
  :: TRef.nullary (.of main_call0_call4_c_44 : TRef sig ⟨S_, .i32⟩) (constantI S_ 32 5#32)
  :: TRef.unary (.of main_call0_call4_c_44 : TRef sig ⟨S_, .i32⟩) (.of main_call0_call4_v174 : TRef sig ⟨S8, .i32⟩) (broadcastInDim S8 ![] bcast_S_S8)
  :: TRef.binary (.of main_call0_call4_v173 : TRef sig ⟨S8, .i32⟩) (.of main_call0_call4_v174 : TRef sig ⟨S8, .i32⟩) (.of main_call0_v24_1 : TRef sig ⟨S8, .i32⟩) addi
  :: TRef.binary main_call0_call4.v171 main_call0_call4.v175 (.of main_call0_v25 : TRef sig ⟨S8, .i32⟩) xori
  :: TRef.unary (.of main_call0_v12 : TRef sig ⟨S2, .i32⟩) (.of main_call0_v26 : TRef sig ⟨S1, .i32⟩) (extractStridedSlice S1 ![0] · slices_S2_S1_0)
  :: TRef.reshape (.of main_call0_v26 : TRef sig ⟨S1, .i32⟩) (.of main_call0_v27 : TRef sig ⟨S_, .i32⟩) (rfl : (.i32 : EltTy) = .i32) shapeCasts_S1_S_
  :: TRef.unary (.of main_call0_v12 : TRef sig ⟨S2, .i32⟩) (.of main_call0_v28 : TRef sig ⟨S1, .i32⟩) (extractStridedSlice S1 ![1] · slices_S2_S1_1)
  :: TRef.reshape (.of main_call0_v28 : TRef sig ⟨S1, .i32⟩) (.of main_call0_v29 : TRef sig ⟨S_, .i32⟩) (rfl : (.i32 : EltTy) = .i32) shapeCasts_S1_S_
  :: TRef.nullary (.of main_call0_v30 : TRef sig ⟨S8, .i64⟩) (iotaInDim S8 64 0)
  :: TRef.nullary (.of main_call0_c_8 : TRef sig ⟨S_, .i64⟩) (constantI S_ 64 1#64)
  :: TRef.unary (.of main_call0_c_8 : TRef sig ⟨S_, .i64⟩) (.of main_call0_v31 : TRef sig ⟨S8, .i64⟩) (broadcastInDim S8 ![] bcast_S_S8)
  :: TRef.binary (.of main_call0_v31 : TRef sig ⟨S8, .i64⟩) (.of main_call0_v30 : TRef sig ⟨S8, .i64⟩) (.of main_call0_v32 : TRef sig ⟨S8, .i64⟩) muli
  :: TRef.nullary (.of main_call0_c_9 : TRef sig ⟨S_, .i64⟩) (constantI S_ 64 32#64)
  :: TRef.unary (.of main_call0_c_9 : TRef sig ⟨S_, .i64⟩) (.of main_call0_v33 : TRef sig ⟨S8, .i64⟩) (broadcastInDim S8 ![] bcast_S_S8)
  :: TRef.binary (.of main_call0_v32 : TRef sig ⟨S8, .i64⟩) (.of main_call0_v33 : TRef sig ⟨S8, .i64⟩) (.of main_call0_v34 : TRef sig ⟨S8, .i64⟩) Host.shrui
  :: TRef.unary (.of main_call0_v32 : TRef sig ⟨S8, .i64⟩) (.of main_call0_v35 : TRef sig ⟨S8, .i32⟩) (trunci 32 · natLt_32_64)
  :: TRef.unary (.of main_call0_v34 : TRef sig ⟨S8, .i64⟩) (.of main_call0_v36 : TRef sig ⟨S8, .i32⟩) (trunci 32 · natLt_32_64)
  :: TRef.binary (.of main_call0_v27 : TRef sig ⟨S_, .i32⟩) (.of main_call0_v29 : TRef sig ⟨S_, .i32⟩) (.of main_call0_call5_v0 : TRef sig ⟨S_, .i32⟩) xori
  :: TRef.nullary (.of main_call0_call5_c : TRef sig ⟨S_, .i32⟩) (constantI S_ 32 466688986#32)
  :: TRef.binary (.of main_call0_call5_v0 : TRef sig ⟨S_, .i32⟩) (.of main_call0_call5_c : TRef sig ⟨S_, .i32⟩) (.of main_call0_call5_v1 : TRef sig ⟨S_, .i32⟩) xori
  :: TRef.unary (.of main_call0_v27 : TRef sig ⟨S_, .i32⟩) (.of main_call0_call5_v2 : TRef sig ⟨S8, .i32⟩) (broadcastInDim S8 ![] bcast_S_S8)
  :: TRef.binary (.of main_call0_v36 : TRef sig ⟨S8, .i32⟩) (.of main_call0_call5_v2 : TRef sig ⟨S8, .i32⟩) (.of main_call0_call5_v3 : TRef sig ⟨S8, .i32⟩) addi
  :: TRef.unary (.of main_call0_v29 : TRef sig ⟨S_, .i32⟩) (.of main_call0_call5_v4 : TRef sig ⟨S8, .i32⟩) (broadcastInDim S8 ![] bcast_S_S8)
  :: TRef.binary (.of main_call0_v35 : TRef sig ⟨S8, .i32⟩) (.of main_call0_call5_v4 : TRef sig ⟨S8, .i32⟩) (.of main_call0_call5_v5 : TRef sig ⟨S8, .i32⟩) addi
  :: TRef.binary (.of main_call0_call5_v3 : TRef sig ⟨S8, .i32⟩) (.of main_call0_call5_v5 : TRef sig ⟨S8, .i32⟩) (.of main_call0_call5_v6 : TRef sig ⟨S8, .i32⟩) addi
  :: TRef.nullary (.of main_call0_call5_c_0 : TRef sig ⟨S_, .i32⟩) (constantI S_ 32 13#32)
  :: TRef.unary (.of main_call0_call5_c_0 : TRef sig ⟨S_, .i32⟩) (.of main_call0_call5_v7 : TRef sig ⟨S8, .i32⟩) (broadcastInDim S8 ![] bcast_S_S8)
  :: TRef.binary (.of main_call0_call5_v5 : TRef sig ⟨S8, .i32⟩) (.of main_call0_call5_v7 : TRef sig ⟨S8, .i32⟩) (.of main_call0_call5_v8 : TRef sig ⟨S8, .i32⟩) Host.shli
  :: TRef.nullary (.of main_call0_call5_c_1 : TRef sig ⟨S_, .i32⟩) (constantI S_ 32 19#32)
  :: TRef.unary (.of main_call0_call5_c_1 : TRef sig ⟨S_, .i32⟩) (.of main_call0_call5_v9 : TRef sig ⟨S8, .i32⟩) (broadcastInDim S8 ![] bcast_S_S8)
  :: TRef.binary (.of main_call0_call5_v5 : TRef sig ⟨S8, .i32⟩) (.of main_call0_call5_v9 : TRef sig ⟨S8, .i32⟩) (.of main_call0_call5_v10 : TRef sig ⟨S8, .i32⟩) Host.shrui
  :: TRef.binary (.of main_call0_call5_v8 : TRef sig ⟨S8, .i32⟩) (.of main_call0_call5_v10 : TRef sig ⟨S8, .i32⟩) (.of main_call0_call5_v11 : TRef sig ⟨S8, .i32⟩) ori
  :: TRef.binary (.of main_call0_call5_v6 : TRef sig ⟨S8, .i32⟩) (.of main_call0_call5_v11 : TRef sig ⟨S8, .i32⟩) (.of main_call0_call5_v12 : TRef sig ⟨S8, .i32⟩) xori
  :: TRef.binary (.of main_call0_call5_v6 : TRef sig ⟨S8, .i32⟩) (.of main_call0_call5_v12 : TRef sig ⟨S8, .i32⟩) (.of main_call0_call5_v13 : TRef sig ⟨S8, .i32⟩) addi
  :: TRef.nullary (.of main_call0_call5_c_2 : TRef sig ⟨S_, .i32⟩) (constantI S_ 32 15#32)
  :: TRef.unary (.of main_call0_call5_c_2 : TRef sig ⟨S_, .i32⟩) (.of main_call0_call5_v14 : TRef sig ⟨S8, .i32⟩) (broadcastInDim S8 ![] bcast_S_S8)
  :: TRef.binary (.of main_call0_call5_v12 : TRef sig ⟨S8, .i32⟩) (.of main_call0_call5_v14 : TRef sig ⟨S8, .i32⟩) (.of main_call0_call5_v15 : TRef sig ⟨S8, .i32⟩) Host.shli
  :: TRef.nullary (.of main_call0_call5_c_3 : TRef sig ⟨S_, .i32⟩) (constantI S_ 32 17#32)
  :: TRef.unary (.of main_call0_call5_c_3 : TRef sig ⟨S_, .i32⟩) (.of main_call0_call5_v16 : TRef sig ⟨S8, .i32⟩) (broadcastInDim S8 ![] bcast_S_S8)
  :: TRef.binary (.of main_call0_call5_v12 : TRef sig ⟨S8, .i32⟩) (.of main_call0_call5_v16 : TRef sig ⟨S8, .i32⟩) (.of main_call0_call5_v17 : TRef sig ⟨S8, .i32⟩) Host.shrui
  :: TRef.binary (.of main_call0_call5_v15 : TRef sig ⟨S8, .i32⟩) (.of main_call0_call5_v17 : TRef sig ⟨S8, .i32⟩) (.of main_call0_call5_v18 : TRef sig ⟨S8, .i32⟩) ori
  :: TRef.binary (.of main_call0_call5_v13 : TRef sig ⟨S8, .i32⟩) (.of main_call0_call5_v18 : TRef sig ⟨S8, .i32⟩) (.of main_call0_call5_v19 : TRef sig ⟨S8, .i32⟩) xori
  :: TRef.binary (.of main_call0_call5_v13 : TRef sig ⟨S8, .i32⟩) (.of main_call0_call5_v19 : TRef sig ⟨S8, .i32⟩) (.of main_call0_call5_v20 : TRef sig ⟨S8, .i32⟩) addi
  :: TRef.nullary (.of main_call0_call5_c_4 : TRef sig ⟨S_, .i32⟩) (constantI S_ 32 26#32)
  :: TRef.unary (.of main_call0_call5_c_4 : TRef sig ⟨S_, .i32⟩) (.of main_call0_call5_v21 : TRef sig ⟨S8, .i32⟩) (broadcastInDim S8 ![] bcast_S_S8)
  :: TRef.binary (.of main_call0_call5_v19 : TRef sig ⟨S8, .i32⟩) (.of main_call0_call5_v21 : TRef sig ⟨S8, .i32⟩) (.of main_call0_call5_v22 : TRef sig ⟨S8, .i32⟩) Host.shli
  :: TRef.nullary (.of main_call0_call5_c_5 : TRef sig ⟨S_, .i32⟩) (constantI S_ 32 6#32)
  :: TRef.unary (.of main_call0_call5_c_5 : TRef sig ⟨S_, .i32⟩) (.of main_call0_call5_v23 : TRef sig ⟨S8, .i32⟩) (broadcastInDim S8 ![] bcast_S_S8)
  :: TRef.binary (.of main_call0_call5_v19 : TRef sig ⟨S8, .i32⟩) (.of main_call0_call5_v23 : TRef sig ⟨S8, .i32⟩) (.of main_call0_call5_v24 : TRef sig ⟨S8, .i32⟩) Host.shrui
  :: TRef.binary (.of main_call0_call5_v22 : TRef sig ⟨S8, .i32⟩) (.of main_call0_call5_v24 : TRef sig ⟨S8, .i32⟩) (.of main_call0_call5_v25 : TRef sig ⟨S8, .i32⟩) ori
  :: TRef.binary (.of main_call0_call5_v20 : TRef sig ⟨S8, .i32⟩) (.of main_call0_call5_v25 : TRef sig ⟨S8, .i32⟩) (.of main_call0_call5_v26 : TRef sig ⟨S8, .i32⟩) xori
  :: TRef.binary (.of main_call0_call5_v20 : TRef sig ⟨S8, .i32⟩) (.of main_call0_call5_v26 : TRef sig ⟨S8, .i32⟩) (.of main_call0_call5_v27 : TRef sig ⟨S8, .i32⟩) addi
  :: TRef.nullary (.of main_call0_call5_c_6 : TRef sig ⟨S_, .i32⟩) (constantI S_ 32 6#32)
  :: TRef.unary (.of main_call0_call5_c_6 : TRef sig ⟨S_, .i32⟩) (.of main_call0_call5_v28 : TRef sig ⟨S8, .i32⟩) (broadcastInDim S8 ![] bcast_S_S8)
  :: TRef.binary (.of main_call0_call5_v26 : TRef sig ⟨S8, .i32⟩) (.of main_call0_call5_v28 : TRef sig ⟨S8, .i32⟩) (.of main_call0_call5_v29 : TRef sig ⟨S8, .i32⟩) Host.shli
  :: TRef.nullary (.of main_call0_call5_c_7 : TRef sig ⟨S_, .i32⟩) (constantI S_ 32 26#32)
  :: TRef.unary (.of main_call0_call5_c_7 : TRef sig ⟨S_, .i32⟩) (.of main_call0_call5_v30 : TRef sig ⟨S8, .i32⟩) (broadcastInDim S8 ![] bcast_S_S8)
  :: TRef.binary (.of main_call0_call5_v26 : TRef sig ⟨S8, .i32⟩) (.of main_call0_call5_v30 : TRef sig ⟨S8, .i32⟩) (.of main_call0_call5_v31 : TRef sig ⟨S8, .i32⟩) Host.shrui
  :: TRef.binary (.of main_call0_call5_v29 : TRef sig ⟨S8, .i32⟩) (.of main_call0_call5_v31 : TRef sig ⟨S8, .i32⟩) (.of main_call0_call5_v32 : TRef sig ⟨S8, .i32⟩) ori
  :: TRef.binary (.of main_call0_call5_v27 : TRef sig ⟨S8, .i32⟩) (.of main_call0_call5_v32 : TRef sig ⟨S8, .i32⟩) (.of main_call0_call5_v33 : TRef sig ⟨S8, .i32⟩) xori
  :: TRef.unary (.of main_call0_v29 : TRef sig ⟨S_, .i32⟩) (.of main_call0_call5_v34 : TRef sig ⟨S8, .i32⟩) (broadcastInDim S8 ![] bcast_S_S8)
  :: TRef.binary (.of main_call0_call5_v27 : TRef sig ⟨S8, .i32⟩) (.of main_call0_call5_v34 : TRef sig ⟨S8, .i32⟩) (.of main_call0_call5_v35 : TRef sig ⟨S8, .i32⟩) addi
  :: TRef.unary (.of main_call0_call5_v1 : TRef sig ⟨S_, .i32⟩) (.of main_call0_call5_v36 : TRef sig ⟨S8, .i32⟩) (broadcastInDim S8 ![] bcast_S_S8)
  :: TRef.binary (.of main_call0_call5_v33 : TRef sig ⟨S8, .i32⟩) (.of main_call0_call5_v36 : TRef sig ⟨S8, .i32⟩) (.of main_call0_call5_v37 : TRef sig ⟨S8, .i32⟩) addi
  :: TRef.nullary (.of main_call0_call5_c_8 : TRef sig ⟨S_, .i32⟩) (constantI S_ 32 1#32)
  :: TRef.unary (.of main_call0_call5_c_8 : TRef sig ⟨S_, .i32⟩) (.of main_call0_call5_v38 : TRef sig ⟨S8, .i32⟩) (broadcastInDim S8 ![] bcast_S_S8)
  :: TRef.binary (.of main_call0_call5_v37 : TRef sig ⟨S8, .i32⟩) (.of main_call0_call5_v38 : TRef sig ⟨S8, .i32⟩) (.of main_call0_call5_v39 : TRef sig ⟨S8, .i32⟩) addi
  :: TRef.binary (.of main_call0_call5_v35 : TRef sig ⟨S8, .i32⟩) (.of main_call0_call5_v39 : TRef sig ⟨S8, .i32⟩) (.of main_call0_call5_v40 : TRef sig ⟨S8, .i32⟩) addi
  :: TRef.nullary (.of main_call0_call5_c_9 : TRef sig ⟨S_, .i32⟩) (constantI S_ 32 17#32)
  :: TRef.unary (.of main_call0_call5_c_9 : TRef sig ⟨S_, .i32⟩) (.of main_call0_call5_v41 : TRef sig ⟨S8, .i32⟩) (broadcastInDim S8 ![] bcast_S_S8)
  :: TRef.binary (.of main_call0_call5_v39 : TRef sig ⟨S8, .i32⟩) (.of main_call0_call5_v41 : TRef sig ⟨S8, .i32⟩) (.of main_call0_call5_v42 : TRef sig ⟨S8, .i32⟩) Host.shli
  :: TRef.nullary (.of main_call0_call5_c_10 : TRef sig ⟨S_, .i32⟩) (constantI S_ 32 15#32)
  :: TRef.unary (.of main_call0_call5_c_10 : TRef sig ⟨S_, .i32⟩) (.of main_call0_call5_v43 : TRef sig ⟨S8, .i32⟩) (broadcastInDim S8 ![] bcast_S_S8)
  :: TRef.binary (.of main_call0_call5_v39 : TRef sig ⟨S8, .i32⟩) (.of main_call0_call5_v43 : TRef sig ⟨S8, .i32⟩) (.of main_call0_call5_v44 : TRef sig ⟨S8, .i32⟩) Host.shrui
  :: TRef.binary (.of main_call0_call5_v42 : TRef sig ⟨S8, .i32⟩) (.of main_call0_call5_v44 : TRef sig ⟨S8, .i32⟩) (.of main_call0_call5_v45 : TRef sig ⟨S8, .i32⟩) ori
  :: TRef.binary (.of main_call0_call5_v40 : TRef sig ⟨S8, .i32⟩) (.of main_call0_call5_v45 : TRef sig ⟨S8, .i32⟩) (.of main_call0_call5_v46 : TRef sig ⟨S8, .i32⟩) xori
  :: TRef.binary (.of main_call0_call5_v40 : TRef sig ⟨S8, .i32⟩) (.of main_call0_call5_v46 : TRef sig ⟨S8, .i32⟩) (.of main_call0_call5_v47 : TRef sig ⟨S8, .i32⟩) addi
  :: TRef.nullary (.of main_call0_call5_c_11 : TRef sig ⟨S_, .i32⟩) (constantI S_ 32 29#32)
  :: TRef.unary (.of main_call0_call5_c_11 : TRef sig ⟨S_, .i32⟩) (.of main_call0_call5_v48 : TRef sig ⟨S8, .i32⟩) (broadcastInDim S8 ![] bcast_S_S8)
  :: TRef.binary (.of main_call0_call5_v46 : TRef sig ⟨S8, .i32⟩) (.of main_call0_call5_v48 : TRef sig ⟨S8, .i32⟩) (.of main_call0_call5_v49 : TRef sig ⟨S8, .i32⟩) Host.shli
  :: TRef.nullary (.of main_call0_call5_c_12 : TRef sig ⟨S_, .i32⟩) (constantI S_ 32 3#32)
  :: TRef.unary (.of main_call0_call5_c_12 : TRef sig ⟨S_, .i32⟩) (.of main_call0_call5_v50 : TRef sig ⟨S8, .i32⟩) (broadcastInDim S8 ![] bcast_S_S8)
  :: TRef.binary (.of main_call0_call5_v46 : TRef sig ⟨S8, .i32⟩) (.of main_call0_call5_v50 : TRef sig ⟨S8, .i32⟩) (.of main_call0_call5_v51 : TRef sig ⟨S8, .i32⟩) Host.shrui
  :: TRef.binary (.of main_call0_call5_v49 : TRef sig ⟨S8, .i32⟩) (.of main_call0_call5_v51 : TRef sig ⟨S8, .i32⟩) (.of main_call0_call5_v52 : TRef sig ⟨S8, .i32⟩) ori
  :: TRef.binary (.of main_call0_call5_v47 : TRef sig ⟨S8, .i32⟩) (.of main_call0_call5_v52 : TRef sig ⟨S8, .i32⟩) (.of main_call0_call5_v53 : TRef sig ⟨S8, .i32⟩) xori
  :: TRef.binary (.of main_call0_call5_v47 : TRef sig ⟨S8, .i32⟩) (.of main_call0_call5_v53 : TRef sig ⟨S8, .i32⟩) (.of main_call0_call5_v54 : TRef sig ⟨S8, .i32⟩) addi
  :: TRef.nullary (.of main_call0_call5_c_13 : TRef sig ⟨S_, .i32⟩) (constantI S_ 32 16#32)
  :: TRef.unary (.of main_call0_call5_c_13 : TRef sig ⟨S_, .i32⟩) (.of main_call0_call5_v55 : TRef sig ⟨S8, .i32⟩) (broadcastInDim S8 ![] bcast_S_S8)
  :: TRef.binary (.of main_call0_call5_v53 : TRef sig ⟨S8, .i32⟩) (.of main_call0_call5_v55 : TRef sig ⟨S8, .i32⟩) (.of main_call0_call5_v56 : TRef sig ⟨S8, .i32⟩) Host.shli
  :: TRef.nullary (.of main_call0_call5_c_14 : TRef sig ⟨S_, .i32⟩) (constantI S_ 32 16#32)
  :: TRef.unary (.of main_call0_call5_c_14 : TRef sig ⟨S_, .i32⟩) (.of main_call0_call5_v57 : TRef sig ⟨S8, .i32⟩) (broadcastInDim S8 ![] bcast_S_S8)
  :: TRef.binary (.of main_call0_call5_v53 : TRef sig ⟨S8, .i32⟩) (.of main_call0_call5_v57 : TRef sig ⟨S8, .i32⟩) (.of main_call0_call5_v58 : TRef sig ⟨S8, .i32⟩) Host.shrui
  :: TRef.binary (.of main_call0_call5_v56 : TRef sig ⟨S8, .i32⟩) (.of main_call0_call5_v58 : TRef sig ⟨S8, .i32⟩) (.of main_call0_call5_v59 : TRef sig ⟨S8, .i32⟩) ori
  :: TRef.binary (.of main_call0_call5_v54 : TRef sig ⟨S8, .i32⟩) (.of main_call0_call5_v59 : TRef sig ⟨S8, .i32⟩) (.of main_call0_call5_v60 : TRef sig ⟨S8, .i32⟩) xori
  :: TRef.binary (.of main_call0_call5_v54 : TRef sig ⟨S8, .i32⟩) (.of main_call0_call5_v60 : TRef sig ⟨S8, .i32⟩) (.of main_call0_call5_v61 : TRef sig ⟨S8, .i32⟩) addi
  :: TRef.nullary (.of main_call0_call5_c_15 : TRef sig ⟨S_, .i32⟩) (constantI S_ 32 24#32)
  :: TRef.unary (.of main_call0_call5_c_15 : TRef sig ⟨S_, .i32⟩) (.of main_call0_call5_v62 : TRef sig ⟨S8, .i32⟩) (broadcastInDim S8 ![] bcast_S_S8)
  :: TRef.binary (.of main_call0_call5_v60 : TRef sig ⟨S8, .i32⟩) (.of main_call0_call5_v62 : TRef sig ⟨S8, .i32⟩) (.of main_call0_call5_v63 : TRef sig ⟨S8, .i32⟩) Host.shli
  :: TRef.nullary (.of main_call0_call5_c_16 : TRef sig ⟨S_, .i32⟩) (constantI S_ 32 8#32)
  :: TRef.unary (.of main_call0_call5_c_16 : TRef sig ⟨S_, .i32⟩) (.of main_call0_call5_v64 : TRef sig ⟨S8, .i32⟩) (broadcastInDim S8 ![] bcast_S_S8)
  :: TRef.binary (.of main_call0_call5_v60 : TRef sig ⟨S8, .i32⟩) (.of main_call0_call5_v64 : TRef sig ⟨S8, .i32⟩) (.of main_call0_call5_v65 : TRef sig ⟨S8, .i32⟩) Host.shrui
  :: TRef.binary (.of main_call0_call5_v63 : TRef sig ⟨S8, .i32⟩) (.of main_call0_call5_v65 : TRef sig ⟨S8, .i32⟩) (.of main_call0_call5_v66 : TRef sig ⟨S8, .i32⟩) ori
  :: TRef.binary (.of main_call0_call5_v61 : TRef sig ⟨S8, .i32⟩) (.of main_call0_call5_v66 : TRef sig ⟨S8, .i32⟩) (.of main_call0_call5_v67 : TRef sig ⟨S8, .i32⟩) xori
  :: TRef.unary (.of main_call0_call5_v1 : TRef sig ⟨S_, .i32⟩) (.of main_call0_call5_v68 : TRef sig ⟨S8, .i32⟩) (broadcastInDim S8 ![] bcast_S_S8)
  :: TRef.binary (.of main_call0_call5_v61 : TRef sig ⟨S8, .i32⟩) (.of main_call0_call5_v68 : TRef sig ⟨S8, .i32⟩) (.of main_call0_call5_v69 : TRef sig ⟨S8, .i32⟩) addi
  :: TRef.unary (.of main_call0_v27 : TRef sig ⟨S_, .i32⟩) (.of main_call0_call5_v70 : TRef sig ⟨S8, .i32⟩) (broadcastInDim S8 ![] bcast_S_S8)
  :: TRef.binary (.of main_call0_call5_v67 : TRef sig ⟨S8, .i32⟩) (.of main_call0_call5_v70 : TRef sig ⟨S8, .i32⟩) (.of main_call0_call5_v71 : TRef sig ⟨S8, .i32⟩) addi
  :: TRef.nullary (.of main_call0_call5_c_17 : TRef sig ⟨S_, .i32⟩) (constantI S_ 32 2#32)
  :: TRef.unary (.of main_call0_call5_c_17 : TRef sig ⟨S_, .i32⟩) (.of main_call0_call5_v72 : TRef sig ⟨S8, .i32⟩) (broadcastInDim S8 ![] bcast_S_S8)
  :: TRef.binary (.of main_call0_call5_v71 : TRef sig ⟨S8, .i32⟩) (.of main_call0_call5_v72 : TRef sig ⟨S8, .i32⟩) (.of main_call0_call5_v73 : TRef sig ⟨S8, .i32⟩) addi
  :: TRef.binary (.of main_call0_call5_v69 : TRef sig ⟨S8, .i32⟩) (.of main_call0_call5_v73 : TRef sig ⟨S8, .i32⟩) (.of main_call0_call5_v74 : TRef sig ⟨S8, .i32⟩) addi
  :: TRef.nullary (.of main_call0_call5_c_18 : TRef sig ⟨S_, .i32⟩) (constantI S_ 32 13#32)
  :: TRef.unary (.of main_call0_call5_c_18 : TRef sig ⟨S_, .i32⟩) (.of main_call0_call5_v75 : TRef sig ⟨S8, .i32⟩) (broadcastInDim S8 ![] bcast_S_S8)
  :: TRef.binary (.of main_call0_call5_v73 : TRef sig ⟨S8, .i32⟩) (.of main_call0_call5_v75 : TRef sig ⟨S8, .i32⟩) (.of main_call0_call5_v76 : TRef sig ⟨S8, .i32⟩) Host.shli
  :: TRef.nullary (.of main_call0_call5_c_19 : TRef sig ⟨S_, .i32⟩) (constantI S_ 32 19#32)
  :: TRef.unary (.of main_call0_call5_c_19 : TRef sig ⟨S_, .i32⟩) (.of main_call0_call5_v77 : TRef sig ⟨S8, .i32⟩) (broadcastInDim S8 ![] bcast_S_S8)
  :: TRef.binary (.of main_call0_call5_v73 : TRef sig ⟨S8, .i32⟩) (.of main_call0_call5_v77 : TRef sig ⟨S8, .i32⟩) (.of main_call0_call5_v78 : TRef sig ⟨S8, .i32⟩) Host.shrui
  :: TRef.binary (.of main_call0_call5_v76 : TRef sig ⟨S8, .i32⟩) (.of main_call0_call5_v78 : TRef sig ⟨S8, .i32⟩) (.of main_call0_call5_v79 : TRef sig ⟨S8, .i32⟩) ori
  :: TRef.binary (.of main_call0_call5_v74 : TRef sig ⟨S8, .i32⟩) (.of main_call0_call5_v79 : TRef sig ⟨S8, .i32⟩) (.of main_call0_call5_v80 : TRef sig ⟨S8, .i32⟩) xori
  :: TRef.binary (.of main_call0_call5_v74 : TRef sig ⟨S8, .i32⟩) (.of main_call0_call5_v80 : TRef sig ⟨S8, .i32⟩) (.of main_call0_call5_v81 : TRef sig ⟨S8, .i32⟩) addi
  :: TRef.nullary (.of main_call0_call5_c_20 : TRef sig ⟨S_, .i32⟩) (constantI S_ 32 15#32)
  :: TRef.unary (.of main_call0_call5_c_20 : TRef sig ⟨S_, .i32⟩) (.of main_call0_call5_v82 : TRef sig ⟨S8, .i32⟩) (broadcastInDim S8 ![] bcast_S_S8)
  :: TRef.binary (.of main_call0_call5_v80 : TRef sig ⟨S8, .i32⟩) (.of main_call0_call5_v82 : TRef sig ⟨S8, .i32⟩) (.of main_call0_call5_v83 : TRef sig ⟨S8, .i32⟩) Host.shli
  :: TRef.nullary (.of main_call0_call5_c_21 : TRef sig ⟨S_, .i32⟩) (constantI S_ 32 17#32)
  :: TRef.unary (.of main_call0_call5_c_21 : TRef sig ⟨S_, .i32⟩) (.of main_call0_call5_v84 : TRef sig ⟨S8, .i32⟩) (broadcastInDim S8 ![] bcast_S_S8)
  :: TRef.binary (.of main_call0_call5_v80 : TRef sig ⟨S8, .i32⟩) (.of main_call0_call5_v84 : TRef sig ⟨S8, .i32⟩) (.of main_call0_call5_v85 : TRef sig ⟨S8, .i32⟩) Host.shrui
  :: TRef.binary (.of main_call0_call5_v83 : TRef sig ⟨S8, .i32⟩) (.of main_call0_call5_v85 : TRef sig ⟨S8, .i32⟩) (.of main_call0_call5_v86 : TRef sig ⟨S8, .i32⟩) ori
  :: TRef.binary (.of main_call0_call5_v81 : TRef sig ⟨S8, .i32⟩) (.of main_call0_call5_v86 : TRef sig ⟨S8, .i32⟩) (.of main_call0_call5_v87 : TRef sig ⟨S8, .i32⟩) xori
  :: TRef.binary (.of main_call0_call5_v81 : TRef sig ⟨S8, .i32⟩) (.of main_call0_call5_v87 : TRef sig ⟨S8, .i32⟩) (.of main_call0_call5_v88 : TRef sig ⟨S8, .i32⟩) addi
  :: TRef.nullary (.of main_call0_call5_c_22 : TRef sig ⟨S_, .i32⟩) (constantI S_ 32 26#32)
  :: TRef.unary (.of main_call0_call5_c_22 : TRef sig ⟨S_, .i32⟩) (.of main_call0_call5_v89 : TRef sig ⟨S8, .i32⟩) (broadcastInDim S8 ![] bcast_S_S8)
  :: TRef.binary (.of main_call0_call5_v87 : TRef sig ⟨S8, .i32⟩) (.of main_call0_call5_v89 : TRef sig ⟨S8, .i32⟩) (.of main_call0_call5_v90 : TRef sig ⟨S8, .i32⟩) Host.shli
  :: TRef.nullary (.of main_call0_call5_c_23 : TRef sig ⟨S_, .i32⟩) (constantI S_ 32 6#32)
  :: TRef.unary (.of main_call0_call5_c_23 : TRef sig ⟨S_, .i32⟩) (.of main_call0_call5_v91 : TRef sig ⟨S8, .i32⟩) (broadcastInDim S8 ![] bcast_S_S8)
  :: TRef.binary (.of main_call0_call5_v87 : TRef sig ⟨S8, .i32⟩) (.of main_call0_call5_v91 : TRef sig ⟨S8, .i32⟩) (.of main_call0_call5_v92 : TRef sig ⟨S8, .i32⟩) Host.shrui
  :: TRef.binary (.of main_call0_call5_v90 : TRef sig ⟨S8, .i32⟩) (.of main_call0_call5_v92 : TRef sig ⟨S8, .i32⟩) (.of main_call0_call5_v93 : TRef sig ⟨S8, .i32⟩) ori
  :: TRef.binary (.of main_call0_call5_v88 : TRef sig ⟨S8, .i32⟩) (.of main_call0_call5_v93 : TRef sig ⟨S8, .i32⟩) (.of main_call0_call5_v94 : TRef sig ⟨S8, .i32⟩) xori
  :: TRef.binary (.of main_call0_call5_v88 : TRef sig ⟨S8, .i32⟩) (.of main_call0_call5_v94 : TRef sig ⟨S8, .i32⟩) (.of main_call0_call5_v95 : TRef sig ⟨S8, .i32⟩) addi
  :: TRef.nullary (.of main_call0_call5_c_24 : TRef sig ⟨S_, .i32⟩) (constantI S_ 32 6#32)
  :: TRef.unary (.of main_call0_call5_c_24 : TRef sig ⟨S_, .i32⟩) (.of main_call0_call5_v96 : TRef sig ⟨S8, .i32⟩) (broadcastInDim S8 ![] bcast_S_S8)
  :: TRef.binary (.of main_call0_call5_v94 : TRef sig ⟨S8, .i32⟩) (.of main_call0_call5_v96 : TRef sig ⟨S8, .i32⟩) (.of main_call0_call5_v97 : TRef sig ⟨S8, .i32⟩) Host.shli
  :: TRef.nullary (.of main_call0_call5_c_25 : TRef sig ⟨S_, .i32⟩) (constantI S_ 32 26#32)
  :: TRef.unary (.of main_call0_call5_c_25 : TRef sig ⟨S_, .i32⟩) (.of main_call0_call5_v98 : TRef sig ⟨S8, .i32⟩) (broadcastInDim S8 ![] bcast_S_S8)
  :: TRef.binary (.of main_call0_call5_v94 : TRef sig ⟨S8, .i32⟩) (.of main_call0_call5_v98 : TRef sig ⟨S8, .i32⟩) (.of main_call0_call5_v99 : TRef sig ⟨S8, .i32⟩) Host.shrui
  :: TRef.binary (.of main_call0_call5_v97 : TRef sig ⟨S8, .i32⟩) (.of main_call0_call5_v99 : TRef sig ⟨S8, .i32⟩) (.of main_call0_call5_v100 : TRef sig ⟨S8, .i32⟩) ori
  :: TRef.binary (.of main_call0_call5_v95 : TRef sig ⟨S8, .i32⟩) (.of main_call0_call5_v100 : TRef sig ⟨S8, .i32⟩) (.of main_call0_call5_v101 : TRef sig ⟨S8, .i32⟩) xori
  :: TRef.unary (.of main_call0_v27 : TRef sig ⟨S_, .i32⟩) (.of main_call0_call5_v102 : TRef sig ⟨S8, .i32⟩) (broadcastInDim S8 ![] bcast_S_S8)
  :: TRef.binary (.of main_call0_call5_v95 : TRef sig ⟨S8, .i32⟩) (.of main_call0_call5_v102 : TRef sig ⟨S8, .i32⟩) (.of main_call0_call5_v103 : TRef sig ⟨S8, .i32⟩) addi
  :: TRef.unary (.of main_call0_v29 : TRef sig ⟨S_, .i32⟩) (.of main_call0_call5_v104 : TRef sig ⟨S8, .i32⟩) (broadcastInDim S8 ![] bcast_S_S8)
  :: TRef.binary (.of main_call0_call5_v101 : TRef sig ⟨S8, .i32⟩) (.of main_call0_call5_v104 : TRef sig ⟨S8, .i32⟩) (.of main_call0_call5_v105 : TRef sig ⟨S8, .i32⟩) addi
  :: TRef.nullary (.of main_call0_call5_c_26 : TRef sig ⟨S_, .i32⟩) (constantI S_ 32 3#32)
  :: TRef.unary (.of main_call0_call5_c_26 : TRef sig ⟨S_, .i32⟩) (.of main_call0_call5_v106 : TRef sig ⟨S8, .i32⟩) (broadcastInDim S8 ![] bcast_S_S8)
  :: TRef.binary (.of main_call0_call5_v105 : TRef sig ⟨S8, .i32⟩) (.of main_call0_call5_v106 : TRef sig ⟨S8, .i32⟩) (.of main_call0_call5_v107 : TRef sig ⟨S8, .i32⟩) addi
  :: TRef.binary (.of main_call0_call5_v103 : TRef sig ⟨S8, .i32⟩) (.of main_call0_call5_v107 : TRef sig ⟨S8, .i32⟩) (.of main_call0_call5_v108 : TRef sig ⟨S8, .i32⟩) addi
  :: TRef.nullary (.of main_call0_call5_c_27 : TRef sig ⟨S_, .i32⟩) (constantI S_ 32 17#32)
  :: TRef.unary (.of main_call0_call5_c_27 : TRef sig ⟨S_, .i32⟩) (.of main_call0_call5_v109 : TRef sig ⟨S8, .i32⟩) (broadcastInDim S8 ![] bcast_S_S8)
  :: TRef.binary (.of main_call0_call5_v107 : TRef sig ⟨S8, .i32⟩) (.of main_call0_call5_v109 : TRef sig ⟨S8, .i32⟩) (.of main_call0_call5_v110 : TRef sig ⟨S8, .i32⟩) Host.shli
  :: TRef.nullary (.of main_call0_call5_c_28 : TRef sig ⟨S_, .i32⟩) (constantI S_ 32 15#32)
  :: TRef.unary (.of main_call0_call5_c_28 : TRef sig ⟨S_, .i32⟩) (.of main_call0_call5_v111 : TRef sig ⟨S8, .i32⟩) (broadcastInDim S8 ![] bcast_S_S8)
  :: TRef.binary (.of main_call0_call5_v107 : TRef sig ⟨S8, .i32⟩) (.of main_call0_call5_v111 : TRef sig ⟨S8, .i32⟩) (.of main_call0_call5_v112 : TRef sig ⟨S8, .i32⟩) Host.shrui
  :: TRef.binary (.of main_call0_call5_v110 : TRef sig ⟨S8, .i32⟩) (.of main_call0_call5_v112 : TRef sig ⟨S8, .i32⟩) (.of main_call0_call5_v113 : TRef sig ⟨S8, .i32⟩) ori
  :: TRef.binary (.of main_call0_call5_v108 : TRef sig ⟨S8, .i32⟩) (.of main_call0_call5_v113 : TRef sig ⟨S8, .i32⟩) (.of main_call0_call5_v114 : TRef sig ⟨S8, .i32⟩) xori
  :: TRef.binary (.of main_call0_call5_v108 : TRef sig ⟨S8, .i32⟩) (.of main_call0_call5_v114 : TRef sig ⟨S8, .i32⟩) (.of main_call0_call5_v115 : TRef sig ⟨S8, .i32⟩) addi
  :: TRef.nullary (.of main_call0_call5_c_29 : TRef sig ⟨S_, .i32⟩) (constantI S_ 32 29#32)
  :: TRef.unary (.of main_call0_call5_c_29 : TRef sig ⟨S_, .i32⟩) (.of main_call0_call5_v116 : TRef sig ⟨S8, .i32⟩) (broadcastInDim S8 ![] bcast_S_S8)
  :: TRef.binary (.of main_call0_call5_v114 : TRef sig ⟨S8, .i32⟩) (.of main_call0_call5_v116 : TRef sig ⟨S8, .i32⟩) (.of main_call0_call5_v117 : TRef sig ⟨S8, .i32⟩) Host.shli
  :: TRef.nullary (.of main_call0_call5_c_30 : TRef sig ⟨S_, .i32⟩) (constantI S_ 32 3#32)
  :: TRef.unary (.of main_call0_call5_c_30 : TRef sig ⟨S_, .i32⟩) (.of main_call0_call5_v118 : TRef sig ⟨S8, .i32⟩) (broadcastInDim S8 ![] bcast_S_S8)
  :: TRef.binary (.of main_call0_call5_v114 : TRef sig ⟨S8, .i32⟩) (.of main_call0_call5_v118 : TRef sig ⟨S8, .i32⟩) (.of main_call0_call5_v119 : TRef sig ⟨S8, .i32⟩) Host.shrui
  :: TRef.binary (.of main_call0_call5_v117 : TRef sig ⟨S8, .i32⟩) (.of main_call0_call5_v119 : TRef sig ⟨S8, .i32⟩) (.of main_call0_call5_v120 : TRef sig ⟨S8, .i32⟩) ori
  :: TRef.binary (.of main_call0_call5_v115 : TRef sig ⟨S8, .i32⟩) (.of main_call0_call5_v120 : TRef sig ⟨S8, .i32⟩) (.of main_call0_call5_v121 : TRef sig ⟨S8, .i32⟩) xori
  :: TRef.binary (.of main_call0_call5_v115 : TRef sig ⟨S8, .i32⟩) (.of main_call0_call5_v121 : TRef sig ⟨S8, .i32⟩) (.of main_call0_call5_v122 : TRef sig ⟨S8, .i32⟩) addi
  :: TRef.nullary (.of main_call0_call5_c_31 : TRef sig ⟨S_, .i32⟩) (constantI S_ 32 16#32)
  :: TRef.unary (.of main_call0_call5_c_31 : TRef sig ⟨S_, .i32⟩) (.of main_call0_call5_v123 : TRef sig ⟨S8, .i32⟩) (broadcastInDim S8 ![] bcast_S_S8)
  :: TRef.binary (.of main_call0_call5_v121 : TRef sig ⟨S8, .i32⟩) (.of main_call0_call5_v123 : TRef sig ⟨S8, .i32⟩) (.of main_call0_call5_v124 : TRef sig ⟨S8, .i32⟩) Host.shli
  :: TRef.nullary (.of main_call0_call5_c_32 : TRef sig ⟨S_, .i32⟩) (constantI S_ 32 16#32)
  :: TRef.unary (.of main_call0_call5_c_32 : TRef sig ⟨S_, .i32⟩) (.of main_call0_call5_v125 : TRef sig ⟨S8, .i32⟩) (broadcastInDim S8 ![] bcast_S_S8)
  :: TRef.binary (.of main_call0_call5_v121 : TRef sig ⟨S8, .i32⟩) (.of main_call0_call5_v125 : TRef sig ⟨S8, .i32⟩) (.of main_call0_call5_v126 : TRef sig ⟨S8, .i32⟩) Host.shrui
  :: TRef.binary (.of main_call0_call5_v124 : TRef sig ⟨S8, .i32⟩) (.of main_call0_call5_v126 : TRef sig ⟨S8, .i32⟩) (.of main_call0_call5_v127 : TRef sig ⟨S8, .i32⟩) ori
  :: TRef.binary (.of main_call0_call5_v122 : TRef sig ⟨S8, .i32⟩) (.of main_call0_call5_v127 : TRef sig ⟨S8, .i32⟩) (.of main_call0_call5_v128 : TRef sig ⟨S8, .i32⟩) xori
  :: TRef.binary (.of main_call0_call5_v122 : TRef sig ⟨S8, .i32⟩) (.of main_call0_call5_v128 : TRef sig ⟨S8, .i32⟩) (.of main_call0_call5_v129 : TRef sig ⟨S8, .i32⟩) addi
  :: TRef.nullary (.of main_call0_call5_c_33 : TRef sig ⟨S_, .i32⟩) (constantI S_ 32 24#32)
  :: TRef.unary (.of main_call0_call5_c_33 : TRef sig ⟨S_, .i32⟩) (.of main_call0_call5_v130 : TRef sig ⟨S8, .i32⟩) (broadcastInDim S8 ![] bcast_S_S8)
  :: TRef.binary (.of main_call0_call5_v128 : TRef sig ⟨S8, .i32⟩) (.of main_call0_call5_v130 : TRef sig ⟨S8, .i32⟩) (.of main_call0_call5_v131 : TRef sig ⟨S8, .i32⟩) Host.shli
  :: TRef.nullary (.of main_call0_call5_c_34 : TRef sig ⟨S_, .i32⟩) (constantI S_ 32 8#32)
  :: TRef.unary (.of main_call0_call5_c_34 : TRef sig ⟨S_, .i32⟩) (.of main_call0_call5_v132 : TRef sig ⟨S8, .i32⟩) (broadcastInDim S8 ![] bcast_S_S8)
  :: TRef.binary (.of main_call0_call5_v128 : TRef sig ⟨S8, .i32⟩) (.of main_call0_call5_v132 : TRef sig ⟨S8, .i32⟩) (.of main_call0_call5_v133 : TRef sig ⟨S8, .i32⟩) Host.shrui
  :: TRef.binary (.of main_call0_call5_v131 : TRef sig ⟨S8, .i32⟩) (.of main_call0_call5_v133 : TRef sig ⟨S8, .i32⟩) (.of main_call0_call5_v134 : TRef sig ⟨S8, .i32⟩) ori
  :: TRef.binary (.of main_call0_call5_v129 : TRef sig ⟨S8, .i32⟩) (.of main_call0_call5_v134 : TRef sig ⟨S8, .i32⟩) (.of main_call0_call5_v135 : TRef sig ⟨S8, .i32⟩) xori
  :: TRef.unary (.of main_call0_v29 : TRef sig ⟨S_, .i32⟩) (.of main_call0_call5_v136 : TRef sig ⟨S8, .i32⟩) (broadcastInDim S8 ![] bcast_S_S8)
  :: TRef.binary (.of main_call0_call5_v129 : TRef sig ⟨S8, .i32⟩) (.of main_call0_call5_v136 : TRef sig ⟨S8, .i32⟩) (.of main_call0_call5_v137 : TRef sig ⟨S8, .i32⟩) addi
  :: TRef.unary (.of main_call0_call5_v1 : TRef sig ⟨S_, .i32⟩) (.of main_call0_call5_v138 : TRef sig ⟨S8, .i32⟩) (broadcastInDim S8 ![] bcast_S_S8)
  :: TRef.binary (.of main_call0_call5_v135 : TRef sig ⟨S8, .i32⟩) (.of main_call0_call5_v138 : TRef sig ⟨S8, .i32⟩) (.of main_call0_call5_v139 : TRef sig ⟨S8, .i32⟩) addi
  :: TRef.nullary (.of main_call0_call5_c_35 : TRef sig ⟨S_, .i32⟩) (constantI S_ 32 4#32)
  :: TRef.unary (.of main_call0_call5_c_35 : TRef sig ⟨S_, .i32⟩) (.of main_call0_call5_v140 : TRef sig ⟨S8, .i32⟩) (broadcastInDim S8 ![] bcast_S_S8)
  :: TRef.binary (.of main_call0_call5_v139 : TRef sig ⟨S8, .i32⟩) (.of main_call0_call5_v140 : TRef sig ⟨S8, .i32⟩) (.of main_call0_call5_v141 : TRef sig ⟨S8, .i32⟩) addi
  :: TRef.binary (.of main_call0_call5_v137 : TRef sig ⟨S8, .i32⟩) (.of main_call0_call5_v141 : TRef sig ⟨S8, .i32⟩) (.of main_call0_call5_v142 : TRef sig ⟨S8, .i32⟩) addi
  :: TRef.nullary (.of main_call0_call5_c_36 : TRef sig ⟨S_, .i32⟩) (constantI S_ 32 13#32)
  :: TRef.unary (.of main_call0_call5_c_36 : TRef sig ⟨S_, .i32⟩) (.of main_call0_call5_v143 : TRef sig ⟨S8, .i32⟩) (broadcastInDim S8 ![] bcast_S_S8)
  :: TRef.binary (.of main_call0_call5_v141 : TRef sig ⟨S8, .i32⟩) (.of main_call0_call5_v143 : TRef sig ⟨S8, .i32⟩) (.of main_call0_call5_v144 : TRef sig ⟨S8, .i32⟩) Host.shli
  :: TRef.nullary (.of main_call0_call5_c_37 : TRef sig ⟨S_, .i32⟩) (constantI S_ 32 19#32)
  :: TRef.unary (.of main_call0_call5_c_37 : TRef sig ⟨S_, .i32⟩) (.of main_call0_call5_v145 : TRef sig ⟨S8, .i32⟩) (broadcastInDim S8 ![] bcast_S_S8)
  :: TRef.binary (.of main_call0_call5_v141 : TRef sig ⟨S8, .i32⟩) (.of main_call0_call5_v145 : TRef sig ⟨S8, .i32⟩) (.of main_call0_call5_v146 : TRef sig ⟨S8, .i32⟩) Host.shrui
  :: TRef.binary (.of main_call0_call5_v144 : TRef sig ⟨S8, .i32⟩) (.of main_call0_call5_v146 : TRef sig ⟨S8, .i32⟩) (.of main_call0_call5_v147 : TRef sig ⟨S8, .i32⟩) ori
  :: TRef.binary (.of main_call0_call5_v142 : TRef sig ⟨S8, .i32⟩) (.of main_call0_call5_v147 : TRef sig ⟨S8, .i32⟩) (.of main_call0_call5_v148 : TRef sig ⟨S8, .i32⟩) xori
  :: TRef.binary (.of main_call0_call5_v142 : TRef sig ⟨S8, .i32⟩) (.of main_call0_call5_v148 : TRef sig ⟨S8, .i32⟩) (.of main_call0_call5_v149 : TRef sig ⟨S8, .i32⟩) addi
  :: TRef.nullary (.of main_call0_call5_c_38 : TRef sig ⟨S_, .i32⟩) (constantI S_ 32 15#32)
  :: TRef.unary (.of main_call0_call5_c_38 : TRef sig ⟨S_, .i32⟩) (.of main_call0_call5_v150 : TRef sig ⟨S8, .i32⟩) (broadcastInDim S8 ![] bcast_S_S8)
  :: TRef.binary (.of main_call0_call5_v148 : TRef sig ⟨S8, .i32⟩) (.of main_call0_call5_v150 : TRef sig ⟨S8, .i32⟩) (.of main_call0_call5_v151 : TRef sig ⟨S8, .i32⟩) Host.shli
  :: TRef.nullary (.of main_call0_call5_c_39 : TRef sig ⟨S_, .i32⟩) (constantI S_ 32 17#32)
  :: TRef.unary (.of main_call0_call5_c_39 : TRef sig ⟨S_, .i32⟩) (.of main_call0_call5_v152 : TRef sig ⟨S8, .i32⟩) (broadcastInDim S8 ![] bcast_S_S8)
  :: TRef.binary (.of main_call0_call5_v148 : TRef sig ⟨S8, .i32⟩) (.of main_call0_call5_v152 : TRef sig ⟨S8, .i32⟩) (.of main_call0_call5_v153 : TRef sig ⟨S8, .i32⟩) Host.shrui
  :: TRef.binary (.of main_call0_call5_v151 : TRef sig ⟨S8, .i32⟩) (.of main_call0_call5_v153 : TRef sig ⟨S8, .i32⟩) (.of main_call0_call5_v154 : TRef sig ⟨S8, .i32⟩) ori
  :: TRef.binary (.of main_call0_call5_v149 : TRef sig ⟨S8, .i32⟩) (.of main_call0_call5_v154 : TRef sig ⟨S8, .i32⟩) (.of main_call0_call5_v155 : TRef sig ⟨S8, .i32⟩) xori
  :: TRef.binary (.of main_call0_call5_v149 : TRef sig ⟨S8, .i32⟩) (.of main_call0_call5_v155 : TRef sig ⟨S8, .i32⟩) (.of main_call0_call5_v156 : TRef sig ⟨S8, .i32⟩) addi
  :: TRef.nullary (.of main_call0_call5_c_40 : TRef sig ⟨S_, .i32⟩) (constantI S_ 32 26#32)
  :: TRef.unary (.of main_call0_call5_c_40 : TRef sig ⟨S_, .i32⟩) (.of main_call0_call5_v157 : TRef sig ⟨S8, .i32⟩) (broadcastInDim S8 ![] bcast_S_S8)
  :: TRef.binary (.of main_call0_call5_v155 : TRef sig ⟨S8, .i32⟩) (.of main_call0_call5_v157 : TRef sig ⟨S8, .i32⟩) (.of main_call0_call5_v158 : TRef sig ⟨S8, .i32⟩) Host.shli
  :: TRef.nullary (.of main_call0_call5_c_41 : TRef sig ⟨S_, .i32⟩) (constantI S_ 32 6#32)
  :: TRef.unary (.of main_call0_call5_c_41 : TRef sig ⟨S_, .i32⟩) (.of main_call0_call5_v159 : TRef sig ⟨S8, .i32⟩) (broadcastInDim S8 ![] bcast_S_S8)
  :: TRef.binary (.of main_call0_call5_v155 : TRef sig ⟨S8, .i32⟩) (.of main_call0_call5_v159 : TRef sig ⟨S8, .i32⟩) (.of main_call0_call5_v160 : TRef sig ⟨S8, .i32⟩) Host.shrui
  :: TRef.binary (.of main_call0_call5_v158 : TRef sig ⟨S8, .i32⟩) (.of main_call0_call5_v160 : TRef sig ⟨S8, .i32⟩) (.of main_call0_call5_v161 : TRef sig ⟨S8, .i32⟩) ori
  :: TRef.binary (.of main_call0_call5_v156 : TRef sig ⟨S8, .i32⟩) (.of main_call0_call5_v161 : TRef sig ⟨S8, .i32⟩) (.of main_call0_call5_v162 : TRef sig ⟨S8, .i32⟩) xori
  :: TRef.binary (.of main_call0_call5_v156 : TRef sig ⟨S8, .i32⟩) (.of main_call0_call5_v162 : TRef sig ⟨S8, .i32⟩) (.of main_call0_call5_v163 : TRef sig ⟨S8, .i32⟩) addi
  :: TRef.nullary (.of main_call0_call5_c_42 : TRef sig ⟨S_, .i32⟩) (constantI S_ 32 6#32)
  :: TRef.unary (.of main_call0_call5_c_42 : TRef sig ⟨S_, .i32⟩) (.of main_call0_call5_v164 : TRef sig ⟨S8, .i32⟩) (broadcastInDim S8 ![] bcast_S_S8)
  :: TRef.binary (.of main_call0_call5_v162 : TRef sig ⟨S8, .i32⟩) (.of main_call0_call5_v164 : TRef sig ⟨S8, .i32⟩) (.of main_call0_call5_v165 : TRef sig ⟨S8, .i32⟩) Host.shli
  :: TRef.nullary (.of main_call0_call5_c_43 : TRef sig ⟨S_, .i32⟩) (constantI S_ 32 26#32)
  :: TRef.unary (.of main_call0_call5_c_43 : TRef sig ⟨S_, .i32⟩) (.of main_call0_call5_v166 : TRef sig ⟨S8, .i32⟩) (broadcastInDim S8 ![] bcast_S_S8)
  :: TRef.binary (.of main_call0_call5_v162 : TRef sig ⟨S8, .i32⟩) (.of main_call0_call5_v166 : TRef sig ⟨S8, .i32⟩) (.of main_call0_call5_v167 : TRef sig ⟨S8, .i32⟩) Host.shrui
  :: TRef.binary (.of main_call0_call5_v165 : TRef sig ⟨S8, .i32⟩) (.of main_call0_call5_v167 : TRef sig ⟨S8, .i32⟩) (.of main_call0_call5_v168 : TRef sig ⟨S8, .i32⟩) ori
  :: TRef.binary (.of main_call0_call5_v163 : TRef sig ⟨S8, .i32⟩) (.of main_call0_call5_v168 : TRef sig ⟨S8, .i32⟩) (.of main_call0_call5_v169 : TRef sig ⟨S8, .i32⟩) xori
  :: TRef.unary (.of main_call0_call5_v1 : TRef sig ⟨S_, .i32⟩) (.of main_call0_call5_v170 : TRef sig ⟨S8, .i32⟩) (broadcastInDim S8 ![] bcast_S_S8)
  :: TRef.binary (.of main_call0_call5_v163 : TRef sig ⟨S8, .i32⟩) (.of main_call0_call5_v170 : TRef sig ⟨S8, .i32⟩) (.of main_call0_v37_0 : TRef sig ⟨S8, .i32⟩) addi
  :: TRef.unary (.of main_call0_v27 : TRef sig ⟨S_, .i32⟩) (.of main_call0_call5_v172 : TRef sig ⟨S8, .i32⟩) (broadcastInDim S8 ![] bcast_S_S8)
  :: TRef.binary (.of main_call0_call5_v169 : TRef sig ⟨S8, .i32⟩) (.of main_call0_call5_v172 : TRef sig ⟨S8, .i32⟩) (.of main_call0_call5_v173 : TRef sig ⟨S8, .i32⟩) addi
  :: TRef.nullary (.of main_call0_call5_c_44 : TRef sig ⟨S_, .i32⟩) (constantI S_ 32 5#32)
  :: TRef.unary (.of main_call0_call5_c_44 : TRef sig ⟨S_, .i32⟩) (.of main_call0_call5_v174 : TRef sig ⟨S8, .i32⟩) (broadcastInDim S8 ![] bcast_S_S8)
  :: TRef.binary (.of main_call0_call5_v173 : TRef sig ⟨S8, .i32⟩) (.of main_call0_call5_v174 : TRef sig ⟨S8, .i32⟩) (.of main_call0_v37_1 : TRef sig ⟨S8, .i32⟩) addi
  :: TRef.binary main_call0_call5.v171 main_call0_call5.v175 (.of main_call0_v38 : TRef sig ⟨S8, .i32⟩) xori
  :: TRef.binary (.of main_call0_v7 : TRef sig ⟨S1, .i32⟩) (.of main_call0_v6 : TRef sig ⟨S1, .i32⟩) (.of main_call0_v39 : TRef sig ⟨S1, .i32⟩) subi
  :: TRef.unary (.of main_call0_v39 : TRef sig ⟨S1, .i32⟩) (.of main_call0_v40 : TRef sig ⟨S1, .i32⟩) id
  :: TRef.binary (.of main_call0_v7 : TRef sig ⟨S1, .i32⟩) (.of main_call0_v6 : TRef sig ⟨S1, .i32⟩) (.of main_call0_v41 : TRef sig ⟨S1, .i1⟩) (cmpi .sle)
  :: TRef.nullary (.of main_call0_c_10 : TRef sig ⟨S_, .i32⟩) (constantI S_ 32 1#32)
  :: TRef.unary (.of main_call0_c_10 : TRef sig ⟨S_, .i32⟩) (.of main_call0_v42 : TRef sig ⟨S1, .i32⟩) (broadcastInDim S1 ![] bcast_S_S1)
  :: TRef.ternary (.of main_call0_v41 : TRef sig ⟨S1, .i1⟩) (.of main_call0_v42 : TRef sig ⟨S1, .i32⟩) (.of main_call0_v40 : TRef sig ⟨S1, .i32⟩) (.of main_call0_v43 : TRef sig ⟨S1, .i32⟩) select
  :: TRef.binary (.of main_call0_v7 : TRef sig ⟨S1, .i32⟩) (.of main_call0_v6 : TRef sig ⟨S1, .i32⟩) (.of main_call0_v44 : TRef sig ⟨S1, .i1⟩) (cmpi .sgt)
  :: TRef.unary (.of main_call0_v1 : TRef sig ⟨S_, .i1⟩) (.of main_call0_v45 : TRef sig ⟨S1, .i1⟩) (broadcastInDim S1 ![] bcast_S_S1)
  :: TRef.binary (.of main_call0_v45 : TRef sig ⟨S1, .i1⟩) (.of main_call0_v44 : TRef sig ⟨S1, .i1⟩) (.of main_call0_v46 : TRef sig ⟨S1, .i1⟩) andi
  :: TRef.nullary (.of main_call0_c_11 : TRef sig ⟨S_, .i32⟩) (constantI S_ 32 1#32)
  :: TRef.unary (.of main_call0_c_11 : TRef sig ⟨S_, .i32⟩) (.of main_call0_v47 : TRef sig ⟨S1, .i32⟩) (broadcastInDim S1 ![] bcast_S_S1)
  :: TRef.binary (.of main_call0_v43 : TRef sig ⟨S1, .i32⟩) (.of main_call0_v47 : TRef sig ⟨S1, .i32⟩) (.of main_call0_v48 : TRef sig ⟨S1, .i32⟩) addi
  :: TRef.ternary (.of main_call0_v46 : TRef sig ⟨S1, .i1⟩) (.of main_call0_v48 : TRef sig ⟨S1, .i32⟩) (.of main_call0_v43 : TRef sig ⟨S1, .i32⟩) (.of main_call0_v49 : TRef sig ⟨S1, .i32⟩) select
  :: TRef.nullary (.of main_call0_c_12 : TRef sig ⟨S_, .i32⟩) (constantI S_ 32 65536#32)
  :: TRef.unary (.of main_call0_c_12 : TRef sig ⟨S_, .i32⟩) (.of main_call0_v50 : TRef sig ⟨S1, .i32⟩) (broadcastInDim S1 ![] bcast_S_S1)
  :: TRef.binary (.of main_call0_v50 : TRef sig ⟨S1, .i32⟩) (.of main_call0_v49 : TRef sig ⟨S1, .i32⟩) (.of main_call0_v51 : TRef sig ⟨S1, .i32⟩) Host.remui
  :: TRef.binary (.of main_call0_v51 : TRef sig ⟨S1, .i32⟩) (.of main_call0_v51 : TRef sig ⟨S1, .i32⟩) (.of main_call0_v52 : TRef sig ⟨S1, .i32⟩) muli
  :: TRef.binary (.of main_call0_v52 : TRef sig ⟨S1, .i32⟩) (.of main_call0_v49 : TRef sig ⟨S1, .i32⟩) (.of main_call0_v53 : TRef sig ⟨S1, .i32⟩) Host.remui
  :: TRef.unary (.of main_call0_v49 : TRef sig ⟨S1, .i32⟩) (.of main_call0_v54 : TRef sig ⟨S8, .i32⟩) (broadcastInDim S8 ![0] bcast_S1_S8_0)
  :: TRef.binary (.of main_call0_v25 : TRef sig ⟨S8, .i32⟩) (.of main_call0_v54 : TRef sig ⟨S8, .i32⟩) (.of main_call0_v55 : TRef sig ⟨S8, .i32⟩) Host.remui
  :: TRef.unary (.of main_call0_v53 : TRef sig ⟨S1, .i32⟩) (.of main_call0_v56 : TRef sig ⟨S8, .i32⟩) (broadcastInDim S8 ![0] bcast_S1_S8_0)
  :: TRef.binary (.of main_call0_v55 : TRef sig ⟨S8, .i32⟩) (.of main_call0_v56 : TRef sig ⟨S8, .i32⟩) (.of main_call0_v57 : TRef sig ⟨S8, .i32⟩) muli
  :: TRef.unary (.of main_call0_v49 : TRef sig ⟨S1, .i32⟩) (.of main_call0_v58 : TRef sig ⟨S8, .i32⟩) (broadcastInDim S8 ![0] bcast_S1_S8_0)
  :: TRef.binary (.of main_call0_v38 : TRef sig ⟨S8, .i32⟩) (.of main_call0_v58 : TRef sig ⟨S8, .i32⟩) (.of main_call0_v59 : TRef sig ⟨S8, .i32⟩) Host.remui
  :: TRef.binary (.of main_call0_v57 : TRef sig ⟨S8, .i32⟩) (.of main_call0_v59 : TRef sig ⟨S8, .i32⟩) (.of main_call0_v60 : TRef sig ⟨S8, .i32⟩) addi
  :: TRef.unary (.of main_call0_v49 : TRef sig ⟨S1, .i32⟩) (.of main_call0_v61 : TRef sig ⟨S8, .i32⟩) (broadcastInDim S8 ![0] bcast_S1_S8_0)
  :: TRef.binary (.of main_call0_v60 : TRef sig ⟨S8, .i32⟩) (.of main_call0_v61 : TRef sig ⟨S8, .i32⟩) (.of main_call0_v62 : TRef sig ⟨S8, .i32⟩) Host.remui
  :: TRef.unary (.of main_call0_v62 : TRef sig ⟨S8, .i32⟩) (.of main_call0_v63 : TRef sig ⟨S8, .i32⟩) id
  :: TRef.unary (.of main_call0_v6 : TRef sig ⟨S1, .i32⟩) (.of main_call0_v64 : TRef sig ⟨S8, .i32⟩) (broadcastInDim S8 ![0] bcast_S1_S8_0)
  :: TRef.binary (.of main_call0_v64 : TRef sig ⟨S8, .i32⟩) (.of main_call0_v63 : TRef sig ⟨S8, .i32⟩) (.of main_v8 : TRef sig ⟨S8, .i32⟩) addi
  :: [] )

end Cert.ReferenceIdeal.Fps
-- ==== Proof.RefProg.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter
public import proofs.«01_k».proof.Proof.RefOps

@[expose] public section

-- the long list recurses past the default depth
set_option maxRecDepth 10084

noncomputable section

namespace Cert.ReferenceIdeal.Fps

open Cert.ReferenceIdeal Cert.ReferenceIdeal.Gen
open Idealize.ShloMosaic Idealize.ShloMosaic.TcCoe Idealize.ShloMosaic.Tactic
open Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (ucRefs sub_ucRefs)

variable {F : FTy → Type} [FloatOps F]

/-- Two columns side by side. -/
def pairs (a b : (⟨S8x1, .i32⟩ : BufTy).Contents (Elt F)) : (⟨S8x2, .i32⟩ : BufTy).Contents (Elt F) :=
  concatenate S8x2 1 [⟨S8x1, a⟩, ⟨S8x1, b⟩] concatenates_S8x1_S8x1_S8x2_d1

/-- The same for every sample. -/
def manyPairs (a b : (⟨S8x1024x1, .i32⟩ : BufTy).Contents (Elt F)) : (⟨S8x1024x2, .i32⟩ : BufTy).Contents (Elt F) :=
  concatenate S8x1024x2 2 [⟨S8x1024x1, a⟩, ⟨S8x1024x1, b⟩] concatenates_S8x1024x1_S8x1024x1_S8x1024x2_d2

/-! ## The program as stretches of operations around one loop -/

/-- What comes first: the starting distance and the words of the random key. -/
abbrev setupOps : List (HloOp τ sig (Elt F)) :=
  [ nullary main_cst (constant S_ .f32 0x501502F9#32),
    unary main_cst main_v0 (broadcastInDim S8x32768 ![] bcast_S_S8x32768 : (⟨S_, .f32⟩ : BufTy).Contents (Elt F) → (⟨S8x32768, .f32⟩ : BufTy).Contents (Elt F)),
    nullary main_c (constantI S_ 32 1#32),
    nullary main_c_0 (constantI S_ 32 32#32),
    binary main_c main_c_0 main_v1 (Host.shrui : (⟨S_, .i32⟩ : BufTy).Contents (Elt F) → (⟨S_, .i32⟩ : BufTy).Contents (Elt F) → (⟨S_, .i32⟩ : BufTy).Contents (Elt F)),
    unary main_v1 main_v2 (id : (⟨S_, .i32⟩ : BufTy).Contents (Elt F) → (⟨S_, .i32⟩ : BufTy).Contents (Elt F)),
    unary main_v2 main_v3 (broadcastInDim S1 ![] bcast_S_S1 : (⟨S_, .i32⟩ : BufTy).Contents (Elt F) → (⟨S1, .i32⟩ : BufTy).Contents (Elt F)),
    nullary main_c_1 (constantI S_ 32 4294967295#32),
    binary main_c main_c_1 main_v4 (andi : (⟨S_, .i32⟩ : BufTy).Contents (Elt F) → (⟨S_, .i32⟩ : BufTy).Contents (Elt F) → (⟨S_, .i32⟩ : BufTy).Contents (Elt F)),
    unary main_v4 main_v5 (id : (⟨S_, .i32⟩ : BufTy).Contents (Elt F) → (⟨S_, .i32⟩ : BufTy).Contents (Elt F)),
    unary main_v5 main_v6 (broadcastInDim S1 ![] bcast_S_S1 : (⟨S_, .i32⟩ : BufTy).Contents (Elt F) → (⟨S1, .i32⟩ : BufTy).Contents (Elt F)),
    binary main_v3 main_v6 main_v7 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    nullary main_c_2 (constantI S_ 32 0#32),
    nullary main_c_3 (constantI S_ 32 32768#32) ]

/-- What the loop is entered with: the points, the trip's number, the distances, the indices, the record. -/
abbrev enterOps : List (HloOp τ sig (Elt F)) :=
  [ nullary main_c_4 (constantI S_ 32 0#32),
    unary main_c_4 main_v9 (broadcastInDim S1024x8 ![] bcast_S_S1024x8 : (⟨S_, .i32⟩ : BufTy).Contents (Elt F) → (⟨S1024x8, .i32⟩ : BufTy).Contents (Elt F)),
    nullary main_c_5 (constantI S_ 32 0#32),
    unary main_arg0 main_v10_0 id,
    unary main_c_5 main_v10_1 id,
    unary main_v0 main_v10_2 id,
    unary main_v8 main_v10_3 id,
    unary main_v9 main_v10_4 id ]

/-- A trip's first part: the distances to the present points, and their minimum with the earlier ones. -/
abbrev distOps : List (HloOp τ sig (Elt F)) :=
  [ nullary main_while0b_v43 (iotaInDim S8 32 0),
    nullary main_while0b_c_14 (constantI S_ 32 0#32),
    unary main_while0b_c_14 main_while0b_v44 (broadcastInDim S8 ![] bcast_S_S8 : (⟨S_, .i32⟩ : BufTy).Contents (Elt F) → (⟨S8, .i32⟩ : BufTy).Contents (Elt F)),
    binary main_while0b_v43 main_while0b_v44 main_while0b_v45 (cmpi .slt : (⟨S8, .i32⟩ : BufTy).Contents (Elt F) → (⟨S8, .i32⟩ : BufTy).Contents (Elt F) → (⟨S8, .i1⟩ : BufTy).Contents (Elt F)),
    nullary main_while0b_c_15 (constantI S_ 32 8#32),
    unary main_while0b_c_15 main_while0b_v46 (broadcastInDim S8 ![] bcast_S_S8 : (⟨S_, .i32⟩ : BufTy).Contents (Elt F) → (⟨S8, .i32⟩ : BufTy).Contents (Elt F)),
    binary main_while0b_v43 main_while0b_v46 main_while0b_v47 (addi : (⟨S8, .i32⟩ : BufTy).Contents (Elt F) → (⟨S8, .i32⟩ : BufTy).Contents (Elt F) → (⟨S8, .i32⟩ : BufTy).Contents (Elt F)),
    ternary main_while0b_v45 main_while0b_v47 main_while0b_v43 main_while0b_v48 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    nullary main_while0b_c_16 (constantI S_ 32 0#32),
    unary main_while0b_c_16 main_while0b_v49 (broadcastInDim S8 ![] bcast_S_S8 : (⟨S_, .i32⟩ : BufTy).Contents (Elt F) → (⟨S8, .i32⟩ : BufTy).Contents (Elt F)),
    binary main_v10_3 main_while0b_v49 main_while0b_v50 (cmpi .slt : (⟨S8, .i32⟩ : BufTy).Contents (Elt F) → (⟨S8, .i32⟩ : BufTy).Contents (Elt F) → (⟨S8, .i1⟩ : BufTy).Contents (Elt F)),
    nullary main_while0b_c_17 (constantI S_ 32 32768#32),
    unary main_while0b_c_17 main_while0b_v51 (broadcastInDim S8 ![] bcast_S_S8 : (⟨S_, .i32⟩ : BufTy).Contents (Elt F) → (⟨S8, .i32⟩ : BufTy).Contents (Elt F)),
    binary main_v10_3 main_while0b_v51 main_while0b_v52 (addi : (⟨S8, .i32⟩ : BufTy).Contents (Elt F) → (⟨S8, .i32⟩ : BufTy).Contents (Elt F) → (⟨S8, .i32⟩ : BufTy).Contents (Elt F)),
    ternary main_while0b_v50 main_while0b_v52 main_v10_3 main_while0b_v53 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    unary main_while0b_v48 main_while0b_v54 (broadcastInDim S8x1 ![0] bcast_S8_S8x1_0 : (⟨S8, .i32⟩ : BufTy).Contents (Elt F) → (⟨S8x1, .i32⟩ : BufTy).Contents (Elt F)),
    unary main_while0b_v53 main_while0b_v55 (broadcastInDim S8x1 ![0] bcast_S8_S8x1_0 : (⟨S8, .i32⟩ : BufTy).Contents (Elt F) → (⟨S8x1, .i32⟩ : BufTy).Contents (Elt F)),
    binary main_while0b_v54 main_while0b_v55 main_while0b_v56 (pairs : (⟨S8x1, .i32⟩ : BufTy).Contents (Elt F) → (⟨S8x1, .i32⟩ : BufTy).Contents (Elt F) → (⟨S8x2, .i32⟩ : BufTy).Contents (Elt F)),
    binary main_v10_0 main_while0b_v56 main_while0b_v57 ((fun x i => Host.gather gather_S8x32768x3_S8x2_S8x3_1_01_n_n_01_1_113 x i) : (⟨S8x32768x3, .f32⟩ : BufTy).Contents (Elt F) → (⟨S8x2, .i32⟩ : BufTy).Contents (Elt F) → (⟨S8x3, .f32⟩ : BufTy).Contents (Elt F)),
    unary main_while0b_v57 main_while0b_v58 (broadcastInDim S8x1x3 ![0, 2] bcast_S8x3_S8x1x3_0_2 : (⟨S8x3, .f32⟩ : BufTy).Contents (Elt F) → (⟨S8x1x3, .f32⟩ : BufTy).Contents (Elt F)),
    unary main_while0b_v58 main_while0b_v59 (broadcastInDim S8x32768x3 ![0, 1, 2] bcast_S8x1x3_S8x32768x3_0_1_2 : (⟨S8x1x3, .f32⟩ : BufTy).Contents (Elt F) → (⟨S8x32768x3, .f32⟩ : BufTy).Contents (Elt F)),
    binary main_v10_0 main_while0b_v59 main_while0b_v60 (subf : (⟨S8x32768x3, .f32⟩ : BufTy).Contents (Elt F) → (⟨S8x32768x3, .f32⟩ : BufTy).Contents (Elt F) → (⟨S8x32768x3, .f32⟩ : BufTy).Contents (Elt F)),
    binary main_while0b_v60 main_while0b_v60 main_while0b_v61 (mulf : (⟨S8x32768x3, .f32⟩ : BufTy).Contents (Elt F) → (⟨S8x32768x3, .f32⟩ : BufTy).Contents (Elt F) → (⟨S8x32768x3, .f32⟩ : BufTy).Contents (Elt F)),
    nullary main_while0b_cst_18 (constant S_ .f32 0x00000000#32),
    binary main_while0b_v61 main_while0b_cst_18 main_while0b_v62 ((fun x v => Host.reduceAdd x v reducesTo_S8x32768x3_S8x32768_d2 h_S_) : (⟨S8x32768x3, .f32⟩ : BufTy).Contents (Elt F) → (⟨S_, .f32⟩ : BufTy).Contents (Elt F) → (⟨S8x32768, .f32⟩ : BufTy).Contents (Elt F)),
    binary main_v10_2 main_while0b_v62 main_while0b_v63 (minimumf : (⟨S8x32768, .f32⟩ : BufTy).Contents (Elt F) → (⟨S8x32768, .f32⟩ : BufTy).Contents (Elt F) → (⟨S8x32768, .f32⟩ : BufTy).Contents (Elt F)) ]

/-- Its second part: the index of the first greatest distance. -/
abbrev farthestOps : List (HloOp τ sig (Elt F)) :=
  [ TRef.nullary (.of main_while0b_call1_v0 : TRef sig ⟨S8x32768, .i32⟩) (iotaInDim S8x32768 32 1),
    TRef.nullary (.of main_while0b_call1_cst : TRef sig ⟨S_, .f32⟩) (constant S_ .f32 0xFF800000#32),
    TRef.nullary (.of main_while0b_call1_c : TRef sig ⟨S_, .i32⟩) (constantI S_ 32 0#32),
    TRef.quaternary (.of main_while0b_v63 : TRef sig ⟨S8x32768, .f32⟩) (.of main_while0b_call1_v0 : TRef sig ⟨S8x32768, .i32⟩) (.of main_while0b_call1_cst : TRef sig ⟨S_, .f32⟩) (.of main_while0b_call1_c : TRef sig ⟨S_, .i32⟩) (.of main_while0b_call1_v1_0 : TRef sig ⟨S8, .f32⟩) (fun x y u v j => (Host.argReduce reducer_argmax_f32_i32 x y u v reducesTo_S8x32768_S8_d1 h_S_ j).1),
    TRef.quaternary (.of main_while0b_v63 : TRef sig ⟨S8x32768, .f32⟩) (.of main_while0b_call1_v0 : TRef sig ⟨S8x32768, .i32⟩) (.of main_while0b_call1_cst : TRef sig ⟨S_, .f32⟩) (.of main_while0b_call1_c : TRef sig ⟨S_, .i32⟩) (.of main_while0b_v64 : TRef sig ⟨S8, .i32⟩) (fun x y u v j => (Host.argReduce reducer_argmax_f32_i32 x y u v reducesTo_S8x32768_S8_d1 h_S_ j).2) ]

/-- Its third part: the present indices go into the record. -/
abbrev recordOps : List (HloOp τ sig (Elt F)) :=
  [ TRef.unary (.of main_v10_3 : TRef sig ⟨S8, .i32⟩) (.of main_while0b_call2_v0 : TRef sig ⟨S1x8, .i32⟩) (broadcastInDim S1x8 ![1] bcast_S8_S1x8_1),
    TRef.nullary (.of main_while0b_call2_c : TRef sig ⟨S_, .i32⟩) (constantI S_ 32 0#32),
    TRef.binaryIndexed (.of main_v10_4 : TRef sig ⟨S1024x8, .i32⟩) (.of main_while0b_call2_v0 : TRef sig ⟨S1x8, .i32⟩) ![(.of main_v10_1 : TRef sig ⟨S_, .i32⟩), (.of main_while0b_call2_c : TRef sig ⟨S_, .i32⟩)] (.of main_while0b_v65 : TRef sig ⟨S1024x8, .i32⟩) (fun x u i => Host.dynamicUpdateSlice x u (fun k => (i k (Shape.Idx.first h_S_)).toInt) updateFits_S1024x8_S1x8) ]

/-- Its end: the trip's number rises and the carried buffers take their new values. -/
abbrev nextOps : List (HloOp τ sig (Elt F)) :=
  [ nullary main_while0b_c_19 (constantI S_ 32 1#32),
    binary main_v10_1 main_while0b_c_19 main_while0b_v66 (addi : (⟨S_, .i32⟩ : BufTy).Contents (Elt F) → (⟨S_, .i32⟩ : BufTy).Contents (Elt F) → (⟨S_, .i32⟩ : BufTy).Contents (Elt F)),
    unary main_while0b_v66 main_v10_1 id,
    unary main_while0b_v63 main_v10_2 id,
    unary main_while0b_v64 main_v10_3 id,
    unary main_while0b_v65 main_v10_4 id ]

/-- After the loop: the points at the recorded indices, and the first layer before its maximum with zero. -/
abbrev gatherOps : List (HloOp τ sig (Elt F)) :=
  [ unary main_v10_4 main_v11 ((transpose S8x1024 [1, 0] · transposes_S1024x8_S8x1024_1_0) : (⟨S1024x8, .i32⟩ : BufTy).Contents (Elt F) → (⟨S8x1024, .i32⟩ : BufTy).Contents (Elt F)),
    nullary main_v12 (iotaInDim S8 32 0),
    unary main_v12 main_v13 (broadcastInDim S8x1 ![0] bcast_S8_S8x1_0 : (⟨S8, .i32⟩ : BufTy).Contents (Elt F) → (⟨S8x1, .i32⟩ : BufTy).Contents (Elt F)),
    nullary main_c_6 (constantI S_ 32 0#32),
    unary main_c_6 main_v14 (broadcastInDim S8x1 ![] bcast_S_S8x1 : (⟨S_, .i32⟩ : BufTy).Contents (Elt F) → (⟨S8x1, .i32⟩ : BufTy).Contents (Elt F)),
    binary main_v13 main_v14 main_v15 (cmpi .slt : (⟨S8x1, .i32⟩ : BufTy).Contents (Elt F) → (⟨S8x1, .i32⟩ : BufTy).Contents (Elt F) → (⟨S8x1, .i1⟩ : BufTy).Contents (Elt F)),
    nullary main_c_7 (constantI S_ 32 8#32),
    unary main_c_7 main_v16 (broadcastInDim S8x1 ![] bcast_S_S8x1 : (⟨S_, .i32⟩ : BufTy).Contents (Elt F) → (⟨S8x1, .i32⟩ : BufTy).Contents (Elt F)),
    binary main_v13 main_v16 main_v17 (addi : (⟨S8x1, .i32⟩ : BufTy).Contents (Elt F) → (⟨S8x1, .i32⟩ : BufTy).Contents (Elt F) → (⟨S8x1, .i32⟩ : BufTy).Contents (Elt F)),
    ternary main_v15 main_v17 main_v13 main_v18 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F)),
    nullary main_c_8 (constantI S_ 32 0#32),
    unary main_c_8 main_v19 (broadcastInDim S8x1024 ![] bcast_S_S8x1024 : (⟨S_, .i32⟩ : BufTy).Contents (Elt F) → (⟨S8x1024, .i32⟩ : BufTy).Contents (Elt F)),
    binary main_v11 main_v19 main_v20 (cmpi .slt : (⟨S8x1024, .i32⟩ : BufTy).Contents (Elt F) → (⟨S8x1024, .i32⟩ : BufTy).Contents (Elt F) → (⟨S8x1024, .i1⟩ : BufTy).Contents (Elt F)),
    nullary main_c_9 (constantI S_ 32 32768#32),
    unary main_c_9 main_v21 (broadcastInDim S8x1024 ![] bcast_S_S8x1024 : (⟨S_, .i32⟩ : BufTy).Contents (Elt F) → (⟨S8x1024, .i32⟩ : BufTy).Contents (Elt F)),
    binary main_v11 main_v21 main_v22 (addi : (⟨S8x1024, .i32⟩ : BufTy).Contents (Elt F) → (⟨S8x1024, .i32⟩ : BufTy).Contents (Elt F) → (⟨S8x1024, .i32⟩ : BufTy).Contents (Elt F)),
    ternary main_v20 main_v22 main_v11 main_v23 (select : (⟨S8x1024, .i1⟩ : BufTy).Contents (Elt F) → (⟨S8x1024, .i32⟩ : BufTy).Contents (Elt F) → (⟨S8x1024, .i32⟩ : BufTy).Contents (Elt F) → (⟨S8x1024, .i32⟩ : BufTy).Contents (Elt F)),
    unary main_v18 main_v24 (broadcastInDim S8x1024 ![0, 1] bcast_S8x1_S8x1024_0_1 : (⟨S8x1, .i32⟩ : BufTy).Contents (Elt F) → (⟨S8x1024, .i32⟩ : BufTy).Contents (Elt F)),
    unary main_v24 main_v25 (broadcastInDim S8x1024x1 ![0, 1] bcast_S8x1024_S8x1024x1_0_1 : (⟨S8x1024, .i32⟩ : BufTy).Contents (Elt F) → (⟨S8x1024x1, .i32⟩ : BufTy).Contents (Elt F)),
    unary main_v23 main_v26 (broadcastInDim S8x1024x1 ![0, 1] bcast_S8x1024_S8x1024x1_0_1 : (⟨S8x1024, .i32⟩ : BufTy).Contents (Elt F) → (⟨S8x1024x1, .i32⟩ : BufTy).Contents (Elt F)),
    binary main_v25 main_v26 main_v27 (manyPairs : (⟨S8x1024x1, .i32⟩ : BufTy).Contents (Elt F) → (⟨S8x1024x1, .i32⟩ : BufTy).Contents (Elt F) → (⟨S8x1024x2, .i32⟩ : BufTy).Contents (Elt F)),
    binary main_arg0 main_v27 main_v28 ((fun x i => Host.gather gather_S8x32768x3_S8x1024x2_S8x1024x3_2_01_n_n_01_2_113 x i) : (⟨S8x32768x3, .f32⟩ : BufTy).Contents (Elt F) → (⟨S8x1024x2, .i32⟩ : BufTy).Contents (Elt F) → (⟨S8x1024x3, .f32⟩ : BufTy).Contents (Elt F)),
    binary main_v28 main_arg1 main_v29 ((fun l r => Host.dotGeneral dot_S8x1024x3_S3x64_S8x1024x64_2_0_01_1_n_n none l r) : (⟨S8x1024x3, .f32⟩ : BufTy).Contents (Elt F) → (⟨S3x64, .f32⟩ : BufTy).Contents (Elt F) → (⟨S8x1024x64, .f32⟩ : BufTy).Contents (Elt F)),
    unary main_arg2 main_v30 (broadcastInDim S1x1x64 ![2] bcast_S64_S1x1x64_2 : (⟨S64, .f32⟩ : BufTy).Contents (Elt F) → (⟨S1x1x64, .f32⟩ : BufTy).Contents (Elt F)),
    unary main_v30 main_v31 (broadcastInDim S8x1024x64 ![0, 1, 2] bcast_S1x1x64_S8x1024x64_0_1_2 : (⟨S1x1x64, .f32⟩ : BufTy).Contents (Elt F) → (⟨S8x1024x64, .f32⟩ : BufTy).Contents (Elt F)),
    binary main_v29 main_v31 main_v32 (addf : (⟨S8x1024x64, .f32⟩ : BufTy).Contents (Elt F) → (⟨S8x1024x64, .f32⟩ : BufTy).Contents (Elt F) → (⟨S8x1024x64, .f32⟩ : BufTy).Contents (Elt F)) ]

/-- The first maximum with zero. -/
abbrev reluOps : List (HloOp τ sig (Elt F)) :=
  [ TRef.nullary (.of main_call3_cst : TRef sig ⟨S_, .f32⟩) (constant S_ .f32 0x00000000#32),
    TRef.unary (.of main_call3_cst : TRef sig ⟨S_, .f32⟩) (.of main_call3_v0 : TRef sig ⟨S8x1024x64, .f32⟩) (broadcastInDim S8x1024x64 ![] bcast_S_S8x1024x64),
    TRef.binary (.of main_v32 : TRef sig ⟨S8x1024x64, .f32⟩) (.of main_call3_v0 : TRef sig ⟨S8x1024x64, .f32⟩) (.of main_v33 : TRef sig ⟨S8x1024x64, .f32⟩) maximumf ]

/-- The second layer before its maximum with zero. -/
abbrev layerOps : List (HloOp τ sig (Elt F)) :=
  [ binary main_v33 main_arg3 main_v34 ((fun l r => Host.dotGeneral dot_S8x1024x64_S64x128_S8x1024x128_2_0_01_1_n_n none l r) : (⟨S8x1024x64, .f32⟩ : BufTy).Contents (Elt F) → (⟨S64x128, .f32⟩ : BufTy).Contents (Elt F) → (⟨S8x1024x128, .f32⟩ : BufTy).Contents (Elt F)),
    unary main_arg4 main_v35 (broadcastInDim S1x1x128 ![2] bcast_S128_S1x1x128_2 : (⟨S128, .f32⟩ : BufTy).Contents (Elt F) → (⟨S1x1x128, .f32⟩ : BufTy).Contents (Elt F)),
    unary main_v35 main_v36 (broadcastInDim S8x1024x128 ![0, 1, 2] bcast_S1x1x128_S8x1024x128_0_1_2 : (⟨S1x1x128, .f32⟩ : BufTy).Contents (Elt F) → (⟨S8x1024x128, .f32⟩ : BufTy).Contents (Elt F)),
    binary main_v34 main_v36 main_v37 (addf : (⟨S8x1024x128, .f32⟩ : BufTy).Contents (Elt F) → (⟨S8x1024x128, .f32⟩ : BufTy).Contents (Elt F) → (⟨S8x1024x128, .f32⟩ : BufTy).Contents (Elt F)) ]

/-- The second maximum with zero. -/
abbrev reluOps2 : List (HloOp τ sig (Elt F)) :=
  [ TRef.nullary (.of main_call4_cst : TRef sig ⟨S_, .f32⟩) (constant S_ .f32 0x00000000#32),
    TRef.unary (.of main_call4_cst : TRef sig ⟨S_, .f32⟩) (.of main_call4_v0 : TRef sig ⟨S8x1024x128, .f32⟩) (broadcastInDim S8x1024x128 ![] bcast_S_S8x1024x128),
    TRef.binary (.of main_v37 : TRef sig ⟨S8x1024x128, .f32⟩) (.of main_call4_v0 : TRef sig ⟨S8x1024x128, .f32⟩) (.of main_v38 : TRef sig ⟨S8x1024x128, .f32⟩) maximumf ]

/-- The last layer. -/
abbrev lastOps : List (HloOp τ sig (Elt F)) :=
  [ binary main_v38 main_arg5 main_v39 ((fun l r => Host.dotGeneral dot_S8x1024x128_S128x256_S8x1024x256_2_0_01_1_n_n none l r) : (⟨S8x1024x128, .f32⟩ : BufTy).Contents (Elt F) → (⟨S128x256, .f32⟩ : BufTy).Contents (Elt F) → (⟨S8x1024x256, .f32⟩ : BufTy).Contents (Elt F)),
    unary main_arg6 main_v40 (broadcastInDim S1x1x256 ![2] bcast_S256_S1x1x256_2 : (⟨S256, .f32⟩ : BufTy).Contents (Elt F) → (⟨S1x1x256, .f32⟩ : BufTy).Contents (Elt F)),
    unary main_v40 main_v41 (broadcastInDim S8x1024x256 ![0, 1, 2] bcast_S1x1x256_S8x1024x256_0_1_2 : (⟨S1x1x256, .f32⟩ : BufTy).Contents (Elt F) → (⟨S8x1024x256, .f32⟩ : BufTy).Contents (Elt F)),
    binary main_v39 main_v41 main_v42 (addf : (⟨S8x1024x256, .f32⟩ : BufTy).Contents (Elt F) → (⟨S8x1024x256, .f32⟩ : BufTy).Contents (Elt F) → (⟨S8x1024x256, .f32⟩ : BufTy).Contents (Elt F)) ]

/-- The program's type. -/
abbrev RProg (F : FTy → Type) [FloatOps F] : Type 1 :=
  Prog (TpuEff nD τ sig (Elt F) (HostLoop.Sig (Pipeline.Sig Λ₀ (Fin 0) fun p => (pcfgs (F := F) p).Adm) 1) .tc) PUnit

/-- The program's first part is its stretches and the loop, in order. -/
theorem part0_eq (c : Dev nD) : main_part0 (F := F) c = (Pipeline.chainK
    [ seq setupOps, seq randintOps, seq enterOps, HostLoop.enter 0, seq gatherOps, seq reluOps, seq layerOps, seq reluOps2 ]
    (seq lastOps) : RProg F) := by
  rewrite [chainK_seq_cons, Pipeline.chainK_cons, chainK_seq_cons, Pipeline.chainK_cons, chainK_seq_cons, Pipeline.chainK_cons,
    chainK_seq_cons, Pipeline.chainK_cons]
  open Idealize.ShloMosaic.Pipeline in chain_rfl

/-- Its second part does nothing. -/
theorem part1_eq (c : Dev nD) : main_part1 (F := F) c = (Pipeline.chain [] : RProg F) := by
  open Idealize.ShloMosaic.Pipeline in chain_rfl

/-- The whole program. -/
theorem main_eq (c : Dev nD) : main (F := F) c = (Pipeline.chain
    [ seq setupOps, seq randintOps, seq enterOps, HostLoop.enter 0, seq gatherOps, seq reluOps, seq layerOps, seq reluOps2,
      seq lastOps ] : RProg F) := by
  show (main_part0 (F := F) c >>= fun _ => main_part1 (F := F) c) = _
  rewrite [part1_eq, part0_eq, Pipeline.chainK_bind_chain]
  open Idealize.ShloMosaic.Pipeline in chain_rfl

/-- The loop's body. -/
theorem loop_body_eq : main_while0_body (F := F) = (Pipeline.chain
    [ seq distOps, seq farthestOps, seq recordOps, seq nextOps ] : RProg F) := by
  rewrite [chain_seq_cons, Pipeline.chain_cons, Pipeline.chain_cons, chain_seq_cons]
  open Idealize.ShloMosaic.Pipeline in chain_rfl

end Cert.ReferenceIdeal.Fps
-- ==== Proof.RefRun.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter
public import proofs.«01_k».proof.Proof.RefProg

@[expose] public section

-- the long list recurses past the default depth
set_option maxRecDepth 10084

noncomputable section

namespace Cert.ReferenceIdeal.Fps

open Cert.ReferenceIdeal Cert.ReferenceIdeal.Gen
open Idealize.ShloMosaic Idealize.ShloMosaic.TcCoe Idealize.ShloMosaic.Tactic
open Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (ucRefs sub_ucRefs)

variable {F : FTy → Type} [FloatOps F]

/-! ## What each stretch writes -/

/-- The buffers `setupOps` writes, in order. -/
abbrev setupOpsWrites : List (Ref sig .tc) :=
  [main_cst, main_v0, main_c, main_c_0, main_v1, main_v2, main_v3, main_c_1, main_v4, main_v5, main_v6, main_v7, main_c_2, main_c_3]

/-- The buffers `enterOps` writes, in order. -/
abbrev enterOpsWrites : List (Ref sig .tc) :=
  [main_c_4, main_v9, main_c_5, main_v10_0, main_v10_1, main_v10_2, main_v10_3, main_v10_4]

/-- The buffers `distOps` writes, in order. -/
abbrev distOpsWrites : List (Ref sig .tc) :=
  [main_while0b_v43, main_while0b_c_14, main_while0b_v44, main_while0b_v45, main_while0b_c_15, main_while0b_v46, main_while0b_v47, main_while0b_v48,
   main_while0b_c_16, main_while0b_v49, main_while0b_v50, main_while0b_c_17, main_while0b_v51, main_while0b_v52, main_while0b_v53, main_while0b_v54,
   main_while0b_v55, main_while0b_v56, main_while0b_v57, main_while0b_v58, main_while0b_v59, main_while0b_v60, main_while0b_v61, main_while0b_cst_18,
   main_while0b_v62, main_while0b_v63]

/-- The buffers `farthestOps` writes, in order. -/
abbrev farthestOpsWrites : List (Ref sig .tc) :=
  [main_while0b_call1_v0, main_while0b_call1_cst, main_while0b_call1_c, main_while0b_call1_v1_0, main_while0b_v64]

/-- The buffers `recordOps` writes, in order. -/
abbrev recordOpsWrites : List (Ref sig .tc) :=
  [main_while0b_call2_v0, main_while0b_call2_c, main_while0b_v65]

/-- The buffers `nextOps` writes, in order. -/
abbrev nextOpsWrites : List (Ref sig .tc) :=
  [main_while0b_c_19, main_while0b_v66, main_v10_1, main_v10_2, main_v10_3, main_v10_4]

/-- The buffers `gatherOps` writes, in order. -/
abbrev gatherOpsWrites : List (Ref sig .tc) :=
  [main_v11, main_v12, main_v13, main_c_6, main_v14, main_v15, main_c_7, main_v16, main_v17, main_v18, main_c_8, main_v19, main_v20, main_c_9,
   main_v21, main_v22, main_v23, main_v24, main_v25, main_v26, main_v27, main_v28, main_v29, main_v30, main_v31, main_v32]

/-- The buffers `reluOps` writes, in order. -/
abbrev reluOpsWrites : List (Ref sig .tc) :=
  [main_call3_cst, main_call3_v0, main_v33]

/-- The buffers `layerOps` writes, in order. -/
abbrev layerOpsWrites : List (Ref sig .tc) :=
  [main_v34, main_v35, main_v36, main_v37]

/-- The buffers `reluOps2` writes, in order. -/
abbrev reluOps2Writes : List (Ref sig .tc) :=
  [main_call4_cst, main_call4_v0, main_v38]

/-- The buffers `lastOps` writes, in order. -/
abbrev lastOpsWrites : List (Ref sig .tc) :=
  [main_v39, main_v40, main_v41, main_v42]

/-- The buffers `randintOps` writes, in order. -/
abbrev randintOpsWrites : List (Ref sig .tc) :=
  [main_call0_c, main_call0_c_0, main_call0_c_1, main_call0_call0_v0, main_call0_v0, main_call0_v1, main_call0_c_2, main_call0_c_3,
   main_call0_call1_v0, main_call0_v2, main_call0_v3, main_call0_c_4, main_call0_c_5, main_call0_call2_v0, main_call0_v4, main_call0_v5,
   main_call0_v6, main_call0_v7, main_call0_call3_v0, main_call0_call3_v1, main_call0_call3_v2, main_call0_call3_v3, main_call0_call3_v4,
   main_call0_call3_c, main_call0_call3_v5, main_call0_call3_v6, main_call0_call3_c_0, main_call0_call3_v7, main_call0_call3_v8, main_call0_call3_v9,
   main_call0_call3_v10, main_call0_call3_call0_v0, main_call0_call3_call0_c, main_call0_call3_call0_v1, main_call0_call3_call0_v2,
   main_call0_call3_call0_v3, main_call0_call3_call0_v4, main_call0_call3_call0_v5, main_call0_call3_call0_v6, main_call0_call3_call0_c_0,
   main_call0_call3_call0_v7, main_call0_call3_call0_v8, main_call0_call3_call0_c_1, main_call0_call3_call0_v9, main_call0_call3_call0_v10,
   main_call0_call3_call0_v11, main_call0_call3_call0_v12, main_call0_call3_call0_v13, main_call0_call3_call0_c_2, main_call0_call3_call0_v14,
   main_call0_call3_call0_v15, main_call0_call3_call0_c_3, main_call0_call3_call0_v16, main_call0_call3_call0_v17, main_call0_call3_call0_v18,
   main_call0_call3_call0_v19, main_call0_call3_call0_v20, main_call0_call3_call0_c_4, main_call0_call3_call0_v21, main_call0_call3_call0_v22,
   main_call0_call3_call0_c_5, main_call0_call3_call0_v23, main_call0_call3_call0_v24, main_call0_call3_call0_v25, main_call0_call3_call0_v26,
   main_call0_call3_call0_v27, main_call0_call3_call0_c_6, main_call0_call3_call0_v28, main_call0_call3_call0_v29, main_call0_call3_call0_c_7,
   main_call0_call3_call0_v30, main_call0_call3_call0_v31, main_call0_call3_call0_v32, main_call0_call3_call0_v33, main_call0_call3_call0_v34,
   main_call0_call3_call0_v35, main_call0_call3_call0_v36, main_call0_call3_call0_v37, main_call0_call3_call0_c_8, main_call0_call3_call0_v38,
   main_call0_call3_call0_v39, main_call0_call3_call0_v40, main_call0_call3_call0_c_9, main_call0_call3_call0_v41, main_call0_call3_call0_v42,
   main_call0_call3_call0_c_10, main_call0_call3_call0_v43, main_call0_call3_call0_v44, main_call0_call3_call0_v45, main_call0_call3_call0_v46,
   main_call0_call3_call0_v47, main_call0_call3_call0_c_11, main_call0_call3_call0_v48, main_call0_call3_call0_v49, main_call0_call3_call0_c_12,
   main_call0_call3_call0_v50, main_call0_call3_call0_v51, main_call0_call3_call0_v52, main_call0_call3_call0_v53, main_call0_call3_call0_v54,
   main_call0_call3_call0_c_13, main_call0_call3_call0_v55, main_call0_call3_call0_v56, main_call0_call3_call0_c_14, main_call0_call3_call0_v57,
   main_call0_call3_call0_v58, main_call0_call3_call0_v59, main_call0_call3_call0_v60, main_call0_call3_call0_v61, main_call0_call3_call0_c_15,
   main_call0_call3_call0_v62, main_call0_call3_call0_v63, main_call0_call3_call0_c_16, main_call0_call3_call0_v64, main_call0_call3_call0_v65,
   main_call0_call3_call0_v66, main_call0_call3_call0_v67, main_call0_call3_call0_v68, main_call0_call3_call0_v69, main_call0_call3_call0_v70,
   main_call0_call3_call0_v71, main_call0_call3_call0_c_17, main_call0_call3_call0_v72, main_call0_call3_call0_v73, main_call0_call3_call0_v74,
   main_call0_call3_call0_c_18, main_call0_call3_call0_v75, main_call0_call3_call0_v76, main_call0_call3_call0_c_19, main_call0_call3_call0_v77,
   main_call0_call3_call0_v78, main_call0_call3_call0_v79, main_call0_call3_call0_v80, main_call0_call3_call0_v81, main_call0_call3_call0_c_20,
   main_call0_call3_call0_v82, main_call0_call3_call0_v83, main_call0_call3_call0_c_21, main_call0_call3_call0_v84, main_call0_call3_call0_v85,
   main_call0_call3_call0_v86, main_call0_call3_call0_v87, main_call0_call3_call0_v88, main_call0_call3_call0_c_22, main_call0_call3_call0_v89,
   main_call0_call3_call0_v90, main_call0_call3_call0_c_23, main_call0_call3_call0_v91, main_call0_call3_call0_v92, main_call0_call3_call0_v93,
   main_call0_call3_call0_v94, main_call0_call3_call0_v95, main_call0_call3_call0_c_24, main_call0_call3_call0_v96, main_call0_call3_call0_v97,
   main_call0_call3_call0_c_25, main_call0_call3_call0_v98, main_call0_call3_call0_v99, main_call0_call3_call0_v100, main_call0_call3_call0_v101,
   main_call0_call3_call0_v102, main_call0_call3_call0_v103, main_call0_call3_call0_v104, main_call0_call3_call0_v105, main_call0_call3_call0_c_26,
   main_call0_call3_call0_v106, main_call0_call3_call0_v107, main_call0_call3_call0_v108, main_call0_call3_call0_c_27, main_call0_call3_call0_v109,
   main_call0_call3_call0_v110, main_call0_call3_call0_c_28, main_call0_call3_call0_v111, main_call0_call3_call0_v112, main_call0_call3_call0_v113,
   main_call0_call3_call0_v114, main_call0_call3_call0_v115, main_call0_call3_call0_c_29, main_call0_call3_call0_v116, main_call0_call3_call0_v117,
   main_call0_call3_call0_c_30, main_call0_call3_call0_v118, main_call0_call3_call0_v119, main_call0_call3_call0_v120, main_call0_call3_call0_v121,
   main_call0_call3_call0_v122, main_call0_call3_call0_c_31, main_call0_call3_call0_v123, main_call0_call3_call0_v124, main_call0_call3_call0_c_32,
   main_call0_call3_call0_v125, main_call0_call3_call0_v126, main_call0_call3_call0_v127, main_call0_call3_call0_v128, main_call0_call3_call0_v129,
   main_call0_call3_call0_c_33, main_call0_call3_call0_v130, main_call0_call3_call0_v131, main_call0_call3_call0_c_34, main_call0_call3_call0_v132,
   main_call0_call3_call0_v133, main_call0_call3_call0_v134, main_call0_call3_call0_v135, main_call0_call3_call0_v136, main_call0_call3_call0_v137,
   main_call0_call3_call0_v138, main_call0_call3_call0_v139, main_call0_call3_call0_c_35, main_call0_call3_call0_v140, main_call0_call3_call0_v141,
   main_call0_call3_call0_v142, main_call0_call3_call0_c_36, main_call0_call3_call0_v143, main_call0_call3_call0_v144, main_call0_call3_call0_c_37,
   main_call0_call3_call0_v145, main_call0_call3_call0_v146, main_call0_call3_call0_v147, main_call0_call3_call0_v148, main_call0_call3_call0_v149,
   main_call0_call3_call0_c_38, main_call0_call3_call0_v150, main_call0_call3_call0_v151, main_call0_call3_call0_c_39, main_call0_call3_call0_v152,
   main_call0_call3_call0_v153, main_call0_call3_call0_v154, main_call0_call3_call0_v155, main_call0_call3_call0_v156, main_call0_call3_call0_c_40,
   main_call0_call3_call0_v157, main_call0_call3_call0_v158, main_call0_call3_call0_c_41, main_call0_call3_call0_v159, main_call0_call3_call0_v160,
   main_call0_call3_call0_v161, main_call0_call3_call0_v162, main_call0_call3_call0_v163, main_call0_call3_call0_c_42, main_call0_call3_call0_v164,
   main_call0_call3_call0_v165, main_call0_call3_call0_c_43, main_call0_call3_call0_v166, main_call0_call3_call0_v167, main_call0_call3_call0_v168,
   main_call0_call3_call0_v169, main_call0_call3_call0_v170, main_call0_call3_v11_0, main_call0_call3_call0_v172, main_call0_call3_call0_v173,
   main_call0_call3_call0_c_44, main_call0_call3_call0_v174, main_call0_call3_v11_1, main_call0_call3_v12, main_call0_call3_v13, main_call0_v8,
   main_call0_v9, main_call0_v10, main_call0_v11, main_call0_v12, main_call0_v13, main_call0_v14, main_call0_v15, main_call0_v16, main_call0_v17,
   main_call0_c_6, main_call0_v18, main_call0_v19, main_call0_c_7, main_call0_v20, main_call0_v21, main_call0_v22, main_call0_v23,
   main_call0_call4_v0, main_call0_call4_c, main_call0_call4_v1, main_call0_call4_v2, main_call0_call4_v3, main_call0_call4_v4, main_call0_call4_v5,
   main_call0_call4_v6, main_call0_call4_c_0, main_call0_call4_v7, main_call0_call4_v8, main_call0_call4_c_1, main_call0_call4_v9,
   main_call0_call4_v10, main_call0_call4_v11, main_call0_call4_v12, main_call0_call4_v13, main_call0_call4_c_2, main_call0_call4_v14,
   main_call0_call4_v15, main_call0_call4_c_3, main_call0_call4_v16, main_call0_call4_v17, main_call0_call4_v18, main_call0_call4_v19,
   main_call0_call4_v20, main_call0_call4_c_4, main_call0_call4_v21, main_call0_call4_v22, main_call0_call4_c_5, main_call0_call4_v23,
   main_call0_call4_v24, main_call0_call4_v25, main_call0_call4_v26, main_call0_call4_v27, main_call0_call4_c_6, main_call0_call4_v28,
   main_call0_call4_v29, main_call0_call4_c_7, main_call0_call4_v30, main_call0_call4_v31, main_call0_call4_v32, main_call0_call4_v33,
   main_call0_call4_v34, main_call0_call4_v35, main_call0_call4_v36, main_call0_call4_v37, main_call0_call4_c_8, main_call0_call4_v38,
   main_call0_call4_v39, main_call0_call4_v40, main_call0_call4_c_9, main_call0_call4_v41, main_call0_call4_v42, main_call0_call4_c_10,
   main_call0_call4_v43, main_call0_call4_v44, main_call0_call4_v45, main_call0_call4_v46, main_call0_call4_v47, main_call0_call4_c_11,
   main_call0_call4_v48, main_call0_call4_v49, main_call0_call4_c_12, main_call0_call4_v50, main_call0_call4_v51, main_call0_call4_v52,
   main_call0_call4_v53, main_call0_call4_v54, main_call0_call4_c_13, main_call0_call4_v55, main_call0_call4_v56, main_call0_call4_c_14,
   main_call0_call4_v57, main_call0_call4_v58, main_call0_call4_v59, main_call0_call4_v60, main_call0_call4_v61, main_call0_call4_c_15,
   main_call0_call4_v62, main_call0_call4_v63, main_call0_call4_c_16, main_call0_call4_v64, main_call0_call4_v65, main_call0_call4_v66,
   main_call0_call4_v67, main_call0_call4_v68, main_call0_call4_v69, main_call0_call4_v70, main_call0_call4_v71, main_call0_call4_c_17,
   main_call0_call4_v72, main_call0_call4_v73, main_call0_call4_v74, main_call0_call4_c_18, main_call0_call4_v75, main_call0_call4_v76,
   main_call0_call4_c_19, main_call0_call4_v77, main_call0_call4_v78, main_call0_call4_v79, main_call0_call4_v80, main_call0_call4_v81,
   main_call0_call4_c_20, main_call0_call4_v82, main_call0_call4_v83, main_call0_call4_c_21, main_call0_call4_v84, main_call0_call4_v85,
   main_call0_call4_v86, main_call0_call4_v87, main_call0_call4_v88, main_call0_call4_c_22, main_call0_call4_v89, main_call0_call4_v90,
   main_call0_call4_c_23, main_call0_call4_v91, main_call0_call4_v92, main_call0_call4_v93, main_call0_call4_v94, main_call0_call4_v95,
   main_call0_call4_c_24, main_call0_call4_v96, main_call0_call4_v97, main_call0_call4_c_25, main_call0_call4_v98, main_call0_call4_v99,
   main_call0_call4_v100, main_call0_call4_v101, main_call0_call4_v102, main_call0_call4_v103, main_call0_call4_v104, main_call0_call4_v105,
   main_call0_call4_c_26, main_call0_call4_v106, main_call0_call4_v107, main_call0_call4_v108, main_call0_call4_c_27, main_call0_call4_v109,
   main_call0_call4_v110, main_call0_call4_c_28, main_call0_call4_v111, main_call0_call4_v112, main_call0_call4_v113, main_call0_call4_v114,
   main_call0_call4_v115, main_call0_call4_c_29, main_call0_call4_v116, main_call0_call4_v117, main_call0_call4_c_30, main_call0_call4_v118,
   main_call0_call4_v119, main_call0_call4_v120, main_call0_call4_v121, main_call0_call4_v122, main_call0_call4_c_31, main_call0_call4_v123,
   main_call0_call4_v124, main_call0_call4_c_32, main_call0_call4_v125, main_call0_call4_v126, main_call0_call4_v127, main_call0_call4_v128,
   main_call0_call4_v129, main_call0_call4_c_33, main_call0_call4_v130, main_call0_call4_v131, main_call0_call4_c_34, main_call0_call4_v132,
   main_call0_call4_v133, main_call0_call4_v134, main_call0_call4_v135, main_call0_call4_v136, main_call0_call4_v137, main_call0_call4_v138,
   main_call0_call4_v139, main_call0_call4_c_35, main_call0_call4_v140, main_call0_call4_v141, main_call0_call4_v142, main_call0_call4_c_36,
   main_call0_call4_v143, main_call0_call4_v144, main_call0_call4_c_37, main_call0_call4_v145, main_call0_call4_v146, main_call0_call4_v147,
   main_call0_call4_v148, main_call0_call4_v149, main_call0_call4_c_38, main_call0_call4_v150, main_call0_call4_v151, main_call0_call4_c_39,
   main_call0_call4_v152, main_call0_call4_v153, main_call0_call4_v154, main_call0_call4_v155, main_call0_call4_v156, main_call0_call4_c_40,
   main_call0_call4_v157, main_call0_call4_v158, main_call0_call4_c_41, main_call0_call4_v159, main_call0_call4_v160, main_call0_call4_v161,
   main_call0_call4_v162, main_call0_call4_v163, main_call0_call4_c_42, main_call0_call4_v164, main_call0_call4_v165, main_call0_call4_c_43,
   main_call0_call4_v166, main_call0_call4_v167, main_call0_call4_v168, main_call0_call4_v169, main_call0_call4_v170, main_call0_v24_0,
   main_call0_call4_v172, main_call0_call4_v173, main_call0_call4_c_44, main_call0_call4_v174, main_call0_v24_1, main_call0_v25, main_call0_v26,
   main_call0_v27, main_call0_v28, main_call0_v29, main_call0_v30, main_call0_c_8, main_call0_v31, main_call0_v32, main_call0_c_9, main_call0_v33,
   main_call0_v34, main_call0_v35, main_call0_v36, main_call0_call5_v0, main_call0_call5_c, main_call0_call5_v1, main_call0_call5_v2,
   main_call0_call5_v3, main_call0_call5_v4, main_call0_call5_v5, main_call0_call5_v6, main_call0_call5_c_0, main_call0_call5_v7, main_call0_call5_v8,
   main_call0_call5_c_1, main_call0_call5_v9, main_call0_call5_v10, main_call0_call5_v11, main_call0_call5_v12, main_call0_call5_v13,
   main_call0_call5_c_2, main_call0_call5_v14, main_call0_call5_v15, main_call0_call5_c_3, main_call0_call5_v16, main_call0_call5_v17,
   main_call0_call5_v18, main_call0_call5_v19, main_call0_call5_v20, main_call0_call5_c_4, main_call0_call5_v21, main_call0_call5_v22,
   main_call0_call5_c_5, main_call0_call5_v23, main_call0_call5_v24, main_call0_call5_v25, main_call0_call5_v26, main_call0_call5_v27,
   main_call0_call5_c_6, main_call0_call5_v28, main_call0_call5_v29, main_call0_call5_c_7, main_call0_call5_v30, main_call0_call5_v31,
   main_call0_call5_v32, main_call0_call5_v33, main_call0_call5_v34, main_call0_call5_v35, main_call0_call5_v36, main_call0_call5_v37,
   main_call0_call5_c_8, main_call0_call5_v38, main_call0_call5_v39, main_call0_call5_v40, main_call0_call5_c_9, main_call0_call5_v41,
   main_call0_call5_v42, main_call0_call5_c_10, main_call0_call5_v43, main_call0_call5_v44, main_call0_call5_v45, main_call0_call5_v46,
   main_call0_call5_v47, main_call0_call5_c_11, main_call0_call5_v48, main_call0_call5_v49, main_call0_call5_c_12, main_call0_call5_v50,
   main_call0_call5_v51, main_call0_call5_v52, main_call0_call5_v53, main_call0_call5_v54, main_call0_call5_c_13, main_call0_call5_v55,
   main_call0_call5_v56, main_call0_call5_c_14, main_call0_call5_v57, main_call0_call5_v58, main_call0_call5_v59, main_call0_call5_v60,
   main_call0_call5_v61, main_call0_call5_c_15, main_call0_call5_v62, main_call0_call5_v63, main_call0_call5_c_16, main_call0_call5_v64,
   main_call0_call5_v65, main_call0_call5_v66, main_call0_call5_v67, main_call0_call5_v68, main_call0_call5_v69, main_call0_call5_v70,
   main_call0_call5_v71, main_call0_call5_c_17, main_call0_call5_v72, main_call0_call5_v73, main_call0_call5_v74, main_call0_call5_c_18,
   main_call0_call5_v75, main_call0_call5_v76, main_call0_call5_c_19, main_call0_call5_v77, main_call0_call5_v78, main_call0_call5_v79,
   main_call0_call5_v80, main_call0_call5_v81, main_call0_call5_c_20, main_call0_call5_v82, main_call0_call5_v83, main_call0_call5_c_21,
   main_call0_call5_v84, main_call0_call5_v85, main_call0_call5_v86, main_call0_call5_v87, main_call0_call5_v88, main_call0_call5_c_22,
   main_call0_call5_v89, main_call0_call5_v90, main_call0_call5_c_23, main_call0_call5_v91, main_call0_call5_v92, main_call0_call5_v93,
   main_call0_call5_v94, main_call0_call5_v95, main_call0_call5_c_24, main_call0_call5_v96, main_call0_call5_v97, main_call0_call5_c_25,
   main_call0_call5_v98, main_call0_call5_v99, main_call0_call5_v100, main_call0_call5_v101, main_call0_call5_v102, main_call0_call5_v103,
   main_call0_call5_v104, main_call0_call5_v105, main_call0_call5_c_26, main_call0_call5_v106, main_call0_call5_v107, main_call0_call5_v108,
   main_call0_call5_c_27, main_call0_call5_v109, main_call0_call5_v110, main_call0_call5_c_28, main_call0_call5_v111, main_call0_call5_v112,
   main_call0_call5_v113, main_call0_call5_v114, main_call0_call5_v115, main_call0_call5_c_29, main_call0_call5_v116, main_call0_call5_v117,
   main_call0_call5_c_30, main_call0_call5_v118, main_call0_call5_v119, main_call0_call5_v120, main_call0_call5_v121, main_call0_call5_v122,
   main_call0_call5_c_31, main_call0_call5_v123, main_call0_call5_v124, main_call0_call5_c_32, main_call0_call5_v125, main_call0_call5_v126,
   main_call0_call5_v127, main_call0_call5_v128, main_call0_call5_v129, main_call0_call5_c_33, main_call0_call5_v130, main_call0_call5_v131,
   main_call0_call5_c_34, main_call0_call5_v132, main_call0_call5_v133, main_call0_call5_v134, main_call0_call5_v135, main_call0_call5_v136,
   main_call0_call5_v137, main_call0_call5_v138, main_call0_call5_v139, main_call0_call5_c_35, main_call0_call5_v140, main_call0_call5_v141,
   main_call0_call5_v142, main_call0_call5_c_36, main_call0_call5_v143, main_call0_call5_v144, main_call0_call5_c_37, main_call0_call5_v145,
   main_call0_call5_v146, main_call0_call5_v147, main_call0_call5_v148, main_call0_call5_v149, main_call0_call5_c_38, main_call0_call5_v150,
   main_call0_call5_v151, main_call0_call5_c_39, main_call0_call5_v152, main_call0_call5_v153, main_call0_call5_v154, main_call0_call5_v155,
   main_call0_call5_v156, main_call0_call5_c_40, main_call0_call5_v157, main_call0_call5_v158, main_call0_call5_c_41, main_call0_call5_v159,
   main_call0_call5_v160, main_call0_call5_v161, main_call0_call5_v162, main_call0_call5_v163, main_call0_call5_c_42, main_call0_call5_v164,
   main_call0_call5_v165, main_call0_call5_c_43, main_call0_call5_v166, main_call0_call5_v167, main_call0_call5_v168, main_call0_call5_v169,
   main_call0_call5_v170, main_call0_v37_0, main_call0_call5_v172, main_call0_call5_v173, main_call0_call5_c_44, main_call0_call5_v174,
   main_call0_v37_1, main_call0_v38, main_call0_v39, main_call0_v40, main_call0_v41, main_call0_c_10, main_call0_v42, main_call0_v43, main_call0_v44,
   main_call0_v45, main_call0_v46, main_call0_c_11, main_call0_v47, main_call0_v48, main_call0_v49, main_call0_c_12, main_call0_v50, main_call0_v51,
   main_call0_v52, main_call0_v53, main_call0_v54, main_call0_v55, main_call0_v56, main_call0_v57, main_call0_v58, main_call0_v59, main_call0_v60,
   main_call0_v61, main_call0_v62, main_call0_v63, main_call0_v64, main_v8]

/-- The loop's test: the bound, and the trip's number compared with it. -/
abbrev testOps : List (HloOp τ sig (Elt F)) :=
  [ nullary main_while0c_c_14 (constantI S_ 32 1024#32),
    binary main_v10_1 main_while0c_c_14 main_while0c_v43 (cmpi .slt) ]

/-- The buffers `testOps` writes. -/
abbrev testOpsWrites : List (Ref sig .tc) := [main_while0c_c_14, main_while0c_v43]

/-- The stretches before the loop. -/
abbrev before : List (List (HloOp τ sig (Elt F))) := [setupOps, randintOps, enterOps]
/-- The stretches of one trip. -/
abbrev inside : List (List (HloOp τ sig (Elt F))) := [distOps, farthestOps, recordOps, nextOps]
/-- The stretches after the loop. -/
abbrev behind : List (List (HloOp τ sig (Elt F))) := [gatherOps, reluOps, layerOps, reluOps2, lastOps]

set_option maxHeartbeats 4000000 in
/-- Every operation touches the core's own buffers only. -/
theorem own_buffers : List.Forall (fun ops : List (HloOp τ sig (Elt F)) => ops.Forall fun op => op.bufs ⊆ tcRefs τ sig)
    [setupOps, randintOps, enterOps, distOps, farthestOps, recordOps, nextOps, gatherOps, reluOps, layerOps, reluOps2, lastOps] := by
  simp only [List.Forall, setupOps, randintOps, enterOps, distOps, farthestOps, recordOps, nextOps, gatherOps, reluOps, layerOps,
    reluOps2, lastOps, nullary_bufs_sub, unary_bufs_sub, binary_bufs_sub, ternary_bufs_sub, quaternary_bufs_sub,
    binaryIndexed_bufs_sub, reshape_bufs_sub, and_self]

set_option maxHeartbeats 4000000 in
/-- None makes a new buffer. -/
theorem no_fresh : List.Forall (fun ops : List (HloOp τ sig (Elt F)) => ops.Forall fun op => op.fresh = ∅)
    [setupOps, randintOps, enterOps, distOps, farthestOps, recordOps, nextOps, gatherOps, reluOps, layerOps, reluOps2, lastOps] :=
  ⟨forall_fresh_of_map rfl, forall_fresh_of_map rfl, forall_fresh_of_map rfl, forall_fresh_of_map rfl, forall_fresh_of_map rfl,
    forall_fresh_of_map rfl, forall_fresh_of_map rfl, forall_fresh_of_map rfl, forall_fresh_of_map rfl, forall_fresh_of_map rfl,
    forall_fresh_of_map rfl, forall_fresh_of_map rfl⟩

/-- Both facts of the stretches of a sublist. -/
theorem plain_of (l : List (List (HloOp τ sig (Elt F))))
    (h : l ⊆ [setupOps, randintOps, enterOps, distOps, farthestOps, recordOps, nextOps, gatherOps, reluOps, layerOps, reluOps2, lastOps]) :
    Plain l := fun ops ho =>
  ⟨List.forall_iff_forall_mem.mp (List.forall_iff_forall_mem.mp own_buffers ops (h ho)),
    List.forall_iff_forall_mem.mp (List.forall_iff_forall_mem.mp no_fresh ops (h ho))⟩

/-- The stretches before the loop are plain. -/
theorem plain_before : Plain (before (F := F)) := plain_of _ (by
  intro o h; rcases h with _ | ⟨_, _ | ⟨_, _ | ⟨_, h⟩⟩⟩ <;> first | cases h | skip
  all_goals simp only [List.mem_cons, true_or, or_true])
/-- The stretches of the loop are plain. -/
theorem plain_inside : Plain (inside (F := F)) := plain_of _ (by
  intro o h; rcases h with _ | ⟨_, _ | ⟨_, _ | ⟨_, _ | ⟨_, h⟩⟩⟩⟩ <;> first | cases h | skip
  all_goals simp only [List.mem_cons, true_or, or_true])
/-- The stretches behind the loop are plain. -/
theorem plain_behind : Plain (behind (F := F)) := plain_of _ (by
  intro o h; rcases h with _ | ⟨_, _ | ⟨_, _ | ⟨_, _ | ⟨_, _ | ⟨_, h⟩⟩⟩⟩⟩ <;> first | cases h | skip
  all_goals simp only [List.mem_cons, true_or, or_true])

/-- The stretches before the loop leave a buffer that none of them writes. -/
theorem before_keeps (X : Valuation τ sig (Elt F)) (r : Ref sig .tc) (h : r ∉ setupOpsWrites ++ randintOpsWrites ++ enterOpsWrites) :
    afterL before X (Proc.devRef .tc r) = X (Proc.devRef .tc r) := by
  simp only [List.mem_append, not_or] at h
  simp only [afterL_cons, afterL_nil]
  rw [after_of_writes_sub enterOps _ (forall_writes_sub_of_map (W := enterOpsWrites) rfl) h.2,
    after_of_writes_sub randintOps _ (forall_writes_sub_of_map (W := randintOpsWrites) rfl) h.1.2,
    after_of_writes_sub setupOps _ (forall_writes_sub_of_map (W := setupOpsWrites) rfl) h.1.1]

/-- One trip leaves a buffer that none of its stretches writes. -/
theorem inside_keeps (X : Valuation τ sig (Elt F)) (r : Ref sig .tc)
    (h : r ∉ distOpsWrites ++ farthestOpsWrites ++ recordOpsWrites ++ nextOpsWrites) :
    afterL inside X (Proc.devRef .tc r) = X (Proc.devRef .tc r) := by
  simp only [List.mem_append, not_or] at h
  simp only [afterL_cons, afterL_nil]
  rw [after_of_writes_sub nextOps _ (forall_writes_sub_of_map (W := nextOpsWrites) rfl) h.2,
    after_of_writes_sub recordOps _ (forall_writes_sub_of_map (W := recordOpsWrites) rfl) h.1.2,
    after_of_writes_sub farthestOps _ (forall_writes_sub_of_map (W := farthestOpsWrites) rfl) h.1.1.2,
    after_of_writes_sub distOps _ (forall_writes_sub_of_map (W := distOpsWrites) rfl) h.1.1.1]

/-- The stretches after the loop leave a buffer that none of them writes. -/
theorem behind_keeps (X : Valuation τ sig (Elt F)) (r : Ref sig .tc)
    (h : r ∉ gatherOpsWrites ++ reluOpsWrites ++ layerOpsWrites ++ reluOps2Writes ++ lastOpsWrites) :
    afterL behind X (Proc.devRef .tc r) = X (Proc.devRef .tc r) := by
  simp only [List.mem_append, not_or] at h
  simp only [afterL_cons, afterL_nil]
  rw [after_of_writes_sub lastOps _ (forall_writes_sub_of_map (W := lastOpsWrites) rfl) h.2,
    after_of_writes_sub reluOps2 _ (forall_writes_sub_of_map (W := reluOps2Writes) rfl) h.1.2,
    after_of_writes_sub layerOps _ (forall_writes_sub_of_map (W := layerOpsWrites) rfl) h.1.1.2,
    after_of_writes_sub reluOps _ (forall_writes_sub_of_map (W := reluOpsWrites) rfl) h.1.1.1.2,
    after_of_writes_sub gatherOps _ (forall_writes_sub_of_map (W := gatherOpsWrites) rfl) h.1.1.1.1]

/-- The test leaves a buffer that it does not write. -/
theorem test_keeps (X : Valuation τ sig (Elt F)) (r : Ref sig .tc) (h : r ∉ testOpsWrites) :
    after testOps X (Proc.devRef .tc r) = X (Proc.devRef .tc r) :=
  after_of_writes_sub testOps X (forall_writes_sub_of_map (W := testOpsWrites) rfl) h

/-! ## The run -/

variable (m : (ℓ : Loc nD τ sig) → Buf (Elt F) ℓ) (ρ : Dev nD → PrngReg)

/-- Every buffer's contents before the `k`-th test. -/
abbrev atK (k : ℕ) (c : Dev nD) : Valuation τ sig (Elt F) := atTrip testOps inside (entryContents before m) k c

set_option maxRecDepth 100000 in
/-- A trip raises its number by one. -/
theorem number_step (X : Valuation τ sig (Elt F)) :
    afterL inside X (Proc.devRef .tc main_v10_1) = addi (X (Proc.devRef .tc main_v10_1)) (constantI S_ 32 1#32) := by
  have e : ∀ Y : Valuation τ sig (Elt F), after nextOps Y (Proc.devRef .tc main_v10_1)
      = addi (Y (Proc.devRef .tc main_v10_1)) (constantI S_ 32 1#32) := fun Y => by after_results; rfl
  simp only [afterL_cons, afterL_nil]
  rw [e, after_of_writes_sub recordOps _ (forall_writes_sub_of_map (W := recordOpsWrites) rfl) (by decide +kernel),
    after_of_writes_sub farthestOps _ (forall_writes_sub_of_map (W := farthestOpsWrites) rfl) (by decide +kernel),
    after_of_writes_sub distOps _ (forall_writes_sub_of_map (W := distOpsWrites) rfl) (by decide +kernel)]

/-- The loop is entered with number zero. -/
theorem number_zero (c : Dev nD) : entryContents before m c (Proc.devRef .tc main_v10_1) = fun _ => (0#32 : BitVec 32) := by
  have e : ∀ Y : Valuation τ sig (Elt F), after enterOps Y (Proc.devRef .tc main_v10_1) = fun _ => (0#32 : BitVec 32) :=
    fun Y => by after_results; rfl
  simp only [entryContents, afterL_cons, afterL_nil]
  exact e _

/-- Before the `k`-th test the trip's number is `k`. -/
theorem number_at (c : Dev nD) : ∀ k, atK m k c (Proc.devRef .tc main_v10_1) = fun _ => Scf.iv 0#32 1#32 k
  | 0 => by rw [show atK m 0 c = entryContents before m c from rfl, number_zero, Scf.iv_zero]
  | k + 1 => by
    rw [show atK m (k + 1) c = afterL inside (after testOps (atK m k c)) from rfl, number_step, test_keeps _ _ (by decide +kernel),
      number_at c k, Scf.iv_succ]
    rfl

-- the rule for an operation at any thread meets the core's thread only by unfolding plain definitions in a type
set_option backward.isDefEq.respectTransparency.types false in
/-- The test says whether the trips done are fewer than 1024. -/
theorem test_spec : CondSpec (pcfgs (F := F)) defs₀ loops (main_while0_cond (F := F)) testOps inside (entryContents before m) 1024 := by
  intro k hk c bd
  have hn := number_at m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v10_1 HostLoop.idx0)
        (HloOp.result _ (atK m k c) main_while0c_c_14 HostLoop.idx0) = 1#1) (k < 1024)
    rw [nullary_result_ne _ _ _ _ (by decide), nullary_result, hn]
    exact Scf.cmpi_slt_iv_ub_iff (lb := 0#32) (ub := 1024#32) (st := 1#32) (by decide) (show k ≤ Scf.trips 0#32 1024#32 1#32 from hk)
  isplitl [Hb]; · iexact Hb
  rw [after_cons, after_cons, after_nil]; iexact Hh

set_option maxRecDepth 100000 in
/-- From any memory with zero counters the program terminates, every buffer then holding what its stretches and 1024
    trips make of it. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents testOps before inside behind 1024 m c (Proc.devRef .tc b)) :=
  run_loop (pcfgs (F := F)) defs₀ loops main 0 main_while0_cond main_while0_body rfl before inside behind testOps plain_before
    plain_inside plain_behind (fun c => by rw [main_eq]; rfl) (by rw [loop_body_eq]; rfl) 1024 m ρ (test_spec m)

/-- The buffers that hold the arguments: no stretch writes them. -/
abbrev args : List (Ref sig .tc) := [main_arg0, main_arg1, main_arg2, main_arg3, main_arg4, main_arg5, main_arg6]

/-- No stretch writes an argument. -/
theorem args_unwritten : ∀ r ∈ args, r ∉ setupOpsWrites ++ randintOpsWrites ++ enterOpsWrites
    ∧ r ∉ distOpsWrites ++ farthestOpsWrites ++ recordOpsWrites ++ nextOpsWrites
    ∧ r ∉ gatherOpsWrites ++ reluOpsWrites ++ layerOpsWrites ++ reluOps2Writes ++ lastOpsWrites ∧ r ∉ testOpsWrites := by
  decide +kernel

/-- At the `k`-th test an argument is as at the launch. -/
theorem arg_at (c : Dev nD) (r : Ref sig .tc) (hr : r ∈ args) : ∀ k, atK m k c (Proc.devRef .tc r) = m ((c.tc : Thread nD τ).loc r)
  | 0 => by
    rw [show atK m 0 c = entryContents before m c from rfl]
    exact before_keeps _ r (args_unwritten r hr).1
  | k + 1 => by
    rw [show atK m (k + 1) c = afterL inside (after testOps (atK m k c)) from rfl, inside_keeps _ r (args_unwritten r hr).2.1,
      test_keeps _ r (args_unwritten r hr).2.2.2, arg_at c r hr k]

/-- At the end an argument is as at the launch. -/
theorem arg_final (c : Dev nD) (r : Ref sig .tc) (hr : r ∈ args) :
    finalContents testOps before inside behind 1024 m c (Proc.devRef .tc r) = m ((c.tc : Thread nD τ).loc r) := by
  rw [show finalContents testOps before inside behind 1024 m c = afterL behind (after testOps (atK m 1024 c)) from rfl,
    behind_keeps _ r (args_unwritten r hr).2.2.1, test_keeps _ r (args_unwritten r hr).2.2.2, arg_at m c r hr]

end Cert.ReferenceIdeal.Fps
-- ==== Proof.Frames.lean ====
/-
  Each program terminates, leaves its arguments as they were and every counter at zero.
-/
module

public import proofs.«01_k».proof.Defs
public import proofs.«01_k».proof.Proof.Run
public import proofs.«01_k».proof.Proof.Transfer
public import proofs.«01_k».proof.Proof.RefRun
public import Idealize.ShloMosaic.Lib.Quiescent

@[expose] public section

noncomputable section

namespace Cert.Frames

open Idealize.ShloMosaic Idealize.ShloMosaic.TcCoe Idealize.SL.Sem

variable {F : FTy → Type} [FloatOps F]

set_option maxHeartbeats 4000000 in
/-- The kernel's program, read at any floats, leaves its arguments and the counters as they were. -/
theorem kernel_at (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2)
            = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3)
            = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4)
            = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5)
            = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6)
            = m ((c.tc : Thread Cert.KernelIdeal.nD Cert.KernelIdeal.τ).loc Cert.KernelIdeal.main_arg6))
        ∧ r.2.sem = fun _ => 0) :=
  θ_run_with_sems (Cert.KernelIdeal.Gen.frame_of m ρ (Cert.KernelIdeal.Fps.dats m) fun _ _ => rfl) (Cert.KernelIdeal.Fps.run_main m ρ)

/-- The idealized kernel. -/
theorem kernel_ideal : Cert.quiescent_KernelIdeal (hKernelIdeal := Cert.KernelIdeal.Gen.facts) :=
  fun m g _ => kernel_at m g

/-- The kernel as printed. -/
theorem kernel : Cert.quiescent_Kernel (hKernel := Cert.Kernel.Gen.facts) := fun m g _ => by
  have h := kernel_at (F := Bits) m g
  rw [← Cert.Kernel.Transfer.defs_eq, ← Cert.Kernel.Transfer.main_eq] at h
  exact h

/-- The reference. -/
theorem reference : Cert.quiescent_ReferenceIdeal (hReferenceIdeal := Cert.ReferenceIdeal.Gen.facts) := fun m g _ =>
  (θ_run _ _ _).mono (fun r h => by
    have arg : ∀ (c : Dev Cert.ReferenceIdeal.nD) (b : Ref Cert.ReferenceIdeal.sig .tc) (hb : b ∈ Cert.ReferenceIdeal.Fps.args),
        (Proc.devRef .tc b : DevRef Cert.ReferenceIdeal.τ Cert.ReferenceIdeal.sig).isScoped = false →
        r.2.mem ((c.tc : Thread Cert.ReferenceIdeal.nD Cert.ReferenceIdeal.τ).loc b) = m ((c.tc : Thread _ _).loc b) :=
      fun c b hb hs => (h c b hs).trans (Cert.ReferenceIdeal.Fps.arg_final m c b hb)
    exact ⟨fun c => ⟨arg c _ (by decide) rfl, arg c _ (by decide) rfl, arg c _ (by decide) rfl, arg c _ (by decide) rfl,
      arg c _ (by decide) rfl, arg c _ (by decide) rfl, arg c _ (by decide) rfl⟩, sem_eq_zero_of_no_sems rfl _⟩)
    (Cert.ReferenceIdeal.Fps.run_fold m g)

end Cert.Frames
-- ==== Proof.Farthest.lean ====
/-
  The first place where a finite family of extended reals is largest, and two facts on squares.
-/
module

public import Idealize.ShloMosaic.PureOps.Ideal.Laws
public import Idealize.ShloMosaic.Lib.ValueIdx

@[expose] public section

noncomputable section

namespace Cert.Fps

/-- `p` is the first place where `g` is largest. -/
structure FirstMax {n : ℕ} (g : Fin n → EReal) (p : Fin n) : Prop where
  le : ∀ q, g q ≤ g p
  lt : ∀ q, q < p → g q < g p

/-- There is at most one first place. -/
theorem FirstMax.unique {n : ℕ} {g : Fin n → EReal} {p q : Fin n} (hp : FirstMax g p) (hq : FirstMax g q) : p = q := by
  rcases lt_trichotomy p q with h | h | h
  · exact absurd (hq.lt p h) (not_lt.mpr (hp.le q))
  · exact h
  · exact absurd (hp.lt q h) (not_lt.mpr (hq.le p))

/-- A family that is not empty has a first place. -/
theorem exists_firstMax {n : ℕ} (h : 0 < n) (g : Fin n → EReal) : ∃ p, FirstMax g p := by
  obtain ⟨r, -, hr⟩ := Finset.exists_max_image Finset.univ g ⟨⟨0, h⟩, Finset.mem_univ _⟩
  have hne : (Finset.univ.filter fun q => g q = g r).Nonempty := ⟨r, by simp⟩
  have hmem := Finset.min'_mem _ hne
  rw [Finset.mem_filter] at hmem
  refine ⟨(Finset.univ.filter fun q => g q = g r).min' hne, fun q => ?_, fun q hq => ?_⟩
  · rw [hmem.2]; exact hr q (Finset.mem_univ _)
  · rw [hmem.2]
    refine lt_of_le_of_ne (hr q (Finset.mem_univ _)) fun he => ?_
    exact absurd (Finset.min'_le _ q (by rw [Finset.mem_filter]; exact ⟨Finset.mem_univ _, he⟩)) (not_le.mpr hq)

/-- The first place where `g` is largest. -/
def first {n : ℕ} (h : 0 < n) (g : Fin n → EReal) : Fin n := (exists_firstMax h g).choose

/-- It is where `g` is largest, and no earlier place is. -/
theorem first_spec {n : ℕ} (h : 0 < n) (g : Fin n → EReal) : FirstMax g (first h g) := (exists_firstMax h g).choose_spec

/-- An extended real's square is not negative. -/
theorem sq_nonneg (a : EReal) : 0 ≤ a * a := by
  induction a using EReal.rec with
  | bot => rw [EReal.bot_mul_bot]; exact le_top
  | top => rw [EReal.top_mul_top]; exact le_top
  | coe r => exact_mod_cast mul_self_nonneg r

/-- Zero is above minus one. -/
theorem neg_one_lt_of_nonneg {a : EReal} (h : 0 ≤ a) : -1 < a :=
  lt_of_lt_of_le (by rw [show (-1 : EReal) = ((-1 : ℝ) : EReal) by norm_num, show (0 : EReal) = ((0 : ℝ) : EReal) by norm_num]; exact_mod_cast (by norm_num : (-1 : ℝ) < 0)) h

/-- A choice by a comparison that holds. -/
theorem select_ofBool {α : Type} (P : Prop) [Decidable P] (a b : α) :
    Idealize.ShloMosaic.Scalar.select (BitVec.ofBool (decide P)) a b = if P then a else b := by
  by_cases h : P <;> simp [Idealize.ShloMosaic.Scalar.select, h]

end Cert.Fps
-- ==== Proof.Reads.lean ====
/-
  Reading the two programs' gathers, and the reference's choice of the largest distance, at an index.
-/
module

public import proofs.«01_k».proof.Proof.Farthest
public import proofs.«01_k».proof.Proof.Gen.ReferenceIdeal
public import Idealize.ShloMosaic.Lib.Pipeline.Value
public import Idealize.ShloMosaic.Lib.ValueIdxCore
public import Idealize.ShloMosaic.Lib.ValueLayout
public import Idealize.ShloMosaic.PureOps.Ideal.Laws

@[expose] public section

noncomputable section

namespace Cert.Fps

open Idealize.ShloMosaic
open Idealize.ShloMosaic.ValueIdx

/-! ## Start indices -/

/-- A start index read signed and kept inside `[0, n]`. -/
def clampTo (n : ℕ) (w : BitVec 32) : Fin (n + 1) := ⟨min w.toInt.toNat n, by omega⟩

/-- An index counted from the end when it is negative. -/
def wrap (n w : BitVec 32) : BitVec 32 := Scalar.select (IntOp.cmpi .slt w 0#32) (IntOp.addi w n) w

/-- A small number keeps its value as a signed word. -/
theorem toInt_ofNat {k : ℕ} (h : k < 2 ^ 31) : (BitVec.ofNat 32 k).toInt = k := by
  rw [BitVec.toInt_eq_toNat_cond, BitVec.toNat_ofNat]
  have : k % 2 ^ 32 = k := Nat.mod_eq_of_lt (by omega)
  rw [this, if_pos (by omega)]

/-- A word that is not negative is not wrapped. -/
theorem wrap_ofNat {k : ℕ} (h : k < 2 ^ 31) (n : BitVec 32) : wrap n (BitVec.ofNat 32 k) = BitVec.ofNat 32 k := by
  unfold wrap
  have : IntOp.cmpi .slt (BitVec.ofNat 32 k) 0#32 = 0#1 := by
    show BitVec.ofBool (BitVec.slt _ _) = _
    have : BitVec.slt (BitVec.ofNat 32 k) 0#32 = false := by
      rw [BitVec.slt, toInt_ofNat h]; simp
    rw [this]; rfl
  rw [this]; rfl

/-- A word within the bound is not clamped. -/
theorem clampTo_ofNat {n k : ℕ} (h : k ≤ n) (hn : n < 2 ^ 31) : clampTo n (BitVec.ofNat 32 k) = ⟨k, by omega⟩ := by
  apply Fin.ext
  show min (BitVec.ofNat 32 k).toInt.toNat n = k
  rw [toInt_ofNat (by omega)]
  simp; exact h

/-- The point that an index word names. -/
def named (w : BitVec 32) : Fin 32768 := clampTo 32767 (wrap 32768#32 w)

/-- A point number names its point. -/
theorem named_ofNat (p : Fin 32768) : named (BitVec.ofNat 32 p.val) = p := by
  unfold named
  rw [wrap_ofNat (by omega), clampTo_ofNat (by omega) (by omega)]

/-- A batch number names its batch. -/
theorem batch_ofNat (b : Fin 8) : clampTo 7 (wrap 8#32 (BitVec.ofNat 32 b.val)) = b := by
  rw [wrap_ofNat (by omega), clampTo_ofNat (by omega) (by omega)]

/-! ## The gathers -/

section Gathers

variable {α : Type}

/-- One point per batch: its three coordinates at a pair of start indices. -/
abbrev onePoint (wf : GatherDims.WF ⟨3, ![8, 32768, 3]⟩ ⟨2, ![8, 2]⟩ ⟨2, ![8, 3]⟩ [1] [0, 1] [] [0, 1] [] 1 ![1, 1, 3]) :
    GatherDims ⟨3, ![8, 32768, 3]⟩ ⟨2, ![8, 2]⟩ ⟨2, ![8, 3]⟩ where
  offsetDims := [1]
  collapsedSliceDims := [0, 1]
  operandBatchingDims := []
  startIndicesBatchingDims := []
  startIndexMap := [0, 1]
  indexVectorDim := 1
  sliceSizes := ![1, 1, 3]
  wf := wf

/-- A point's coordinate, gathered. -/
theorem onePoint_apply
    (wf : GatherDims.WF ⟨3, ![8, 32768, 3]⟩ ⟨2, ![8, 2]⟩ ⟨2, ![8, 3]⟩ [1] [0, 1] [] [0, 1] [] 1 ![1, 1, 3])
    (x : (⟨3, ![8, 32768, 3]⟩ : Shape).Idx → α) (idx : IVec ⟨2, ![8, 2]⟩ 32) (b : Fin 8) (i : Fin 3) :
    Host.gather (onePoint wf) x idx (ix2 b i)
      = x (ix3 (clampTo 7 (idx (ix2 b 0))) (clampTo 32767 (idx (ix2 b 1))) i) := by
  unfold Host.gather
  congr 1
  funext a
  refine Fin.ext ?_
  show (onePoint wf).start (ix2 b i) idx a + (onePoint wf).batchCoord (ix2 b i) a + (onePoint wf).offCoord (ix2 b i) a = _
  rw [GatherDims.batchCoord_eq_zero _ _ _ List.not_mem_nil]
  have hsi : ∀ k : Fin 2, (onePoint wf).siIdx (ix2 b i) k = ix2 b k := fun k => by
    funext c; refine Fin.ext ?_
    match c with
    | ⟨0, _⟩ => rfl
    | ⟨1, _⟩ => rfl
  have ha : a = 0 ∨ a = 1 ∨ a = 2 := by
    match a with
    | ⟨0, _⟩ => exact .inl rfl
    | ⟨1, _⟩ => exact .inr (.inl rfl)
    | ⟨2, _⟩ => exact .inr (.inr rfl)
  rcases ha with rfl | rfl | rfl
  · rw [GatherDims.offCoord_eq_zero _ _ _ (fun h => ((GatherDims.mem_sKept _ _).mp h).1 (by simp))]
    unfold GatherDims.start
    rw [dif_pos (show (0 : Fin 3) ∈ (onePoint wf).startIndexMap by simp)]
    exact congrArg (fun j => min (idx j).toInt.toNat 7) (hsi 0)
  · rw [GatherDims.offCoord_eq_zero _ _ _ (fun h => ((GatherDims.mem_sKept _ _).mp h).1 (by simp))]
    unfold GatherDims.start
    rw [dif_pos (show (1 : Fin 3) ∈ (onePoint wf).startIndexMap by simp)]
    exact congrArg (fun j => min (idx j).toInt.toNat 32767) (hsi 1)
  · unfold GatherDims.start
    rw [dif_neg (show (2 : Fin 3) ∉ (onePoint wf).startIndexMap by simp)]
    exact (Nat.zero_add _)

/-- Many points per batch. -/
abbrev manyPoints
    (wf : GatherDims.WF ⟨3, ![8, 32768, 3]⟩ ⟨3, ![8, 1024, 2]⟩ ⟨3, ![8, 1024, 3]⟩ [2] [0, 1] [] [0, 1] [] 2 ![1, 1, 3]) :
    GatherDims ⟨3, ![8, 32768, 3]⟩ ⟨3, ![8, 1024, 2]⟩ ⟨3, ![8, 1024, 3]⟩ where
  offsetDims := [2]
  collapsedSliceDims := [0, 1]
  operandBatchingDims := []
  startIndicesBatchingDims := []
  startIndexMap := [0, 1]
  indexVectorDim := 2
  sliceSizes := ![1, 1, 3]
  wf := wf

/-- A sample's coordinate, gathered. -/
theorem manyPoints_apply
    (wf : GatherDims.WF ⟨3, ![8, 32768, 3]⟩ ⟨3, ![8, 1024, 2]⟩ ⟨3, ![8, 1024, 3]⟩ [2] [0, 1] [] [0, 1] [] 2 ![1, 1, 3])
    (x : (⟨3, ![8, 32768, 3]⟩ : Shape).Idx → α) (idx : IVec ⟨3, ![8, 1024, 2]⟩ 32) (b : Fin 8) (t : Fin 1024) (i : Fin 3) :
    Host.gather (manyPoints wf) x idx (ix3 b t i)
      = x (ix3 (clampTo 7 (idx (ix3 b t 0))) (clampTo 32767 (idx (ix3 b t 1))) i) := by
  unfold Host.gather
  congr 1
  funext a
  refine Fin.ext ?_
  show (manyPoints wf).start (ix3 b t i) idx a + (manyPoints wf).batchCoord (ix3 b t i) a
    + (manyPoints wf).offCoord (ix3 b t i) a = _
  rw [GatherDims.batchCoord_eq_zero _ _ _ List.not_mem_nil]
  have hsi : ∀ k : Fin 2, (manyPoints wf).siIdx (ix3 b t i) k = ix3 b t k := fun k => by
    funext c; refine Fin.ext ?_
    match c with
    | ⟨0, _⟩ => rfl
    | ⟨1, _⟩ => rfl
    | ⟨2, _⟩ => rfl
  have ha : a = 0 ∨ a = 1 ∨ a = 2 := by
    match a with
    | ⟨0, _⟩ => exact .inl rfl
    | ⟨1, _⟩ => exact .inr (.inl rfl)
    | ⟨2, _⟩ => exact .inr (.inr rfl)
  rcases ha with rfl | rfl | rfl
  · rw [GatherDims.offCoord_eq_zero _ _ _ (fun h => ((GatherDims.mem_sKept _ _).mp h).1 (by simp))]
    unfold GatherDims.start
    rw [dif_pos (show (0 : Fin 3) ∈ (manyPoints wf).startIndexMap by simp)]
    exact congrArg (fun j => min (idx j).toInt.toNat 7) (hsi 0)
  · rw [GatherDims.offCoord_eq_zero _ _ _ (fun h => ((GatherDims.mem_sKept _ _).mp h).1 (by simp))]
    unfold GatherDims.start
    rw [dif_pos (show (1 : Fin 3) ∈ (manyPoints wf).startIndexMap by simp)]
    exact congrArg (fun j => min (idx j).toInt.toNat 32767) (hsi 1)
  · unfold GatherDims.start
    rw [dif_neg (show (2 : Fin 3) ∉ (manyPoints wf).startIndexMap by simp)]
    exact (Nat.zero_add _)

end Gathers

/-! ## The reference's choice -/

/-- `r` is at least as good as `e`: larger, or as large and at no later index. -/
def Beats (r e : EReal × BitVec 32) : Prop := e.1 < r.1 ∨ (e.1 = r.1 ∧ r.2.toInt ≤ e.2.toInt)

/-- A pair is as good as itself. -/
theorem Beats.refl (r : EReal × BitVec 32) : Beats r r := .inr ⟨rfl, le_rfl⟩

/-- Being at least as good carries over. -/
theorem Beats.trans {a b c : EReal × BitVec 32} (h : Beats a b) (k : Beats b c) : Beats a c := by
  rcases h with h | ⟨h, h'⟩ <;> rcases k with k | ⟨k, k'⟩
  · exact .inl (k.trans h)
  · exact .inl (k ▸ h)
  · exact .inl (h ▸ k)
  · exact .inr ⟨k.trans h, h'.trans k'⟩

/-- The reference's reducer returns one of the two pairs, and that one beats both. -/
theorem reducer_beats (a b : EReal × BitVec 32) :
    (Cert.ReferenceIdeal.reducer_argmax_f32_i32 (F := Ideal) a b = a ∨ Cert.ReferenceIdeal.reducer_argmax_f32_i32 (F := Ideal) a b = b)
      ∧ Beats (Cert.ReferenceIdeal.reducer_argmax_f32_i32 (F := Ideal) a b) a
      ∧ Beats (Cert.ReferenceIdeal.reducer_argmax_f32_i32 (F := Ideal) a b) b := by
  obtain ⟨u, m⟩ := a
  obtain ⟨v, n⟩ := b
  have hr : Cert.ReferenceIdeal.reducer_argmax_f32_i32 (F := Ideal) (u, m) (v, n)
      = (if v < u then u else v, if v < u ∨ (u = v ∧ m.toInt < n.toInt) then m else n) := by
    have hgt : FloatOps.cmpf (F := Ideal) (φ := .f32) .ogt u v = BitVec.ofBool (decide (v < u)) := rfl
    have hne : FloatOps.cmpf (F := Ideal) (φ := .f32) .une u u = 0#1 := by
      show BitVec.ofBool (decide (u ≠ u)) = 0#1
      simp
    have heq : FloatOps.cmpf (F := Ideal) (φ := .f32) .oeq u v = BitVec.ofBool (decide (u = v)) := rfl
    have hlt : IntOp.cmpi .slt m n = BitVec.ofBool (decide (m.toInt < n.toInt)) := rfl
    have hor : ∀ a b : Bool, IntOp.ori (BitVec.ofBool a) (BitVec.ofBool b) = BitVec.ofBool (a || b) := by decide
    have hand : ∀ a b : Bool, IntOp.andi (BitVec.ofBool a) (BitVec.ofBool b) = BitVec.ofBool (a && b) := by decide
    have hz : ∀ a : Bool, IntOp.ori (BitVec.ofBool a) 0#1 = BitVec.ofBool a := by decide
    unfold Cert.ReferenceIdeal.reducer_argmax_f32_i32
    simp only [hgt, hne, heq, hlt, hz, hand, hor, select_ofBool, ← Bool.decide_and, ← Bool.decide_or]
  rw [hr]
  rcases lt_trichotomy u v with h | rfl | h
  · rw [if_neg (not_lt.mpr h.le), if_neg (by rintro (h' | ⟨h', -⟩); exacts [absurd h (not_lt.mpr h'.le), absurd h (h' ▸ lt_irrefl _)])]
    exact ⟨.inr rfl, .inl h, .refl _⟩
  · rw [if_neg (lt_irrefl _)]
    by_cases hm : m.toInt < n.toInt
    · rw [if_pos (.inr ⟨rfl, hm⟩)]
      exact ⟨.inl rfl, .refl _, .inr ⟨rfl, hm.le⟩⟩
    · rw [if_neg (by rintro (h | ⟨-, h⟩); exacts [lt_irrefl _ h, hm h])]
      exact ⟨.inr rfl, .inr ⟨rfl, not_lt.mp hm⟩, .refl _⟩
  · rw [if_pos h, if_pos (.inl h)]
    exact ⟨.inl rfl, .refl _, .inl h⟩

/-- So does a fold of it over a list. -/
theorem foldl_beats (l : List (EReal × BitVec 32)) (a : EReal × BitVec 32) :
    (l.foldl (Cert.ReferenceIdeal.reducer_argmax_f32_i32 (F := Ideal)) a = a
        ∨ l.foldl (Cert.ReferenceIdeal.reducer_argmax_f32_i32 (F := Ideal)) a ∈ l)
      ∧ Beats (l.foldl (Cert.ReferenceIdeal.reducer_argmax_f32_i32 (F := Ideal)) a) a
      ∧ ∀ e ∈ l, Beats (l.foldl (Cert.ReferenceIdeal.reducer_argmax_f32_i32 (F := Ideal)) a) e := by
  induction l generalizing a with
  | nil => exact ⟨.inl rfl, .refl _, fun e he => absurd he List.not_mem_nil⟩
  | cons c l ih =>
    obtain ⟨h1, h2, h3⟩ := reducer_beats a c
    obtain ⟨i1, i2, i3⟩ := ih (Cert.ReferenceIdeal.reducer_argmax_f32_i32 (F := Ideal) a c)
    rw [List.foldl_cons]
    refine ⟨?_, i2.trans h2, fun e he => ?_⟩
    · rcases i1 with i1 | i1
      · rcases h1 with h1 | h1
        · exact .inl (i1.trans h1)
        · exact .inr (List.mem_cons.mpr (.inl (i1.trans h1)))
      · exact .inr (List.mem_cons_of_mem _ i1)
    · rcases List.mem_cons.mp he with rfl | he
      · exact i2.trans h3
      · exact i3 e he

open Cert.ReferenceIdeal Cert.ReferenceIdeal.Facts₀ Cert.ReferenceIdeal.Facts in
/-- The reference's choice in a row of distances is the first largest. -/
theorem argmax_apply (x : FVec Ideal S8x32768 .f32) (b : Fin 8) (p : Fin 32768) (hx : ∀ q, 0 ≤ x (ix2 b q))
    (hp : FirstMax (fun q => x (ix2 b q)) p) :
    (Host.argReduce reducer_argmax_f32_i32 x (iotaInDim S8x32768 32 1) (constant S_ .f32 0xFF800000#32)
      (constantI S_ 32 0#32) reducesTo_S8x32768_S8_d1 h_S_ (ix1 b)).2 = BitVec.ofNat 32 p.val := by
  rw [Ideal.argReduce_eq_reduce2, Host.reduce2_eq_foldl_fiber]
  have hmem : ∀ e, e ∈ Host.argReduceFiber x (iotaInDim S8x32768 32 1) reducesTo_S8x32768_S8_d1 (ix1 b)
      ↔ ∃ q : Fin 32768, e = (x (ix2 b q), BitVec.ofNat 32 q.val) := fun e => by
    unfold Host.argReduceFiber
    rw [List.mem_map]
    constructor
    · rintro ⟨n, hn, rfl⟩
      have hd := of_decide_eq_true (List.mem_filter.mp hn).2
      obtain ⟨i, rfl⟩ : ∃ i, n = S8x32768.rowMajor i := ⟨S8x32768.rowMajor.symm n, (Equiv.apply_symm_apply _ _).symm⟩
      rw [Equiv.symm_apply_apply] at hd ⊢
      have hi : i = ix2 b (i 1) := by
        funext a
        match a with
        | ⟨0, _⟩ => exact congrFun hd 0
        | ⟨1, _⟩ => rfl
      refine ⟨i 1, ?_⟩
      rw [hi]
      rfl
    · rintro ⟨q, rfl⟩
      refine ⟨S8x32768.rowMajor (ix2 b q), List.mem_filter.mpr ⟨List.mem_finRange _, decide_eq_true ?_⟩, ?_⟩
      · rw [Equiv.symm_apply_apply]
        funext a
        match a with
        | ⟨0, _⟩ => rfl
      · rw [Equiv.symm_apply_apply]
        rfl
  obtain ⟨h1, -, h3⟩ := foldl_beats (Host.argReduceFiber x (iotaInDim S8x32768 32 1) reducesTo_S8x32768_S8_d1 (ix1 b))
    (constant (F := Ideal) S_ .f32 0xFF800000#32 (Shape.Idx.first h_S_), constantI S_ 32 0#32 (Shape.Idx.first h_S_))
  have hbot : (constant (F := Ideal) S_ .f32 0xFF800000#32 (Shape.Idx.first h_S_)) = (⊥ : EReal) := by
    show Ideal.ofBits .f32 0xFF800000#32 = ⊥
    simp [Ideal.ofBits, Ideal.ieee]
  generalize List.foldl _ _ _ = r at h1 h3 ⊢
  have hp' := h3 _ ((hmem _).mpr ⟨p, rfl⟩)
  rcases h1 with h1 | h1
  · exfalso
    have hr : r.1 = ⊥ := by rw [h1]; exact hbot
    rcases hp' with h | ⟨h, -⟩
    · rw [hr] at h; exact not_lt_bot h
    · rw [hr] at h
      have h0 := hx p
      rw [show x (ix2 b p) = ⊥ from h] at h0
      exact absurd h0 (by simp)
  · obtain ⟨q, rfl⟩ := (hmem r).mp h1
    refine congrArg (fun q : Fin 32768 => BitVec.ofNat 32 q.val) (FirstMax.unique ?_ hp)
    have hq : ∀ s : Fin 32768, x (ix2 b s) < x (ix2 b q) ∨ (x (ix2 b s) = x (ix2 b q) ∧ q ≤ s) := fun s => by
      rcases h3 _ ((hmem _).mpr ⟨s, rfl⟩) with h | ⟨h, h'⟩
      · exact .inl h
      · refine .inr ⟨h, ?_⟩
        change (BitVec.ofNat 32 q.val).toInt ≤ (BitVec.ofNat 32 s.val).toInt at h'
        rw [toInt_ofNat (by omega), toInt_ofNat (by omega)] at h'
        exact Fin.le_def.mpr (by omega)
    refine ⟨fun s => ?_, fun s hs => ?_⟩
    · rcases hq s with h | ⟨h, -⟩
      exacts [h.le, h.le]
    · rcases hq s with h | ⟨-, h⟩
      exacts [h, absurd hs (not_lt.mpr h)]

end Cert.Fps
-- ==== Proof.Spec.lean ====
/-
  Farthest point sampling in one batch of points, as a walk over the extended reals.
-/
module

public import proofs.«01_k».proof.Proof.Farthest
public import Idealize.ShloMosaic.Lib.ValueIdx

@[expose] public section

noncomputable section

namespace Cert.Fps

open Idealize.ShloMosaic
open Idealize.ShloMosaic.ValueIdx

/-- One batch of the points. -/
abbrev rowOf (x : FVec Ideal ⟨3, ![8, 32768, 3]⟩ .f32) (b : Fin 8) : Fin 32768 → Fin 3 → EReal := fun q i => x (ix3 b q i)

/-- The distance every point starts with. -/
def start : EReal := Ideal.ofBits .f32 0x501502F9#32

/-- It is not negative. -/
theorem start_nonneg : 0 ≤ start := by
  unfold start
  simp [Ideal.ofBits, Ideal.ieee, -EReal.coe_mul]

/-- The squared distance of point `q` from point `p`, its first and last coordinates summed first. -/
def apart (R : Fin 32768 → Fin 3 → EReal) (p q : Fin 32768) : EReal :=
  (R q 0 - R p 0) * (R q 0 - R p 0) + (R q 2 - R p 2) * (R q 2 - R p 2) + (R q 1 - R p 1) * (R q 1 - R p 1)

/-- It is not negative. -/
theorem apart_nonneg (R : Fin 32768 → Fin 3 → EReal) (p q : Fin 32768) : 0 ≤ apart R p q :=
  add_nonneg (add_nonneg (sq_nonneg _) (sq_nonneg _)) (sq_nonneg _)

/-- The distances and the current point after `t` steps of the walk that starts at point `p`. -/
def walk (R : Fin 32768 → Fin 3 → EReal) (p : Fin 32768) : ℕ → (Fin 32768 → EReal) × Fin 32768
  | 0 => (fun _ => start, p)
  | t + 1 =>
    (fun q => min ((walk R p t).1 q) (apart R (walk R p t).2 q),
      first (by decide) fun q => min ((walk R p t).1 q) (apart R (walk R p t).2 q))

/-- The walk's distances are not negative. -/
theorem walk_nonneg (R : Fin 32768 → Fin 3 → EReal) (p : Fin 32768) (t : ℕ) (q : Fin 32768) : 0 ≤ (walk R p t).1 q := by
  induction t with
  | zero => exact start_nonneg
  | succ t ih => exact le_min ih (apart_nonneg _ _ _)

/-- Each step moves to the first farthest point. -/
theorem walk_first (R : Fin 32768 → Fin 3 → EReal) (p : Fin 32768) (t : ℕ) :
    FirstMax (walk R p (t + 1)).1 (walk R p (t + 1)).2 :=
  first_spec (by decide) _

end Cert.Fps
-- ==== Proof.Sweep.lean ====
/-
  What one sweep and one choice compute over the extended reals.

  After the sweep every distance is lowered, and each lane keeps the first chunk in which its own distance is
  largest. The choice across the lanes is then the first farthest point of the row.
-/
module

public import proofs.«01_k».proof.Proof.Farthest
public import proofs.«01_k».proof.Proof.Triples
public import Idealize.ShloMosaic.Lib.Pipeline.Value
public import Idealize.ShloMosaic.Lib.ValueLayoutCasts

@[expose] public section

noncomputable section

namespace Cert.KernelIdeal.Fps

open Idealize.ShloMosaic Idealize.SL.Sem
open Idealize.ShloMosaic.ValueIdx
open Cert.KernelIdeal Cert.KernelIdeal.Facts₀ Cert.KernelIdeal.Facts
open Cert.Fps

variable (c0 c1 c2 : FVec Ideal S8x1 .f32) (X0 X1 X2 D : FVec Ideal S8x32768 .f32)

/-- The point that lane `l` meets in chunk `k`. -/
def place (k : Fin 128) (l : Fin 256) : Fin 32768 := ⟨256 * k.val + l.val, by omega⟩

/-- A row's distance at a point after the current point has been taken into account. -/
def lowered (b : Fin 8) (q : Fin 32768) : EReal :=
  min (D (ix2 b q)) ((X0 (ix2 b q) - c0 (ix2 b 0)) * (X0 (ix2 b q) - c0 (ix2 b 0))
    + (X2 (ix2 b q) - c2 (ix2 b 0)) * (X2 (ix2 b q) - c2 (ix2 b 0))
    + (X1 (ix2 b q) - c1 (ix2 b 0)) * (X1 (ix2 b q) - c1 (ix2 b 0)))

/-- The lowered distances are not negative. -/
theorem lowered_nonneg (h : ∀ b q, 0 ≤ D (ix2 b q)) (b : Fin 8) (q : Fin 32768) : 0 ≤ lowered c0 c1 c2 X0 X1 X2 D b q :=
  le_min (h b q) (add_nonneg (add_nonneg (sq_nonneg _) (sq_nonneg _)) (sq_nonneg _))

/-- Where a chunk's lane lies. -/
theorem chunk_emb (k : Fin 128) (b : Fin 8) (l : Fin 256) :
    (chunkRect k).emb (ix2 b l : S8x256.Idx) = (ix2 b (place k l) : S8x32768.Idx) := by
  funext a
  apply Fin.ext
  refine (ValueKit.rect_emb_unit_val _ _ _ _ a).trans ?_
  match a with
  | ⟨0, _⟩ => show 0 + b.val = b.val; omega
  | ⟨1, _⟩ => rfl

/-- A chunk of a row, read at an index. -/
theorem chunkOf_apply (k : Fin 128) (X : FVec Ideal S8x32768 .f32) (b : Fin 8) (l : Fin 256) :
    chunkOf k X (ix2 b l) = X (ix2 b (place k l)) := congrArg X (chunk_emb k b l)

/-- A column repeated along the lanes. -/
theorem column_apply {α : Type} (x : S8x1.Idx → α) (b : Fin 8) (l : Fin 256) :
    broadcastTo S8x256 x broadcasts_S8x1_S8x256 (ix2 b l) = x (ix2 b 0) :=
  broadcastTo_apply x _ _ _ fun a => match a with
    | ⟨0, _⟩ => rfl
    | ⟨1, _⟩ => rfl

/-- A chunk's new distances are the lowered ones. -/
theorem chunkDist_apply (k : Fin 128) (b : Fin 8) (l : Fin 256) :
    chunkDist c0 c1 c2 X0 X1 X2 k D (ix2 b l) = lowered c0 c1 c2 X0 X1 X2 D b (place k l) := by
  unfold chunkDist newdist sqdist same lowered
  simp only [shapeCast_self, minimumf_apply, addf_apply, mulf_apply, subf_apply, column_apply, chunkOf_apply]

/-- What a lane keeps of the chunks below `k`: the first chunk with the largest distance. -/
structure LaneInv (g x0 x1 x2 : Fin 128 → EReal) (k : ℕ) (m : EReal) (n : BitVec 32) (e0 e1 e2 : EReal) : Prop where
  none : k = 0 → m = -1
  some : k ≠ 0 → ∃ q : Fin 128, q.val < k ∧ m = g q ∧ n = BitVec.ofNat 32 q.val ∧ e0 = x0 q ∧ e1 = x1 q ∧ e2 = x2 q
    ∧ (∀ r : Fin 128, r.val < k → g r ≤ g q) ∧ ∀ r : Fin 128, r < q → g r < g q

/-- One more chunk. -/
theorem LaneInv.step {g x0 x1 x2 : Fin 128 → EReal} {k : Fin 128} {m : EReal} {n : BitVec 32} {e0 e1 e2 : EReal}
    (h : LaneInv g x0 x1 x2 k.val m n e0 e1 e2) (hg : -1 < g k) :
    LaneInv g x0 x1 x2 (k.val + 1) (if m < g k then g k else m) (if m < g k then BitVec.ofNat 32 k.val else n)
      (if m < g k then x0 k else e0) (if m < g k then x1 k else e1) (if m < g k then x2 k else e2) := by
  refine ⟨fun h0 => absurd h0 (Nat.succ_ne_zero _), fun _ => ?_⟩
  by_cases hk : k.val = 0
  · have hm := h.none hk
    subst hm
    simp only [if_pos hg]
    refine ⟨k, Nat.lt_succ_self _, rfl, rfl, rfl, rfl, rfl, fun r hr => ?_, fun r hr => ?_⟩
    · have : r = k := Fin.ext (by omega)
      rw [this]
    · have := Fin.lt_def.mp hr; omega
  · obtain ⟨q, hq, hm, hn, h0, h1, h2, hle, hlt⟩ := h.some hk
    by_cases hc : m < g k
    · simp only [if_pos hc]
      refine ⟨k, Nat.lt_succ_self _, rfl, rfl, rfl, rfl, rfl, fun r hr => ?_, fun r hr => ?_⟩
      · by_cases hrk : r.val < k.val
        · exact ((hle r hrk).trans (le_of_eq hm.symm)).trans hc.le
        · have : r = k := Fin.ext (by omega)
          rw [this]
      · exact lt_of_le_of_lt ((hle r (Fin.lt_def.mp hr)).trans (le_of_eq hm.symm)) hc
    · simp only [if_neg hc]
      refine ⟨q, by omega, hm, hn, h0, h1, h2, fun r hr => ?_, hlt⟩
      by_cases hrk : r.val < k.val
      · exact hle r hrk
      · have : r = k := Fin.ext (by omega)
        rw [this, ← hm]; exact not_lt.mp hc

/-- What holds after the chunks below `k`. -/
structure SweepInv (k : ℕ) (p : FVec Ideal S8x32768 .f32 × Lanes Ideal) : Prop where
  done : ∀ (b : Fin 8) (q : Fin 32768), q.val < 256 * k → p.1 (ix2 b q) = lowered c0 c1 c2 X0 X1 X2 D b q
  rest : ∀ (b : Fin 8) (q : Fin 32768), 256 * k ≤ q.val → p.1 (ix2 b q) = D (ix2 b q)
  lane : ∀ (b : Fin 8) (l : Fin 256), LaneInv (fun k => lowered c0 c1 c2 X0 X1 X2 D b (place k l))
    (fun k => X0 (ix2 b (place k l))) (fun k => X1 (ix2 b (place k l))) (fun k => X2 (ix2 b (place k l))) k
    (p.2.m (ix2 b l)) (p.2.k (ix2 b l)) (p.2.e0 (ix2 b l)) (p.2.e1 (ix2 b l)) (p.2.e2 (ix2 b l))

/-- The invariant holds before the first chunk. -/
theorem sweepInv_zero : SweepInv c0 c1 c2 X0 X1 X2 D 0 (D, lanes0) where
  done b q h := absurd h (by omega)
  rest b q _ := rfl
  lane b l := ⟨fun _ => IdealRules.sign_bit.ideal_negOnePat .f32, fun h => absurd rfl h⟩

/-- The places of chunk `k` and no others lie in its rectangle. -/
theorem mem_chunk (k : Fin 128) (b : Fin 8) (q : Fin 32768) :
    (ix2 b q : S8x32768.Idx) ∈ (chunkRect k).set ↔ 256 * k.val ≤ q.val ∧ q.val < 256 * k.val + 256 := by
  rw [Rect.mem_set_unit]
  constructor
  · intro h; exact h 1
  · intro h a
    match a with
    | ⟨0, _⟩ => exact ⟨Nat.zero_le _, by show b.val < 0 + 8; omega⟩
    | ⟨1, _⟩ => exact h

/-- What a store of chunk `k` puts at the chunk's places. -/
theorem overlay_chunk (k : Fin 128) (X : FVec Ideal S8x32768 .f32) (d : FVec Ideal S8x256 .f32) (b : Fin 8) (l : Fin 256) :
    (chunkRect k).overlay X (same d) (ix2 b (place k l)) = d (ix2 b l) := by
  have e := Rect.overlay_emb (chunkRect k) X (same d) (ix2 b l : S8x256.Idx)
  rw [chunk_emb] at e
  exact e.trans (congrFun (shapeCast_self d _) _)

/-- What it leaves elsewhere. -/
theorem overlay_chunk_out (k : Fin 128) (X : FVec Ideal S8x32768 .f32) (d : FVec Ideal S8x256 .f32) (b : Fin 8) (q : Fin 32768)
    (h : ¬(256 * k.val ≤ q.val ∧ q.val < 256 * k.val + 256)) :
    (chunkRect k).overlay X (same d) (ix2 b q) = X (ix2 b q) :=
  Rect.overlay_of_not_mem _ _ _ (fun hm => h ((mem_chunk k b q).mp hm))

set_option maxHeartbeats 1000000 in
/-- One chunk carries the invariant on. -/
theorem SweepInv.step (hD : ∀ b q, 0 ≤ D (ix2 b q)) (k : Fin 128) {p : FVec Ideal S8x32768 .f32 × Lanes Ideal}
    (h : SweepInv c0 c1 c2 X0 X1 X2 D k.val p) :
    SweepInv c0 c1 c2 X0 X1 X2 D (k.val + 1) (chunkFn c0 c1 c2 X0 X1 X2 k p) := by
  have hnew : ∀ (b : Fin 8) (l : Fin 256), chunkDist c0 c1 c2 X0 X1 X2 k p.1 (ix2 b l)
      = lowered c0 c1 c2 X0 X1 X2 D b (place k l) := fun b l => by
    rw [chunkDist_apply]
    unfold lowered
    rw [h.rest b (place k l) (by show 256 * k.val ≤ 256 * k.val + l.val; omega)]
  refine ⟨fun b q hq => ?_, fun b q hq => ?_, fun b l => ?_⟩
  · by_cases hin : 256 * k.val ≤ q.val
    · obtain ⟨l, rfl⟩ : ∃ l : Fin 256, q = place k l := ⟨⟨q.val - 256 * k.val, by omega⟩, Fin.ext (by
        show q.val = 256 * k.val + (q.val - 256 * k.val); omega)⟩
      exact (overlay_chunk k p.1 _ b l).trans (hnew b l)
    · exact (overlay_chunk_out k p.1 _ b q (by omega)).trans (h.done b q (by omega))
  · exact (overlay_chunk_out k p.1 _ b q (by omega)).trans (h.rest b q (by omega))
  · have hs := (h.lane b l).step (neg_one_lt_of_nonneg (lowered_nonneg c0 c1 c2 X0 X1 X2 D hD b (place k l)))
    have hc : ∀ (α : Type) (x y : α), Scalar.select (cmpf .ogt (chunkDist c0 c1 c2 X0 X1 X2 k p.1) p.2.m (ix2 b l)) x y
        = if p.2.m (ix2 b l) < lowered c0 c1 c2 X0 X1 X2 D b (place k l) then x else y := fun α x y => by
      rw [cmpf_apply, hnew]
      exact select_ofBool _ x y
    show LaneInv _ _ _ _ _ (Scalar.select _ _ _) (Scalar.select _ _ _) (Scalar.select _ _ _) (Scalar.select _ _ _) (Scalar.select _ _ _)
    simp only [hc, same, shapeCast_self, hnew, chunkOf_apply, broadcast_apply]
    exact hs

/-- The chunks that remain carry the invariant on. -/
theorem sweepInv_from (hD : ∀ b q, 0 ≤ D (ix2 b q)) : ∀ (n k : ℕ) (h : k + n ≤ 128) (p : FVec Ideal S8x32768 .f32 × Lanes Ideal),
    SweepInv c0 c1 c2 X0 X1 X2 D k p → ∀ j, j = k + n → SweepInv c0 c1 c2 X0 X1 X2 D j (sweepFn c0 c1 c2 X0 X1 X2 n k h p)
  | 0, _, _, _, hp, _, hj => hj ▸ hp
  | n + 1, k, h, p, hp, j, hj => sweepInv_from hD n (k + 1) (by omega) _
      (SweepInv.step c0 c1 c2 X0 X1 X2 D hD ⟨k, by omega⟩ hp) j (by omega)

/-- After the whole sweep. -/
theorem sweep_all (hD : ∀ b q, 0 ≤ D (ix2 b q)) :
    SweepInv c0 c1 c2 X0 X1 X2 D 128 (sweepFn c0 c1 c2 X0 X1 X2 128 0 (by omega) (D, lanes0)) :=
  sweepInv_from c0 c1 c2 X0 X1 X2 D hD 128 0 (by omega) _ (sweepInv_zero c0 c1 c2 X0 X1 X2 D) 128 rfl

end Cert.KernelIdeal.Fps
-- ==== Proof.Choice.lean ====
/-
  One trip over the extended reals: the distances are lowered, and the next point is the first farthest one.
-/
module

public import proofs.«01_k».proof.Proof.Sweep

@[expose] public section

noncomputable section

namespace Cert.KernelIdeal.Fps

open Idealize.ShloMosaic Idealize.SL.Sem
open Idealize.ShloMosaic.ValueIdx
open Cert.KernelIdeal Cert.KernelIdeal.Facts₀ Cert.KernelIdeal.Facts
open Cert.Fps

/-- A small word read signed. -/
theorem toInt_small {a : ℕ} (h : a < 2 ^ 31) : (BitVec.ofNat 32 a).toInt = a := by
  rw [BitVec.toInt_eq_toNat_of_lt (by rw [BitVec.toNat_ofNat, Nat.mod_eq_of_lt (by omega)]; omega), BitVec.toNat_ofNat,
    Nat.mod_eq_of_lt (by omega)]

/-- The lesser of two small words is the word of the lesser number. -/
theorem minsi_small {a b : ℕ} (ha : a < 2 ^ 31) (hb : b < 2 ^ 31) :
    IntOp.minsi (BitVec.ofNat 32 a) (BitVec.ofNat 32 b) = BitVec.ofNat 32 (min a b) := by
  unfold IntOp.minsi
  rw [BitVec.slt, toInt_small ha, toInt_small hb]
  by_cases h : a < b
  · rw [if_pos (decide_eq_true (by exact_mod_cast h)), min_eq_left h.le]
  · rw [if_neg (by simpa using h), min_eq_right (not_lt.mp h)]

/-- The least of many small words is the word of the least number. -/
theorem fold_minsi {ι : Type} [DecidableEq ι] [Std.Commutative (IntOp.minsi (w := 32))] [Std.Associative (IntOp.minsi (w := 32))]
    (S : Finset ι) (f : ι → ℕ) (a : ℕ) (ha : a < 2 ^ 31) (hf : ∀ i, f i < 2 ^ 31) :
    S.fold (IntOp.minsi (w := 32)) (BitVec.ofNat 32 a) (fun i => BitVec.ofNat 32 (f i)) = BitVec.ofNat 32 (S.fold min a f)
      ∧ S.fold min a f < 2 ^ 31 := by
  induction S using Finset.induction_on with
  | empty => exact ⟨rfl, ha⟩
  | insert i S hi ih =>
    rw [Finset.fold_insert hi, Finset.fold_insert hi, ih.1]
    exact ⟨minsi_small (hf i) ih.2, lt_of_le_of_lt (min_le_left _ _) (hf i)⟩

/-- Row `b` with lane `l` put back. -/
theorem lift_row (b : Fin 8) (l : Fin 256) : reduces_S8x256_S8.lift (ix1 b) l = (ix2 b l : S8x256.Idx) := by
  funext a
  apply Fin.ext
  match a with
  | ⟨0, _⟩ => rfl
  | ⟨1, _⟩ => rfl

/-- The lane of a point. -/
def laneOf (p : Fin 32768) : Fin 256 := ⟨p.val % 256, Nat.mod_lt _ (by omega)⟩

/-- The chunk of a point. -/
def chunkNo (p : Fin 32768) : Fin 128 := ⟨p.val / 256, by omega⟩

/-- A place is made of its chunk and its lane. -/
theorem place_split (p : Fin 32768) : place (chunkNo p) (laneOf p) = p := Fin.ext (Nat.div_add_mod _ _)

section Row

variable {s : Lanes Ideal} {b : Fin 8} {N x0 x1 x2 : Fin 32768 → EReal} {p : Fin 32768}

/-- What the lanes of a row hold after a sweep. -/
abbrev RowInv (s : Lanes Ideal) (b : Fin 8) (N x0 x1 x2 : Fin 32768 → EReal) : Prop :=
  ∀ l : Fin 256, LaneInv (fun k => N (place k l)) (fun k => x0 (place k l)) (fun k => x1 (place k l)) (fun k => x2 (place k l)) 128
    (s.m (ix2 b l)) (s.k (ix2 b l)) (s.e0 (ix2 b l)) (s.e1 (ix2 b l)) (s.e2 (ix2 b l))

/-- No lane is above the farthest point. -/
theorem lane_le (h : RowInv s b N x0 x1 x2) (hp : FirstMax N p) (l : Fin 256) : s.m (ix2 b l) ≤ N p := by
  obtain ⟨q, -, hm, -⟩ := (h l).some (by decide)
  rw [hm]; exact hp.le _

/-- The farthest point's lane holds it. -/
theorem lane_at (h : RowInv s b N x0 x1 x2) (hp : FirstMax N p) :
    s.m (ix2 b (laneOf p)) = N p ∧ s.k (ix2 b (laneOf p)) = BitVec.ofNat 32 (chunkNo p).val
      ∧ s.e0 (ix2 b (laneOf p)) = x0 p ∧ s.e1 (ix2 b (laneOf p)) = x1 p ∧ s.e2 (ix2 b (laneOf p)) = x2 p := by
  obtain ⟨q, -, hm, hk, h0, h1, h2, hle, hlt⟩ := (h (laneOf p)).some (by decide)
  have hq : q = chunkNo p := by
    have hup : N p ≤ N (place q (laneOf p)) := by
      have := hle (chunkNo p) (chunkNo p).isLt
      rwa [place_split] at this
    have hge : ¬ place q (laneOf p) < p := fun hlt' => absurd (hp.lt _ hlt') (not_lt.mpr hup)
    have hge' : p.val ≤ 256 * q.val + p.val % 256 := not_lt.mp hge
    rcases lt_trichotomy (chunkNo p) q with hc | hc | hc
    · have := hlt (chunkNo p) hc
      rw [place_split] at this
      exact absurd (hp.le (place q (laneOf p))) (not_le.mpr this)
    · exact hc.symm
    · have hc' : q.val < p.val / 256 := hc
      omega
  subst hq
  rw [place_split] at hm h0 h1 h2
  exact ⟨hm, hk, h0, h1, h2⟩

/-- A lane as far as the farthest point holds a point that is not before it. -/
theorem lane_eq (h : RowInv s b N x0 x1 x2) (hp : FirstMax N p) (l : Fin 256) (hl : s.m (ix2 b l) = N p) :
    ∃ q : Fin 128, s.k (ix2 b l) = BitVec.ofNat 32 q.val ∧ p.val ≤ 256 * q.val + l.val := by
  obtain ⟨q, -, hm, hk, -⟩ := (h l).some (by decide)
  refine ⟨q, hk, ?_⟩
  by_contra hlt
  have : N (place q l) < N p := hp.lt _ (by rw [Fin.lt_def]; show 256 * q.val + l.val < p.val; omega)
  exact absurd (hm.symm.trans hl) this.ne

/-- The row's largest lane. -/
theorem row_max (h : RowInv s b N x0 x1 x2) (hp : FirstMax N p) :
    multiReduction .maximumf [1] S8 s.m 0xFF800000#32 reduces_S8x256_S8 (.inl rfl) rfl (ix1 b) = N p := by
  refine (Ideal.multiReduction_maximumf_single s.m _ reduces_S8x256_S8 (.inl rfl) rfl (ix1 b)).trans ?_
  have hb : (FloatOps.ofBits .f32 0xFF800000#32 : Ideal .f32) = ⊥ := by
    show Ideal.ofBits .f32 0xFF800000#32 = ⊥
    simp [Ideal.ofBits, Ideal.ieee]
  apply le_antisymm
  · rw [Finset.fold_max_le]
    refine ⟨hb ▸ bot_le, fun l _ => ?_⟩
    show s.m (reduces_S8x256_S8.lift (ix1 b) l) ≤ N p
    rw [lift_row b l]
    exact lane_le h hp l
  · rw [Finset.le_fold_max]
    right
    refine ⟨laneOf p, Finset.mem_univ _, ?_⟩
    show N p ≤ s.m (reduces_S8x256_S8.lift (ix1 b) (laneOf p))
    rw [lift_row b (laneOf p)]
    exact (lane_at h hp).1.ge

/-- The candidates of the choice: per lane its point's number, or a number above all where the lane is not as far. -/
def cand (s : Lanes Ideal) : IVec S8x256 32 :=
  select (cmpf .oeq s.m (broadcastTo S8x256 (shapeCast S8x1 (multiReduction .maximumf [1] S8 s.m 0xFF800000#32 reduces_S8x256_S8
      (.inl rfl) rfl) shapeCasts_S8_S8x1) broadcasts_S8x1_S8x256))
    (addi (muli s.k (broadcast S8x256 256#32)) laneNo) (broadcast S8x256 32768#32)

/-- The candidates are small numbers, none below `p`, and only the lane of `p` has `p` itself. -/
theorem cand_spec (h : RowInv s b N x0 x1 x2) (hp : FirstMax N p) :
    ∃ f : Fin 256 → ℕ, (∀ l, cand s (ix2 b l) = BitVec.ofNat 32 (f l)) ∧ (∀ l, f l < 2 ^ 31) ∧ (∀ l, p.val ≤ f l)
      ∧ ∀ l, f l = p.val ↔ l = laneOf p := by
  have hc : ∀ l : Fin 256, cand s (ix2 b l)
      = if s.m (ix2 b l) = N p then s.k (ix2 b l) * 256#32 + BitVec.ofNat 32 l.val else 32768#32 := fun l => by
    have hcmp : cmpf .oeq s.m (broadcastTo S8x256 (shapeCast S8x1 (multiReduction .maximumf [1] S8 s.m 0xFF800000#32 reduces_S8x256_S8
      (.inl rfl) rfl) shapeCasts_S8_S8x1) broadcasts_S8x1_S8x256) (ix2 b l) = BitVec.ofBool (decide (s.m (ix2 b l) = N p)) := by
      rw [cmpf_apply, column_apply, shapeCast_a_a1_apply, row_max h hp]
      rfl
    unfold cand
    rw [select_apply, hcmp, select_ofBool]
    have hl : laneNo (ix2 b l) = BitVec.ofNat 32 l.val := iota_single_apply _ _ _ _ _ _
    show (if _ then s.k (ix2 b l) * 256#32 + laneNo (ix2 b l) else 32768#32) = _
    rw [hl]
  have hpt : ∀ l, ∃ n : ℕ, cand s (ix2 b l) = BitVec.ofNat 32 n ∧ n < 2 ^ 31 ∧ p.val ≤ n ∧ (n = p.val ↔ l = laneOf p) := fun l => by
    rw [hc]
    by_cases hm : s.m (ix2 b l) = N p
    · obtain ⟨q, hq, hle⟩ := lane_eq h hp l hm
      refine ⟨256 * q.val + l.val, ?_, by omega, hle, fun e => Fin.ext ?_, fun e => ?_⟩
      · rw [if_pos hm, hq]
        apply BitVec.eq_of_toNat_eq
        simp only [BitVec.toNat_add, BitVec.toNat_mul, BitVec.toNat_ofNat]
        omega
      · show l.val = p.val % 256
        omega
      · subst e
        obtain ⟨-, hk, -⟩ := lane_at h hp
        have hkq : BitVec.ofNat 32 q.val = BitVec.ofNat 32 (chunkNo p).val := hq.symm.trans hk
        have hkn := congrArg BitVec.toNat hkq
        simp only [BitVec.toNat_ofNat] at hkn
        have h1 : (chunkNo p).val = p.val / 256 := rfl
        have h2 : (laneOf p).val = p.val % 256 := rfl
        omega
    · refine ⟨32768, ?_, by omega, by omega, fun e => absurd e (by omega), fun e => ?_⟩
      · rw [if_neg hm]
      · subst e
        exact absurd (lane_at h hp).1 hm
  choose f h1 h2 h3 h4 using hpt
  exact ⟨f, h1, h2, h3, h4⟩

/-- The choice marks the farthest point's lane and no other. -/
theorem pick_apply (h : RowInv s b N x0 x1 x2) (hp : FirstMax N p) (l : Fin 256) :
    pick s (ix2 b l) = BitVec.ofBool (decide (l = laneOf p)) := by
  obtain ⟨f, hf, hlt, hle, heq⟩ := cand_spec h hp
  have hmin : multiReductionI .minsi [1] S8 (cand s) 2147483647#32 reduces_S8x256_S8 rfl (ix1 b) = BitVec.ofNat 32 p.val := by
    refine (multiReductionI_eq_fold .minsi (cand s) _ reduces_S8x256_S8 rfl (ix1 b)).trans ?_
    refine (reduces_S8x256_S8.fold_filter_drop_single (IntOp.minsi (w := 32)) _ (cand s) (ix1 b)).trans ?_
    have hfun : (cand s ∘ reduces_S8x256_S8.lift (ix1 b)) = fun l : Fin 256 => BitVec.ofNat 32 (f l) := funext fun l => by
      exact (congrArg (cand s) (lift_row b l)).trans (hf l)
    rw [hfun]
    refine ((fold_minsi Finset.univ f 2147483647 (by decide) hlt).1).trans (congrArg _ (le_antisymm ?_ ?_))
    · rw [Finset.fold_min_le]
      exact .inr ⟨laneOf p, Finset.mem_univ _, ((heq (laneOf p)).mpr rfl).le⟩
    · rw [Finset.le_fold_min]
      exact ⟨by omega, fun l _ => hle l⟩
  show IntOp.cmpi .eq (cand s (ix2 b l)) (broadcastTo S8x256 (shapeCast S8x1 (multiReductionI .minsi [1] S8 (cand s) 2147483647#32
    reduces_S8x256_S8 rfl) shapeCasts_S8_S8x1) broadcasts_S8x1_S8x256 (ix2 b l)) = _
  rw [column_apply, shapeCast_a_a1_apply, hmin, hf]
  have : (BitVec.ofNat 32 (f l) = BitVec.ofNat 32 p.val) ↔ l = laneOf p := by
    rw [← heq l]
    constructor
    · intro e
      have e := congrArg BitVec.toNat e
      simp only [BitVec.toNat_ofNat] at e
      have := hlt l
      omega
    · intro e; rw [e]
  show BitVec.ofBool (BitVec.ofNat 32 (f l) == BitVec.ofNat 32 p.val) = _
  congr 1
  rw [Bool.eq_iff_iff, beq_iff_eq, decide_eq_true_iff]
  exact this

/-- The picked entry of a lane vector is the marked lane's. -/
theorem picked_apply (h : RowInv s b N x0 x1 x2) (hp : FirstMax N p) (e : FVec Ideal S8x256 .f32) :
    picked (pick s) e (ix2 b 0) = e (ix2 b (laneOf p)) := by
  unfold picked
  rw [shapeCast_a_a1_apply]
  refine (Ideal.multiReduction_add_single _ _ reduces_S8x256_S8 (.inl rfl) rfl (ix1 b)).trans ?_
  have ht : ∀ l : Fin 256, select (pick s) e (broadcast S8x256 (Scalar.ofBits .f32 0x00000000#32))
      (reduces_S8x256_S8.lift (ix1 b) l) = if l = laneOf p then e (ix2 b l) else 0 := fun l => by
    rw [lift_row b l, select_apply, pick_apply h hp, select_ofBool, broadcast_apply]
    congr 1
    exact Ideal.ofBits_zero_f32
  refine (Finset.sum_congr rfl fun l _ => ht l).trans ?_
  exact (Finset.sum_ite_eq' Finset.univ (laneOf p) fun l => e (ix2 b l)).trans (if_pos (Finset.mem_univ _))

end Row

/-- One trip, row by row. -/
theorem tripFn_apply (X0 X1 X2 D : FVec Ideal S8x32768 .f32) (c0 c1 c2 : FVec Ideal S8x1 .f32) (hD : ∀ b q, 0 ≤ D (ix2 b q))
    (b : Fin 8) (p : Fin 32768) (hp : FirstMax (lowered c0 c1 c2 X0 X1 X2 D b) p) :
    (∀ q, (tripFn X0 X1 X2 (D, c0, c1, c2)).1 (ix2 b q) = lowered c0 c1 c2 X0 X1 X2 D b q)
      ∧ (tripFn X0 X1 X2 (D, c0, c1, c2)).2.1 (ix2 b 0) = X0 (ix2 b p)
      ∧ (tripFn X0 X1 X2 (D, c0, c1, c2)).2.2.1 (ix2 b 0) = X1 (ix2 b p)
      ∧ (tripFn X0 X1 X2 (D, c0, c1, c2)).2.2.2 (ix2 b 0) = X2 (ix2 b p) := by
  have hs := sweep_all c0 c1 c2 X0 X1 X2 D hD
  have hr : RowInv _ b (lowered c0 c1 c2 X0 X1 X2 D b) (fun q => X0 (ix2 b q)) (fun q => X1 (ix2 b q)) (fun q => X2 (ix2 b q)) :=
    fun l => hs.lane b l
  obtain ⟨-, -, h0, h1, h2⟩ := lane_at hr hp
  exact ⟨fun q => hs.done b q (by omega), (picked_apply hr hp _).trans h0, (picked_apply hr hp _).trans h1,
    (picked_apply hr hp _).trans h2⟩

end Cert.KernelIdeal.Fps
-- ==== Proof.Walk.lean ====
/-
  The kernel's trips walk each batch of the points, and its first output is where the walks stand.
-/
module

public import proofs.«01_k».proof.Proof.Spec
public import proofs.«01_k».proof.Proof.Choice
public import proofs.«01_k».proof.Proof.BodySpec
public import Idealize.ShloMosaic.Lib.ValueLayout

@[expose] public section

noncomputable section

namespace Cert.KernelIdeal.Fps

open Idealize.ShloMosaic Idealize.SL.Sem
open Idealize.ShloMosaic.ValueIdx
open Cert.KernelIdeal Cert.KernelIdeal.Facts₀ Cert.KernelIdeal.Facts
open Cert.Fps

/-- Three columns side by side, read at each. -/
theorem pts_apply (c0 c1 c2 : FVec Ideal S8x1 .f32) (b : Fin 8) :
    pts c0 c1 c2 (ix2 b 0) = c0 (ix2 b 0) ∧ pts c0 c1 c2 (ix2 b 1) = c1 (ix2 b 0) ∧ pts c0 c1 c2 (ix2 b 2) = c2 (ix2 b 0) := by
  have hi : ∀ (k : Fin 3) (c : Fin S8x1.rank), c.cast (rfl : S8x1.rank = S8x3.rank) ≠ 1 →
      ((ix2 b 0 : S8x1.Idx) c).val = ((ix2 b k : S8x3.Idx) (c.cast rfl)).val := fun k c hc => by
    match c, hc with
    | ⟨0, _⟩, _ => rfl
    | ⟨1, _⟩, hc => exact absurd rfl hc
  unfold pts
  rw [shapeCast_self]
  exact ⟨concatenate_apply_piece (1 : Fin S8x3.rank) [⟨S8x1, c0⟩, ⟨S8x1, c1⟩, ⟨S8x1, c2⟩] concatenates_S8x1_S8x1_S8x1_S8x3_d1 _
      0 (by decide : 0 < 3) S8x1 c0 rfl rfl 0 rfl (ix2 b 0) (hi 0) rfl,
    concatenate_apply_piece (1 : Fin S8x3.rank) [⟨S8x1, c0⟩, ⟨S8x1, c1⟩, ⟨S8x1, c2⟩] concatenates_S8x1_S8x1_S8x1_S8x3_d1 _
      1 (by decide : 1 < 3) S8x1 c1 rfl rfl 1 rfl (ix2 b 0) (hi 1) rfl,
    concatenate_apply_piece (1 : Fin S8x3.rank) [⟨S8x1, c0⟩, ⟨S8x1, c1⟩, ⟨S8x1, c2⟩] concatenates_S8x1_S8x1_S8x1_S8x3_d1 _
      2 (by decide : 2 < 3) S8x1 c2 rfl rfl 2 rfl (ix2 b 0) (hi 2) rfl⟩

section Trips

variable (X0 X1 X2 : FVec Ideal S8x32768 .f32) (P : FVec Ideal S8x3 .f32) (x : FVec Ideal S8x32768x3 .f32)
  (p : Fin 8 → Fin 32768)
  (h0 : ∀ b q, X0 (ix2 b q) = x (ix3 b q 0)) (h1 : ∀ b q, X1 (ix2 b q) = x (ix3 b q 1))
  (h2 : ∀ b q, X2 (ix2 b q) = x (ix3 b q 2)) (hP : ∀ b i, P (ix2 b i) = x (ix3 b (p b) i))

include h0 h1 h2 hP

/-- The kernel's trips walk each batch. -/
theorem stateAt_walk (t : ℕ) (b : Fin 8) :
    (∀ q, (stateAt X0 X1 X2 P t).1 (ix2 b q) = (walk (rowOf x b) (p b) t).1 q)
      ∧ (stateAt X0 X1 X2 P t).2.1 (ix2 b 0) = x (ix3 b (walk (rowOf x b) (p b) t).2 0)
      ∧ (stateAt X0 X1 X2 P t).2.2.1 (ix2 b 0) = x (ix3 b (walk (rowOf x b) (p b) t).2 1)
      ∧ (stateAt X0 X1 X2 P t).2.2.2 (ix2 b 0) = x (ix3 b (walk (rowOf x b) (p b) t).2 2) := by
  induction t generalizing b with
  | zero =>
    have e : ∀ (i : Fin 3) (j : S8x3.Idx), j = ix2 b i → P j = x (ix3 b (p b) i) := fun i j hj => by rw [hj]; exact hP b i
    refine ⟨fun q => rfl, (congrFun (shapeCast_self (col0 P) shapeCasts_S8x1_S8x1) _).trans (e 0 _ ?_),
      (congrFun (shapeCast_self (col1 P) shapeCasts_S8x1_S8x1) _).trans (e 1 _ ?_),
      (congrFun (shapeCast_self (col2 P) shapeCasts_S8x1_S8x1) _).trans (e 2 _ ?_)⟩
    all_goals
      funext a
      apply Fin.ext
      refine (ValueKit.rect_emb_unit_val _ _ _ _ a).trans ?_
      match a with
      | ⟨0, _⟩ => exact Nat.zero_add _
      | ⟨1, _⟩ => rfl
  | succ t ih =>
    have hD : ∀ b q, 0 ≤ (stateAt X0 X1 X2 P t).1 (ix2 b q) := fun b q => by
      rw [(ih b).1 q]; exact walk_nonneg _ _ _ _
    obtain ⟨i0, i1, i2, i3⟩ := ih b
    have hl : lowered (stateAt X0 X1 X2 P t).2.1 (stateAt X0 X1 X2 P t).2.2.1 (stateAt X0 X1 X2 P t).2.2.2 X0 X1 X2
        (stateAt X0 X1 X2 P t).1 b = (walk (rowOf x b) (p b) (t + 1)).1 := funext fun q => by
      unfold lowered
      rw [i0 q, i1, i2, i3, h0, h1, h2]
      rfl
    have hp := hl ▸ walk_first (rowOf x b) (p b) t
    obtain ⟨j0, j1, j2, j3⟩ := tripFn_apply X0 X1 X2 _ _ _ _ hD b _ hp
    exact ⟨fun q => (j0 q).trans (congrFun hl q), j1.trans (h0 b _), j2.trans (h1 b _), j3.trans (h2 b _)⟩

/-- What trip `t` records. -/
theorem rowsAt_walk (t : ℕ) (b : Fin 8) (i : Fin 3) :
    rowsAt X0 X1 X2 P t (ix2 b i) = x (ix3 b (walk (rowOf x b) (p b) t).2 i) := by
  obtain ⟨-, j0, j1, j2⟩ := stateAt_walk X0 X1 X2 P x p h0 h1 h2 hP t b
  match i with
  | ⟨0, _⟩ => exact (pts_apply _ _ _ b).1.trans j0
  | ⟨1, _⟩ => exact (pts_apply _ _ _ b).2.1.trans j1
  | ⟨2, _⟩ => exact (pts_apply _ _ _ b).2.2.trans j2

/-- The points' output: sample `t` of batch `b` is where the walk stands after `t` steps. -/
theorem pb_walk (t : Fin 1024) (b : Fin 8) (i : Fin 3) :
    pb b (sampled X0 X1 X2 P) (ix2 t i) = x (ix3 b (walk (rowOf x b) (p b) t.val).2 i) := by
  unfold pb sampled
  refine (shapeCast_apply _ _ (ix2 t i) (ix3 t (0 : Fin 1) i) ?_).trans ?_
  · rw [Shape.rowMajor_val_three, Shape.rowMajor_val_two]
    show (t.val * 1 + 0) * 3 + i.val = t.val * 3 + i.val
    omega
  refine (slice3_axis1_apply b.val _ (slab_slices b) t 0 i b (by simp)).trans ?_
  refine (shapeCast_apply _ _ (ix3 t b i) (ix2 (⟨8 * t.val + b.val, by omega⟩ : Fin 8192) i) ?_).trans ?_
  · rw [Shape.rowMajor_val_three, Shape.rowMajor_val_two]
    show (8 * t.val + b.val) * 3 + i.val = (t.val * 8 + b.val) * 3 + i.val
    omega
  have ht : (8 * t.val + b.val) / 8 = t.val := by omega
  have hb : (⟨(8 * t.val + b.val) % 8, Nat.mod_lt _ (by omega)⟩ : Fin 8) = b := Fin.ext (by show _ % 8 = b.val; omega)
  show rowsAt X0 X1 X2 P ((8 * t.val + b.val) / 8) (ix2 (⟨(8 * t.val + b.val) % 8, Nat.mod_lt _ (by omega)⟩ : Fin 8) i) = _
  rw [ht, hb]
  exact rowsAt_walk X0 X1 X2 P x p h0 h1 h2 hP t.val b i

/-- The points' output: sample `t` of batch `b` is where the walk stands after `t` steps. -/
theorem outPts_walk (b : Fin 8) (t : Fin 1024) (i : Fin 3) :
    outPts (sampled X0 X1 X2 P) (ix3 b t i) = x (ix3 b (walk (rowOf x b) (p b) t.val).2 i) :=
  (shapeCast_ab_1ab_apply (pb b (sampled X0 X1 X2 P)) shapeCasts_S1024x3_S1x1024x3 (0 : Fin 1) t i).trans
    (pb_walk X0 X1 X2 P x p h0 h1 h2 hP t b i)

end Trips

end Cert.KernelIdeal.Fps
-- ==== Proof.KernelVals.lean ====
/-
  What the kernel's call is handed, and what it leaves.
-/
module

public import proofs.«01_k».proof.Proof.Run
public import proofs.«01_k».proof.Proof.Reads
public import proofs.«01_k».proof.Proof.Walk

@[expose] public section

set_option maxRecDepth 100000

noncomputable section

namespace Cert.KernelIdeal.Fps

open Cert.KernelIdeal Cert.KernelIdeal.Gen
open Idealize.ShloMosaic Idealize.ShloMosaic.TcCoe Idealize.ShloMosaic.Tactic
open Idealize.ShloMosaic.StableHlo Idealize.ShloMosaic.ValueIdx
open Idealize.SL.Sem
open Cert.Fps

/-! ## The operations before the call -/

section Before

variable {F : FTy → Type} [FloatOps F]

/-- Index words counted from the end where they are negative. -/
def wrapped (i : IVec S8 32) (n : BitVec 32) : IVec S8 32 :=
  select (cmpi .slt i (broadcastInDim S8 ![] bcast_S_S8 (constantI S_ 32 0#32)))
    (addi i (broadcastInDim S8 ![] bcast_S_S8 (constantI S_ 32 n))) i

/-- Each batch's number beside its first point's index. -/
def startsOf (i : IVec S8 32) : IVec S8x2 32 :=
  concatenate S8x2 1 [⟨S8x1, broadcastInDim S8x1 ![0] bcast_S8_S8x1_0 (wrapped (iotaInDim S8 32 0) 8#32)⟩,
    ⟨S8x1, broadcastInDim S8x1 ![0] bcast_S8_S8x1_0 (wrapped i 32768#32)⟩] concatenates_S8x1_S8x1_S8x2_d1

/-- One coordinate of every point. -/
def coordOf (x : FVec F S8x32768x3 .f32) (off : Fin 3 → ℕ) (h : S8x32768x3.Slices off S8x32768x1) : FVec F S8x32768 .f32 :=
  shapeCast S8x32768 (extractStridedSlice S8x32768x1 off x h) shapeCasts_S8x32768x1_S8x32768

variable (X : Valuation τ sig (Elt F))

/-- The first points, as the call takes them. -/
theorem read_v22 : after hostOps0_2 X (Proc.devRef .tc main_v22)
    = Host.gather gather_S8x32768x3_S8x2_S8x3_1_01_n_n_01_1_113 (X (Proc.devRef .tc main_arg0)) (startsOf (X (Proc.devRef .tc main_v7))) := by
  after_results; rfl

/-- The first coordinates, as the call takes them. -/
theorem read_v24 : after hostOps0_2 X (Proc.devRef .tc main_v24)
    = coordOf (F := F) (X (Proc.devRef .tc main_arg0)) ![0, 0, 0] slices_S8x32768x3_S8x32768x1_0_0_0 := by
  after_results; rfl

/-- The second coordinates, as the call takes them. -/
theorem read_v26 : after hostOps0_2 X (Proc.devRef .tc main_v26)
    = coordOf (F := F) (X (Proc.devRef .tc main_arg0)) ![0, 0, 1] slices_S8x32768x3_S8x32768x1_0_0_1 := by
  after_results; rfl

/-- The third coordinates, as the call takes them. -/
theorem read_v28 : after hostOps0_2 X (Proc.devRef .tc main_v28)
    = coordOf (F := F) (X (Proc.devRef .tc main_arg0)) ![0, 0, 2] slices_S8x32768x3_S8x32768x1_0_0_2 := by
  after_results; rfl

/-- The first biases as one row. -/
theorem read_v29 : after hostOps0_2 X (Proc.devRef .tc main_v29)
    = shapeCast S1x64 (X (Proc.devRef .tc main_arg2) : FVec F S64 .f32) shapeCasts_S64_S1x64 := by
  after_results; rfl

/-- The second biases as one row. -/
theorem read_v30 : after hostOps0_2 X (Proc.devRef .tc main_v30)
    = shapeCast S1x128 (X (Proc.devRef .tc main_arg4) : FVec F S128 .f32) shapeCasts_S128_S1x128 := by
  after_results; rfl

/-- The third biases as one row. -/
theorem read_v31 : after hostOps0_2 X (Proc.devRef .tc main_v31)
    = shapeCast S1x256 (X (Proc.devRef .tc main_arg6) : FVec F S256 .f32) shapeCasts_S256_S1x256 := by
  after_results; rfl

/-- The last host stretch leaves the points. -/
theorem read_arg0 : after hostOps0_2 X (Proc.devRef .tc main_arg0) = X (Proc.devRef .tc main_arg0) := by after_results
/-- The last host stretch leaves the first biases. -/
theorem read_arg2 : after hostOps0_2 X (Proc.devRef .tc main_arg2) = X (Proc.devRef .tc main_arg2) := by after_results
/-- The last host stretch leaves the second biases. -/
theorem read_arg4 : after hostOps0_2 X (Proc.devRef .tc main_arg4) = X (Proc.devRef .tc main_arg4) := by after_results
/-- The last host stretch leaves the third biases. -/
theorem read_arg6 : after hostOps0_2 X (Proc.devRef .tc main_arg6) = X (Proc.devRef .tc main_arg6) := by after_results

end Before

/-! ## The call's operands -/

section Operands

variable (m : (ℓ : Loc nD τ sig) → Buf (Elt Ideal) ℓ) (c : Dev nD)

/-- What the buffers hold once the first points' indices are drawn. -/
abbrev drawn : Valuation τ sig (Elt Ideal) := after hostOps0_1 (after hostOps0 fun b => m (c, b))

/-- What a buffer holds at the call, from the draw. -/
theorem V_eq (b : Ref sig .tc) : V m c b = after hostOps0_2 (drawn m c) (Proc.devRef .tc b) := by
  have h : ∀ (l₁ l₂ : List (HloOp τ sig (Elt Ideal))) (Y : Valuation τ sig (Elt Ideal)), after (l₁ ++ l₂) Y = after l₂ (after l₁ Y) := by
    intro l₁ l₂
    induction l₁ with
    | nil => exact fun _ => rfl
    | cons op l ih => exact fun Y => ih _
  unfold V
  rw [List.flatten_cons, h, List.flatten_cons, h, List.flatten_cons, h]
  rfl

/-- The points. -/
abbrev points : FVec Ideal S8x32768x3 .f32 := m ((c.tc : Thread nD τ).loc main_arg0)

/-- The first points' index words. -/
abbrev firstWords : IVec S8 32 := drawn m c (Proc.devRef .tc main_v7)

/-- The draw leaves the points. -/
theorem drawn_arg0 : drawn m c (Proc.devRef .tc main_arg0) = points m c :=
  (read_arg0 _).symm.trans ((V_eq m c _).symm.trans (V_main_arg0 m c))
/-- The draw leaves the first biases. -/
theorem drawn_arg2 : drawn m c (Proc.devRef .tc main_arg2) = m ((c.tc : Thread nD τ).loc main_arg2) :=
  (read_arg2 _).symm.trans ((V_eq m c _).symm.trans (V_main_arg2 m c))
/-- The draw leaves the second biases. -/
theorem drawn_arg4 : drawn m c (Proc.devRef .tc main_arg4) = m ((c.tc : Thread nD τ).loc main_arg4) :=
  (read_arg4 _).symm.trans ((V_eq m c _).symm.trans (V_main_arg4 m c))
/-- The draw leaves the third biases. -/
theorem drawn_arg6 : drawn m c (Proc.devRef .tc main_arg6) = m ((c.tc : Thread nD τ).loc main_arg6) :=
  (read_arg6 _).symm.trans ((V_eq m c _).symm.trans (V_main_arg6 m c))

/-- One coordinate of all points, read at an index. -/
theorem coordOf_apply (x : FVec Ideal S8x32768x3 .f32) (k : Fin 3) (h : S8x32768x3.Slices ![0, 0, k.val] S8x32768x1) (b : Fin 8) (q : Fin 32768) :
    coordOf x ![0, 0, k.val] h (ix2 b q) = x (ix3 b q k) := by
  unfold coordOf
  refine (shapeCast_apply _ _ _ (ix3 b q (0 : Fin 1)) ?_).trans (extractStridedSlice_apply _ _ _ _ _ fun a => ?_)
  · rw [Shape.rowMajor_val_two, Shape.rowMajor_val_three]
    show (b.val * 32768 + q.val) * 1 + 0 = b.val * 32768 + q.val
    omega
  · match a with
    | ⟨0, _⟩ => exact (Nat.zero_add _).symm
    | ⟨1, _⟩ => exact (Nat.zero_add _).symm
    | ⟨2, _⟩ => rfl

/-- A pair of columns, read at its two columns. -/
theorem pairs_apply (a c : IVec S8x1 32) (b : Fin 8) :
    concatenate S8x2 1 [⟨S8x1, a⟩, ⟨S8x1, c⟩] concatenates_S8x1_S8x1_S8x2_d1 (ix2 b 0) = a (ix2 b 0)
      ∧ concatenate S8x2 1 [⟨S8x1, a⟩, ⟨S8x1, c⟩] concatenates_S8x1_S8x1_S8x2_d1 (ix2 b 1) = c (ix2 b 0) := by
  constructor
  · refine concatenate_pair_apply_left (1 : Fin S8x2.rank) _ _ concatenates_S8x1_S8x1_S8x2_d1 _ rfl (ix2 b 0) ?_
    intro k
    match k with
    | ⟨0, _⟩ => rfl
    | ⟨1, _⟩ => rfl
  · refine concatenate_apply_piece (1 : Fin S8x2.rank) [⟨S8x1, a⟩, ⟨S8x1, c⟩] concatenates_S8x1_S8x1_S8x2_d1 (ix2 b 1)
      1 (by decide : 1 < 2) S8x1 c rfl rfl 1 rfl (ix2 b 0) ?_ rfl
    intro k hk
    match k, hk with
    | ⟨0, _⟩, _ => rfl
    | ⟨1, _⟩, hk => exact absurd rfl hk

/-- The wrapped indices, read at an index. -/
theorem wrapped_apply (i : IVec S8 32) (n : BitVec 32) (b : Fin 8) : wrapped i n (ix1 b) = wrap n (i (ix1 b)) := rfl

/-- The start of a gather, read at an index. -/
theorem startsOf_apply (i : IVec S8 32) (b : Fin 8) :
    startsOf i (ix2 b 0) = wrap 8#32 (BitVec.ofNat 32 b.val) ∧ startsOf i (ix2 b 1) = wrap 32768#32 (i (ix1 b)) := by
  have hb : ∀ a : IVec S8 32, broadcastInDim S8x1 ![0] bcast_S8_S8x1_0 a (ix2 b 0) = a (ix1 b) := fun a =>
    broadcastInDim_apply _ _ _ _ _ fun k => match k with | ⟨0, _⟩ => rfl
  unfold startsOf
  rw [(pairs_apply _ _ b).1, (pairs_apply _ _ b).2, hb, hb, wrapped_apply, wrapped_apply]
  exact ⟨rfl, rfl⟩

/-- The gathered points: each batch's, at the index its word names. -/
theorem gathered_apply (x : FVec Ideal S8x32768x3 .f32) (i : IVec S8 32) (b : Fin 8) (k : Fin 3) :
    Host.gather gather_S8x32768x3_S8x2_S8x3_1_01_n_n_01_1_113 x (startsOf i) (ix2 b k) = x (ix3 b (named (i (ix1 b))) k) := by
  refine (onePoint_apply gather_S8x32768x3_S8x2_S8x3_1_01_n_n_01_1_113_wf x (startsOf i) b k).trans ?_
  rw [(startsOf_apply i b).1, batch_ofNat, (startsOf_apply i b).2]
  rfl

/-- A window of a whole array is handed the array. -/
theorem iblk_whole (t : Fin cfg0.N) :
    iblk m c 0 t = V m c main_v24 ∧ iblk m c 1 t = V m c main_v26 ∧ iblk m c 2 t = V m c main_v28 ∧ iblk m c 3 t = V m c main_v22
      ∧ iblk m c 4 t = V m c main_arg1 ∧ iblk m c 5 t = V m c main_v29 ∧ iblk m c 6 t = V m c main_arg3 ∧ iblk m c 7 t = V m c main_v30
      ∧ iblk m c 8 t = V m c main_arg5 ∧ iblk m c 9 t = V m c main_v31 := by
  have hz : ∀ {r : ℕ} (n : Fin r → ℕ), (fun a => 0 * n a) = fun _ => 0 := fun n => funext fun a => Nat.zero_mul _
  exact ⟨Memref.read_access_unit_zero (Elt Ideal) main_v24 (hz main_v24.ty.shape.size) _ _, Memref.read_access_unit_zero (Elt Ideal) main_v26 (hz main_v26.ty.shape.size) _ _,
    Memref.read_access_unit_zero (Elt Ideal) main_v28 (hz main_v28.ty.shape.size) _ _, Memref.read_access_unit_zero (Elt Ideal) main_v22 (hz main_v22.ty.shape.size) _ _,
    Memref.read_access_unit_zero (Elt Ideal) main_arg1 (hz main_arg1.ty.shape.size) _ _, Memref.read_access_unit_zero (Elt Ideal) main_v29 (hz main_v29.ty.shape.size) _ _,
    Memref.read_access_unit_zero (Elt Ideal) main_arg3 (hz main_arg3.ty.shape.size) _ _, Memref.read_access_unit_zero (Elt Ideal) main_v30 (hz main_v30.ty.shape.size) _ _,
    Memref.read_access_unit_zero (Elt Ideal) main_arg5 (hz main_arg5.ty.shape.size) _ _, Memref.read_access_unit_zero (Elt Ideal) main_v31 (hz main_v31.ty.shape.size) _ _⟩

/-! ## The call's outputs -/

/-- The first points' indices. -/
def firstAt (b : Fin 8) : Fin 32768 := named (firstWords m c (ix1 b))

/-- A batch's sampled points are where its walk stands. -/
theorem sampledAt_walk (t : Fin cfg0.N) (u : Fin 1024) (b : Fin 8) (i : Fin 3) :
    pb b (sampledAt m c t) (ix2 u i) = points m c (ix3 b (walk (rowOf (points m c) b) (firstAt m c b) u.val).2 i) := by
  obtain ⟨e0, e1, e2, e3, -⟩ := iblk_whole m c t
  unfold sampledAt
  rw [e0, e1, e2, e3, V_eq, V_eq, V_eq, V_eq, read_v24, read_v26, read_v28, read_v22, drawn_arg0]
  exact pb_walk _ _ _ _ (points m c) (firstAt m c) (fun b q => coordOf_apply _ 0 _ b q) (fun b q => coordOf_apply _ 1 _ b q)
    (fun b q => coordOf_apply _ 2 _ b q) (fun b i => gathered_apply _ _ b i) u b i

/-- The first output. -/
theorem ptsAt_walk (t : Fin cfg0.N) (b : Fin 8) (u : Fin 1024) (i : Fin 3) :
    ptsAt m c t (ix3 b u i) = points m c (ix3 b (walk (rowOf (points m c) b) (firstAt m c b) u.val).2 i) :=
  (shapeCast_ab_1ab_apply (pb b (sampledAt m c t)) shapeCasts_S1024x3_S1x1024x3 (0 : Fin 1) u i).trans (sampledAt_walk m c t u b i)

/-- The second output: the layers on the first. -/
theorem featsAt_layers (t : Fin cfg0.N) (b : Fin 8) (u : Fin 1024) (o : Fin 256) :
    featsAt m c t (ix3 b u o) = mlp (pb b (sampledAt m c t)) (m ((c.tc : Thread nD τ).loc main_arg1))
      (shapeCast S1x64 (m ((c.tc : Thread nD τ).loc main_arg2) : FVec Ideal S64 .f32) shapeCasts_S64_S1x64)
      (m ((c.tc : Thread nD τ).loc main_arg3))
      (shapeCast S1x128 (m ((c.tc : Thread nD τ).loc main_arg4) : FVec Ideal S128 .f32) shapeCasts_S128_S1x128)
      (m ((c.tc : Thread nD τ).loc main_arg5))
      (shapeCast S1x256 (m ((c.tc : Thread nD τ).loc main_arg6) : FVec Ideal S256 .f32) shapeCasts_S256_S1x256) (ix2 u o) := by
  obtain ⟨-, -, -, -, e4, e5, e6, e7, e8, e9⟩ := iblk_whole m c t
  unfold featsAt
  rw [e4, e5, e6, e7, e8, e9, V_main_arg1, V_main_arg3, V_main_arg5, V_eq, V_eq, V_eq, read_v29, read_v30, read_v31, drawn_arg2,
    drawn_arg4, drawn_arg6]
  exact shapeCast_ab_1ab_apply _ shapeCasts_S1024x256_S1x1024x256 (0 : Fin 1) u o

end Operands

end Cert.KernelIdeal.Fps
-- ==== Proof.Outputs.lean ====
/-
  After the kernel's run each output array holds what the call's one point left.
-/
module

public import proofs.«01_k».proof.Proof.Run
public import Idealize.ShloMosaic.Lib.Pipeline.ValueKit

@[expose] public section

noncomputable section

namespace Cert.KernelIdeal.Fps

open Cert.KernelIdeal Cert.KernelIdeal.Gen
open Idealize.ShloMosaic Idealize.ShloMosaic.TcCoe Idealize.ShloMosaic.Pipeline
open Idealize.SL.Sem

variable {F : FTy → Type} [FloatOps F] (m : (ℓ : Loc nD τ sig) → Buf (Elt F) ℓ) (c : Dev nD)

/-- The first output array holds the samples. -/
theorem final_pts : (dats m 0 c).arrAt 10 cfg0.N = ptsAt m c t0_0 :=
  (dats m 0 c).arrAt_eq_of_after_last 10 t0_0 (by decide +kernel) (ptsAt m c t0_0) fun j => rfl

/-- The second output array holds the features. -/
theorem final_feats : (dats m 0 c).arrAt 11 cfg0.N = featsAt m c t0_0 :=
  (dats m 0 c).arrAt_eq_of_after_last 11 t0_0 (by decide +kernel) (featsAt m c t0_0) fun j => rfl

end Cert.KernelIdeal.Fps
-- ==== Proof.RefVals.lean ====
/-
  What each stretch of the reference leaves in the buffers the next one reads.
-/
module

public import proofs.«01_k».proof.Proof.RefRun

@[expose] public section

set_option maxRecDepth 100000

noncomputable section

namespace Cert.ReferenceIdeal.Fps

open Cert.ReferenceIdeal Cert.ReferenceIdeal.Gen
open Idealize.ShloMosaic Idealize.ShloMosaic.TcCoe Idealize.ShloMosaic.Tactic
open Idealize.ShloMosaic.StableHlo
open Idealize.SL.Sem

variable {F : FTy → Type} [FloatOps F]

/-! ## The values -/

/-- Index words counted from the end where they are negative. -/
def wrapped (i : (⟨S8, .i32⟩ : BufTy).Contents (Elt F)) (n : BitVec 32) : (⟨S8, .i32⟩ : BufTy).Contents (Elt F) :=
  select (cmpi .slt i (broadcastInDim S8 ![] bcast_S_S8 (constantI S_ 32 0#32)))
    (addi i (broadcastInDim S8 ![] bcast_S_S8 (constantI S_ 32 n))) i

/-- Each batch's number beside its current point's index. -/
def startsOf (i : (⟨S8, .i32⟩ : BufTy).Contents (Elt F)) : (⟨S8x2, .i32⟩ : BufTy).Contents (Elt F) :=
  pairs (F := F) (broadcastInDim S8x1 ![0] bcast_S8_S8x1_0 (wrapped (F := F) (iotaInDim S8 32 0) 8#32))
    (broadcastInDim S8x1 ![0] bcast_S8_S8x1_0 (wrapped (F := F) i 32768#32))

/-- Every point's difference from its batch's current point. -/
def diffOf (x : (⟨S8x32768x3, .f32⟩ : BufTy).Contents (Elt F)) (i : (⟨S8, .i32⟩ : BufTy).Contents (Elt F)) :
    (⟨S8x32768x3, .f32⟩ : BufTy).Contents (Elt F) :=
  subf x (broadcastInDim S8x32768x3 ![0, 1, 2] bcast_S8x1x3_S8x32768x3_0_1_2
    (broadcastInDim S8x1x3 ![0, 2] bcast_S8x3_S8x1x3_0_2
      (Host.gather gather_S8x32768x3_S8x2_S8x3_1_01_n_n_01_1_113 x (startsOf (F := F) i))))

/-- The lowered distances. -/
def distOf (x : (⟨S8x32768x3, .f32⟩ : BufTy).Contents (Elt F)) (i : (⟨S8, .i32⟩ : BufTy).Contents (Elt F))
    (d : (⟨S8x32768, .f32⟩ : BufTy).Contents (Elt F)) : (⟨S8x32768, .f32⟩ : BufTy).Contents (Elt F) :=
  minimumf d (Host.reduceAdd (mulf (diffOf x i) (diffOf x i)) (constant S_ .f32 0x00000000#32)
    reducesTo_S8x32768x3_S8x32768_d2 h_S_)

/-- The farthest points' indices. -/
def farthestOf (v : (⟨S8x32768, .f32⟩ : BufTy).Contents (Elt F)) : (⟨S8, .i32⟩ : BufTy).Contents (Elt F) := fun j =>
  (Host.argReduce reducer_argmax_f32_i32 v (iotaInDim S8x32768 32 1) (constant S_ .f32 0xFF800000#32)
    (constantI S_ 32 0#32) reducesTo_S8x32768_S8_d1 h_S_ j).2

/-- The record with one more row. -/
def recordOf (r : (⟨S1024x8, .i32⟩ : BufTy).Contents (Elt F)) (i : (⟨S8, .i32⟩ : BufTy).Contents (Elt F))
    (n : (⟨S_, .i32⟩ : BufTy).Contents (Elt F)) : (⟨S1024x8, .i32⟩ : BufTy).Contents (Elt F) :=
  Host.dynamicUpdateSlice r (broadcastInDim S1x8 ![1] bcast_S8_S1x8_1 i)
    (fun k => ((![n, constantI S_ 32 0#32] : Fin 2 → (⟨S_, .i32⟩ : BufTy).Contents (Elt F)) k (Shape.Idx.first h_S_)).toInt)
    updateFits_S1024x8_S1x8

/-- The recorded points' coordinates. -/
def samplesOf (x : (⟨S8x32768x3, .f32⟩ : BufTy).Contents (Elt F)) (r : (⟨S1024x8, .i32⟩ : BufTy).Contents (Elt F)) :
    (⟨S8x1024x3, .f32⟩ : BufTy).Contents (Elt F) :=
  let C : (⟨S8x1, .i32⟩ : BufTy).Contents (Elt F) := broadcastInDim S8x1 ![0] bcast_S8_S8x1_0 (iotaInDim S8 32 0)
  let T : (⟨S8x1024, .i32⟩ : BufTy).Contents (Elt F) := transpose S8x1024 [1, 0] r transposes_S1024x8_S8x1024_1_0
  Host.gather gather_S8x32768x3_S8x1024x2_S8x1024x3_2_01_n_n_01_2_113 x
    (manyPairs (F := F) (broadcastInDim S8x1024x1 ![0, 1] bcast_S8x1024_S8x1024x1_0_1
        (broadcastInDim S8x1024 ![0, 1] bcast_S8x1_S8x1024_0_1
          (select (cmpi .slt C (broadcastInDim S8x1 ![] bcast_S_S8x1 (constantI S_ 32 0#32)))
            (addi C (broadcastInDim S8x1 ![] bcast_S_S8x1 (constantI S_ 32 8#32))) C)))
      (broadcastInDim S8x1024x1 ![0, 1] bcast_S8x1024_S8x1024x1_0_1
        (select (cmpi .slt T (broadcastInDim S8x1024 ![] bcast_S_S8x1024 (constantI S_ 32 0#32)))
          (addi T (broadcastInDim S8x1024 ![] bcast_S_S8x1024 (constantI S_ 32 32768#32))) T)))

/-- The first layer before its maximum with zero. -/
def layer1 (p : (⟨S8x1024x3, .f32⟩ : BufTy).Contents (Elt F)) (w : (⟨S3x64, .f32⟩ : BufTy).Contents (Elt F))
    (b : (⟨S64, .f32⟩ : BufTy).Contents (Elt F)) : (⟨S8x1024x64, .f32⟩ : BufTy).Contents (Elt F) :=
  addf (Host.dotGeneral dot_S8x1024x3_S3x64_S8x1024x64_2_0_01_1_n_n none p w)
    (broadcastInDim S8x1024x64 ![0, 1, 2] bcast_S1x1x64_S8x1024x64_0_1_2 (broadcastInDim S1x1x64 ![2] bcast_S64_S1x1x64_2 b))

/-- The first layer's maximum with zero. -/
def relu1 (h : (⟨S8x1024x64, .f32⟩ : BufTy).Contents (Elt F)) : (⟨S8x1024x64, .f32⟩ : BufTy).Contents (Elt F) :=
  maximumf h (broadcastInDim S8x1024x64 ![] bcast_S_S8x1024x64 (constant S_ .f32 0x00000000#32))

/-- The second layer before its maximum with zero. -/
def layer2 (p : (⟨S8x1024x64, .f32⟩ : BufTy).Contents (Elt F)) (w : (⟨S64x128, .f32⟩ : BufTy).Contents (Elt F))
    (b : (⟨S128, .f32⟩ : BufTy).Contents (Elt F)) : (⟨S8x1024x128, .f32⟩ : BufTy).Contents (Elt F) :=
  addf (Host.dotGeneral dot_S8x1024x64_S64x128_S8x1024x128_2_0_01_1_n_n none p w)
    (broadcastInDim S8x1024x128 ![0, 1, 2] bcast_S1x1x128_S8x1024x128_0_1_2 (broadcastInDim S1x1x128 ![2] bcast_S128_S1x1x128_2 b))

/-- The second layer's maximum with zero. -/
def relu2 (h : (⟨S8x1024x128, .f32⟩ : BufTy).Contents (Elt F)) : (⟨S8x1024x128, .f32⟩ : BufTy).Contents (Elt F) :=
  maximumf h (broadcastInDim S8x1024x128 ![] bcast_S_S8x1024x128 (constant S_ .f32 0x00000000#32))

/-- The last layer. -/
def layer3 (p : (⟨S8x1024x128, .f32⟩ : BufTy).Contents (Elt F)) (w : (⟨S128x256, .f32⟩ : BufTy).Contents (Elt F))
    (b : (⟨S256, .f32⟩ : BufTy).Contents (Elt F)) : (⟨S8x1024x256, .f32⟩ : BufTy).Contents (Elt F) :=
  addf (Host.dotGeneral dot_S8x1024x128_S128x256_S8x1024x256_2_0_01_1_n_n none p w)
    (broadcastInDim S8x1024x256 ![0, 1, 2] bcast_S1x1x256_S8x1024x256_0_1_2 (broadcastInDim S1x1x256 ![2] bcast_S256_S1x1x256_2 b))

/-! ## What the stretches leave -/

section Reads

variable (Y : Valuation τ sig (Elt F))

/-- What the distance stretch leaves. -/
theorem read_dist : after distOps Y (Proc.devRef .tc main_while0b_v63)
    = distOf (Y (Proc.devRef .tc main_v10_0)) (Y (Proc.devRef .tc main_v10_3)) (Y (Proc.devRef .tc main_v10_2)) := by
  after_results; rfl

/-- What the choice stretch leaves. -/
theorem read_farthest : after farthestOps Y (Proc.devRef .tc main_while0b_v64)
    = farthestOf (Y (Proc.devRef .tc main_while0b_v63)) := by
  after_results; rfl

/-- What the record stretch leaves. -/
theorem read_record : after recordOps Y (Proc.devRef .tc main_while0b_v65)
    = recordOf (F := F) (Y (Proc.devRef .tc main_v10_4)) (Y (Proc.devRef .tc main_v10_3)) (Y (Proc.devRef .tc main_v10_1)) := by
  after_results_entrywise [recordOf, cast_eq]

/-- The next trip takes the new distances. -/
theorem read_next2 : after nextOps Y (Proc.devRef .tc main_v10_2) = Y (Proc.devRef .tc main_while0b_v63) := by
  after_results; rfl

/-- The next trip takes the new points. -/
theorem read_next3 : after nextOps Y (Proc.devRef .tc main_v10_3) = Y (Proc.devRef .tc main_while0b_v64) := by
  after_results; rfl

/-- The next trip takes the new record. -/
theorem read_next4 : after nextOps Y (Proc.devRef .tc main_v10_4) = Y (Proc.devRef .tc main_while0b_v65) := by
  after_results; rfl

/-- The loop starts with the points. -/
theorem read_enter0 : after enterOps Y (Proc.devRef .tc main_v10_0) = Y (Proc.devRef .tc main_arg0) := by
  after_results; rfl

/-- The loop starts with the starting distances. -/
theorem read_enter2 : after enterOps Y (Proc.devRef .tc main_v10_2) = Y (Proc.devRef .tc main_v0) := by
  after_results; rfl

/-- The loop starts with the drawn points. -/
theorem read_enter3 : after enterOps Y (Proc.devRef .tc main_v10_3) = Y (Proc.devRef .tc main_v8) := by
  after_results; rfl

/-- The starting distances. -/
theorem read_setup : after setupOps Y (Proc.devRef .tc main_v0)
    = broadcastInDim S8x32768 ![] bcast_S_S8x32768 (constant (F := F) S_ .f32 0x501502F9#32) := by
  after_results

/-- The samples. -/
theorem read_samples : after gatherOps Y (Proc.devRef .tc main_v28)
    = samplesOf (Y (Proc.devRef .tc main_arg0)) (Y (Proc.devRef .tc main_v10_4)) := by
  after_results; rfl

/-- The first layer. -/
theorem read_layer1 : after gatherOps Y (Proc.devRef .tc main_v32)
    = layer1 (samplesOf (Y (Proc.devRef .tc main_arg0)) (Y (Proc.devRef .tc main_v10_4))) (Y (Proc.devRef .tc main_arg1))
      (Y (Proc.devRef .tc main_arg2)) := by
  after_results; rfl

/-- The first cut at zero. -/
theorem read_relu1 : after reluOps Y (Proc.devRef .tc main_v33) = relu1 (Y (Proc.devRef .tc main_v32)) := by
  after_results; rfl

/-- The second layer. -/
theorem read_layer2 : after layerOps Y (Proc.devRef .tc main_v37)
    = layer2 (Y (Proc.devRef .tc main_v33)) (Y (Proc.devRef .tc main_arg3)) (Y (Proc.devRef .tc main_arg4)) := by
  after_results; rfl

/-- The second cut at zero. -/
theorem read_relu2 : after reluOps2 Y (Proc.devRef .tc main_v38) = relu2 (Y (Proc.devRef .tc main_v37)) := by
  after_results; rfl

/-- The third layer. -/
theorem read_layer3 : after lastOps Y (Proc.devRef .tc main_v42)
    = layer3 (Y (Proc.devRef .tc main_v38)) (Y (Proc.devRef .tc main_arg5)) (Y (Proc.devRef .tc main_arg6)) := by
  after_results; rfl

end Reads

/-! ## One trip -/

section Trip

variable (X : Valuation τ sig (Elt F))

/-- The distances after a trip. -/
theorem inside_dist : afterL inside X (Proc.devRef .tc main_v10_2)
    = distOf (X (Proc.devRef .tc main_v10_0)) (X (Proc.devRef .tc main_v10_3)) (X (Proc.devRef .tc main_v10_2)) := by
  simp only [afterL_cons, afterL_nil]
  rw [read_next2, after_of_writes_sub recordOps _ (forall_writes_sub_of_map (W := recordOpsWrites) rfl) (by decide +kernel),
    after_of_writes_sub farthestOps _ (forall_writes_sub_of_map (W := farthestOpsWrites) rfl) (by decide +kernel), read_dist]

/-- The current indices after a trip. -/
theorem inside_index : afterL inside X (Proc.devRef .tc main_v10_3)
    = farthestOf (distOf (X (Proc.devRef .tc main_v10_0)) (X (Proc.devRef .tc main_v10_3)) (X (Proc.devRef .tc main_v10_2))) := by
  simp only [afterL_cons, afterL_nil]
  rw [read_next3, after_of_writes_sub recordOps _ (forall_writes_sub_of_map (W := recordOpsWrites) rfl) (by decide +kernel),
    read_farthest, read_dist]

/-- The record after a trip. -/
theorem inside_record : afterL inside X (Proc.devRef .tc main_v10_4)
    = recordOf (F := F) (X (Proc.devRef .tc main_v10_4)) (X (Proc.devRef .tc main_v10_3)) (X (Proc.devRef .tc main_v10_1)) := by
  simp only [afterL_cons, afterL_nil]
  rw [read_next4, read_record]
  congr 1
  all_goals
    rw [after_of_writes_sub farthestOps _ (forall_writes_sub_of_map (W := farthestOpsWrites) rfl) (by decide +kernel),
      after_of_writes_sub distOps _ (forall_writes_sub_of_map (W := distOpsWrites) rfl) (by decide +kernel)]

end Trip

/-! ## After the loop -/

section Behind

variable (X : Valuation τ sig (Elt F))

/-- The first result. -/
theorem behind_samples : afterL behind X (Proc.devRef .tc main_v28)
    = samplesOf (X (Proc.devRef .tc main_arg0)) (X (Proc.devRef .tc main_v10_4)) := by
  simp only [afterL_cons, afterL_nil]
  rw [after_of_writes_sub lastOps _ (forall_writes_sub_of_map (W := lastOpsWrites) rfl) (by decide +kernel),
    after_of_writes_sub reluOps2 _ (forall_writes_sub_of_map (W := reluOps2Writes) rfl) (by decide +kernel),
    after_of_writes_sub layerOps _ (forall_writes_sub_of_map (W := layerOpsWrites) rfl) (by decide +kernel),
    after_of_writes_sub reluOps _ (forall_writes_sub_of_map (W := reluOpsWrites) rfl) (by decide +kernel), read_samples]

/-- The second result. -/
theorem behind_feats : afterL behind X (Proc.devRef .tc main_v42)
    = layer3 (relu2 (layer2 (relu1 (layer1 (samplesOf (X (Proc.devRef .tc main_arg0)) (X (Proc.devRef .tc main_v10_4)))
          (X (Proc.devRef .tc main_arg1)) (X (Proc.devRef .tc main_arg2))))
        (X (Proc.devRef .tc main_arg3)) (X (Proc.devRef .tc main_arg4))))
      (X (Proc.devRef .tc main_arg5)) (X (Proc.devRef .tc main_arg6)) := by
  have k1 : ∀ r, r ∉ gatherOpsWrites → after gatherOps X (Proc.devRef .tc r) = X (Proc.devRef .tc r) :=
    fun r h => after_of_writes_sub gatherOps X (forall_writes_sub_of_map (W := gatherOpsWrites) rfl) h
  have k2 : ∀ r, r ∉ reluOpsWrites → ∀ Y : Valuation τ sig (Elt F), after reluOps Y (Proc.devRef .tc r) = Y (Proc.devRef .tc r) :=
    fun r h Y => after_of_writes_sub reluOps Y (forall_writes_sub_of_map (W := reluOpsWrites) rfl) h
  have k3 : ∀ r, r ∉ layerOpsWrites → ∀ Y : Valuation τ sig (Elt F), after layerOps Y (Proc.devRef .tc r) = Y (Proc.devRef .tc r) :=
    fun r h Y => after_of_writes_sub layerOps Y (forall_writes_sub_of_map (W := layerOpsWrites) rfl) h
  have k4 : ∀ r, r ∉ reluOps2Writes → ∀ Y : Valuation τ sig (Elt F), after reluOps2 Y (Proc.devRef .tc r) = Y (Proc.devRef .tc r) :=
    fun r h Y => after_of_writes_sub reluOps2 Y (forall_writes_sub_of_map (W := reluOps2Writes) rfl) h
  simp only [afterL_cons, afterL_nil]
  rw [read_layer3, read_relu2, read_layer2, read_relu1, read_layer1,
    k4 main_arg5 (by decide +kernel), k4 main_arg6 (by decide +kernel), k3 main_arg5 (by decide +kernel), k3 main_arg6 (by decide +kernel),
    k2 main_arg5 (by decide +kernel), k2 main_arg6 (by decide +kernel), k2 main_arg3 (by decide +kernel), k2 main_arg4 (by decide +kernel),
    k1 main_arg5 (by decide +kernel), k1 main_arg6 (by decide +kernel), k1 main_arg3 (by decide +kernel), k1 main_arg4 (by decide +kernel)]

end Behind

end Cert.ReferenceIdeal.Fps
-- ==== Proof.RefWalk.lean ====
/-
  The reference's trips walk each batch of the points, and its first result is where the walks stand.
-/
module

public import proofs.«01_k».proof.Proof.Spec
public import proofs.«01_k».proof.Proof.Reads
public import proofs.«01_k».proof.Proof.RefVals
public import Idealize.ShloMosaic.Lib.WordCmp
public import Idealize.ShloMosaic.Lib.IdealHost

@[expose] public section

noncomputable section

namespace Cert.ReferenceIdeal.Fps

open Cert.ReferenceIdeal Cert.ReferenceIdeal.Gen
open Idealize.ShloMosaic Idealize.ShloMosaic.TcCoe
open Idealize.ShloMosaic.StableHlo Idealize.ShloMosaic.ValueIdx
open Idealize.SL.Sem
open Cert.Fps

/-! ## The values read at an index -/

/-- The wrapped indices, read at an index. -/
theorem wrapped_apply (i : IVec S8 32) (n : BitVec 32) (b : Fin 8) : wrapped (F := Ideal) i n (ix1 b) = wrap n (i (ix1 b)) := rfl

/-- A pair of columns, read at its two columns. -/
theorem pairs_apply (a c : IVec S8 32) (b : Fin 8) :
    pairs (F := Ideal) (broadcastInDim S8x1 ![0] bcast_S8_S8x1_0 a) (broadcastInDim S8x1 ![0] bcast_S8_S8x1_0 c) (ix2 b 0) = a (ix1 b)
      ∧ pairs (F := Ideal) (broadcastInDim S8x1 ![0] bcast_S8_S8x1_0 a) (broadcastInDim S8x1 ![0] bcast_S8_S8x1_0 c) (ix2 b 1) = c (ix1 b) := by
  have hb : ∀ a : IVec S8 32, broadcastInDim S8x1 ![0] bcast_S8_S8x1_0 a (ix2 b 0) = a (ix1 b) := fun a =>
    broadcastInDim_apply _ _ _ _ _ fun k => match k with | ⟨0, _⟩ => rfl
  constructor
  · refine (concatenate_pair_apply_left (1 : Fin S8x2.rank) _ _ concatenates_S8x1_S8x1_S8x2_d1 _ rfl (ix2 b 0) ?_).trans (hb a)
    intro k
    match k with
    | ⟨0, _⟩ => rfl
    | ⟨1, _⟩ => rfl
  · refine (concatenate_apply_piece (1 : Fin S8x2.rank) [⟨S8x1, broadcastInDim S8x1 ![0] bcast_S8_S8x1_0 a⟩, ⟨S8x1, broadcastInDim S8x1 ![0] bcast_S8_S8x1_0 c⟩]
      concatenates_S8x1_S8x1_S8x2_d1 (ix2 b 1) 1 (by decide : 1 < 2) S8x1 _ rfl rfl 1 rfl (ix2 b 0) ?_ rfl).trans (hb c)
    intro k hk
    match k, hk with
    | ⟨0, _⟩, _ => rfl
    | ⟨1, _⟩, hk => exact absurd rfl hk

/-- The gathered points: each batch's, at the index its word names. -/
theorem gathered_apply (x : FVec Ideal S8x32768x3 .f32) (i : IVec S8 32) (b : Fin 8) (k : Fin 3) :
    Host.gather gather_S8x32768x3_S8x2_S8x3_1_01_n_n_01_1_113 x (startsOf (F := Ideal) i) (ix2 b k)
      = x (ix3 b (named (i (ix1 b))) k) := by
  obtain ⟨h0, h1⟩ := pairs_apply (wrapped (F := Ideal) (iotaInDim S8 32 0) 8#32) (wrapped (F := Ideal) i 32768#32) b
  refine (onePoint_apply gather_S8x32768x3_S8x2_S8x3_1_01_n_n_01_1_113_wf x (startsOf (F := Ideal) i) b k).trans ?_
  rw [show startsOf (F := Ideal) i (ix2 b 0) = wrap 8#32 (BitVec.ofNat 32 b.val) from h0, batch_ofNat,
    show startsOf (F := Ideal) i (ix2 b 1) = wrap 32768#32 (i (ix1 b)) from h1]
  rfl

/-- The differences from the current point, read at an index. -/
theorem diffOf_apply (x : FVec Ideal S8x32768x3 .f32) (i : IVec S8 32) (b : Fin 8) (q : Fin 32768) (k : Fin 3) :
    diffOf (F := Ideal) x i (ix3 b q k) = x (ix3 b q k) - x (ix3 b (named (i (ix1 b))) k) := by
  unfold diffOf
  rw [subf_apply]
  congr 1
  refine (broadcastInDim_apply _ _ _ _ (ix3 b (0 : Fin 1) k) fun a => ?_).trans ?_
  · match a with
    | ⟨0, _⟩ => rfl
    | ⟨1, _⟩ => rfl
    | ⟨2, _⟩ => rfl
  refine (broadcastInDim_apply _ _ _ _ (ix2 b k) fun a => ?_).trans (gathered_apply x i b k)
  match a with
  | ⟨0, _⟩ => rfl
  | ⟨1, _⟩ => rfl

/-- The lowered distances are the walk's. -/
theorem distOf_apply (x : FVec Ideal S8x32768x3 .f32) (i : IVec S8 32) (d : FVec Ideal S8x32768 .f32) (b : Fin 8) (q : Fin 32768) :
    distOf (F := Ideal) x i d (ix2 b q) = min (d (ix2 b q)) (apart (rowOf x b) (named (i (ix1 b))) q) := by
  have hR : S8x32768x3.Reduces [2] S8x32768 := by decide
  have hl : ∀ k : Fin 3, hR.lift (ix2 b q) k = (ix3 b q k : S8x32768x3.Idx) := fun k => by
    funext a
    apply Fin.ext
    match a with
    | ⟨0, _⟩ => rfl
    | ⟨1, _⟩ => rfl
    | ⟨2, _⟩ => rfl
  have ht : ∀ k : Fin 3, mulf (diffOf (F := Ideal) x i) (diffOf (F := Ideal) x i) (hR.lift (ix2 b q) k)
      = (x (ix3 b q k) - x (ix3 b (named (i (ix1 b))) k)) * (x (ix3 b q k) - x (ix3 b (named (i (ix1 b))) k)) := fun k => by
    rw [hl k, mulf_apply, diffOf_apply]
  have hz : (constant (F := Ideal) S_ .f32 0x00000000#32) (Shape.Idx.first h_S_) = 0 := Ideal.ofBits_zero_f32
  unfold distOf
  rw [minimumf_apply, hostReduceAdd_apply, Ideal.hostReduceAdd_single reducesTo_S8x32768x3_S8x32768_d2 hR, hz, zero_add]
  have hs : ∑ k : Fin 3, (mulf (diffOf (F := Ideal) x i) (diffOf (F := Ideal) x i) : FVec Ideal S8x32768x3 .f32) (hR.lift (ix2 b q) k)
      = apart (rowOf x b) (named (i (ix1 b))) q := by
    rw [Fin.sum_univ_three, ht, ht, ht]
    exact add_right_comm _ _ _
  exact congrArg (fun e => min (d (ix2 b q)) e) hs

/-- The reference's choice names the first farthest point. -/
theorem farthestOf_apply (v : FVec Ideal S8x32768 .f32) (b : Fin 8) (p : Fin 32768) (hx : ∀ q, 0 ≤ v (ix2 b q))
    (hp : FirstMax (fun q => v (ix2 b q)) p) : named (farthestOf (F := Ideal) v (ix1 b)) = p := by
  rw [show farthestOf (F := Ideal) v (ix1 b) = BitVec.ofNat 32 p.val from argmax_apply v b p hx hp, named_ofNat]

/-- Row `k` of the record is replaced, the others stay. -/
theorem recordOf_apply (r : IVec S1024x8 32) (i : IVec S8 32) (n : IVec S_ 32) (k : Fin 1024) (hn : ∀ j, n j = BitVec.ofNat 32 k.val)
    (u : Fin 1024) (b : Fin 8) : recordOf (F := Ideal) r i n (ix2 u b) = if u = k then i (ix1 b) else r (ix2 u b) := by
  unfold recordOf
  have hsl : S1024x8.Slices ![k.val, 0] S1x8 := ⟨rfl, fun a => by
    match a with
    | ⟨0, _⟩ => show k.val + 1 ≤ 1024; omega
    | ⟨1, _⟩ => show 0 + 8 ≤ 8; omega⟩
  rw [WordCmp.dynamicUpdateSlice_eq_update _ _ _ _ ![k.val, 0] hsl (fun a => by
    match a with
    | ⟨0, _⟩ => exact (congrArg BitVec.toInt (hn _)).trans (toInt_ofNat (by omega))
    | ⟨1, _⟩ => rfl)]
  unfold updateSlice
  by_cases hu : u = k
  · subst hu
    rw [if_pos rfl, dif_pos (fun a => by
      match a with
      | ⟨0, _⟩ => exact ⟨le_rfl, Nat.lt_succ_self _⟩
      | ⟨1, _⟩ => exact ⟨Nat.zero_le _, by show b.val < 0 + 8; omega⟩)]
    refine broadcastInDim_apply _ _ _ _ (ix1 b) fun a => ?_
    match a with
    | ⟨0, _⟩ => rfl
  · rw [if_neg hu, dif_neg (fun h => hu (Fin.ext (by
      have h := h 0
      have h1 : k.val ≤ u.val := h.1
      have h2 : u.val < k.val + 1 := h.2
      omega)))]

/-- The first result's points: each sample at the index its word names. -/
theorem samplesOf_apply (x : FVec Ideal S8x32768x3 .f32) (r : IVec S1024x8 32) (b : Fin 8) (t : Fin 1024) (k : Fin 3) :
    samplesOf (F := Ideal) x r (ix3 b t k) = x (ix3 b (named (r (ix2 t b))) k) := by
  unfold samplesOf
  refine (manyPoints_apply gather_S8x32768x3_S8x1024x2_S8x1024x3_2_01_n_n_01_2_113_wf x _ b t k).trans ?_
  have hm : ∀ a c : IVec S8x1024x1 32, manyPairs (F := Ideal) a c (ix3 b t 0) = a (ix3 b t 0) ∧ manyPairs (F := Ideal) a c (ix3 b t 1) = c (ix3 b t 0) := by
    intro a c
    constructor
    · refine concatenate_pair_apply_left (2 : Fin S8x1024x2.rank) _ _ concatenates_S8x1024x1_S8x1024x1_S8x1024x2_d2 _ rfl (ix3 b t 0) ?_
      intro k
      match k with
      | ⟨0, _⟩ => rfl
      | ⟨1, _⟩ => rfl
      | ⟨2, _⟩ => rfl
    · refine concatenate_apply_piece (2 : Fin S8x1024x2.rank) [⟨S8x1024x1, a⟩, ⟨S8x1024x1, c⟩]
        concatenates_S8x1024x1_S8x1024x1_S8x1024x2_d2 _ 1 (by decide : 1 < 2) S8x1024x1 c rfl rfl 1 rfl (ix3 b t 0) ?_ rfl
      intro k hk
      match k, hk with
      | ⟨0, _⟩, _ => rfl
      | ⟨1, _⟩, _ => rfl
      | ⟨2, _⟩, hk => exact absurd rfl hk
  have hb : ∀ y : IVec S8x1024 32, broadcastInDim S8x1024x1 ![0, 1] bcast_S8x1024_S8x1024x1_0_1 y (ix3 b t 0) = y (ix2 b t) := fun y =>
    broadcastInDim_apply _ _ _ _ _ fun k => match k with | ⟨0, _⟩ => rfl | ⟨1, _⟩ => rfl
  have hc : ∀ y : IVec S8x1 32, broadcastInDim S8x1024 ![0, 1] bcast_S8x1_S8x1024_0_1 y (ix2 b t) = y (ix2 b 0) := fun y =>
    broadcastInDim_apply _ _ _ _ _ fun k => match k with | ⟨0, _⟩ => rfl | ⟨1, _⟩ => rfl
  have ht : ∀ y : IVec S1024x8 32, transpose S8x1024 [1, 0] y transposes_S1024x8_S8x1024_1_0 (ix2 b t) = y (ix2 t b) := fun y =>
    transpose_ix2_apply y _ b t
  have hw : ∀ (s : Shape) (y z w : IVec s 32) (j : s.Idx), select (cmpi .slt y z) (addi y w) y j
      = Scalar.select (IntOp.cmpi .slt (y j) (z j)) (IntOp.addi (y j) (w j)) (y j) := fun _ _ _ _ _ => rfl
  rw [(hm _ _).1, (hm _ _).2, hb, hb, hc, hw, hw, ht]
  exact congrArg₂ (fun (c : Fin 8) (p : Fin 32768) => x (ix3 c p k)) (batch_ofNat b) rfl

/-! ## The trips -/

section Trips

variable (m : (ℓ : Loc nD τ sig) → Buf (Elt Ideal) ℓ) (c : Dev nD)

/-- The points. -/
abbrev points : FVec Ideal S8x32768x3 .f32 := m ((c.tc : Thread nD τ).loc main_arg0)

/-- The first points' index words. -/
abbrev firstWords : IVec S8 32 := after randintOps (after setupOps fun b => m (c, b)) (Proc.devRef .tc main_v8)

/-- The first points' indices. -/
def firstAt (b : Fin 8) : Fin 32768 := named (firstWords m c (ix1 b))

/-- Before the `k`-th test: the points unchanged, and distances, indices and record as the walks give them. -/
theorem atK_walk (k : ℕ) (hk : k ≤ 1024) :
    atK m k c (Proc.devRef .tc main_v10_0) = points m c
      ∧ (∀ b q, atK m k c (Proc.devRef .tc main_v10_2) (ix2 b q) = (walk (rowOf (points m c) b) (firstAt m c b) k).1 q)
      ∧ (∀ b, named (atK m k c (Proc.devRef .tc main_v10_3) (ix1 b)) = (walk (rowOf (points m c) b) (firstAt m c b) k).2)
      ∧ ∀ (u : Fin 1024) b, u.val < k →
        named (atK m k c (Proc.devRef .tc main_v10_4) (ix2 u b)) = (walk (rowOf (points m c) b) (firstAt m c b) u.val).2 := by
  induction k with
  | zero =>
    have he : atK m 0 c = after enterOps (after randintOps (after setupOps fun b => m (c, b))) := rfl
    refine ⟨?_, fun b q => ?_, fun b => ?_, fun u b hu => absurd hu (Nat.not_lt_zero _)⟩
    · rw [he, read_enter0, after_of_writes_sub randintOps _ (forall_writes_sub_of_map (W := randintOpsWrites) rfl) (by decide +kernel),
        after_of_writes_sub setupOps _ (forall_writes_sub_of_map (W := setupOpsWrites) rfl) (by decide +kernel)]
    · rw [he, read_enter2, after_of_writes_sub randintOps _ (forall_writes_sub_of_map (W := randintOpsWrites) rfl) (by decide +kernel),
        read_setup]
      rfl
    · rw [he, read_enter3]
      rfl
  | succ k ih =>
    obtain ⟨i0, i2, i3, i4⟩ := ih (by omega)
    have he : atK m (k + 1) c = afterL inside (after testOps (atK m k c)) := rfl
    have hd : ∀ b q, distOf (F := Ideal) (points m c) (atK m k c (Proc.devRef .tc main_v10_3)) (atK m k c (Proc.devRef .tc main_v10_2)) (ix2 b q)
        = (walk (rowOf (points m c) b) (firstAt m c b) (k + 1)).1 q := fun b q => by
      rw [distOf_apply, i2 b q, i3 b]
      rfl
    refine ⟨?_, fun b q => ?_, fun b => ?_, fun u b hu => ?_⟩
    · rw [he, inside_keeps _ _ (by decide +kernel), test_keeps _ _ (by decide +kernel), i0]
    · rw [he, inside_dist, test_keeps _ _ (by decide +kernel), test_keeps _ _ (by decide +kernel), test_keeps _ _ (by decide +kernel), i0]
      exact hd b q
    · rw [he, inside_index, test_keeps _ _ (by decide +kernel), test_keeps _ _ (by decide +kernel), test_keeps _ _ (by decide +kernel), i0]
      refine farthestOf_apply _ b _ (fun q => ?_) ?_
      · rw [hd b q]; exact walk_nonneg _ _ _ _
      · rw [funext (hd b)]; exact walk_first _ _ _
    · rw [he, inside_record, test_keeps _ _ (by decide +kernel), test_keeps _ _ (by decide +kernel), test_keeps _ _ (by decide +kernel),
        recordOf_apply _ _ _ ⟨k, by omega⟩ (fun j => by
          rw [number_at]
          show Scf.iv 0#32 1#32 k = BitVec.ofNat 32 k
          simp [Scf.iv])]
      by_cases huk : u = ⟨k, by omega⟩
      · rw [if_pos huk, i3 b, huk]
      · rw [if_neg huk]
        exact i4 u b (lt_of_le_of_ne (Nat.lt_succ_iff.mp hu) fun h => huk (Fin.ext h))

/-- The first result. -/
theorem final_samples (b : Fin 8) (t : Fin 1024) (k : Fin 3) :
    samplesOf (F := Ideal) (points m c) (atK m 1024 c (Proc.devRef .tc main_v10_4)) (ix3 b t k)
      = points m c (ix3 b (walk (rowOf (points m c) b) (firstAt m c b) t.val).2 k) := by
  rw [samplesOf_apply, (atK_walk m c 1024 le_rfl).2.2.2 t b t.isLt]

/-- What the program leaves at its first result. -/
theorem final_v28 : finalContents testOps before inside behind 1024 m c (Proc.devRef .tc main_v28)
    = samplesOf (F := Ideal) (points m c) (atK m 1024 c (Proc.devRef .tc main_v10_4)) := by
  rw [show finalContents testOps before inside behind 1024 m c = afterL behind (after testOps (atK m 1024 c)) from rfl, behind_samples,
    test_keeps _ _ (by decide +kernel), test_keeps _ _ (by decide +kernel), arg_at m c main_arg0 (by decide)]

/-- What the program leaves at its second result. -/
theorem final_v42 : finalContents testOps before inside behind 1024 m c (Proc.devRef .tc main_v42)
    = layer3 (F := Ideal) (relu2 (F := Ideal) (layer2 (F := Ideal) (relu1 (F := Ideal) (layer1 (F := Ideal)
        (samplesOf (F := Ideal) (points m c) (atK m 1024 c (Proc.devRef .tc main_v10_4)))
        (m ((c.tc : Thread nD τ).loc main_arg1)) (m ((c.tc : Thread nD τ).loc main_arg2))))
        (m ((c.tc : Thread nD τ).loc main_arg3)) (m ((c.tc : Thread nD τ).loc main_arg4))))
      (m ((c.tc : Thread nD τ).loc main_arg5)) (m ((c.tc : Thread nD τ).loc main_arg6)) := by
  have ha : ∀ r ∈ args, after testOps (atK m 1024 c) (Proc.devRef .tc r) = m ((c.tc : Thread nD τ).loc r) := fun r hr =>
    (test_keeps _ r (args_unwritten r hr).2.2.2).trans (arg_at m c r hr 1024)
  rw [show finalContents testOps before inside behind 1024 m c = afterL behind (after testOps (atK m 1024 c)) from rfl, behind_feats,
    test_keeps _ main_v10_4 (by decide +kernel), ha main_arg0 (by decide), ha main_arg1 (by decide), ha main_arg2 (by decide),
    ha main_arg3 (by decide), ha main_arg4 (by decide), ha main_arg5 (by decide), ha main_arg6 (by decide)]

end Trips

end Cert.ReferenceIdeal.Fps
-- ==== Proof.Layers.lean ====
/-
  The three layers: the kernel's on one batch's points are the reference's on all of them.
-/
module

public import proofs.«01_k».proof.Proof.BodySpec
public import proofs.«01_k».proof.Proof.RefVals
public import Idealize.ShloMosaic.Lib.ValueLayout
public import Idealize.ShloMosaic.PureOps.Ideal.Laws

@[expose] public section

noncomputable section

namespace Cert.Fps

open Idealize.ShloMosaic Idealize.ShloMosaic.ValueIdx

/-! ## One layer of either form, read at an index -/

/-- Points by weights. -/
abbrev flatDot (K N : ℕ) (wf : DotDims.WF ⟨2, ![1024, K]⟩ ⟨2, ![K, N]⟩ ⟨2, ![1024, N]⟩ [1] [0] [0] [1] [] []) :
    DotDims ⟨2, ![1024, K]⟩ ⟨2, ![K, N]⟩ ⟨2, ![1024, N]⟩ := ⟨[1], [0], [0], [1], [], [], wf⟩

/-- Batches of points by weights. -/
abbrev batchDot (K N : ℕ) (wf : DotDims.WF ⟨3, ![8, 1024, K]⟩ ⟨2, ![K, N]⟩ ⟨3, ![8, 1024, N]⟩ [2] [0] [0, 1] [1] [] []) :
    DotDims ⟨3, ![8, 1024, K]⟩ ⟨2, ![K, N]⟩ ⟨3, ![8, 1024, N]⟩ := ⟨[2], [0], [0, 1], [1], [], [], wf⟩

/-- One batch's product is the batch's part of all batches' product. -/
theorem dots_eq {K N : ℕ} (wf : DotDims.WF ⟨2, ![1024, K]⟩ ⟨2, ![K, N]⟩ ⟨2, ![1024, N]⟩ [1] [0] [0] [1] [] [])
    (wf' : DotDims.WF ⟨3, ![8, 1024, K]⟩ ⟨2, ![K, N]⟩ ⟨3, ![8, 1024, N]⟩ [2] [0] [0, 1] [1] [] [])
    (p : FVec Ideal ⟨2, ![1024, K]⟩ .f32) (p' : FVec Ideal ⟨3, ![8, 1024, K]⟩ .f32) (w : FVec Ideal ⟨2, ![K, N]⟩ .f32) (b : Fin 8)
    (hp : ∀ t k, p (ix2 t k) = p' (ix3 b t k)) (t : Fin 1024) (o : Fin N) :
    matmul (flatDot K N wf) none p w (constant ⟨2, ![1024, N]⟩ .f32 0x00000000#32) (ix2 t o)
      = Host.dotGeneral (batchDot K N wf') none p' w (ix3 b t o) := by
  refine (Ideal.matmul_constant_zero_apply (flatDot K N wf) none p w (ix2 t o)).trans ?_
  refine Eq.trans ?_ (Ideal.dotGeneral_apply (batchDot K N wf') none .single p' w (ix3 b t o)).symm
  refine Finset.sum_congr rfl fun k _ => ?_
  have h1 : (flatDot K N wf).lhsIdx (ix2 t o) k = ix2 t (k ⟨0, Nat.one_pos⟩) := by
    funext a
    apply Fin.ext
    match a with
    | ⟨0, _⟩ => rfl
    | ⟨1, _⟩ => rfl
  have h2 : (batchDot K N wf').lhsIdx (ix3 b t o) k = ix3 b t (k ⟨0, Nat.one_pos⟩) := by
    funext a
    apply Fin.ext
    match a with
    | ⟨0, _⟩ => rfl
    | ⟨1, _⟩ => rfl
    | ⟨2, _⟩ => rfl
  have h3 : (flatDot K N wf).rhsIdx (ix2 t o) k = (batchDot K N wf').rhsIdx (ix3 b t o) k := by
    funext a
    apply Fin.ext
    match a with
    | ⟨0, _⟩ => rfl
    | ⟨1, _⟩ => rfl
  exact congrArg₂ (fun x y : EReal => x * y) ((congrArg p h1).trans ((hp _ _).trans (congrArg p' h2).symm)) (congrArg w h3)

/-- One batch's biases are the batch's part of all batches' biases. -/
theorem biases_eq {N : ℕ} (hN : N ≠ 1) (b1 : FVec Ideal ⟨2, ![1, N]⟩ .f32) (b2 : FVec Ideal ⟨1, ![N]⟩ .f32)
    (hb : ∀ o, b1 (ix2 (0 : Fin 1) o) = b2 (ix1 o)) (h : (⟨2, ![1, N]⟩ : Shape).ShapeCasts ⟨2, ![1, N]⟩)
    (h' : (⟨2, ![1, N]⟩ : Shape).Broadcasts ⟨2, ![1024, N]⟩) (g : (⟨3, ![1, 1, N]⟩ : Shape).BroadcastsInDim ⟨3, ![8, 1024, N]⟩ ![0, 1, 2])
    (g' : (⟨1, ![N]⟩ : Shape).BroadcastsInDim ⟨3, ![1, 1, N]⟩ ![2]) (b : Fin 8) (t : Fin 1024) (o : Fin N) :
    broadcastTo ⟨2, ![1024, N]⟩ (shapeCast ⟨2, ![1, N]⟩ b1 h) h' (ix2 t o)
      = broadcastInDim ⟨3, ![8, 1024, N]⟩ ![0, 1, 2] g (broadcastInDim ⟨3, ![1, 1, N]⟩ ![2] g' b2) (ix3 b t o) := by
  rw [shapeCast_self]
  refine (broadcastTo_1b_ab_apply b1 h' t o).trans ?_
  refine Eq.trans (hb o) (Eq.symm ((broadcastInDim_apply _ _ _ _ (ix3 (0 : Fin 1) (0 : Fin 1) o) fun a => ?_).trans
    (broadcastInDim_apply _ _ _ _ (ix1 o) fun a => ?_)))
  · match a with
    | ⟨0, _⟩ => rfl
    | ⟨1, _⟩ => rfl
    | ⟨2, _⟩ => exact (if_neg hN).symm
  · match a with
    | ⟨0, _⟩ => exact (if_neg hN).symm

/-- The kernel's layers on a batch's points, read at an index, are the reference's on all points. -/
theorem layers_eq (p : FVec Ideal ⟨2, ![1024, 3]⟩ .f32) (p' : FVec Ideal ⟨3, ![8, 1024, 3]⟩ .f32) (b : Fin 8)
    (hp : ∀ t k, p (ix2 t k) = p' (ix3 b t k)) (w1 : FVec Ideal ⟨2, ![3, 64]⟩ .f32) (w2 : FVec Ideal ⟨2, ![64, 128]⟩ .f32)
    (w3 : FVec Ideal ⟨2, ![128, 256]⟩ .f32) (b1 : FVec Ideal ⟨2, ![1, 64]⟩ .f32) (b2 : FVec Ideal ⟨2, ![1, 128]⟩ .f32)
    (b3 : FVec Ideal ⟨2, ![1, 256]⟩ .f32) (c1 : FVec Ideal ⟨1, ![64]⟩ .f32) (c2 : FVec Ideal ⟨1, ![128]⟩ .f32)
    (c3 : FVec Ideal ⟨1, ![256]⟩ .f32) (h1 : ∀ o, b1 (ix2 (0 : Fin 1) o) = c1 (ix1 o)) (h2 : ∀ o, b2 (ix2 (0 : Fin 1) o) = c2 (ix1 o))
    (h3 : ∀ o, b3 (ix2 (0 : Fin 1) o) = c3 (ix1 o)) (t : Fin 1024) (o : Fin 256) :
    Cert.KernelIdeal.Fps.mlp p w1 b1 w2 b2 w3 b3 (ix2 t o)
      = Cert.ReferenceIdeal.Fps.layer3 (F := Ideal) (Cert.ReferenceIdeal.Fps.relu2 (F := Ideal) (Cert.ReferenceIdeal.Fps.layer2 (F := Ideal)
          (Cert.ReferenceIdeal.Fps.relu1 (F := Ideal) (Cert.ReferenceIdeal.Fps.layer1 (F := Ideal) p' w1 c1)) w2 c2)) w3 c3 (ix3 b t o) := by
  unfold Cert.KernelIdeal.Fps.mlp Cert.ReferenceIdeal.Fps.layer3
  refine congrArg₂ (fun x y : EReal => x + y) (dots_eq _ _ _ _ w3 b (fun t k => ?_) t o) (biases_eq (by decide) b3 c3 h3 _ _ _ _ b t o)
  unfold Cert.ReferenceIdeal.Fps.relu2 Cert.ReferenceIdeal.Fps.layer2
  refine congrArg₂ (fun x y : EReal => max x y) (congrArg₂ (fun x y : EReal => x + y) (dots_eq _ _ _ _ w2 b (fun t k => ?_) t k)
    (biases_eq (by decide) b2 c2 h2 _ _ _ _ b t k)) rfl
  unfold Cert.ReferenceIdeal.Fps.relu1 Cert.ReferenceIdeal.Fps.layer1
  exact congrArg₂ (fun x y : EReal => max x y) (congrArg₂ (fun x y : EReal => x + y) (dots_eq _ _ _ _ w1 b hp t k)
    (biases_eq (by decide) b1 c1 h1 _ _ _ _ b t k)) rfl

end Cert.Fps
-- ==== Proof.Draw.lean ====
/-
  The kernel's program and the reference draw the same first indices.
-/
module

public import proofs.«01_k».proof.Proof.Run
public import proofs.«01_k».proof.Proof.RefProg
public import Idealize.ShloMosaic.Lib.StableHlo.RunRead
public import Idealize.ShloMosaic.Lib.Pipeline.Regions

@[expose] public section

noncomputable section

namespace Cert.Fps

open Idealize.ShloMosaic Idealize.ShloMosaic.TcCoe
open Idealize.ShloMosaic.StableHlo

variable {F : FTy → Type} [FloatOps F]

set_option maxHeartbeats 40000000 in
set_option maxRecDepth 100000 in
/-- The drawn words do not depend on what the buffers held. -/
theorem draw_eq (X : Valuation Cert.KernelIdeal.τ Cert.KernelIdeal.sig (Elt F)) (Y : Valuation Cert.ReferenceIdeal.τ Cert.ReferenceIdeal.sig (Elt F)) :
    after Cert.KernelIdeal.Gen.hostOps0_1 (after Cert.KernelIdeal.Gen.hostOps0 X) (Proc.devRef .tc Cert.KernelIdeal.main_v7)
      = after Cert.ReferenceIdeal.Fps.randintOps (after Cert.ReferenceIdeal.Fps.setupOps Y) (Proc.devRef .tc Cert.ReferenceIdeal.main_v8) := by
  after_reads_simp
  open Idealize.ShloMosaic.Pipeline in chain_rfl

end Cert.Fps
-- ==== Proof.Algebraic.lean ====
/-
  Over the extended reals the kernel's results are the reference's.
-/
module

public import proofs.«01_k».proof.Defs
public import proofs.«01_k».proof.Proof.Frames
public import proofs.«01_k».proof.Proof.KernelVals
public import proofs.«01_k».proof.Proof.Outputs
public import proofs.«01_k».proof.Proof.RefWalk
public import proofs.«01_k».proof.Proof.Layers
public import proofs.«01_k».proof.Proof.Draw

@[expose] public section

set_option maxRecDepth 16384

noncomputable section

namespace Cert.Fps

open Idealize.ShloMosaic hiding ix1 ix2 ix3
open Idealize.ShloMosaic.TcCoe Idealize.ShloMosaic.StableHlo Idealize.ShloMosaic.ValueIdx
open Idealize.SL.Sem

section Results

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- Both programs start their walks at the same points. -/
theorem first_eq (b : Fin 8) : Cert.ReferenceIdeal.Fps.firstAt m' c b = Cert.KernelIdeal.Fps.firstAt m c b :=
  congrArg (fun w : IVec ⟨1, ![8]⟩ 32 => named (w (ix1 b))) (draw_eq (F := Ideal) (fun b => m (c, b)) (fun b => m' (c, b))).symm

variable (h0 : m' ((c.tc : Thread Cert.ReferenceIdeal.nD Cert.ReferenceIdeal.τ).loc Cert.ReferenceIdeal.main_arg0)
    = m ((c.tc : Thread Cert.KernelIdeal.nD Cert.KernelIdeal.τ).loc Cert.KernelIdeal.main_arg0))

include h0

/-- The reference's samples, read at an index, are the kernel's walks. -/
theorem samples_eq (b : Fin 8) (u : Fin 1024) (i : Fin 3) :
    Cert.ReferenceIdeal.Fps.samplesOf (F := Ideal) (Cert.ReferenceIdeal.Fps.points m' c)
        (Cert.ReferenceIdeal.Fps.atK m' 1024 c (Proc.devRef .tc Cert.ReferenceIdeal.main_v10_4)) (ix3 b u i)
      = Cert.KernelIdeal.Fps.points m c
        (ix3 b (walk (rowOf (Cert.KernelIdeal.Fps.points m c) b) (Cert.KernelIdeal.Fps.firstAt m c b) u.val).2 i) := by
  rw [Cert.ReferenceIdeal.Fps.final_samples, first_eq m m' c b,
    show Cert.ReferenceIdeal.Fps.points m' c = Cert.KernelIdeal.Fps.points m c from h0]

/-- The first result. -/
theorem result_pts : finalContents Cert.ReferenceIdeal.Fps.testOps Cert.ReferenceIdeal.Fps.before
      Cert.ReferenceIdeal.Fps.inside Cert.ReferenceIdeal.Fps.behind 1024 m' c (Proc.devRef .tc Cert.ReferenceIdeal.main_v28)
    = Cert.KernelIdeal.Fps.ptsAt m c Cert.KernelIdeal.Gen.t0_0 := by
  refine Eq.trans (b := Cert.ReferenceIdeal.Fps.samplesOf (F := Ideal) (Cert.ReferenceIdeal.Fps.points m' c)
    (Cert.ReferenceIdeal.Fps.atK m' 1024 c (Proc.devRef .tc Cert.ReferenceIdeal.main_v10_4))) ?_ ?_
  · exact Cert.ReferenceIdeal.Fps.final_v28 m' c
  · funext j
    obtain ⟨b, u, i, rfl⟩ : ∃ (b : Fin 8) (u : Fin 1024) (i : Fin 3), j = ix3 b u i := ⟨j 0, j 1, j 2, by
      funext a
      match a with
      | ⟨0, _⟩ => rfl
      | ⟨1, _⟩ => rfl
      | ⟨2, _⟩ => rfl⟩
    exact (samples_eq m m' c h0 b u i).trans (Cert.KernelIdeal.Fps.ptsAt_walk m c _ b u i).symm

omit h0 in
/-- The biases as one row, read at an index. -/
theorem bias_row {n : ℕ} (x : FVec Ideal ⟨1, ![n]⟩ .f32) (h : (⟨1, ![n]⟩ : Shape).ShapeCasts ⟨2, ![1, n]⟩) (o : Fin n) :
    shapeCast ⟨2, ![1, n]⟩ x h (ix2 (0 : Fin 1) o) = x (ix1 o) :=
  shapeCast_a_1a_apply x h 0 o

variable (h1 : m' ((c.tc : Thread Cert.ReferenceIdeal.nD Cert.ReferenceIdeal.τ).loc Cert.ReferenceIdeal.main_arg1)
    = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2)
    = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3)
    = m ((c.tc : Thread Cert.KernelIdeal.nD Cert.KernelIdeal.τ).loc Cert.KernelIdeal.main_arg3))
  (h4 : m' ((c.tc : Thread Cert.ReferenceIdeal.nD Cert.ReferenceIdeal.τ).loc Cert.ReferenceIdeal.main_arg4)
    = m ((c.tc : Thread Cert.KernelIdeal.nD Cert.KernelIdeal.τ).loc Cert.KernelIdeal.main_arg4))
  (h5 : m' ((c.tc : Thread Cert.ReferenceIdeal.nD Cert.ReferenceIdeal.τ).loc Cert.ReferenceIdeal.main_arg5)
    = m ((c.tc : Thread Cert.KernelIdeal.nD Cert.KernelIdeal.τ).loc Cert.KernelIdeal.main_arg5))
  (h6 : m' ((c.tc : Thread Cert.ReferenceIdeal.nD Cert.ReferenceIdeal.τ).loc Cert.ReferenceIdeal.main_arg6)
    = m ((c.tc : Thread Cert.KernelIdeal.nD Cert.KernelIdeal.τ).loc Cert.KernelIdeal.main_arg6))

include h1 h2 h3 h4 h5 h6

/-- The second result. -/
theorem result_feats : finalContents Cert.ReferenceIdeal.Fps.testOps Cert.ReferenceIdeal.Fps.before
      Cert.ReferenceIdeal.Fps.inside Cert.ReferenceIdeal.Fps.behind 1024 m' c (Proc.devRef .tc Cert.ReferenceIdeal.main_v42)
    = Cert.KernelIdeal.Fps.featsAt m c Cert.KernelIdeal.Gen.t0_0 := by
  refine (Cert.ReferenceIdeal.Fps.final_v42 m' c).trans ?_
  rw [h1, h2, h3, h4, h5, h6]
  funext j
  obtain ⟨b, u, o, rfl⟩ : ∃ (b : Fin 8) (u : Fin 1024) (o : Fin 256), j = ix3 b u o := ⟨j 0, j 1, j 2, by
    funext a
    match a with
    | ⟨0, _⟩ => rfl
    | ⟨1, _⟩ => rfl
    | ⟨2, _⟩ => rfl⟩
  refine Eq.symm ((Cert.KernelIdeal.Fps.featsAt_layers m c Cert.KernelIdeal.Gen.t0_0 b u o).trans ?_)
  exact layers_eq _ _ b (fun t k => (Cert.KernelIdeal.Fps.sampledAt_walk m c Cert.KernelIdeal.Gen.t0_0 t b k).trans
      (samples_eq m m' c h0 b t k).symm) _ _ _ _ _ _ _ _ _ (bias_row _ _) (bias_row _ _) (bias_row _ _) u o

end Results

set_option maxHeartbeats 4000000 in
/-- From memories that agree on the arguments both programs end with the same results. -/
theorem algebraic : Cert.algebraic_KernelIdeal_ReferenceIdeal (hKernelIdeal := Cert.KernelIdeal.Gen.facts)
    (hReferenceIdeal := Cert.ReferenceIdeal.Gen.facts) := by
  intro m g m' g' _ hag
  refine ⟨fun c => Cert.KernelIdeal.Fps.ptsAt m c Cert.KernelIdeal.Gen.t0_0, fun c => Cert.KernelIdeal.Fps.featsAt m c Cert.KernelIdeal.Gen.t0_0, ?_, ?_⟩
  · exact (θ_run Cert.KernelIdeal.defs _ _).mono (fun r h c =>
      ⟨((h.1 c).1 10).trans (Cert.KernelIdeal.Fps.final_pts m c), ((h.1 c).1 11).trans (Cert.KernelIdeal.Fps.final_feats m c),
        ((h.1 c).2 Cert.KernelIdeal.main_arg0 (Pipeline.mem_restRefs_of Cert.KernelIdeal.main_arg0 (by decide) (by decide))).trans
          (Cert.KernelIdeal.Gen.V_main_arg0 m c),
        ((h.1 c).1 4).trans (((Cert.KernelIdeal.Fps.dats m 0 c).arrAt_in 4 rfl _).trans (Cert.KernelIdeal.Gen.V_main_arg1 m c)),
        ((h.1 c).2 Cert.KernelIdeal.main_arg2 (Pipeline.mem_restRefs_of Cert.KernelIdeal.main_arg2 (by decide) (by decide))).trans
          (Cert.KernelIdeal.Gen.V_main_arg2 m c),
        ((h.1 c).1 6).trans (((Cert.KernelIdeal.Fps.dats m 0 c).arrAt_in 6 rfl _).trans (Cert.KernelIdeal.Gen.V_main_arg3 m c)),
        ((h.1 c).2 Cert.KernelIdeal.main_arg4 (Pipeline.mem_restRefs_of Cert.KernelIdeal.main_arg4 (by decide) (by decide))).trans
          (Cert.KernelIdeal.Gen.V_main_arg4 m c),
        ((h.1 c).1 8).trans (((Cert.KernelIdeal.Fps.dats m 0 c).arrAt_in 8 rfl _).trans (Cert.KernelIdeal.Gen.V_main_arg5 m c)),
        ((h.1 c).2 Cert.KernelIdeal.main_arg6 (Pipeline.mem_restRefs_of Cert.KernelIdeal.main_arg6 (by decide) (by decide))).trans
          (Cert.KernelIdeal.Gen.V_main_arg6 m c)⟩)
      (Cert.KernelIdeal.Fps.run_main m g)
  · refine (θ_run Cert.ReferenceIdeal.defs _ _).mono (fun r h c => ?_) (Cert.ReferenceIdeal.Fps.run_fold m' g')
    have arg : ∀ (b : Ref Cert.ReferenceIdeal.sig .tc) (_ : b ∈ Cert.ReferenceIdeal.Fps.args),
        (Proc.devRef .tc b : DevRef Cert.ReferenceIdeal.τ Cert.ReferenceIdeal.sig).isScoped = false →
        r.2.mem ((c.tc : Thread Cert.ReferenceIdeal.nD Cert.ReferenceIdeal.τ).loc b) = m' ((c.tc : Thread _ _).loc b) :=
      fun b hb hs => (h c b hs).trans (Cert.ReferenceIdeal.Fps.arg_final m' c b hb)
    obtain ⟨a0, a1, a2, a3, a4, a5, a6⟩ := hag c
    exact ⟨(h c _ rfl).trans (result_pts m m' c a0), (h c _ rfl).trans (result_feats m m' c a0 a1 a2 a3 a4 a5 a6),
      arg _ (by decide) rfl, arg _ (by decide) rfl, arg _ (by decide) rfl, arg _ (by decide) rfl,
      arg _ (by decide) rfl, arg _ (by decide) rfl, arg _ (by decide) rfl⟩

end Cert.Fps
-- ==== Proof.lean ====
/-
  The claims, put together from the modules that prove them.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  Cert.Frames.kernel, Cert.Frames.kernel_ideal, Cert.Frames.reference, trivial, Cert.Fps.algebraic⟩

end Cert.Proof

end
